-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pack.Statement Cert.KernelIdeal.S28x28
  ∧ IdealRules.bf16_pack.Statement Cert.KernelIdeal.S128x256

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135_0) = v0 c
          ∧ r.2.mem ((c.tc : Thread Cert.ReferenceIdeal.nD Cert.ReferenceIdeal.τ).loc Cert.ReferenceIdeal.main_v135_1) = v1 c
          ∧ r.2.mem ((c.tc : Thread Cert.ReferenceIdeal.nD Cert.ReferenceIdeal.τ).loc Cert.ReferenceIdeal.main_v135_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S1x128x14336 : Shape := ⟨3, ![1, 128, 14336]⟩
abbrev S28x28 : Shape := ⟨2, ![28, 28]⟩
abbrev S14336x4096 : Shape := ⟨2, ![14336, 4096]⟩
abbrev S4096 : Shape := ⟨1, ![4096]⟩
abbrev S_ : Shape := ⟨0, ![]⟩

class Facts : Prop where
  bitsLt_bf16_f32 : FTy.bits .bf16 < FTy.bits .f32
  bcast_S_S1x128x14336 : S_.BroadcastsInDim S1x128x14336 (![] : Fin 0 → Fin S1x128x14336.rank)
  reducesTo_S1x128x14336_S_d0_1_2 : S1x128x14336.ReducesTo [0, 1, 2] S_
  h_S_ : 0 < S_.numel
  bcast_S_S28x28 : S_.BroadcastsInDim S28x28 (![] : Fin 0 → Fin S28x28.rank)
  reducesTo_S28x28_S_d0_1 : S28x28.ReducesTo [0, 1] S_

variable [Facts]

def fn {F : FTy → Type} [FloatOps F] (main_arg0 : FVec F S1x128x14336 .bf16) (main_arg1 : FVec F S28x28 .f32) (main_arg2 : FVec F S14336x4096 .fp8e4m3) (main_arg3 : FVec F S4096 .f32) : IVec S_ 1 :=
  let main_v0 : FVec F S1x128x14336 .f32 := (extf .f32 · bitsLt_bf16_f32) main_arg0
  let main_v1 : FVec F S1x128x14336 .f32 := Host.absf main_v0
  let main_cst : FVec F S_ .f32 := constant S_ .f32 0x5D800000#32
  let main_v2 : FVec F S1x128x14336 .f32 := broadcastInDim S1x128x14336 ![] bcast_S_S1x128x14336 main_cst
  let main_v3 : IVec S1x128x14336 1 := cmpf .ole main_v1 main_v2
  let main_c : IVec S_ 1 := constantI S_ 1 1#1
  let main_v4 : IVec S_ 1 := (fun x v => Host.reduce IntOp.andi x v reducesTo_S1x128x14336_S_d0_1_2 h_S_) main_v3 main_c
  let main_v5 : FVec F S28x28 .f32 := Host.absf main_arg1
  let main_cst_0 : FVec F S_ .f32 := constant S_ .f32 0x57800000#32
  let main_v6 : FVec F S28x28 .f32 := broadcastInDim S28x28 ![] bcast_S_S28x28 main_cst_0
  let main_v7 : IVec S28x28 1 := cmpf .ole main_v5 main_v6
  let main_c_1 : IVec S_ 1 := constantI S_ 1 1#1
  let main_v8 : IVec S_ 1 := (fun x v => Host.reduce IntOp.andi x v reducesTo_S28x28_S_d0_1 h_S_) main_v7 main_c_1
  let main_v9 : IVec S_ 1 := andi main_v4 main_v8
  main_v9
-- ==== Kernel.lean ====
abbrev S1x128x14336 : Shape := ⟨3, ![1, 128, 14336]⟩
abbrev S28x28 : Shape := ⟨2, ![28, 28]⟩
abbrev S14336x4096 : Shape := ⟨2, ![14336, 4096]⟩
abbrev S4096 : Shape := ⟨1, ![4096]⟩
abbrev S128x14336 : Shape := ⟨2, ![128, 14336]⟩
abbrev S1x4096 : Shape := ⟨2, ![1, 4096]⟩
abbrev S128x4096 : Shape := ⟨2, ![128, 4096]⟩
abbrev S128x112 : Shape := ⟨2, ![128, 112]⟩
abbrev S20x512x4096 : Shape := ⟨3, ![20, 512, 4096]⟩
abbrev S3x224x256 : Shape := ⟨3, ![3, 224, 256]⟩
abbrev S256x256 : Shape := ⟨2, ![256, 256]⟩
abbrev S28x128x512 : Shape := ⟨3, ![28, 128, 512]⟩
abbrev S2x4x128x512 : Shape := ⟨4, ![2, 4, 128, 512]⟩
abbrev S8 : Shape := ⟨1, ![8]⟩
abbrev S3 : Shape := ⟨1, ![3]⟩
abbrev S20 : Shape := ⟨1, ![20]⟩
abbrev S_ : Shape := ⟨0, ![]⟩
abbrev S1 : Shape := ⟨1, ![1]⟩
abbrev S16x14336 : Shape := ⟨2, ![16, 14336]⟩
abbrev S1x512x4096 : Shape := ⟨3, ![1, 512, 4096]⟩
abbrev S512x4096 : Shape := ⟨2, ![512, 4096]⟩
abbrev S28x256 : Shape := ⟨2, ![28, 256]⟩
abbrev S8x256 : Shape := ⟨2, ![8, 256]⟩
abbrev S1x256 : Shape := ⟨2, ![1, 256]⟩
abbrev S224x256 : Shape := ⟨2, ![224, 256]⟩
abbrev S1x224x256 : Shape := ⟨3, ![1, 224, 256]⟩
abbrev S1x28x28 : Shape := ⟨3, ![1, 28, 28]⟩
abbrev S1x1x1 : Shape := ⟨3, ![1, 1, 1]⟩
abbrev S32x512 : Shape := ⟨2, ![32, 512]⟩
abbrev S8x512 : Shape := ⟨2, ![8, 512]⟩
abbrev S256x512 : Shape := ⟨2, ![256, 512]⟩
abbrev S224x512 : Shape := ⟨2, ![224, 512]⟩
abbrev S28x8x512 : Shape := ⟨3, ![28, 8, 512]⟩
abbrev S1x128x512 : Shape := ⟨3, ![1, 128, 512]⟩
abbrev S128x512 : Shape := ⟨2, ![128, 512]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S1x1x128x128 : Shape := ⟨4, ![1, 1, 128, 128]⟩
abbrev S1x1x128x512 : Shape := ⟨4, ![1, 1, 128, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S1x128x14336, .bf16⟩
  | .hbm, ⟨1, _⟩ => ⟨S28x28, .f32⟩
  | .hbm, ⟨2, _⟩ => ⟨S14336x4096, .fp8e4m3⟩
  | .hbm, ⟨3, _⟩ => ⟨S4096, .f32⟩
  | .hbm, ⟨4, _⟩ => ⟨S128x14336, .bf16⟩
  | .hbm, ⟨5, _⟩ => ⟨S1x4096, .f32⟩
  | .hbm, ⟨6, _⟩ => ⟨S128x4096, .bf16⟩
  | .hbm, ⟨7, _⟩ => ⟨S128x14336, .fp8e4m3⟩
  | .hbm, ⟨8, _⟩ => ⟨S128x112, .f32⟩
  | .local _ .vmem, ⟨0, _⟩ => ⟨S128x14336, .bf16⟩
  | .local _ .vmem, ⟨1, _⟩ => ⟨S28x28, .f32⟩
  | .local _ .vmem, ⟨2, _⟩ => ⟨S1x4096, .f32⟩
  | .local _ .vmem, ⟨3, _⟩ => ⟨S20x512x4096, .fp8e4m3⟩
  | .local _ .vmem, ⟨4, _⟩ => ⟨S3x224x256, .bf16⟩
  | .local _ .vmem, ⟨5, _⟩ => ⟨S256x256, .bf16⟩
  | .local _ .vmem, ⟨6, _⟩ => ⟨S28x128x512, .f32⟩
  | .local _ .vmem, ⟨7, _⟩ => ⟨S2x4x128x512, .bf16⟩
  | .local _ .vmem, ⟨8, _⟩ => ⟨S128x4096, .f32⟩
  | .local _ .vmem, ⟨9, _⟩ => ⟨S28x128x512, .fp8e4m3⟩
  | .local _ .vmem, ⟨10, _⟩ => ⟨S128x112, .f32⟩
  | .local _ .vmem, ⟨11, _⟩ => ⟨S128x4096, .bf16⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩

abbrev nD : Nat := 1
abbrev τ : Topo := Topo.v7x

variable {F : FTy → Type} [BitOps F]

abbrev grid0 : Pipeline.Grid := .none

def k0_mult1 : BitVec 32 :=
  let c0_i32_253 : BitVec 32 := 0#32
  c0_i32_253
def k0_mult2 : BitVec 32 :=
  let c8_i32_262 : BitVec 32 := 8#32
  c8_i32_262
def k0_mult3 : BitVec 32 :=
  let c16_i32_275 : BitVec 32 := 16#32
  c16_i32_275
def k0_mult4 : BitVec 32 :=
  let c24_i32 : BitVec 32 := 24#32
  c24_i32
def k0_mult5 : BitVec 32 :=
  let c32_i32_296 : BitVec 32 := 32#32
  c32_i32_296
def k0_mult6 : BitVec 32 :=
  let c40_i32 : BitVec 32 := 40#32
  c40_i32
def k0_mult7 : BitVec 32 :=
  let c48_i32_317 : BitVec 32 := 48#32
  c48_i32_317
def k0_mult8 : BitVec 32 :=
  let c56_i32 : BitVec 32 := 56#32
  c56_i32
def k0_mult9 : BitVec 32 :=
  let c64_i32_338 : BitVec 32 := 64#32
  c64_i32_338
def k0_mult10 : BitVec 32 :=
  let c72_i32 : BitVec 32 := 72#32
  c72_i32
def k0_mult11 : BitVec 32 :=
  let c80_i32_359 : BitVec 32 := 80#32
  c80_i32_359
def k0_mult12 : BitVec 32 :=
  let c88_i32 : BitVec 32 := 88#32
  c88_i32
def k0_mult13 : BitVec 32 :=
  let c96_i32_380 : BitVec 32 := 96#32
  c96_i32_380
def k0_mult14 : BitVec 32 :=
  let c104_i32 : BitVec 32 := 104#32
  c104_i32
def k0_mult15 : BitVec 32 :=
  let c112_i32_401 : BitVec 32 := 112#32
  c112_i32_401
def k0_mult16 : BitVec 32 :=
  let c120_i32 : BitVec 32 := 120#32
  c120_i32
@[reducible] def k0_t1_loop : Scf.Loop 32 :=
  let c0_i32_1626 : BitVec 32 := 0#32
  let c8_i32_1627 : BitVec 32 := 8#32
  let v3666 : BitVec 32 := Scalar.addi c0_i32_1626 c8_i32_1627
  let c1_i32_1628 : BitVec 32 := 1#32
  ⟨c0_i32_1626, v3666, c1_i32_1628⟩
def k0_off1 (k0_t1 : Fin k0_t1_loop.trips) : Fin 2 → Nat :=
  let c0_i32_1631 : BitVec 32 := 0#32
  let c0_i32_1626 : BitVec 32 := 0#32
  let c1_i32_1628 : BitVec 32 := 1#32
  let arg24 : BitVec 32 := Scf.iv c0_i32_1626 c1_i32_1628 k0_t1
  let c1_i32_1630 : BitVec 32 := 1#32
  let v3667 : BitVec 32 := Scalar.muli arg24 c1_i32_1630
  let v3668 : BitVec 32 := Scalar.addi c0_i32_1631 v3667
  let c16_i32_1632 : BitVec 32 := 16#32
  let v3669 : BitVec 32 := Scalar.muli v3668 c16_i32_1632
  let v3670 : Index := Scalar.indexCast v3669
  let c0_1633 : Index := 0#32
  ![v3670.toNat, 0]
def k0_mult17 (k0_t1 : Fin k0_t1_loop.trips) : BitVec 32 :=
  let c0_i32_1631 : BitVec 32 := 0#32
  let c0_i32_1626 : BitVec 32 := 0#32
  let c1_i32_1628 : BitVec 32 := 1#32
  let arg24 : BitVec 32 := Scf.iv c0_i32_1626 c1_i32_1628 k0_t1
  let c1_i32_1630 : BitVec 32 := 1#32
  let v3667 : BitVec 32 := Scalar.muli arg24 c1_i32_1630
  let v3668 : BitVec 32 := Scalar.addi c0_i32_1631 v3667
  let c16_i32_1642 : BitVec 32 := 16#32
  let v3710 : BitVec 32 := Scalar.muli v3668 c16_i32_1642
  let c0_i32_1643 : BitVec 32 := 0#32
  let v3711 : BitVec 32 := Scalar.addi v3710 c0_i32_1643
  v3711
def k0_off2 (k0_t1 : Fin k0_t1_loop.trips) (c0_i32_1643 : BitVec 32) : Fin 3 → Nat :=
  let c0_1644 : Index := 0#32
  let c0_i32_1631 : BitVec 32 := 0#32
  let c0_i32_1626 : BitVec 32 := 0#32
  let c1_i32_1628 : BitVec 32 := 1#32
  let arg24 : BitVec 32 := Scf.iv c0_i32_1626 c1_i32_1628 k0_t1
  let c1_i32_1630 : BitVec 32 := 1#32
  let v3667 : BitVec 32 := Scalar.muli arg24 c1_i32_1630
  let v3668 : BitVec 32 := Scalar.addi c0_i32_1631 v3667
  let c16_i32_1642 : BitVec 32 := 16#32
  let v3710 : BitVec 32 := Scalar.muli v3668 c16_i32_1642
  let v3711 : BitVec 32 := Scalar.addi v3710 c0_i32_1643
  let v3712 : BitVec 32 := v3711
  let v3713 : Index := Scalar.indexCast v3712
  let c0_1645 : Index := 0#32
  ![0, v3713.toNat, 0]
def k0_mult18 (k0_t1 : Fin k0_t1_loop.trips) : BitVec 32 :=
  let c0_i32_1631 : BitVec 32 := 0#32
  let c0_i32_1626 : BitVec 32 := 0#32
  let c1_i32_1628 : BitVec 32 := 1#32
  let arg24 : BitVec 32 := Scf.iv c0_i32_1626 c1_i32_1628 k0_t1
  let c1_i32_1630 : BitVec 32 := 1#32
  let v3667 : BitVec 32 := Scalar.muli arg24 c1_i32_1630
  let v3668 : BitVec 32 := Scalar.addi c0_i32_1631 v3667
  let c16_i32_1658 : BitVec 32 := 16#32
  let v3762 : BitVec 32 := Scalar.muli v3668 c16_i32_1658
  let c8_i32_1659 : BitVec 32 := 8#32
  let v3763 : BitVec 32 := Scalar.addi v3762 c8_i32_1659
  v3763
@[reducible] def k0_t2_loop : Scf.Loop 32 :=
  let c0_i32_1066 : BitVec 32 := 0#32
  let c6_i32_1067 : BitVec 32 := 6#32
  let v3162 : BitVec 32 := Scalar.addi c0_i32_1066 c6_i32_1067
  let c1_i32_1068 : BitVec 32 := 1#32
  ⟨c0_i32_1066, v3162, c1_i32_1068⟩
def k0_off3 (k0_t2 : Fin k0_t2_loop.trips) (c0_i32_1632 : BitVec 32) : Fin 1 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1628 : BitVec 32 := 4#32
  let v3668 : BitVec 32 := Scalar.muli v3667 c4_i32_1628
  let c20_i32_1629 : BitVec 32 := 20#32
  let v3669 : BitVec 32 := Scalar.remsi v3668 c20_i32_1629
  let v3672 : BitVec 32 := Scalar.addi v3669 c0_i32_1632
  ![v3672.toNat]
def k0_off4 (k0_t2 : Fin k0_t2_loop.trips) (c0_i32_1632 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1628 : BitVec 32 := 4#32
  let v3668 : BitVec 32 := Scalar.muli v3667 c4_i32_1628
  let c20_i32_1629 : BitVec 32 := 20#32
  let v3669 : BitVec 32 := Scalar.remsi v3668 c20_i32_1629
  let v3672 : BitVec 32 := Scalar.addi v3669 c0_i32_1632
  let c0_i32_1634 : BitVec 32 := 0#32
  let c0_i32_1635 : BitVec 32 := 0#32
  ![v3672.toNat, 0, 0]
def k0_off5 (k0_t2 : Fin k0_t2_loop.trips) (c0_i32_1631 : BitVec 32) : Fin 2 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1630 : BitVec 32 := 4#32
  let v3670 : BitVec 32 := Scalar.muli v3667 c4_i32_1630
  let v3671 : BitVec 32 := Scalar.addi v3670 c0_i32_1631
  let c512_i32_1633 : BitVec 32 := 512#32
  let v3673 : BitVec 32 := Scalar.muli v3671 c512_i32_1633
  let c0_i32_1636 : BitVec 32 := 0#32
  ![v3673.toNat, 0]
def k0_off6 (k0_t2 : Fin k0_t2_loop.trips) (c0_i32_1659 : BitVec 32) : Fin 2 → Nat :=
  let c0_i32_1661 : BitVec 32 := 0#32
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1658 : BitVec 32 := 4#32
  let v3706 : BitVec 32 := Scalar.muli v3667 c4_i32_1658
  let v3707 : BitVec 32 := Scalar.addi v3706 c0_i32_1659
  let c512_i32_1660 : BitVec 32 := 512#32
  let v3708 : BitVec 32 := Scalar.muli v3707 c512_i32_1660
  ![0, v3708.toNat]
def k0_off7 (k0_t2 : Fin k0_t2_loop.trips) (c0_i32_1659 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1658 : BitVec 32 := 4#32
  let v3706 : BitVec 32 := Scalar.muli v3667 c4_i32_1658
  let v3707 : BitVec 32 := Scalar.addi v3706 c0_i32_1659
  let c0_i32_1662 : BitVec 32 := 0#32
  let c0_i32_1663 : BitVec 32 := 0#32
  ![v3707.toNat, 0, 0]
def k0_off8 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1684 : BitVec 32 := 1#32
  let v3731 : BitVec 32 := Scalar.andi v3667 c1_i32_1684
  let v3734 : Index := Scalar.indexCast v3731
  let c0_1687 : Index := 0#32
  let c0_1688 : Index := 0#32
  let c0_1689 : Index := 0#32
  ![v3734.toNat, 0, 0, 0]
def k0_off9 (k0_t2 : Fin k0_t2_loop.trips) (c0_i32_1690 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1685 : BitVec 32 := 4#32
  let v3732 : BitVec 32 := Scalar.muli v3667 c4_i32_1685
  let c20_i32_1686 : BitVec 32 := 20#32
  let v3733 : BitVec 32 := Scalar.remsi v3732 c20_i32_1686
  let v3737 : BitVec 32 := Scalar.addi v3733 c0_i32_1690
  let v3738 : Index := Scalar.indexCast v3737
  let c0_1691 : Index := 0#32
  let c0_1692 : Index := 0#32
  ![v3738.toNat, 0, 0]
def k0_off10 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1684 : BitVec 32 := 1#32
  let v3731 : BitVec 32 := Scalar.andi v3667 c1_i32_1684
  let v3744 : Index := Scalar.indexCast v3731
  let c1_1695 : Index := 1#32
  let c0_1696 : Index := 0#32
  let c0_1697 : Index := 0#32
  ![v3744.toNat, 1, 0, 0]
def k0_off11 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1684 : BitVec 32 := 1#32
  let v3731 : BitVec 32 := Scalar.andi v3667 c1_i32_1684
  let v3753 : Index := Scalar.indexCast v3731
  let c2_1702 : Index := 2#32
  let c0_1703 : Index := 0#32
  let c0_1704 : Index := 0#32
  ![v3753.toNat, 2, 0, 0]
def k0_off12 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1684 : BitVec 32 := 1#32
  let v3731 : BitVec 32 := Scalar.andi v3667 c1_i32_1684
  let v3762 : Index := Scalar.indexCast v3731
  let c3_1709 : Index := 3#32
  let c0_1710 : Index := 0#32
  let c0_1711 : Index := 0#32
  ![v3762.toNat, 3, 0, 0]
def k0_off13 (k0_t2 : Fin k0_t2_loop.trips) (c0_i32_1720 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1718 : BitVec 32 := 1#32
  let v3775 : BitVec 32 := Scalar.addi v3667 c1_i32_1718
  let c4_i32_1719 : BitVec 32 := 4#32
  let v3776 : BitVec 32 := Scalar.muli v3775 c4_i32_1719
  let v3777 : BitVec 32 := Scalar.addi v3776 c0_i32_1720
  let v3780 : Index := Scalar.indexCast v3777
  let c0_1723 : Index := 0#32
  let c0_1724 : Index := 0#32
  ![v3780.toNat, 0, 0]
def k0_off14 (k0_t2 : Fin k0_t2_loop.trips) (c0_i32_1720 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1718 : BitVec 32 := 1#32
  let v3775 : BitVec 32 := Scalar.addi v3667 c1_i32_1718
  let c4_i32_1719 : BitVec 32 := 4#32
  let v3776 : BitVec 32 := Scalar.muli v3775 c4_i32_1719
  let v3777 : BitVec 32 := Scalar.addi v3776 c0_i32_1720
  let v3896 : Index := Scalar.indexCast v3777
  let c0_1763 : Index := 0#32
  let c0_1764 : Index := 0#32
  ![v3896.toNat, 0, 0]
def k0_off15 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1721 : BitVec 32 := 1#32
  let v3778 : BitVec 32 := Scalar.addi v3667 c1_i32_1721
  let c1_i32_1722 : BitVec 32 := 1#32
  let v3779 : BitVec 32 := Scalar.andi v3778 c1_i32_1722
  let v3903 : Index := Scalar.indexCast v3779
  let c0_1765 : Index := 0#32
  let c0_1766 : Index := 0#32
  let c0_1767 : Index := 0#32
  ![v3903.toNat, 0, 0, 0]
def k0_off16 (k0_t2 : Fin k0_t2_loop.trips) (c0_i32_1720 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1718 : BitVec 32 := 1#32
  let v3775 : BitVec 32 := Scalar.addi v3667 c1_i32_1718
  let c4_i32_1719 : BitVec 32 := 4#32
  let v3776 : BitVec 32 := Scalar.muli v3775 c4_i32_1719
  let v3777 : BitVec 32 := Scalar.addi v3776 c0_i32_1720
  let v3998 : Index := Scalar.indexCast v3777
  let c0_1797 : Index := 0#32
  let c128_1798 : Index := 128#32
  ![v3998.toNat, 0, 128]
def k0_off17 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1721 : BitVec 32 := 1#32
  let v3778 : BitVec 32 := Scalar.addi v3667 c1_i32_1721
  let c1_i32_1722 : BitVec 32 := 1#32
  let v3779 : BitVec 32 := Scalar.andi v3778 c1_i32_1722
  let v4005 : Index := Scalar.indexCast v3779
  let c0_1799 : Index := 0#32
  let c0_1800 : Index := 0#32
  let c128_1801 : Index := 128#32
  ![v4005.toNat, 0, 0, 128]
def k0_off18 (k0_t2 : Fin k0_t2_loop.trips) (c0_i32_1720 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1718 : BitVec 32 := 1#32
  let v3775 : BitVec 32 := Scalar.addi v3667 c1_i32_1718
  let c4_i32_1719 : BitVec 32 := 4#32
  let v3776 : BitVec 32 := Scalar.muli v3775 c4_i32_1719
  let v3777 : BitVec 32 := Scalar.addi v3776 c0_i32_1720
  let v4123 : Index := Scalar.indexCast v3777
  let c0_1840 : Index := 0#32
  let c256_1841 : Index := 256#32
  ![v4123.toNat, 0, 256]
def k0_off19 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1721 : BitVec 32 := 1#32
  let v3778 : BitVec 32 := Scalar.addi v3667 c1_i32_1721
  let c1_i32_1722 : BitVec 32 := 1#32
  let v3779 : BitVec 32 := Scalar.andi v3778 c1_i32_1722
  let v4130 : Index := Scalar.indexCast v3779
  let c0_1842 : Index := 0#32
  let c0_1843 : Index := 0#32
  let c256_1844 : Index := 256#32
  ![v4130.toNat, 0, 0, 256]
def k0_off20 (k0_t2 : Fin k0_t2_loop.trips) (c0_i32_1720 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1718 : BitVec 32 := 1#32
  let v3775 : BitVec 32 := Scalar.addi v3667 c1_i32_1718
  let c4_i32_1719 : BitVec 32 := 4#32
  let v3776 : BitVec 32 := Scalar.muli v3775 c4_i32_1719
  let v3777 : BitVec 32 := Scalar.addi v3776 c0_i32_1720
  let v4225 : Index := Scalar.indexCast v3777
  let c0_1874 : Index := 0#32
  let c384_1875 : Index := 384#32
  ![v4225.toNat, 0, 384]
def k0_off21 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1721 : BitVec 32 := 1#32
  let v3778 : BitVec 32 := Scalar.addi v3667 c1_i32_1721
  let c1_i32_1722 : BitVec 32 := 1#32
  let v3779 : BitVec 32 := Scalar.andi v3778 c1_i32_1722
  let v4232 : Index := Scalar.indexCast v3779
  let c0_1876 : Index := 0#32
  let c0_1877 : Index := 0#32
  let c384_1878 : Index := 384#32
  ![v4232.toNat, 0, 0, 384]
def k0_off22 (k0_t2 : Fin k0_t2_loop.trips) (c0_i32_1891 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1886 : BitVec 32 := 4#32
  let v4247 : BitVec 32 := Scalar.muli v3667 c4_i32_1886
  let c20_i32_1887 : BitVec 32 := 20#32
  let v4248 : BitVec 32 := Scalar.remsi v4247 c20_i32_1887
  let v4252 : BitVec 32 := Scalar.addi v4248 c0_i32_1891
  let v4253 : Index := Scalar.indexCast v4252
  let c0_1892 : Index := 0#32
  let c512_1893 : Index := 512#32
  ![v4253.toNat, 0, 512]
def k0_off23 (k0_t2 : Fin k0_t2_loop.trips) (c0_i32_1927 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_1922 : BitVec 32 := 4#32
  let v4292 : BitVec 32 := Scalar.muli v3667 c4_i32_1922
  let c20_i32_1923 : BitVec 32 := 20#32
  let v4293 : BitVec 32 := Scalar.remsi v4292 c20_i32_1923
  let v4297 : BitVec 32 := Scalar.addi v4293 c0_i32_1927
  let v4298 : Index := Scalar.indexCast v4297
  let c0_1928 : Index := 0#32
  let c1024_1929 : Index := 1024#32
  ![v4298.toNat, 0, 1024]
def k0_off24 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1958 : BitVec 32 := 1#32
  let v4338 : BitVec 32 := Scalar.addi v3667 c1_i32_1958
  let c1_i32_1959 : BitVec 32 := 1#32
  let v4339 : BitVec 32 := Scalar.andi v4338 c1_i32_1959
  let v4463 : Index := Scalar.indexCast v4339
  let c1_2002 : Index := 1#32
  let c0_2003 : Index := 0#32
  let c0_2004 : Index := 0#32
  ![v4463.toNat, 1, 0, 0]
def k0_off25 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1958 : BitVec 32 := 1#32
  let v4338 : BitVec 32 := Scalar.addi v3667 c1_i32_1958
  let c1_i32_1959 : BitVec 32 := 1#32
  let v4339 : BitVec 32 := Scalar.andi v4338 c1_i32_1959
  let v4565 : Index := Scalar.indexCast v4339
  let c1_2036 : Index := 1#32
  let c0_2037 : Index := 0#32
  let c128_2038 : Index := 128#32
  ![v4565.toNat, 1, 0, 128]
def k0_off26 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1958 : BitVec 32 := 1#32
  let v4338 : BitVec 32 := Scalar.addi v3667 c1_i32_1958
  let c1_i32_1959 : BitVec 32 := 1#32
  let v4339 : BitVec 32 := Scalar.andi v4338 c1_i32_1959
  let v4690 : Index := Scalar.indexCast v4339
  let c1_2079 : Index := 1#32
  let c0_2080 : Index := 0#32
  let c256_2081 : Index := 256#32
  ![v4690.toNat, 1, 0, 256]
def k0_off27 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_1958 : BitVec 32 := 1#32
  let v4338 : BitVec 32 := Scalar.addi v3667 c1_i32_1958
  let c1_i32_1959 : BitVec 32 := 1#32
  let v4339 : BitVec 32 := Scalar.andi v4338 c1_i32_1959
  let v4792 : Index := Scalar.indexCast v4339
  let c1_2113 : Index := 1#32
  let c0_2114 : Index := 0#32
  let c384_2115 : Index := 384#32
  ![v4792.toNat, 1, 0, 384]
def k0_off28 (k0_t2 : Fin k0_t2_loop.trips) (c0_i32_2128 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2123 : BitVec 32 := 4#32
  let v4807 : BitVec 32 := Scalar.muli v3667 c4_i32_2123
  let c20_i32_2124 : BitVec 32 := 20#32
  let v4808 : BitVec 32 := Scalar.remsi v4807 c20_i32_2124
  let v4812 : BitVec 32 := Scalar.addi v4808 c0_i32_2128
  let v4813 : Index := Scalar.indexCast v4812
  let c0_2129 : Index := 0#32
  let c1536_2130 : Index := 1536#32
  ![v4813.toNat, 0, 1536]
def k0_off29 (k0_t2 : Fin k0_t2_loop.trips) (c0_i32_2164 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2159 : BitVec 32 := 4#32
  let v4852 : BitVec 32 := Scalar.muli v3667 c4_i32_2159
  let c20_i32_2160 : BitVec 32 := 20#32
  let v4853 : BitVec 32 := Scalar.remsi v4852 c20_i32_2160
  let v4857 : BitVec 32 := Scalar.addi v4853 c0_i32_2164
  let v4858 : Index := Scalar.indexCast v4857
  let c0_2165 : Index := 0#32
  let c2048_2166 : Index := 2048#32
  ![v4858.toNat, 0, 2048]
def k0_off30 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2195 : BitVec 32 := 1#32
  let v4898 : BitVec 32 := Scalar.addi v3667 c1_i32_2195
  let c1_i32_2196 : BitVec 32 := 1#32
  let v4899 : BitVec 32 := Scalar.andi v4898 c1_i32_2196
  let v5023 : Index := Scalar.indexCast v4899
  let c2_2239 : Index := 2#32
  let c0_2240 : Index := 0#32
  let c0_2241 : Index := 0#32
  ![v5023.toNat, 2, 0, 0]
def k0_off31 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2195 : BitVec 32 := 1#32
  let v4898 : BitVec 32 := Scalar.addi v3667 c1_i32_2195
  let c1_i32_2196 : BitVec 32 := 1#32
  let v4899 : BitVec 32 := Scalar.andi v4898 c1_i32_2196
  let v5125 : Index := Scalar.indexCast v4899
  let c2_2273 : Index := 2#32
  let c0_2274 : Index := 0#32
  let c128_2275 : Index := 128#32
  ![v5125.toNat, 2, 0, 128]
def k0_off32 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2195 : BitVec 32 := 1#32
  let v4898 : BitVec 32 := Scalar.addi v3667 c1_i32_2195
  let c1_i32_2196 : BitVec 32 := 1#32
  let v4899 : BitVec 32 := Scalar.andi v4898 c1_i32_2196
  let v5250 : Index := Scalar.indexCast v4899
  let c2_2316 : Index := 2#32
  let c0_2317 : Index := 0#32
  let c256_2318 : Index := 256#32
  ![v5250.toNat, 2, 0, 256]
def k0_off33 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2195 : BitVec 32 := 1#32
  let v4898 : BitVec 32 := Scalar.addi v3667 c1_i32_2195
  let c1_i32_2196 : BitVec 32 := 1#32
  let v4899 : BitVec 32 := Scalar.andi v4898 c1_i32_2196
  let v5352 : Index := Scalar.indexCast v4899
  let c2_2350 : Index := 2#32
  let c0_2351 : Index := 0#32
  let c384_2352 : Index := 384#32
  ![v5352.toNat, 2, 0, 384]
def k0_off34 (k0_t2 : Fin k0_t2_loop.trips) (c0_i32_2365 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2360 : BitVec 32 := 4#32
  let v5367 : BitVec 32 := Scalar.muli v3667 c4_i32_2360
  let c20_i32_2361 : BitVec 32 := 20#32
  let v5368 : BitVec 32 := Scalar.remsi v5367 c20_i32_2361
  let v5372 : BitVec 32 := Scalar.addi v5368 c0_i32_2365
  let v5373 : Index := Scalar.indexCast v5372
  let c0_2366 : Index := 0#32
  let c2560_2367 : Index := 2560#32
  ![v5373.toNat, 0, 2560]
def k0_off35 (k0_t2 : Fin k0_t2_loop.trips) (c0_i32_2401 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2396 : BitVec 32 := 4#32
  let v5412 : BitVec 32 := Scalar.muli v3667 c4_i32_2396
  let c20_i32_2397 : BitVec 32 := 20#32
  let v5413 : BitVec 32 := Scalar.remsi v5412 c20_i32_2397
  let v5417 : BitVec 32 := Scalar.addi v5413 c0_i32_2401
  let v5418 : Index := Scalar.indexCast v5417
  let c0_2402 : Index := 0#32
  let c3072_2403 : Index := 3072#32
  ![v5418.toNat, 0, 3072]
def k0_off36 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2432 : BitVec 32 := 1#32
  let v5458 : BitVec 32 := Scalar.addi v3667 c1_i32_2432
  let c1_i32_2433 : BitVec 32 := 1#32
  let v5459 : BitVec 32 := Scalar.andi v5458 c1_i32_2433
  let v5583 : Index := Scalar.indexCast v5459
  let c3_2476 : Index := 3#32
  let c0_2477 : Index := 0#32
  let c0_2478 : Index := 0#32
  ![v5583.toNat, 3, 0, 0]
def k0_off37 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2432 : BitVec 32 := 1#32
  let v5458 : BitVec 32 := Scalar.addi v3667 c1_i32_2432
  let c1_i32_2433 : BitVec 32 := 1#32
  let v5459 : BitVec 32 := Scalar.andi v5458 c1_i32_2433
  let v5685 : Index := Scalar.indexCast v5459
  let c3_2510 : Index := 3#32
  let c0_2511 : Index := 0#32
  let c128_2512 : Index := 128#32
  ![v5685.toNat, 3, 0, 128]
def k0_off38 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2432 : BitVec 32 := 1#32
  let v5458 : BitVec 32 := Scalar.addi v3667 c1_i32_2432
  let c1_i32_2433 : BitVec 32 := 1#32
  let v5459 : BitVec 32 := Scalar.andi v5458 c1_i32_2433
  let v5810 : Index := Scalar.indexCast v5459
  let c3_2553 : Index := 3#32
  let c0_2554 : Index := 0#32
  let c256_2555 : Index := 256#32
  ![v5810.toNat, 3, 0, 256]
def k0_off39 (k0_t2 : Fin k0_t2_loop.trips) : Fin 4 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c1_i32_2432 : BitVec 32 := 1#32
  let v5458 : BitVec 32 := Scalar.addi v3667 c1_i32_2432
  let c1_i32_2433 : BitVec 32 := 1#32
  let v5459 : BitVec 32 := Scalar.andi v5458 c1_i32_2433
  let v5912 : Index := Scalar.indexCast v5459
  let c3_2587 : Index := 3#32
  let c0_2588 : Index := 0#32
  let c384_2589 : Index := 384#32
  ![v5912.toNat, 3, 0, 384]
def k0_off40 (k0_t2 : Fin k0_t2_loop.trips) (c0_i32_2602 : BitVec 32) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2597 : BitVec 32 := 4#32
  let v5927 : BitVec 32 := Scalar.muli v3667 c4_i32_2597
  let c20_i32_2598 : BitVec 32 := 20#32
  let v5928 : BitVec 32 := Scalar.remsi v5927 c20_i32_2598
  let v5932 : BitVec 32 := Scalar.addi v5928 c0_i32_2602
  let v5933 : Index := Scalar.indexCast v5932
  let c0_2603 : Index := 0#32
  let c3584_2604 : Index := 3584#32
  ![v5933.toNat, 0, 3584]
def k0_cond2 (k0_t2 : Fin k0_t2_loop.trips) : BitVec 1 :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2632 : BitVec 32 := 4#32
  let v5972 : BitVec 32 := Scalar.muli v3667 c4_i32_2632
  let c0_i32_2633 : BitVec 32 := 0#32
  let v5973 : BitVec 32 := Scalar.addi v5972 c0_i32_2633
  let c20_i32_2634 : BitVec 32 := 20#32
  let v5974 : BitVec 32 := Scalar.addi v5973 c20_i32_2634
  let c28_i32 : BitVec 32 := 28#32
  let v5975 : BitVec 1 := Scalar.cmpi .slt v5974 c28_i32
  let v5976 : BitVec 32 := Scalar.extui v5975
  let c0_i32_2635 : BitVec 32 := 0#32
  let v5977 : BitVec 1 := Scalar.cmpi .ne v5976 c0_i32_2635
  v5977

def k0_off41 (k0_t2 : Fin k0_t2_loop.trips) : Fin 1 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c0_i32_2651 : BitVec 32 := 0#32
  let v5996 : BitVec 32 := Scalar.addi v5971 c0_i32_2651
  ![v5996.toNat]
def k0_off42 (k0_t2 : Fin k0_t2_loop.trips) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c0_i32_2651 : BitVec 32 := 0#32
  let v5996 : BitVec 32 := Scalar.addi v5971 c0_i32_2651
  let c0_i32_2653 : BitVec 32 := 0#32
  let c0_i32_2654 : BitVec 32 := 0#32
  ![v5996.toNat, 0, 0]
def k0_off43 (k0_t2 : Fin k0_t2_loop.trips) : Fin 2 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2632 : BitVec 32 := 4#32
  let v5972 : BitVec 32 := Scalar.muli v3667 c4_i32_2632
  let c0_i32_2633 : BitVec 32 := 0#32
  let v5973 : BitVec 32 := Scalar.addi v5972 c0_i32_2633
  let c20_i32_2634 : BitVec 32 := 20#32
  let v5974 : BitVec 32 := Scalar.addi v5973 c20_i32_2634
  let c512_i32_2652 : BitVec 32 := 512#32
  let v5997 : BitVec 32 := Scalar.muli v5974 c512_i32_2652
  let c0_i32_2655 : BitVec 32 := 0#32
  ![v5997.toNat, 0]
def k0_cond3 (k0_t2 : Fin k0_t2_loop.trips) : BitVec 1 :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2636 : BitVec 32 := 4#32
  let v5978 : BitVec 32 := Scalar.muli v3667 c4_i32_2636
  let c1_i32_2637 : BitVec 32 := 1#32
  let v5979 : BitVec 32 := Scalar.addi v5978 c1_i32_2637
  let c20_i32_2638 : BitVec 32 := 20#32
  let v5980 : BitVec 32 := Scalar.addi v5979 c20_i32_2638
  let c28_i32_2639 : BitVec 32 := 28#32
  let v5981 : BitVec 1 := Scalar.cmpi .slt v5980 c28_i32_2639
  let v5982 : BitVec 32 := Scalar.extui v5981
  let c0_i32_2640 : BitVec 32 := 0#32
  let v5983 : BitVec 1 := Scalar.cmpi .ne v5982 c0_i32_2640
  v5983

def k0_off44 (k0_t2 : Fin k0_t2_loop.trips) : Fin 1 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c1_i32_2651 : BitVec 32 := 1#32
  let v5996 : BitVec 32 := Scalar.addi v5971 c1_i32_2651
  ![v5996.toNat]
def k0_off45 (k0_t2 : Fin k0_t2_loop.trips) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c1_i32_2651 : BitVec 32 := 1#32
  let v5996 : BitVec 32 := Scalar.addi v5971 c1_i32_2651
  let c0_i32_2653 : BitVec 32 := 0#32
  let c0_i32_2654 : BitVec 32 := 0#32
  ![v5996.toNat, 0, 0]
def k0_off46 (k0_t2 : Fin k0_t2_loop.trips) : Fin 2 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2636 : BitVec 32 := 4#32
  let v5978 : BitVec 32 := Scalar.muli v3667 c4_i32_2636
  let c1_i32_2637 : BitVec 32 := 1#32
  let v5979 : BitVec 32 := Scalar.addi v5978 c1_i32_2637
  let c20_i32_2638 : BitVec 32 := 20#32
  let v5980 : BitVec 32 := Scalar.addi v5979 c20_i32_2638
  let c512_i32_2652 : BitVec 32 := 512#32
  let v5997 : BitVec 32 := Scalar.muli v5980 c512_i32_2652
  let c0_i32_2655 : BitVec 32 := 0#32
  ![v5997.toNat, 0]
def k0_cond4 (k0_t2 : Fin k0_t2_loop.trips) : BitVec 1 :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2641 : BitVec 32 := 4#32
  let v5984 : BitVec 32 := Scalar.muli v3667 c4_i32_2641
  let c2_i32_2642 : BitVec 32 := 2#32
  let v5985 : BitVec 32 := Scalar.addi v5984 c2_i32_2642
  let c20_i32_2643 : BitVec 32 := 20#32
  let v5986 : BitVec 32 := Scalar.addi v5985 c20_i32_2643
  let c28_i32_2644 : BitVec 32 := 28#32
  let v5987 : BitVec 1 := Scalar.cmpi .slt v5986 c28_i32_2644
  let v5988 : BitVec 32 := Scalar.extui v5987
  let c0_i32_2645 : BitVec 32 := 0#32
  let v5989 : BitVec 1 := Scalar.cmpi .ne v5988 c0_i32_2645
  v5989

def k0_off47 (k0_t2 : Fin k0_t2_loop.trips) : Fin 1 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c2_i32_2651 : BitVec 32 := 2#32
  let v5996 : BitVec 32 := Scalar.addi v5971 c2_i32_2651
  ![v5996.toNat]
def k0_off48 (k0_t2 : Fin k0_t2_loop.trips) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c2_i32_2651 : BitVec 32 := 2#32
  let v5996 : BitVec 32 := Scalar.addi v5971 c2_i32_2651
  let c0_i32_2653 : BitVec 32 := 0#32
  let c0_i32_2654 : BitVec 32 := 0#32
  ![v5996.toNat, 0, 0]
def k0_off49 (k0_t2 : Fin k0_t2_loop.trips) : Fin 2 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2641 : BitVec 32 := 4#32
  let v5984 : BitVec 32 := Scalar.muli v3667 c4_i32_2641
  let c2_i32_2642 : BitVec 32 := 2#32
  let v5985 : BitVec 32 := Scalar.addi v5984 c2_i32_2642
  let c20_i32_2643 : BitVec 32 := 20#32
  let v5986 : BitVec 32 := Scalar.addi v5985 c20_i32_2643
  let c512_i32_2652 : BitVec 32 := 512#32
  let v5997 : BitVec 32 := Scalar.muli v5986 c512_i32_2652
  let c0_i32_2655 : BitVec 32 := 0#32
  ![v5997.toNat, 0]
def k0_cond5 (k0_t2 : Fin k0_t2_loop.trips) : BitVec 1 :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2646 : BitVec 32 := 4#32
  let v5990 : BitVec 32 := Scalar.muli v3667 c4_i32_2646
  let c3_i32_2647 : BitVec 32 := 3#32
  let v5991 : BitVec 32 := Scalar.addi v5990 c3_i32_2647
  let c20_i32_2648 : BitVec 32 := 20#32
  let v5992 : BitVec 32 := Scalar.addi v5991 c20_i32_2648
  let c28_i32_2649 : BitVec 32 := 28#32
  let v5993 : BitVec 1 := Scalar.cmpi .slt v5992 c28_i32_2649
  let v5994 : BitVec 32 := Scalar.extui v5993
  let c0_i32_2650 : BitVec 32 := 0#32
  let v5995 : BitVec 1 := Scalar.cmpi .ne v5994 c0_i32_2650
  v5995

def k0_off50 (k0_t2 : Fin k0_t2_loop.trips) : Fin 1 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c3_i32_2651 : BitVec 32 := 3#32
  let v5996 : BitVec 32 := Scalar.addi v5971 c3_i32_2651
  ![v5996.toNat]
def k0_off51 (k0_t2 : Fin k0_t2_loop.trips) : Fin 3 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2630 : BitVec 32 := 4#32
  let v5970 : BitVec 32 := Scalar.muli v3667 c4_i32_2630
  let c20_i32_2631 : BitVec 32 := 20#32
  let v5971 : BitVec 32 := Scalar.remsi v5970 c20_i32_2631
  let c3_i32_2651 : BitVec 32 := 3#32
  let v5996 : BitVec 32 := Scalar.addi v5971 c3_i32_2651
  let c0_i32_2653 : BitVec 32 := 0#32
  let c0_i32_2654 : BitVec 32 := 0#32
  ![v5996.toNat, 0, 0]
def k0_off52 (k0_t2 : Fin k0_t2_loop.trips) : Fin 2 → Nat :=
  let c0_i32_1627 : BitVec 32 := 0#32
  let c0_i32_1066 : BitVec 32 := 0#32
  let c1_i32_1068 : BitVec 32 := 1#32
  let arg24 : BitVec 32 := Scf.iv c0_i32_1066 c1_i32_1068 k0_t2
  let c1_i32_1626 : BitVec 32 := 1#32
  let v3666 : BitVec 32 := Scalar.muli arg24 c1_i32_1626
  let v3667 : BitVec 32 := Scalar.addi c0_i32_1627 v3666
  let c4_i32_2646 : BitVec 32 := 4#32
  let v5990 : BitVec 32 := Scalar.muli v3667 c4_i32_2646
  let c3_i32_2647 : BitVec 32 := 3#32
  let v5991 : BitVec 32 := Scalar.addi v5990 c3_i32_2647
  let c20_i32_2648 : BitVec 32 := 20#32
  let v5992 : BitVec 32 := Scalar.addi v5991 c20_i32_2648
  let c512_i32_2652 : BitVec 32 := 512#32
  let v5997 : BitVec 32 := Scalar.muli v5992 c512_i32_2652
  let c0_i32_2655 : BitVec 32 := 0#32
  ![v5997.toNat, 0]
def k0_off53 (c0_i32_1071 : BitVec 32) : Fin 1 → Nat :=
  let c24_i32_1070 : BitVec 32 := 24#32
  let c20_i32 : BitVec 32 := 20#32
  let v3163 : BitVec 32 := Scalar.remsi c24_i32_1070 c20_i32
  let v3164 : BitVec 32 := Scalar.addi v3163 c0_i32_1071
  ![v3164.toNat]
def k0_off54 (c0_i32_1071 : BitVec 32) : Fin 3 → Nat :=
  let c24_i32_1070 : BitVec 32 := 24#32
  let c20_i32 : BitVec 32 := 20#32
  let v3163 : BitVec 32 := Scalar.remsi c24_i32_1070 c20_i32
  let v3164 : BitVec 32 := Scalar.addi v3163 c0_i32_1071
  let c0_i32_1072 : BitVec 32 := 0#32
  let c0_i32_1073 : BitVec 32 := 0#32
  ![v3164.toNat, 0, 0]
def k0_off55 (c0_i32_1114 : BitVec 32) : Fin 3 → Nat :=
  let c24_i32_1108 : BitVec 32 := 24#32
  let c20_i32_1109 : BitVec 32 := 20#32
  let v3205 : BitVec 32 := Scalar.remsi c24_i32_1108 c20_i32_1109
  let v3208 : BitVec 32 := Scalar.addi v3205 c0_i32_1114
  let v3209 : Index := Scalar.indexCast v3208
  let c0_1115 : Index := 0#32
  let c0_1116 : Index := 0#32
  ![v3209.toNat, 0, 0]
def k0_off56 (c0_i32_1158 : BitVec 32) : Fin 3 → Nat :=
  let c24_i32_1152 : BitVec 32 := 24#32
  let c20_i32_1153 : BitVec 32 := 20#32
  let v3250 : BitVec 32 := Scalar.remsi c24_i32_1152 c20_i32_1153
  let v3253 : BitVec 32 := Scalar.addi v3250 c0_i32_1158
  let v3254 : Index := Scalar.indexCast v3253
  let c0_1159 : Index := 0#32
  let c512_1160 : Index := 512#32
  ![v3254.toNat, 0, 512]
def k0_off57 (c0_i32_1202 : BitVec 32) : Fin 3 → Nat :=
  let c24_i32_1196 : BitVec 32 := 24#32
  let c20_i32_1197 : BitVec 32 := 20#32
  let v3295 : BitVec 32 := Scalar.remsi c24_i32_1196 c20_i32_1197
  let v3298 : BitVec 32 := Scalar.addi v3295 c0_i32_1202
  let v3299 : Index := Scalar.indexCast v3298
  let c0_1203 : Index := 0#32
  let c1024_1204 : Index := 1024#32
  ![v3299.toNat, 0, 1024]
def k0_off58 (c0_i32_1246 : BitVec 32) : Fin 3 → Nat :=
  let c24_i32_1240 : BitVec 32 := 24#32
  let c20_i32_1241 : BitVec 32 := 20#32
  let v3340 : BitVec 32 := Scalar.remsi c24_i32_1240 c20_i32_1241
  let v3343 : BitVec 32 := Scalar.addi v3340 c0_i32_1246
  let v3344 : Index := Scalar.indexCast v3343
  let c0_1247 : Index := 0#32
  let c1536_1248 : Index := 1536#32
  ![v3344.toNat, 0, 1536]
def k0_off59 (c0_i32_1290 : BitVec 32) : Fin 3 → Nat :=
  let c24_i32_1284 : BitVec 32 := 24#32
  let c20_i32_1285 : BitVec 32 := 20#32
  let v3385 : BitVec 32 := Scalar.remsi c24_i32_1284 c20_i32_1285
  let v3388 : BitVec 32 := Scalar.addi v3385 c0_i32_1290
  let v3389 : Index := Scalar.indexCast v3388
  let c0_1291 : Index := 0#32
  let c2048_1292 : Index := 2048#32
  ![v3389.toNat, 0, 2048]
def k0_off60 (c0_i32_1334 : BitVec 32) : Fin 3 → Nat :=
  let c24_i32_1328 : BitVec 32 := 24#32
  let c20_i32_1329 : BitVec 32 := 20#32
  let v3430 : BitVec 32 := Scalar.remsi c24_i32_1328 c20_i32_1329
  let v3433 : BitVec 32 := Scalar.addi v3430 c0_i32_1334
  let v3434 : Index := Scalar.indexCast v3433
  let c0_1335 : Index := 0#32
  let c2560_1336 : Index := 2560#32
  ![v3434.toNat, 0, 2560]
def k0_off61 (c0_i32_1378 : BitVec 32) : Fin 3 → Nat :=
  let c24_i32_1372 : BitVec 32 := 24#32
  let c20_i32_1373 : BitVec 32 := 20#32
  let v3475 : BitVec 32 := Scalar.remsi c24_i32_1372 c20_i32_1373
  let v3478 : BitVec 32 := Scalar.addi v3475 c0_i32_1378
  let v3479 : Index := Scalar.indexCast v3478
  let c0_1379 : Index := 0#32
  let c3072_1380 : Index := 3072#32
  ![v3479.toNat, 0, 3072]
def k0_off62 (c0_i32_1422 : BitVec 32) : Fin 3 → Nat :=
  let c24_i32_1416 : BitVec 32 := 24#32
  let c20_i32_1417 : BitVec 32 := 20#32
  let v3520 : BitVec 32 := Scalar.remsi c24_i32_1416 c20_i32_1417
  let v3523 : BitVec 32 := Scalar.addi v3520 c0_i32_1422
  let v3524 : Index := Scalar.indexCast v3523
  let c0_1423 : Index := 0#32
  let c3584_1424 : Index := 3584#32
  ![v3524.toNat, 0, 3584]
-- ==== KernelIdeal.lean ====
variable {F : FTy → Type} [FloatOps F]
-- ==== ReferenceIdeal.lean ====
abbrev S1x128x14336 : Shape := ⟨3, ![1, 128, 14336]⟩
abbrev S28x28 : Shape := ⟨2, ![28, 28]⟩
abbrev S14336x4096 : Shape := ⟨2, ![14336, 4096]⟩
abbrev S4096 : Shape := ⟨1, ![4096]⟩
abbrev S128x28x512 : Shape := ⟨3, ![128, 28, 512]⟩
abbrev S28x128x512 : Shape := ⟨3, ![28, 128, 512]⟩
abbrev S128x28x256x2x1 : Shape := ⟨5, ![128, 28, 256, 2, 1]⟩
abbrev S128x28x256x1x1 : Shape := ⟨5, ![128, 28, 256, 1, 1]⟩
abbrev S128x28x256x1 : Shape := ⟨4, ![128, 28, 256, 1]⟩
abbrev S128x28x128x2x2 : Shape := ⟨5, ![128, 28, 128, 2, 2]⟩
abbrev S128x28x128x1x2 : Shape := ⟨5, ![128, 28, 128, 1, 2]⟩
abbrev S128x28x128x2 : Shape := ⟨4, ![128, 28, 128, 2]⟩
abbrev S128x28x64x2x4 : Shape := ⟨5, ![128, 28, 64, 2, 4]⟩
abbrev S128x28x64x1x4 : Shape := ⟨5, ![128, 28, 64, 1, 4]⟩
abbrev S128x28x64x4 : Shape := ⟨4, ![128, 28, 64, 4]⟩
abbrev S128x28x32x2x8 : Shape := ⟨5, ![128, 28, 32, 2, 8]⟩
abbrev S128x28x32x1x8 : Shape := ⟨5, ![128, 28, 32, 1, 8]⟩
abbrev S128x28x32x8 : Shape := ⟨4, ![128, 28, 32, 8]⟩
abbrev S128x28x16x2x16 : Shape := ⟨5, ![128, 28, 16, 2, 16]⟩
abbrev S128x28x16x1x16 : Shape := ⟨5, ![128, 28, 16, 1, 16]⟩
abbrev S128x28x16x16 : Shape := ⟨4, ![128, 28, 16, 16]⟩
abbrev S128x28x8x2x32 : Shape := ⟨5, ![128, 28, 8, 2, 32]⟩
abbrev S128x28x8x1x32 : Shape := ⟨5, ![128, 28, 8, 1, 32]⟩
abbrev S128x28x8x32 : Shape := ⟨4, ![128, 28, 8, 32]⟩
abbrev S128x28x4x2x64 : Shape := ⟨5, ![128, 28, 4, 2, 64]⟩
abbrev S128x28x4x1x64 : Shape := ⟨5, ![128, 28, 4, 1, 64]⟩
abbrev S128x28x4x64 : Shape := ⟨4, ![128, 28, 4, 64]⟩
abbrev S128x28x2x2x128 : Shape := ⟨5, ![128, 28, 2, 2, 128]⟩
abbrev S128x28x2x1x128 : Shape := ⟨5, ![128, 28, 2, 1, 128]⟩
abbrev S128x28x2x128 : Shape := ⟨4, ![128, 28, 2, 128]⟩
abbrev S128x28x1x2x256 : Shape := ⟨5, ![128, 28, 1, 2, 256]⟩
abbrev S128x28x1x1x256 : Shape := ⟨5, ![128, 28, 1, 1, 256]⟩
abbrev S128x28x1x256 : Shape := ⟨4, ![128, 28, 1, 256]⟩
abbrev S_ : Shape := ⟨0, ![]⟩
abbrev S128x14336 : Shape := ⟨2, ![128, 14336]⟩
abbrev S128x112x128 : Shape := ⟨3, ![128, 112, 128]⟩
abbrev S128x112 : Shape := ⟨2, ![128, 112]⟩
abbrev S128x112x1 : Shape := ⟨3, ![128, 112, 1]⟩
abbrev S1x4096 : Shape := ⟨2, ![1, 4096]⟩
abbrev S128x4096 : Shape := ⟨2, ![128, 4096]⟩

abbrev nBuf : Space → Nat
  | .hbm => 160
  | .vmem => 8
  | .smem => 0
  | _ => 0

abbrev hbmTy0_0 (i : Nat) : BufTy := match i % 128 with
  | 0 => ⟨S1x128x14336, .bf16⟩
  | 1 => ⟨S28x28, .f32⟩
  | 2 => ⟨S14336x4096, .fp8e4m3⟩
  | 3 => ⟨S4096, .f32⟩
  | 4 => ⟨S1x128x14336, .f32⟩
  | 5 => ⟨S128x28x512, .f32⟩
  | 6 => ⟨S28x128x512, .f32⟩
  | 7 => ⟨S128x28x512, .f32⟩
  | 8 => ⟨S128x28x256x2x1, .f32⟩
  | 9 => ⟨S128x28x256x1x1, .f32⟩
  | 10 => ⟨S128x28x256x1, .f32⟩
  | 11 => ⟨S128x28x256x1x1, .f32⟩
  | 12 => ⟨S128x28x256x1, .f32⟩
  | 13 => ⟨S128x28x256x1, .f32⟩
  | 14 => ⟨S128x28x256x1, .f32⟩
  | 15 => ⟨S128x28x256x1x1, .f32⟩
  | 16 => ⟨S128x28x256x1x1, .f32⟩
  | 17 => ⟨S128x28x256x2x1, .f32⟩
  | 18 => ⟨S128x28x512, .f32⟩
  | 19 => ⟨S128x28x128x2x2, .f32⟩
  | 20 => ⟨S128x28x128x1x2, .f32⟩
  | 21 => ⟨S128x28x128x2, .f32⟩
  | 22 => ⟨S128x28x128x1x2, .f32⟩
  | 23 => ⟨S128x28x128x2, .f32⟩
  | 24 => ⟨S128x28x128x2, .f32⟩
  | 25 => ⟨S128x28x128x2, .f32⟩
  | 26 => ⟨S128x28x128x1x2, .f32⟩
  | 27 => ⟨S128x28x128x1x2, .f32⟩
  | 28 => ⟨S128x28x128x2x2, .f32⟩
  | 29 => ⟨S128x28x512, .f32⟩
  | 30 => ⟨S128x28x64x2x4, .f32⟩
  | 31 => ⟨S128x28x64x1x4, .f32⟩
  | 32 => ⟨S128x28x64x4, .f32⟩
  | 33 => ⟨S128x28x64x1x4, .f32⟩
  | 34 => ⟨S128x28x64x4, .f32⟩
  | 35 => ⟨S128x28x64x4, .f32⟩
  | 36 => ⟨S128x28x64x4, .f32⟩
  | 37 => ⟨S128x28x64x1x4, .f32⟩
  | 38 => ⟨S128x28x64x1x4, .f32⟩
  | 39 => ⟨S128x28x64x2x4, .f32⟩
  | 40 => ⟨S128x28x512, .f32⟩
  | 41 => ⟨S128x28x32x2x8, .f32⟩
  | 42 => ⟨S128x28x32x1x8, .f32⟩
  | 43 => ⟨S128x28x32x8, .f32⟩
  | 44 => ⟨S128x28x32x1x8, .f32⟩
  | 45 => ⟨S128x28x32x8, .f32⟩
  | 46 => ⟨S128x28x32x8, .f32⟩
  | 47 => ⟨S128x28x32x8, .f32⟩
  | 48 => ⟨S128x28x32x1x8, .f32⟩
  | 49 => ⟨S128x28x32x1x8, .f32⟩
  | 50 => ⟨S128x28x32x2x8, .f32⟩
  | 51 => ⟨S128x28x512, .f32⟩
  | 52 => ⟨S128x28x16x2x16, .f32⟩
  | 53 => ⟨S128x28x16x1x16, .f32⟩
  | 54 => ⟨S128x28x16x16, .f32⟩
  | 55 => ⟨S128x28x16x1x16, .f32⟩
  | 56 => ⟨S128x28x16x16, .f32⟩
  | 57 => ⟨S128x28x16x16, .f32⟩
  | 58 => ⟨S128x28x16x16, .f32⟩
  | 59 => ⟨S128x28x16x1x16, .f32⟩
  | 60 => ⟨S128x28x16x1x16, .f32⟩
  | 61 => ⟨S128x28x16x2x16, .f32⟩
  | 62 => ⟨S128x28x512, .f32⟩
  | 63 => ⟨S128x28x8x2x32, .f32⟩
  | 64 => ⟨S128x28x8x1x32, .f32⟩
  | 65 => ⟨S128x28x8x32, .f32⟩
  | 66 => ⟨S128x28x8x1x32, .f32⟩
  | 67 => ⟨S128x28x8x32, .f32⟩
  | 68 => ⟨S128x28x8x32, .f32⟩
  | 69 => ⟨S128x28x8x32, .f32⟩
  | 70 => ⟨S128x28x8x1x32, .f32⟩
  | 71 => ⟨S128x28x8x1x32, .f32⟩
  | 72 => ⟨S128x28x8x2x32, .f32⟩
  | 73 => ⟨S128x28x512, .f32⟩
  | 74 => ⟨S128x28x4x2x64, .f32⟩
  | 75 => ⟨S128x28x4x1x64, .f32⟩
  | 76 => ⟨S128x28x4x64, .f32⟩
  | 77 => ⟨S128x28x4x1x64, .f32⟩
  | 78 => ⟨S128x28x4x64, .f32⟩
  | 79 => ⟨S128x28x4x64, .f32⟩
  | 80 => ⟨S128x28x4x64, .f32⟩
  | 81 => ⟨S128x28x4x1x64, .f32⟩
  | 82 => ⟨S128x28x4x1x64, .f32⟩
  | 83 => ⟨S128x28x4x2x64, .f32⟩
  | 84 => ⟨S128x28x512, .f32⟩
  | 85 => ⟨S128x28x2x2x128, .f32⟩
  | 86 => ⟨S128x28x2x1x128, .f32⟩
  | 87 => ⟨S128x28x2x128, .f32⟩
  | 88 => ⟨S128x28x2x1x128, .f32⟩
  | 89 => ⟨S128x28x2x128, .f32⟩
  | 90 => ⟨S128x28x2x128, .f32⟩
  | 91 => ⟨S128x28x2x128, .f32⟩
  | 92 => ⟨S128x28x2x1x128, .f32⟩
  | 93 => ⟨S128x28x2x1x128, .f32⟩
  | 94 => ⟨S128x28x2x2x128, .f32⟩
  | 95 => ⟨S128x28x512, .f32⟩
  | 96 => ⟨S128x28x1x2x256, .f32⟩
  | 97 => ⟨S128x28x1x1x256, .f32⟩
  | 98 => ⟨S128x28x1x256, .f32⟩
  | 99 => ⟨S128x28x1x1x256, .f32⟩
  | 100 => ⟨S128x28x1x256, .f32⟩
  | 101 => ⟨S128x28x1x256, .f32⟩
  | 102 => ⟨S128x28x1x256, .f32⟩
  | 103 => ⟨S128x28x1x1x256, .f32⟩
  | 104 => ⟨S128x28x1x1x256, .f32⟩
  | 105 => ⟨S128x28x1x2x256, .f32⟩
  | 106 => ⟨S128x28x512, .f32⟩
  | 107 => ⟨S_, .f32⟩
  | 108 => ⟨S128x28x512, .f32⟩
  | 109 => ⟨S128x28x512, .f32⟩
  | 110 => ⟨S128x14336, .f32⟩
  | 111 => ⟨S128x112x128, .f32⟩
  | 112 => ⟨S128x112x128, .f32⟩
  | 113 => ⟨S_, .f32⟩
  | 114 => ⟨S128x112, .f32⟩
  | 115 => ⟨S_, .f32⟩
  | 116 => ⟨S128x112, .f32⟩
  | 117 => ⟨S128x112, .f32⟩
  | 118 => ⟨S_, .f32⟩
  | 119 => ⟨S128x112, .f32⟩
  | 120 => ⟨S128x112, .i1⟩
  | 121 => ⟨S128x112, .f32⟩
  | 122 => ⟨S_, .f32⟩
  | 123 => ⟨S_, .f32⟩
  | 124 => ⟨S128x112, .f32⟩
  | 125 => ⟨S128x112, .f32⟩
  | 126 => ⟨S128x112, .f32⟩
  | 127 => ⟨S_, .f32⟩
  | _ => ⟨S1x128x14336, .bf16⟩

abbrev hbmTy0_1 (i : Nat) : BufTy := match i % 128 with
  | 0 => ⟨S128x112, .f32⟩
  | 1 => ⟨S128x112, .f32⟩
  | 2 => ⟨S_, .f32⟩
  | 3 => ⟨S_, .f32⟩
  | 4 => ⟨S128x112, .f32⟩
  | 5 => ⟨S128x112, .f32⟩
  | 6 => ⟨S_, .f32⟩
  | 7 => ⟨S128x112, .f32⟩
  | 8 => ⟨S128x112, .f32⟩
  | 9 => ⟨S128x112, .f32⟩
  | 10 => ⟨S_, .f32⟩
  | 11 => ⟨S128x112, .f32⟩
  | 12 => ⟨S128x112, .f32⟩
  | 13 => ⟨S128x112x1, .f32⟩
  | 14 => ⟨S128x112x128, .f32⟩
  | 15 => ⟨S128x112x128, .f32⟩
  | 16 => ⟨S_, .f32⟩
  | 17 => ⟨S_, .f32⟩
  | 18 => ⟨S_, .f32⟩
  | 19 => ⟨S128x112x128, .f32⟩
  | 20 => ⟨S128x112x128, .f32⟩
  | 21 => ⟨S_, .f32⟩
  | 22 => ⟨S128x112x128, .f32⟩
  | 23 => ⟨S128x112x128, .f32⟩
  | 24 => ⟨S128x14336, .f32⟩
  | 25 => ⟨S128x112x1, .f32⟩
  | 26 => ⟨S128x112x128, .f32⟩
  | 27 => ⟨S128x14336, .f32⟩
  | 28 => ⟨S1x4096, .f32⟩
  | 29 => ⟨S128x4096, .bf16⟩
  | 30 => ⟨S128x14336, .fp8e4m3⟩
  | 31 => ⟨S128x112, .f32⟩
  | _ => ⟨S1x128x14336, .bf16⟩

abbrev hbmTy (i : Nat) : BufTy := match i / 128 with
  | 0 => hbmTy0_0 i
  | 1 => hbmTy0_1 i
  | _ => ⟨S1x128x14336, .bf16⟩

abbrev bufTy : (tb : Table) → Fin (tcTables nBuf tb) → BufTy
  | .hbm, ⟨i, _⟩ => hbmTy i
  | .local _ .vmem, ⟨0, _⟩ => ⟨S128x14336, .f32⟩
  | .local _ .vmem, ⟨1, _⟩ => ⟨S128x112, .f32⟩
  | .local _ .vmem, ⟨2, _⟩ => ⟨S128x14336, .f32⟩
  | .local _ .vmem, ⟨3, _⟩ => ⟨S14336x4096, .fp8e4m3⟩
  | .local _ .vmem, ⟨4, _⟩ => ⟨S1x4096, .f32⟩
  | .local _ .vmem, ⟨5, _⟩ => ⟨S128x4096, .bf16⟩
  | .local _ .vmem, ⟨6, _⟩ => ⟨S128x14336, .fp8e4m3⟩
  | .local _ .vmem, ⟨7, _⟩ => ⟨S128x112, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_cst : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_cst_0 : Ref sig .tc := ⟨.hbm, 113, rfl⟩
abbrev main_v108 : Ref sig .tc := ⟨.hbm, 114, rfl⟩
abbrev main_cst_1 : Ref sig .tc := ⟨.hbm, 115, rfl⟩
abbrev main_v109 : Ref sig .tc := ⟨.hbm, 116, rfl⟩
abbrev main_v110 : Ref sig .tc := ⟨.hbm, 117, rfl⟩
abbrev main_cst_2 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_cst_3 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_cst_4 : Ref sig .tc := ⟨.hbm, 127, rfl⟩
abbrev main_v118 : Ref sig .tc := ⟨.hbm, 128, rfl⟩
abbrev main_v119 : Ref sig .tc := ⟨.hbm, 129, rfl⟩
abbrev main_cst_5 : Ref sig .tc := ⟨.hbm, 130, rfl⟩
abbrev main_call0_v0 : Ref sig .tc := ⟨.hbm, 131, rfl⟩
abbrev main_call0_v1 : Ref sig .tc := ⟨.hbm, 132, rfl⟩
abbrev main_v120 : Ref sig .tc := ⟨.hbm, 133, rfl⟩
abbrev main_cst_6 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_cst_7 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_cst_8 : Ref sig .tc := ⟨.hbm, 144, rfl⟩
abbrev main_cst_9 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135_0 : Ref sig .tc := ⟨.hbm, 157, rfl⟩
abbrev main_v135_1 : Ref sig .tc := ⟨.hbm, 158, rfl⟩
abbrev main_v135_2 : Ref sig .tc := ⟨.hbm, 159, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x14336 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Setup.lean ====
/- The kernel's operands and cells, and the region's invariant as a chain of held buffers (`Kernel`). -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The proof's user algebra: the pipeline library's beside the transfers' counters. -/
local notation "𝕄" => MT nD τ sig Unit (Elt F) ℕ (Pipeline.UD sig nD τ) ℕ

abbrev BufOf (c : Dev nD) {sp : Space} {S : Shape} {e : EltTy} (M : Memref sig .tc sp S e) : Type := Buf (Elt F) (M.view.loc (c : Thread nD τ))
/-- A buffer of the core held whole at given contents, its location spelt through its memref. -/
abbrev pt (c : Dev nD) {sp : Space} {S : Shape} {e : EltTy} (M : Memref sig .tc sp S e) (f : BufOf (F := F) c M) : sProp 𝕄 :=
  M.view.loc (c : Thread nD τ) ↦{fullShare} f
/-- Part of a buffer of the core, the elements of a window of it. -/
abbrev ptW (c : Dev nD) {sp : Space} {S : Shape} {e : EltTy} (M : Memref sig .tc sp S e) (R : Rect S) (f : BufOf (F := F) c M) : sProp 𝕄 :=
  M.view.loc (c : Thread nD τ) ↦[M.view.setOn R.set]{fullShare} f
abbrev cell (c : Dev nD) (j : Fin 33) : sProp 𝕄 := semVal ((c : Thread nD τ), SemLoc.dma j) 0

abbrev m0 : Memref sig .tc .hbm S128x14336 .bf16 := Memref.whole main_v0
abbrev m1 : Memref sig .tc .hbm S28x28 .f32 := Memref.whole main_arg1
abbrev m2 : Memref sig .tc .hbm S14336x4096 .fp8e4m3 := Memref.whole main_arg2
abbrev m3 : Memref sig .tc .hbm S1x4096 .f32 := Memref.whole main_v1
abbrev m4 : Memref sig .tc .hbm S128x4096 .bf16 := Memref.whole main_v2_0
abbrev m5 : Memref sig .tc .hbm S128x14336 .fp8e4m3 := Memref.whole main_v2_1
abbrev m6 : Memref sig .tc .hbm S128x112 .f32 := Memref.whole main_v2_2
abbrev m7 : Memref sig .tc .vmem S128x14336 .bf16 := Memref.whole cc0_scratch0
abbrev m8 : Memref sig .tc .vmem S28x28 .f32 := Memref.whole cc0_scratch1
abbrev m9 : Memref sig .tc .vmem S1x4096 .f32 := Memref.whole cc0_scratch2
abbrev m10 : Memref sig .tc .vmem S20x512x4096 .fp8e4m3 := Memref.whole cc0_scratch3
abbrev m11 : Memref sig .tc .vmem S3x224x256 .bf16 := Memref.whole cc0_scratch4
abbrev m12 : Memref sig .tc .vmem S256x256 .bf16 := Memref.whole cc0_scratch5
abbrev m13 : Memref sig .tc .vmem S28x128x512 .f32 := Memref.whole cc0_scratch6
abbrev m14 : Memref sig .tc .vmem S2x4x128x512 .bf16 := Memref.whole cc0_scratch7
abbrev m15 : Memref sig .tc .vmem S128x4096 .f32 := Memref.whole cc0_scratch8
abbrev m16 : Memref sig .tc .vmem S28x128x512 .fp8e4m3 := Memref.whole cc0_scratch9
abbrev m17 : Memref sig .tc .vmem S128x112 .f32 := Memref.whole cc0_scratch10
abbrev m18 : Memref sig .tc .vmem S128x4096 .bf16 := Memref.whole cc0_scratch11

/-- The kernel's body on its operands. -/
abbrev body : Prog (TpuEff nD τ sig (Elt F) Λ₀ .tc) PUnit :=
  cc0_hadamard_fp8_down_proj m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) cc0_scratch12 cc0_scratch13 cc0_scratch14 cc0_scratch15 cc0_scratch16

abbrev osem0 : Fin 33 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32] (by decide) (by decide)]; rfl

variable (m : (ℓ : Loc nD τ sig) → Buf (Elt F) ℓ) (ρ : Dev nD → PrngReg)

/-- What the core's buffers hold when the region is entered: after the two host reshapes. -/
abbrev V (c : Dev nD) (b : Ref sig .tc) : Buf (Elt F) ((c : Thread nD τ).loc b) := StableHlo.after hostOps0 (fun b => m (c, b)) b

/-- The unscoped buffers the body's transfers read, and those they write. -/
def H0 : Finset (Ref sig .tc) := {main_v0, main_arg1, main_arg2, main_v1}
def R0 : Finset (Ref sig .tc) := {main_v2_0, main_v2_1, main_v2_2}
theorem H0_sub : H0 ⊆ Pipeline.restRefs sig (cfg0.spec) := by decide
theorem R0_sub : R0 ⊆ Pipeline.restRefs sig (cfg0.spec) \ H0 := by decide
theorem hbmPts0_eq (c : Dev nD) :
    (bigSep H0 (fun b => ((c : Thread nD τ).loc b) ↦{fullShare} V m c b) : sProp 𝕄)
      = iprop(pt c m0 (V m c main_v0) ∗ pt c m1 (V m c main_arg1) ∗ pt c m2 (V m c main_arg2) ∗ pt c m3 (V m c main_v1)) := by
  rw [BI.bigSep_eq_bigSepL_of_eq [main_v0, main_arg1, main_arg2, main_v1] (by decide) (by decide)]; rfl
theorem routedPts0_eq (c : Dev nD) (G : (b : Ref sig .tc) → Buf (Elt F) ((c : Thread nD τ).loc b)) :
    (Pipeline.routed R0 c G : sProp 𝕄) = iprop(pt c m4 (G main_v2_0) ∗ pt c m5 (G main_v2_1) ∗ pt c m6 (G main_v2_2)) := by
  unfold Pipeline.routed; rw [BI.bigSep_eq_bigSepL_of_eq [main_v2_0, main_v2_1, main_v2_2] (by decide) (by decide)]; rfl

end Cert.Kernel.Hand

end
-- ==== Proof.K.Windows.lean ====
/- Buffers held window by window: each family of windows tiles its buffer along one axis. -/
module

public import proofs.«01_k».proof.Proof.K.Setup

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

theorem ring_inb (i : Fin 20) : ∀ a, (![i.val, 0, 0] : Fin 3 → ℕ) a + S1x512x4096.size a ≤ S20x512x4096.size a := by revert i; decide
/-- Window `i` of the family. -/
abbrev ringR (i : Fin 20) : Rect S20x512x4096 := Rect.unit (s := S20x512x4096) ![i.val, 0, 0] S1x512x4096.size (ring_inb i)
abbrev ringI (i : Fin 20) : Finset m10.view.ty.Idx := m10.view.setOn (ringR i).set
theorem ring_disj (i i' : Fin 20) (h : i ≠ i') : Disjoint (ringI i) (ringI i') := by
  refine View.disjoint_setOn _ (LoadRect.disjoint_of_separated (ringR i).toLoadRect (ringR i').toLoadRect 0 ?_)
  have h' : i.val ≠ i'.val := fun e => h (Fin.ext e)
  have e1 : (ringR i).toLoadRect.off 0 = 1 * i.val := (Nat.one_mul _).symm
  have e2 : (ringR i').toLoadRect.off 0 = 1 * i'.val := (Nat.one_mul _).symm
  have e3 : (ringR i).toLoadRect.size 0 = 1 := rfl
  have e4 : (ringR i').toLoadRect.size 0 = 1 := rfl
  have e5 : (ringR i).toLoadRect.stride 0 = 1 := rfl
  have e6 : (ringR i').toLoadRect.stride 0 = 1 := rfl
  rw [e1, e2, e3, e4, e5, e6]; omega
theorem ring_mem (i : Fin 20) (y : S20x512x4096.Idx) : y ∈ ringI i ↔ (y 0).val / 1 = i.val := by
  refine (View.mem_setOn (v := m10.view) (x := y)).trans (LoadRect.mem_set (r := (ringR i).toLoadRect) (i := y) |>.trans ?_)
  constructor
  · intro h
    obtain ⟨j, hj, e⟩ := h 0
    have hj' : j < 1 := hj
    have e' : (y 0).val = 1 * i.val + 1 * j := by rw [Nat.one_mul]; exact e
    omega
  · intro h a
    fin_cases a
    · exact ⟨(y 0).val - 1 * i.val, by show (y 0).val - 1 * i.val < 1; omega, by show (y 0).val = i.val + 1 * ((y 0).val - 1 * i.val); omega⟩
    · exact ⟨(y 1).val, (y 1).isLt, by show (y 1).val = 0 + 1 * (y 1).val; omega⟩
    · exact ⟨(y 2).val, (y 2).isLt, by show (y 2).val = 0 + 1 * (y 2).val; omega⟩
theorem ring_cover : (Finset.univ : Finset (Fin 20)).biUnion ringI = Finset.univ := by
  ext y
  simp only [Finset.mem_biUnion, Finset.mem_univ, true_and, iff_true]
  have hy : (y 0).val < 20 := (y 0).isLt
  exact ⟨⟨(y 0).val / 1, by omega⟩, (ring_mem _ y).mpr rfl⟩
theorem ringR_0 : ringR 0 = Rect.unit (s := S20x512x4096) ![0, 0, 0] S1x512x4096.size inb_S20x512x4096_S1x512x4096_0_0_0 := rfl
theorem ringR_1 : ringR 1 = Rect.unit (s := S20x512x4096) ![1, 0, 0] S1x512x4096.size inb_S20x512x4096_S1x512x4096_1_0_0 := rfl
theorem ringR_2 : ringR 2 = Rect.unit (s := S20x512x4096) ![2, 0, 0] S1x512x4096.size inb_S20x512x4096_S1x512x4096_2_0_0 := rfl
theorem ringR_3 : ringR 3 = Rect.unit (s := S20x512x4096) ![3, 0, 0] S1x512x4096.size inb_S20x512x4096_S1x512x4096_3_0_0 := rfl
theorem ringR_4 : ringR 4 = Rect.unit (s := S20x512x4096) ![4, 0, 0] S1x512x4096.size inb_S20x512x4096_S1x512x4096_4_0_0 := rfl
theorem ringR_5 : ringR 5 = Rect.unit (s := S20x512x4096) ![5, 0, 0] S1x512x4096.size inb_S20x512x4096_S1x512x4096_5_0_0 := rfl
theorem ringR_6 : ringR 6 = Rect.unit (s := S20x512x4096) ![6, 0, 0] S1x512x4096.size inb_S20x512x4096_S1x512x4096_6_0_0 := rfl
theorem ringR_7 : ringR 7 = Rect.unit (s := S20x512x4096) ![7, 0, 0] S1x512x4096.size inb_S20x512x4096_S1x512x4096_7_0_0 := rfl
theorem ringR_8 : ringR 8 = Rect.unit (s := S20x512x4096) ![8, 0, 0] S1x512x4096.size inb_S20x512x4096_S1x512x4096_8_0_0 := rfl
theorem ringR_9 : ringR 9 = Rect.unit (s := S20x512x4096) ![9, 0, 0] S1x512x4096.size inb_S20x512x4096_S1x512x4096_9_0_0 := rfl
theorem ringR_10 : ringR 10 = Rect.unit (s := S20x512x4096) ![10, 0, 0] S1x512x4096.size inb_S20x512x4096_S1x512x4096_10_0_0 := rfl
theorem ringR_11 : ringR 11 = Rect.unit (s := S20x512x4096) ![11, 0, 0] S1x512x4096.size inb_S20x512x4096_S1x512x4096_11_0_0 := rfl
theorem ringR_12 : ringR 12 = Rect.unit (s := S20x512x4096) ![12, 0, 0] S1x512x4096.size inb_S20x512x4096_S1x512x4096_12_0_0 := rfl
theorem ringR_13 : ringR 13 = Rect.unit (s := S20x512x4096) ![13, 0, 0] S1x512x4096.size inb_S20x512x4096_S1x512x4096_13_0_0 := rfl
theorem ringR_14 : ringR 14 = Rect.unit (s := S20x512x4096) ![14, 0, 0] S1x512x4096.size inb_S20x512x4096_S1x512x4096_14_0_0 := rfl
theorem ringR_15 : ringR 15 = Rect.unit (s := S20x512x4096) ![15, 0, 0] S1x512x4096.size inb_S20x512x4096_S1x512x4096_15_0_0 := rfl
theorem ringR_16 : ringR 16 = Rect.unit (s := S20x512x4096) ![16, 0, 0] S1x512x4096.size inb_S20x512x4096_S1x512x4096_16_0_0 := rfl
theorem ringR_17 : ringR 17 = Rect.unit (s := S20x512x4096) ![17, 0, 0] S1x512x4096.size inb_S20x512x4096_S1x512x4096_17_0_0 := rfl
theorem ringR_18 : ringR 18 = Rect.unit (s := S20x512x4096) ![18, 0, 0] S1x512x4096.size inb_S20x512x4096_S1x512x4096_18_0_0 := rfl
theorem ringR_19 : ringR 19 = Rect.unit (s := S20x512x4096) ![19, 0, 0] S1x512x4096.size inb_S20x512x4096_S1x512x4096_19_0_0 := rfl
set_option maxRecDepth 8192 in
theorem ring_chain (c : Dev nD) (f : Fin 20 → BufOf (F := F) c m10) :
    (bigSep Finset.univ (fun b : Fin 20 => m10.view.loc (c : Thread nD τ) ↦[ringI b]{fullShare} f b) : sProp 𝕄)
      = iprop(ptW c m10 (Rect.unit (s := S20x512x4096) ![0, 0, 0] S1x512x4096.size inb_S20x512x4096_S1x512x4096_0_0_0) (f 0) ∗ ptW c m10 (Rect.unit (s := S20x512x4096) ![1, 0, 0] S1x512x4096.size inb_S20x512x4096_S1x512x4096_1_0_0) (f 1) ∗ ptW c m10 (Rect.unit (s := S20x512x4096) ![2, 0, 0] S1x512x4096.size inb_S20x512x4096_S1x512x4096_2_0_0) (f 2) ∗ ptW c m10 (Rect.unit (s := S20x512x4096) ![3, 0, 0] S1x512x4096.size inb_S20x512x4096_S1x512x4096_3_0_0) (f 3) ∗ ptW c m10 (Rect.unit (s := S20x512x4096) ![4, 0, 0] S1x512x4096.size inb_S20x512x4096_S1x512x4096_4_0_0) (f 4) ∗ ptW c m10 (Rect.unit (s := S20x512x4096) ![5, 0, 0] S1x512x4096.size inb_S20x512x4096_S1x512x4096_5_0_0) (f 5) ∗ ptW c m10 (Rect.unit (s := S20x512x4096) ![6, 0, 0] S1x512x4096.size inb_S20x512x4096_S1x512x4096_6_0_0) (f 6) ∗ ptW c m10 (Rect.unit (s := S20x512x4096) ![7, 0, 0] S1x512x4096.size inb_S20x512x4096_S1x512x4096_7_0_0) (f 7) ∗ ptW c m10 (Rect.unit (s := S20x512x4096) ![8, 0, 0] S1x512x4096.size inb_S20x512x4096_S1x512x4096_8_0_0) (f 8) ∗ ptW c m10 (Rect.unit (s := S20x512x4096) ![9, 0, 0] S1x512x4096.size inb_S20x512x4096_S1x512x4096_9_0_0) (f 9) ∗ ptW c m10 (Rect.unit (s := S20x512x4096) ![10, 0, 0] S1x512x4096.size inb_S20x512x4096_S1x512x4096_10_0_0) (f 10) ∗ ptW c m10 (Rect.unit (s := S20x512x4096) ![11, 0, 0] S1x512x4096.size inb_S20x512x4096_S1x512x4096_11_0_0) (f 11) ∗ ptW c m10 (Rect.unit (s := S20x512x4096) ![12, 0, 0] S1x512x4096.size inb_S20x512x4096_S1x512x4096_12_0_0) (f 12) ∗ ptW c m10 (Rect.unit (s := S20x512x4096) ![13, 0, 0] S1x512x4096.size inb_S20x512x4096_S1x512x4096_13_0_0) (f 13) ∗ ptW c m10 (Rect.unit (s := S20x512x4096) ![14, 0, 0] S1x512x4096.size inb_S20x512x4096_S1x512x4096_14_0_0) (f 14) ∗ ptW c m10 (Rect.unit (s := S20x512x4096) ![15, 0, 0] S1x512x4096.size inb_S20x512x4096_S1x512x4096_15_0_0) (f 15) ∗ ptW c m10 (Rect.unit (s := S20x512x4096) ![16, 0, 0] S1x512x4096.size inb_S20x512x4096_S1x512x4096_16_0_0) (f 16) ∗ ptW c m10 (Rect.unit (s := S20x512x4096) ![17, 0, 0] S1x512x4096.size inb_S20x512x4096_S1x512x4096_17_0_0) (f 17) ∗ ptW c m10 (Rect.unit (s := S20x512x4096) ![18, 0, 0] S1x512x4096.size inb_S20x512x4096_S1x512x4096_18_0_0) (f 18) ∗ ptW c m10 (Rect.unit (s := S20x512x4096) ![19, 0, 0] S1x512x4096.size inb_S20x512x4096_S1x512x4096_19_0_0) (f 19)) := by
  rw [BI.bigSep_eq_bigSepL_of_eq [0, 1, 2, 3, 4, 5, 6, 7, 8, 9, 10, 11, 12, 13, 14, 15, 16, 17, 18, 19] (by decide) (by decide)]
  refine (show _ = iprop(ptW c m10 (ringR 0) (f 0) ∗ ptW c m10 (ringR 1) (f 1) ∗ ptW c m10 (ringR 2) (f 2) ∗ ptW c m10 (ringR 3) (f 3) ∗ ptW c m10 (ringR 4) (f 4) ∗ ptW c m10 (ringR 5) (f 5) ∗ ptW c m10 (ringR 6) (f 6) ∗ ptW c m10 (ringR 7) (f 7) ∗ ptW c m10 (ringR 8) (f 8) ∗ ptW c m10 (ringR 9) (f 9) ∗ ptW c m10 (ringR 10) (f 10) ∗ ptW c m10 (ringR 11) (f 11) ∗ ptW c m10 (ringR 12) (f 12) ∗ ptW c m10 (ringR 13) (f 13) ∗ ptW c m10 (ringR 14) (f 14) ∗ ptW c m10 (ringR 15) (f 15) ∗ ptW c m10 (ringR 16) (f 16) ∗ ptW c m10 (ringR 17) (f 17) ∗ ptW c m10 (ringR 18) (f 18) ∗ ptW c m10 (ringR 19) (f 19)) from rfl).trans ?_
  rw [ringR_0, ringR_1, ringR_2, ringR_3, ringR_4, ringR_5, ringR_6, ringR_7, ringR_8, ringR_9, ringR_10, ringR_11, ringR_12, ringR_13, ringR_14, ringR_15, ringR_16, ringR_17, ringR_18, ringR_19]
/-- The buffer held whole is held window by window, -/
theorem ring_split (c : Dev nD) (f : BufOf (F := F) c m10) :
    (pt c m10 f : sProp 𝕄) ⊢ iprop(ptW c m10 (Rect.unit (s := S20x512x4096) ![0, 0, 0] S1x512x4096.size inb_S20x512x4096_S1x512x4096_0_0_0) f ∗ ptW c m10 (Rect.unit (s := S20x512x4096) ![1, 0, 0] S1x512x4096.size inb_S20x512x4096_S1x512x4096_1_0_0) f ∗ ptW c m10 (Rect.unit (s := S20x512x4096) ![2, 0, 0] S1x512x4096.size inb_S20x512x4096_S1x512x4096_2_0_0) f ∗ ptW c m10 (Rect.unit (s := S20x512x4096) ![3, 0, 0] S1x512x4096.size inb_S20x512x4096_S1x512x4096_3_0_0) f ∗ ptW c m10 (Rect.unit (s := S20x512x4096) ![4, 0, 0] S1x512x4096.size inb_S20x512x4096_S1x512x4096_4_0_0) f ∗ ptW c m10 (Rect.unit (s := S20x512x4096) ![5, 0, 0] S1x512x4096.size inb_S20x512x4096_S1x512x4096_5_0_0) f ∗ ptW c m10 (Rect.unit (s := S20x512x4096) ![6, 0, 0] S1x512x4096.size inb_S20x512x4096_S1x512x4096_6_0_0) f ∗ ptW c m10 (Rect.unit (s := S20x512x4096) ![7, 0, 0] S1x512x4096.size inb_S20x512x4096_S1x512x4096_7_0_0) f ∗ ptW c m10 (Rect.unit (s := S20x512x4096) ![8, 0, 0] S1x512x4096.size inb_S20x512x4096_S1x512x4096_8_0_0) f ∗ ptW c m10 (Rect.unit (s := S20x512x4096) ![9, 0, 0] S1x512x4096.size inb_S20x512x4096_S1x512x4096_9_0_0) f ∗ ptW c m10 (Rect.unit (s := S20x512x4096) ![10, 0, 0] S1x512x4096.size inb_S20x512x4096_S1x512x4096_10_0_0) f ∗ ptW c m10 (Rect.unit (s := S20x512x4096) ![11, 0, 0] S1x512x4096.size inb_S20x512x4096_S1x512x4096_11_0_0) f ∗ ptW c m10 (Rect.unit (s := S20x512x4096) ![12, 0, 0] S1x512x4096.size inb_S20x512x4096_S1x512x4096_12_0_0) f ∗ ptW c m10 (Rect.unit (s := S20x512x4096) ![13, 0, 0] S1x512x4096.size inb_S20x512x4096_S1x512x4096_13_0_0) f ∗ ptW c m10 (Rect.unit (s := S20x512x4096) ![14, 0, 0] S1x512x4096.size inb_S20x512x4096_S1x512x4096_14_0_0) f ∗ ptW c m10 (Rect.unit (s := S20x512x4096) ![15, 0, 0] S1x512x4096.size inb_S20x512x4096_S1x512x4096_15_0_0) f ∗ ptW c m10 (Rect.unit (s := S20x512x4096) ![16, 0, 0] S1x512x4096.size inb_S20x512x4096_S1x512x4096_16_0_0) f ∗ ptW c m10 (Rect.unit (s := S20x512x4096) ![17, 0, 0] S1x512x4096.size inb_S20x512x4096_S1x512x4096_17_0_0) f ∗ ptW c m10 (Rect.unit (s := S20x512x4096) ![18, 0, 0] S1x512x4096.size inb_S20x512x4096_S1x512x4096_18_0_0) f ∗ ptW c m10 (Rect.unit (s := S20x512x4096) ![19, 0, 0] S1x512x4096.size inb_S20x512x4096_S1x512x4096_19_0_0) f) := by
  rw [← ring_chain c (fun _ => f)]
  exact Entails.of_eq (Ring.pointsTo_blocks (Ix := Unit) (Name := ℕ) (U := Pipeline.UD sig nD τ) (Lvl := ℕ) (q := fullShare)
    (ℓ := m10.view.loc (c : Thread nD τ)) ringI ring_disj ring_cover f)
/-- and window by window, each at contents of its own, joins to the buffer held whole at contents that agree with each on its window. -/
theorem ring_join (c : Dev nD) (f : Fin 20 → BufOf (F := F) c m10) :
    iprop(ptW c m10 (Rect.unit (s := S20x512x4096) ![0, 0, 0] S1x512x4096.size inb_S20x512x4096_S1x512x4096_0_0_0) (f 0) ∗ ptW c m10 (Rect.unit (s := S20x512x4096) ![1, 0, 0] S1x512x4096.size inb_S20x512x4096_S1x512x4096_1_0_0) (f 1) ∗ ptW c m10 (Rect.unit (s := S20x512x4096) ![2, 0, 0] S1x512x4096.size inb_S20x512x4096_S1x512x4096_2_0_0) (f 2) ∗ ptW c m10 (Rect.unit (s := S20x512x4096) ![3, 0, 0] S1x512x4096.size inb_S20x512x4096_S1x512x4096_3_0_0) (f 3) ∗ ptW c m10 (Rect.unit (s := S20x512x4096) ![4, 0, 0] S1x512x4096.size inb_S20x512x4096_S1x512x4096_4_0_0) (f 4) ∗ ptW c m10 (Rect.unit (s := S20x512x4096) ![5, 0, 0] S1x512x4096.size inb_S20x512x4096_S1x512x4096_5_0_0) (f 5) ∗ ptW c m10 (Rect.unit (s := S20x512x4096) ![6, 0, 0] S1x512x4096.size inb_S20x512x4096_S1x512x4096_6_0_0) (f 6) ∗ ptW c m10 (Rect.unit (s := S20x512x4096) ![7, 0, 0] S1x512x4096.size inb_S20x512x4096_S1x512x4096_7_0_0) (f 7) ∗ ptW c m10 (Rect.unit (s := S20x512x4096) ![8, 0, 0] S1x512x4096.size inb_S20x512x4096_S1x512x4096_8_0_0) (f 8) ∗ ptW c m10 (Rect.unit (s := S20x512x4096) ![9, 0, 0] S1x512x4096.size inb_S20x512x4096_S1x512x4096_9_0_0) (f 9) ∗ ptW c m10 (Rect.unit (s := S20x512x4096) ![10, 0, 0] S1x512x4096.size inb_S20x512x4096_S1x512x4096_10_0_0) (f 10) ∗ ptW c m10 (Rect.unit (s := S20x512x4096) ![11, 0, 0] S1x512x4096.size inb_S20x512x4096_S1x512x4096_11_0_0) (f 11) ∗ ptW c m10 (Rect.unit (s := S20x512x4096) ![12, 0, 0] S1x512x4096.size inb_S20x512x4096_S1x512x4096_12_0_0) (f 12) ∗ ptW c m10 (Rect.unit (s := S20x512x4096) ![13, 0, 0] S1x512x4096.size inb_S20x512x4096_S1x512x4096_13_0_0) (f 13) ∗ ptW c m10 (Rect.unit (s := S20x512x4096) ![14, 0, 0] S1x512x4096.size inb_S20x512x4096_S1x512x4096_14_0_0) (f 14) ∗ ptW c m10 (Rect.unit (s := S20x512x4096) ![15, 0, 0] S1x512x4096.size inb_S20x512x4096_S1x512x4096_15_0_0) (f 15) ∗ ptW c m10 (Rect.unit (s := S20x512x4096) ![16, 0, 0] S1x512x4096.size inb_S20x512x4096_S1x512x4096_16_0_0) (f 16) ∗ ptW c m10 (Rect.unit (s := S20x512x4096) ![17, 0, 0] S1x512x4096.size inb_S20x512x4096_S1x512x4096_17_0_0) (f 17) ∗ ptW c m10 (Rect.unit (s := S20x512x4096) ![18, 0, 0] S1x512x4096.size inb_S20x512x4096_S1x512x4096_18_0_0) (f 18) ∗ ptW c m10 (Rect.unit (s := S20x512x4096) ![19, 0, 0] S1x512x4096.size inb_S20x512x4096_S1x512x4096_19_0_0) (f 19)) ⊢ (iprop(∃ g : BufOf (F := F) c m10, ⌜∀ i : Fin 20, ∀ y ∈ ringI i, g y = f i y⌝ ∗ pt c m10 g) : sProp 𝕄) := by
  rw [← ring_chain c f]
  refine (pointsTo_biUnion_join (Ix := Unit) (Name := ℕ) (U := Pipeline.UD sig nD τ) (Lvl := ℕ) (q := fullShare) (ℓ := m10.view.loc (c : Thread nD τ)) Finset.univ ringI f (f 0) (fun b _ b' _ h => ring_disj b b' h)).trans ?_
  rw [ring_cover]
  iintro ⟨%g, %hg, H⟩; iexists g
  isplitr; · ipureintro; exact fun i y hy => hg i (Finset.mem_univ i) y hy
  iexact H

theorem cod_inb (i : Fin 28) : ∀ a, (![i.val, 0, 0] : Fin 3 → ℕ) a + S1x128x512.size a ≤ S28x128x512.size a := by revert i; decide
/-- Window `i` of the family. -/
abbrev codR (i : Fin 28) : Rect S28x128x512 := Rect.unit (s := S28x128x512) ![i.val, 0, 0] S1x128x512.size (cod_inb i)
abbrev codI (i : Fin 28) : Finset m16.view.ty.Idx := m16.view.setOn (codR i).set
theorem cod_disj (i i' : Fin 28) (h : i ≠ i') : Disjoint (codI i) (codI i') := by
  refine View.disjoint_setOn _ (LoadRect.disjoint_of_separated (codR i).toLoadRect (codR i').toLoadRect 0 ?_)
  have h' : i.val ≠ i'.val := fun e => h (Fin.ext e)
  have e1 : (codR i).toLoadRect.off 0 = 1 * i.val := (Nat.one_mul _).symm
  have e2 : (codR i').toLoadRect.off 0 = 1 * i'.val := (Nat.one_mul _).symm
  have e3 : (codR i).toLoadRect.size 0 = 1 := rfl
  have e4 : (codR i').toLoadRect.size 0 = 1 := rfl
  have e5 : (codR i).toLoadRect.stride 0 = 1 := rfl
  have e6 : (codR i').toLoadRect.stride 0 = 1 := rfl
  rw [e1, e2, e3, e4, e5, e6]; omega
theorem cod_mem (i : Fin 28) (y : S28x128x512.Idx) : y ∈ codI i ↔ (y 0).val / 1 = i.val := by
  refine (View.mem_setOn (v := m16.view) (x := y)).trans (LoadRect.mem_set (r := (codR i).toLoadRect) (i := y) |>.trans ?_)
  constructor
  · intro h
    obtain ⟨j, hj, e⟩ := h 0
    have hj' : j < 1 := hj
    have e' : (y 0).val = 1 * i.val + 1 * j := by rw [Nat.one_mul]; exact e
    omega
  · intro h a
    fin_cases a
    · exact ⟨(y 0).val - 1 * i.val, by show (y 0).val - 1 * i.val < 1; omega, by show (y 0).val = i.val + 1 * ((y 0).val - 1 * i.val); omega⟩
    · exact ⟨(y 1).val, (y 1).isLt, by show (y 1).val = 0 + 1 * (y 1).val; omega⟩
    · exact ⟨(y 2).val, (y 2).isLt, by show (y 2).val = 0 + 1 * (y 2).val; omega⟩
theorem cod_cover : (Finset.univ : Finset (Fin 28)).biUnion codI = Finset.univ := by
  ext y
  simp only [Finset.mem_biUnion, Finset.mem_univ, true_and, iff_true]
  have hy : (y 0).val < 28 := (y 0).isLt
  exact ⟨⟨(y 0).val / 1, by omega⟩, (cod_mem _ y).mpr rfl⟩
theorem codR_0 : codR 0 = Rect.unit (s := S28x128x512) ![0, 0, 0] S1x128x512.size inb_S28x128x512_S1x128x512_0_0_0 := rfl
theorem codR_1 : codR 1 = Rect.unit (s := S28x128x512) ![1, 0, 0] S1x128x512.size inb_S28x128x512_S1x128x512_1_0_0 := rfl
theorem codR_2 : codR 2 = Rect.unit (s := S28x128x512) ![2, 0, 0] S1x128x512.size inb_S28x128x512_S1x128x512_2_0_0 := rfl
theorem codR_3 : codR 3 = Rect.unit (s := S28x128x512) ![3, 0, 0] S1x128x512.size inb_S28x128x512_S1x128x512_3_0_0 := rfl
theorem codR_4 : codR 4 = Rect.unit (s := S28x128x512) ![4, 0, 0] S1x128x512.size inb_S28x128x512_S1x128x512_4_0_0 := rfl
theorem codR_5 : codR 5 = Rect.unit (s := S28x128x512) ![5, 0, 0] S1x128x512.size inb_S28x128x512_S1x128x512_5_0_0 := rfl
theorem codR_6 : codR 6 = Rect.unit (s := S28x128x512) ![6, 0, 0] S1x128x512.size inb_S28x128x512_S1x128x512_6_0_0 := rfl
theorem codR_7 : codR 7 = Rect.unit (s := S28x128x512) ![7, 0, 0] S1x128x512.size inb_S28x128x512_S1x128x512_7_0_0 := rfl
theorem codR_8 : codR 8 = Rect.unit (s := S28x128x512) ![8, 0, 0] S1x128x512.size inb_S28x128x512_S1x128x512_8_0_0 := rfl
theorem codR_9 : codR 9 = Rect.unit (s := S28x128x512) ![9, 0, 0] S1x128x512.size inb_S28x128x512_S1x128x512_9_0_0 := rfl
theorem codR_10 : codR 10 = Rect.unit (s := S28x128x512) ![10, 0, 0] S1x128x512.size inb_S28x128x512_S1x128x512_10_0_0 := rfl
theorem codR_11 : codR 11 = Rect.unit (s := S28x128x512) ![11, 0, 0] S1x128x512.size inb_S28x128x512_S1x128x512_11_0_0 := rfl
theorem codR_12 : codR 12 = Rect.unit (s := S28x128x512) ![12, 0, 0] S1x128x512.size inb_S28x128x512_S1x128x512_12_0_0 := rfl
theorem codR_13 : codR 13 = Rect.unit (s := S28x128x512) ![13, 0, 0] S1x128x512.size inb_S28x128x512_S1x128x512_13_0_0 := rfl
theorem codR_14 : codR 14 = Rect.unit (s := S28x128x512) ![14, 0, 0] S1x128x512.size inb_S28x128x512_S1x128x512_14_0_0 := rfl
theorem codR_15 : codR 15 = Rect.unit (s := S28x128x512) ![15, 0, 0] S1x128x512.size inb_S28x128x512_S1x128x512_15_0_0 := rfl
theorem codR_16 : codR 16 = Rect.unit (s := S28x128x512) ![16, 0, 0] S1x128x512.size inb_S28x128x512_S1x128x512_16_0_0 := rfl
theorem codR_17 : codR 17 = Rect.unit (s := S28x128x512) ![17, 0, 0] S1x128x512.size inb_S28x128x512_S1x128x512_17_0_0 := rfl
theorem codR_18 : codR 18 = Rect.unit (s := S28x128x512) ![18, 0, 0] S1x128x512.size inb_S28x128x512_S1x128x512_18_0_0 := rfl
theorem codR_19 : codR 19 = Rect.unit (s := S28x128x512) ![19, 0, 0] S1x128x512.size inb_S28x128x512_S1x128x512_19_0_0 := rfl
theorem codR_20 : codR 20 = Rect.unit (s := S28x128x512) ![20, 0, 0] S1x128x512.size inb_S28x128x512_S1x128x512_20_0_0 := rfl
theorem codR_21 : codR 21 = Rect.unit (s := S28x128x512) ![21, 0, 0] S1x128x512.size inb_S28x128x512_S1x128x512_21_0_0 := rfl
theorem codR_22 : codR 22 = Rect.unit (s := S28x128x512) ![22, 0, 0] S1x128x512.size inb_S28x128x512_S1x128x512_22_0_0 := rfl
theorem codR_23 : codR 23 = Rect.unit (s := S28x128x512) ![23, 0, 0] S1x128x512.size inb_S28x128x512_S1x128x512_23_0_0 := rfl
theorem codR_24 : codR 24 = Rect.unit (s := S28x128x512) ![24, 0, 0] S1x128x512.size inb_S28x128x512_S1x128x512_24_0_0 := rfl
theorem codR_25 : codR 25 = Rect.unit (s := S28x128x512) ![25, 0, 0] S1x128x512.size inb_S28x128x512_S1x128x512_25_0_0 := rfl
theorem codR_26 : codR 26 = Rect.unit (s := S28x128x512) ![26, 0, 0] S1x128x512.size inb_S28x128x512_S1x128x512_26_0_0 := rfl
theorem codR_27 : codR 27 = Rect.unit (s := S28x128x512) ![27, 0, 0] S1x128x512.size inb_S28x128x512_S1x128x512_27_0_0 := rfl
set_option maxRecDepth 8192 in
theorem cod_chain (c : Dev nD) (f : Fin 28 → BufOf (F := F) c m16) :
    (bigSep Finset.univ (fun b : Fin 28 => m16.view.loc (c : Thread nD τ) ↦[codI b]{fullShare} f b) : sProp 𝕄)
      = iprop(ptW c m16 (Rect.unit (s := S28x128x512) ![0, 0, 0] S1x128x512.size inb_S28x128x512_S1x128x512_0_0_0) (f 0) ∗ ptW c m16 (Rect.unit (s := S28x128x512) ![1, 0, 0] S1x128x512.size inb_S28x128x512_S1x128x512_1_0_0) (f 1) ∗ ptW c m16 (Rect.unit (s := S28x128x512) ![2, 0, 0] S1x128x512.size inb_S28x128x512_S1x128x512_2_0_0) (f 2) ∗ ptW c m16 (Rect.unit (s := S28x128x512) ![3, 0, 0] S1x128x512.size inb_S28x128x512_S1x128x512_3_0_0) (f 3) ∗ ptW c m16 (Rect.unit (s := S28x128x512) ![4, 0, 0] S1x128x512.size inb_S28x128x512_S1x128x512_4_0_0) (f 4) ∗ ptW c m16 (Rect.unit (s := S28x128x512) ![5, 0, 0] S1x128x512.size inb_S28x128x512_S1x128x512_5_0_0) (f 5) ∗ ptW c m16 (Rect.unit (s := S28x128x512) ![6, 0, 0] S1x128x512.size inb_S28x128x512_S1x128x512_6_0_0) (f 6) ∗ ptW c m16 (Rect.unit (s := S28x128x512) ![7, 0, 0] S1x128x512.size inb_S28x128x512_S1x128x512_7_0_0) (f 7) ∗ ptW c m16 (Rect.unit (s := S28x128x512) ![8, 0, 0] S1x128x512.size inb_S28x128x512_S1x128x512_8_0_0) (f 8) ∗ ptW c m16 (Rect.unit (s := S28x128x512) ![9, 0, 0] S1x128x512.size inb_S28x128x512_S1x128x512_9_0_0) (f 9) ∗ ptW c m16 (Rect.unit (s := S28x128x512) ![10, 0, 0] S1x128x512.size inb_S28x128x512_S1x128x512_10_0_0) (f 10) ∗ ptW c m16 (Rect.unit (s := S28x128x512) ![11, 0, 0] S1x128x512.size inb_S28x128x512_S1x128x512_11_0_0) (f 11) ∗ ptW c m16 (Rect.unit (s := S28x128x512) ![12, 0, 0] S1x128x512.size inb_S28x128x512_S1x128x512_12_0_0) (f 12) ∗ ptW c m16 (Rect.unit (s := S28x128x512) ![13, 0, 0] S1x128x512.size inb_S28x128x512_S1x128x512_13_0_0) (f 13) ∗ ptW c m16 (Rect.unit (s := S28x128x512) ![14, 0, 0] S1x128x512.size inb_S28x128x512_S1x128x512_14_0_0) (f 14) ∗ ptW c m16 (Rect.unit (s := S28x128x512) ![15, 0, 0] S1x128x512.size inb_S28x128x512_S1x128x512_15_0_0) (f 15) ∗ ptW c m16 (Rect.unit (s := S28x128x512) ![16, 0, 0] S1x128x512.size inb_S28x128x512_S1x128x512_16_0_0) (f 16) ∗ ptW c m16 (Rect.unit (s := S28x128x512) ![17, 0, 0] S1x128x512.size inb_S28x128x512_S1x128x512_17_0_0) (f 17) ∗ ptW c m16 (Rect.unit (s := S28x128x512) ![18, 0, 0] S1x128x512.size inb_S28x128x512_S1x128x512_18_0_0) (f 18) ∗ ptW c m16 (Rect.unit (s := S28x128x512) ![19, 0, 0] S1x128x512.size inb_S28x128x512_S1x128x512_19_0_0) (f 19) ∗ ptW c m16 (Rect.unit (s := S28x128x512) ![20, 0, 0] S1x128x512.size inb_S28x128x512_S1x128x512_20_0_0) (f 20) ∗ ptW c m16 (Rect.unit (s := S28x128x512) ![21, 0, 0] S1x128x512.size inb_S28x128x512_S1x128x512_21_0_0) (f 21) ∗ ptW c m16 (Rect.unit (s := S28x128x512) ![22, 0, 0] S1x128x512.size inb_S28x128x512_S1x128x512_22_0_0) (f 22) ∗ ptW c m16 (Rect.unit (s := S28x128x512) ![23, 0, 0] S1x128x512.size inb_S28x128x512_S1x128x512_23_0_0) (f 23) ∗ ptW c m16 (Rect.unit (s := S28x128x512) ![24, 0, 0] S1x128x512.size inb_S28x128x512_S1x128x512_24_0_0) (f 24) ∗ ptW c m16 (Rect.unit (s := S28x128x512) ![25, 0, 0] S1x128x512.size inb_S28x128x512_S1x128x512_25_0_0) (f 25) ∗ ptW c m16 (Rect.unit (s := S28x128x512) ![26, 0, 0] S1x128x512.size inb_S28x128x512_S1x128x512_26_0_0) (f 26) ∗ ptW c m16 (Rect.unit (s := S28x128x512) ![27, 0, 0] S1x128x512.size inb_S28x128x512_S1x128x512_27_0_0) (f 27)) := by
  rw [BI.bigSep_eq_bigSepL_of_eq [0, 1, 2, 3, 4, 5, 6, 7, 8, 9, 10, 11, 12, 13, 14, 15, 16, 17, 18, 19, 20, 21, 22, 23, 24, 25, 26, 27] (by decide) (by decide)]
  refine (show _ = iprop(ptW c m16 (codR 0) (f 0) ∗ ptW c m16 (codR 1) (f 1) ∗ ptW c m16 (codR 2) (f 2) ∗ ptW c m16 (codR 3) (f 3) ∗ ptW c m16 (codR 4) (f 4) ∗ ptW c m16 (codR 5) (f 5) ∗ ptW c m16 (codR 6) (f 6) ∗ ptW c m16 (codR 7) (f 7) ∗ ptW c m16 (codR 8) (f 8) ∗ ptW c m16 (codR 9) (f 9) ∗ ptW c m16 (codR 10) (f 10) ∗ ptW c m16 (codR 11) (f 11) ∗ ptW c m16 (codR 12) (f 12) ∗ ptW c m16 (codR 13) (f 13) ∗ ptW c m16 (codR 14) (f 14) ∗ ptW c m16 (codR 15) (f 15) ∗ ptW c m16 (codR 16) (f 16) ∗ ptW c m16 (codR 17) (f 17) ∗ ptW c m16 (codR 18) (f 18) ∗ ptW c m16 (codR 19) (f 19) ∗ ptW c m16 (codR 20) (f 20) ∗ ptW c m16 (codR 21) (f 21) ∗ ptW c m16 (codR 22) (f 22) ∗ ptW c m16 (codR 23) (f 23) ∗ ptW c m16 (codR 24) (f 24) ∗ ptW c m16 (codR 25) (f 25) ∗ ptW c m16 (codR 26) (f 26) ∗ ptW c m16 (codR 27) (f 27)) from rfl).trans ?_
  rw [codR_0, codR_1, codR_2, codR_3, codR_4, codR_5, codR_6, codR_7, codR_8, codR_9, codR_10, codR_11, codR_12, codR_13, codR_14, codR_15, codR_16, codR_17, codR_18, codR_19, codR_20, codR_21, codR_22, codR_23, codR_24, codR_25, codR_26, codR_27]
/-- The buffer held whole is held window by window, -/
theorem cod_split (c : Dev nD) (f : BufOf (F := F) c m16) :
    (pt c m16 f : sProp 𝕄) ⊢ iprop(ptW c m16 (Rect.unit (s := S28x128x512) ![0, 0, 0] S1x128x512.size inb_S28x128x512_S1x128x512_0_0_0) f ∗ ptW c m16 (Rect.unit (s := S28x128x512) ![1, 0, 0] S1x128x512.size inb_S28x128x512_S1x128x512_1_0_0) f ∗ ptW c m16 (Rect.unit (s := S28x128x512) ![2, 0, 0] S1x128x512.size inb_S28x128x512_S1x128x512_2_0_0) f ∗ ptW c m16 (Rect.unit (s := S28x128x512) ![3, 0, 0] S1x128x512.size inb_S28x128x512_S1x128x512_3_0_0) f ∗ ptW c m16 (Rect.unit (s := S28x128x512) ![4, 0, 0] S1x128x512.size inb_S28x128x512_S1x128x512_4_0_0) f ∗ ptW c m16 (Rect.unit (s := S28x128x512) ![5, 0, 0] S1x128x512.size inb_S28x128x512_S1x128x512_5_0_0) f ∗ ptW c m16 (Rect.unit (s := S28x128x512) ![6, 0, 0] S1x128x512.size inb_S28x128x512_S1x128x512_6_0_0) f ∗ ptW c m16 (Rect.unit (s := S28x128x512) ![7, 0, 0] S1x128x512.size inb_S28x128x512_S1x128x512_7_0_0) f ∗ ptW c m16 (Rect.unit (s := S28x128x512) ![8, 0, 0] S1x128x512.size inb_S28x128x512_S1x128x512_8_0_0) f ∗ ptW c m16 (Rect.unit (s := S28x128x512) ![9, 0, 0] S1x128x512.size inb_S28x128x512_S1x128x512_9_0_0) f ∗ ptW c m16 (Rect.unit (s := S28x128x512) ![10, 0, 0] S1x128x512.size inb_S28x128x512_S1x128x512_10_0_0) f ∗ ptW c m16 (Rect.unit (s := S28x128x512) ![11, 0, 0] S1x128x512.size inb_S28x128x512_S1x128x512_11_0_0) f ∗ ptW c m16 (Rect.unit (s := S28x128x512) ![12, 0, 0] S1x128x512.size inb_S28x128x512_S1x128x512_12_0_0) f ∗ ptW c m16 (Rect.unit (s := S28x128x512) ![13, 0, 0] S1x128x512.size inb_S28x128x512_S1x128x512_13_0_0) f ∗ ptW c m16 (Rect.unit (s := S28x128x512) ![14, 0, 0] S1x128x512.size inb_S28x128x512_S1x128x512_14_0_0) f ∗ ptW c m16 (Rect.unit (s := S28x128x512) ![15, 0, 0] S1x128x512.size inb_S28x128x512_S1x128x512_15_0_0) f ∗ ptW c m16 (Rect.unit (s := S28x128x512) ![16, 0, 0] S1x128x512.size inb_S28x128x512_S1x128x512_16_0_0) f ∗ ptW c m16 (Rect.unit (s := S28x128x512) ![17, 0, 0] S1x128x512.size inb_S28x128x512_S1x128x512_17_0_0) f ∗ ptW c m16 (Rect.unit (s := S28x128x512) ![18, 0, 0] S1x128x512.size inb_S28x128x512_S1x128x512_18_0_0) f ∗ ptW c m16 (Rect.unit (s := S28x128x512) ![19, 0, 0] S1x128x512.size inb_S28x128x512_S1x128x512_19_0_0) f ∗ ptW c m16 (Rect.unit (s := S28x128x512) ![20, 0, 0] S1x128x512.size inb_S28x128x512_S1x128x512_20_0_0) f ∗ ptW c m16 (Rect.unit (s := S28x128x512) ![21, 0, 0] S1x128x512.size inb_S28x128x512_S1x128x512_21_0_0) f ∗ ptW c m16 (Rect.unit (s := S28x128x512) ![22, 0, 0] S1x128x512.size inb_S28x128x512_S1x128x512_22_0_0) f ∗ ptW c m16 (Rect.unit (s := S28x128x512) ![23, 0, 0] S1x128x512.size inb_S28x128x512_S1x128x512_23_0_0) f ∗ ptW c m16 (Rect.unit (s := S28x128x512) ![24, 0, 0] S1x128x512.size inb_S28x128x512_S1x128x512_24_0_0) f ∗ ptW c m16 (Rect.unit (s := S28x128x512) ![25, 0, 0] S1x128x512.size inb_S28x128x512_S1x128x512_25_0_0) f ∗ ptW c m16 (Rect.unit (s := S28x128x512) ![26, 0, 0] S1x128x512.size inb_S28x128x512_S1x128x512_26_0_0) f ∗ ptW c m16 (Rect.unit (s := S28x128x512) ![27, 0, 0] S1x128x512.size inb_S28x128x512_S1x128x512_27_0_0) f) := by
  rw [← cod_chain c (fun _ => f)]
  exact Entails.of_eq (Ring.pointsTo_blocks (Ix := Unit) (Name := ℕ) (U := Pipeline.UD sig nD τ) (Lvl := ℕ) (q := fullShare)
    (ℓ := m16.view.loc (c : Thread nD τ)) codI cod_disj cod_cover f)
/-- and window by window, each at contents of its own, joins to the buffer held whole at contents that agree with each on its window. -/
theorem cod_join (c : Dev nD) (f : Fin 28 → BufOf (F := F) c m16) :
    iprop(ptW c m16 (Rect.unit (s := S28x128x512) ![0, 0, 0] S1x128x512.size inb_S28x128x512_S1x128x512_0_0_0) (f 0) ∗ ptW c m16 (Rect.unit (s := S28x128x512) ![1, 0, 0] S1x128x512.size inb_S28x128x512_S1x128x512_1_0_0) (f 1) ∗ ptW c m16 (Rect.unit (s := S28x128x512) ![2, 0, 0] S1x128x512.size inb_S28x128x512_S1x128x512_2_0_0) (f 2) ∗ ptW c m16 (Rect.unit (s := S28x128x512) ![3, 0, 0] S1x128x512.size inb_S28x128x512_S1x128x512_3_0_0) (f 3) ∗ ptW c m16 (Rect.unit (s := S28x128x512) ![4, 0, 0] S1x128x512.size inb_S28x128x512_S1x128x512_4_0_0) (f 4) ∗ ptW c m16 (Rect.unit (s := S28x128x512) ![5, 0, 0] S1x128x512.size inb_S28x128x512_S1x128x512_5_0_0) (f 5) ∗ ptW c m16 (Rect.unit (s := S28x128x512) ![6, 0, 0] S1x128x512.size inb_S28x128x512_S1x128x512_6_0_0) (f 6) ∗ ptW c m16 (Rect.unit (s := S28x128x512) ![7, 0, 0] S1x128x512.size inb_S28x128x512_S1x128x512_7_0_0) (f 7) ∗ ptW c m16 (Rect.unit (s := S28x128x512) ![8, 0, 0] S1x128x512.size inb_S28x128x512_S1x128x512_8_0_0) (f 8) ∗ ptW c m16 (Rect.unit (s := S28x128x512) ![9, 0, 0] S1x128x512.size inb_S28x128x512_S1x128x512_9_0_0) (f 9) ∗ ptW c m16 (Rect.unit (s := S28x128x512) ![10, 0, 0] S1x128x512.size inb_S28x128x512_S1x128x512_10_0_0) (f 10) ∗ ptW c m16 (Rect.unit (s := S28x128x512) ![11, 0, 0] S1x128x512.size inb_S28x128x512_S1x128x512_11_0_0) (f 11) ∗ ptW c m16 (Rect.unit (s := S28x128x512) ![12, 0, 0] S1x128x512.size inb_S28x128x512_S1x128x512_12_0_0) (f 12) ∗ ptW c m16 (Rect.unit (s := S28x128x512) ![13, 0, 0] S1x128x512.size inb_S28x128x512_S1x128x512_13_0_0) (f 13) ∗ ptW c m16 (Rect.unit (s := S28x128x512) ![14, 0, 0] S1x128x512.size inb_S28x128x512_S1x128x512_14_0_0) (f 14) ∗ ptW c m16 (Rect.unit (s := S28x128x512) ![15, 0, 0] S1x128x512.size inb_S28x128x512_S1x128x512_15_0_0) (f 15) ∗ ptW c m16 (Rect.unit (s := S28x128x512) ![16, 0, 0] S1x128x512.size inb_S28x128x512_S1x128x512_16_0_0) (f 16) ∗ ptW c m16 (Rect.unit (s := S28x128x512) ![17, 0, 0] S1x128x512.size inb_S28x128x512_S1x128x512_17_0_0) (f 17) ∗ ptW c m16 (Rect.unit (s := S28x128x512) ![18, 0, 0] S1x128x512.size inb_S28x128x512_S1x128x512_18_0_0) (f 18) ∗ ptW c m16 (Rect.unit (s := S28x128x512) ![19, 0, 0] S1x128x512.size inb_S28x128x512_S1x128x512_19_0_0) (f 19) ∗ ptW c m16 (Rect.unit (s := S28x128x512) ![20, 0, 0] S1x128x512.size inb_S28x128x512_S1x128x512_20_0_0) (f 20) ∗ ptW c m16 (Rect.unit (s := S28x128x512) ![21, 0, 0] S1x128x512.size inb_S28x128x512_S1x128x512_21_0_0) (f 21) ∗ ptW c m16 (Rect.unit (s := S28x128x512) ![22, 0, 0] S1x128x512.size inb_S28x128x512_S1x128x512_22_0_0) (f 22) ∗ ptW c m16 (Rect.unit (s := S28x128x512) ![23, 0, 0] S1x128x512.size inb_S28x128x512_S1x128x512_23_0_0) (f 23) ∗ ptW c m16 (Rect.unit (s := S28x128x512) ![24, 0, 0] S1x128x512.size inb_S28x128x512_S1x128x512_24_0_0) (f 24) ∗ ptW c m16 (Rect.unit (s := S28x128x512) ![25, 0, 0] S1x128x512.size inb_S28x128x512_S1x128x512_25_0_0) (f 25) ∗ ptW c m16 (Rect.unit (s := S28x128x512) ![26, 0, 0] S1x128x512.size inb_S28x128x512_S1x128x512_26_0_0) (f 26) ∗ ptW c m16 (Rect.unit (s := S28x128x512) ![27, 0, 0] S1x128x512.size inb_S28x128x512_S1x128x512_27_0_0) (f 27)) ⊢ (iprop(∃ g : BufOf (F := F) c m16, ⌜∀ i : Fin 28, ∀ y ∈ codI i, g y = f i y⌝ ∗ pt c m16 g) : sProp 𝕄) := by
  rw [← cod_chain c f]
  refine (pointsTo_biUnion_join (Ix := Unit) (Name := ℕ) (U := Pipeline.UD sig nD τ) (Lvl := ℕ) (q := fullShare) (ℓ := m16.view.loc (c : Thread nD τ)) Finset.univ codI f (f 0) (fun b _ b' _ h => cod_disj b b' h)).trans ?_
  rw [cod_cover]
  iintro ⟨%g, %hg, H⟩; iexists g
  isplitr; · ipureintro; exact fun i y hy => hg i (Finset.mem_univ i) y hy
  iexact H

theorem hcod_inb (i : Fin 28) : ∀ a, (![0, 512 * i.val] : Fin 2 → ℕ) a + S128x512.size a ≤ S128x14336.size a := by revert i; decide
/-- Window `i` of the family. -/
abbrev hcodR (i : Fin 28) : Rect S128x14336 := Rect.unit (s := S128x14336) ![0, 512 * i.val] S128x512.size (hcod_inb i)
abbrev hcodI (i : Fin 28) : Finset m5.view.ty.Idx := m5.view.setOn (hcodR i).set
theorem hcod_disj (i i' : Fin 28) (h : i ≠ i') : Disjoint (hcodI i) (hcodI i') := by
  refine View.disjoint_setOn _ (LoadRect.disjoint_of_separated (hcodR i).toLoadRect (hcodR i').toLoadRect 1 ?_)
  have h' : i.val ≠ i'.val := fun e => h (Fin.ext e)
  have e1 : (hcodR i).toLoadRect.off 1 = 512 * i.val := rfl
  have e2 : (hcodR i').toLoadRect.off 1 = 512 * i'.val := rfl
  have e3 : (hcodR i).toLoadRect.size 1 = 512 := rfl
  have e4 : (hcodR i').toLoadRect.size 1 = 512 := rfl
  have e5 : (hcodR i).toLoadRect.stride 1 = 1 := rfl
  have e6 : (hcodR i').toLoadRect.stride 1 = 1 := rfl
  rw [e1, e2, e3, e4, e5, e6]; omega
theorem hcod_mem (i : Fin 28) (y : S128x14336.Idx) : y ∈ hcodI i ↔ (y 1).val / 512 = i.val := by
  refine (View.mem_setOn (v := m5.view) (x := y)).trans (LoadRect.mem_set (r := (hcodR i).toLoadRect) (i := y) |>.trans ?_)
  constructor
  · intro h
    obtain ⟨j, hj, e⟩ := h 1
    have hj' : j < 512 := hj
    have e' : (y 1).val = 512 * i.val + 1 * j := e
    omega
  · intro h a
    fin_cases a
    · exact ⟨(y 0).val, (y 0).isLt, by show (y 0).val = 0 + 1 * (y 0).val; omega⟩
    · exact ⟨(y 1).val - 512 * i.val, by show (y 1).val - 512 * i.val < 512; omega, by show (y 1).val = 512 * i.val + 1 * ((y 1).val - 512 * i.val); omega⟩
theorem hcod_cover : (Finset.univ : Finset (Fin 28)).biUnion hcodI = Finset.univ := by
  ext y
  simp only [Finset.mem_biUnion, Finset.mem_univ, true_and, iff_true]
  have hy : (y 1).val < 14336 := (y 1).isLt
  exact ⟨⟨(y 1).val / 512, by omega⟩, (hcod_mem _ y).mpr rfl⟩
theorem hcodR_0 : hcodR 0 = Rect.unit (s := S128x14336) ![0, 0] S128x512.size inb_S128x14336_S128x512_0_0 := rfl
theorem hcodR_1 : hcodR 1 = Rect.unit (s := S128x14336) ![0, 512] S128x512.size inb_S128x14336_S128x512_0_512 := rfl
theorem hcodR_2 : hcodR 2 = Rect.unit (s := S128x14336) ![0, 1024] S128x512.size inb_S128x14336_S128x512_0_1024 := rfl
theorem hcodR_3 : hcodR 3 = Rect.unit (s := S128x14336) ![0, 1536] S128x512.size inb_S128x14336_S128x512_0_1536 := rfl
theorem hcodR_4 : hcodR 4 = Rect.unit (s := S128x14336) ![0, 2048] S128x512.size inb_S128x14336_S128x512_0_2048 := rfl
theorem hcodR_5 : hcodR 5 = Rect.unit (s := S128x14336) ![0, 2560] S128x512.size inb_S128x14336_S128x512_0_2560 := rfl
theorem hcodR_6 : hcodR 6 = Rect.unit (s := S128x14336) ![0, 3072] S128x512.size inb_S128x14336_S128x512_0_3072 := rfl
theorem hcodR_7 : hcodR 7 = Rect.unit (s := S128x14336) ![0, 3584] S128x512.size inb_S128x14336_S128x512_0_3584 := rfl
theorem hcodR_8 : hcodR 8 = Rect.unit (s := S128x14336) ![0, 4096] S128x512.size inb_S128x14336_S128x512_0_4096 := rfl
theorem hcodR_9 : hcodR 9 = Rect.unit (s := S128x14336) ![0, 4608] S128x512.size inb_S128x14336_S128x512_0_4608 := rfl
theorem hcodR_10 : hcodR 10 = Rect.unit (s := S128x14336) ![0, 5120] S128x512.size inb_S128x14336_S128x512_0_5120 := rfl
theorem hcodR_11 : hcodR 11 = Rect.unit (s := S128x14336) ![0, 5632] S128x512.size inb_S128x14336_S128x512_0_5632 := rfl
theorem hcodR_12 : hcodR 12 = Rect.unit (s := S128x14336) ![0, 6144] S128x512.size inb_S128x14336_S128x512_0_6144 := rfl
theorem hcodR_13 : hcodR 13 = Rect.unit (s := S128x14336) ![0, 6656] S128x512.size inb_S128x14336_S128x512_0_6656 := rfl
theorem hcodR_14 : hcodR 14 = Rect.unit (s := S128x14336) ![0, 7168] S128x512.size inb_S128x14336_S128x512_0_7168 := rfl
theorem hcodR_15 : hcodR 15 = Rect.unit (s := S128x14336) ![0, 7680] S128x512.size inb_S128x14336_S128x512_0_7680 := rfl
theorem hcodR_16 : hcodR 16 = Rect.unit (s := S128x14336) ![0, 8192] S128x512.size inb_S128x14336_S128x512_0_8192 := rfl
theorem hcodR_17 : hcodR 17 = Rect.unit (s := S128x14336) ![0, 8704] S128x512.size inb_S128x14336_S128x512_0_8704 := rfl
theorem hcodR_18 : hcodR 18 = Rect.unit (s := S128x14336) ![0, 9216] S128x512.size inb_S128x14336_S128x512_0_9216 := rfl
theorem hcodR_19 : hcodR 19 = Rect.unit (s := S128x14336) ![0, 9728] S128x512.size inb_S128x14336_S128x512_0_9728 := rfl
theorem hcodR_20 : hcodR 20 = Rect.unit (s := S128x14336) ![0, 10240] S128x512.size inb_S128x14336_S128x512_0_10240 := rfl
theorem hcodR_21 : hcodR 21 = Rect.unit (s := S128x14336) ![0, 10752] S128x512.size inb_S128x14336_S128x512_0_10752 := rfl
theorem hcodR_22 : hcodR 22 = Rect.unit (s := S128x14336) ![0, 11264] S128x512.size inb_S128x14336_S128x512_0_11264 := rfl
theorem hcodR_23 : hcodR 23 = Rect.unit (s := S128x14336) ![0, 11776] S128x512.size inb_S128x14336_S128x512_0_11776 := rfl
theorem hcodR_24 : hcodR 24 = Rect.unit (s := S128x14336) ![0, 12288] S128x512.size inb_S128x14336_S128x512_0_12288 := rfl
theorem hcodR_25 : hcodR 25 = Rect.unit (s := S128x14336) ![0, 12800] S128x512.size inb_S128x14336_S128x512_0_12800 := rfl
theorem hcodR_26 : hcodR 26 = Rect.unit (s := S128x14336) ![0, 13312] S128x512.size inb_S128x14336_S128x512_0_13312 := rfl
theorem hcodR_27 : hcodR 27 = Rect.unit (s := S128x14336) ![0, 13824] S128x512.size inb_S128x14336_S128x512_0_13824 := rfl
set_option maxRecDepth 8192 in
theorem hcod_chain (c : Dev nD) (f : Fin 28 → BufOf (F := F) c m5) :
    (bigSep Finset.univ (fun b : Fin 28 => m5.view.loc (c : Thread nD τ) ↦[hcodI b]{fullShare} f b) : sProp 𝕄)
      = iprop(ptW c m5 (Rect.unit (s := S128x14336) ![0, 0] S128x512.size inb_S128x14336_S128x512_0_0) (f 0) ∗ ptW c m5 (Rect.unit (s := S128x14336) ![0, 512] S128x512.size inb_S128x14336_S128x512_0_512) (f 1) ∗ ptW c m5 (Rect.unit (s := S128x14336) ![0, 1024] S128x512.size inb_S128x14336_S128x512_0_1024) (f 2) ∗ ptW c m5 (Rect.unit (s := S128x14336) ![0, 1536] S128x512.size inb_S128x14336_S128x512_0_1536) (f 3) ∗ ptW c m5 (Rect.unit (s := S128x14336) ![0, 2048] S128x512.size inb_S128x14336_S128x512_0_2048) (f 4) ∗ ptW c m5 (Rect.unit (s := S128x14336) ![0, 2560] S128x512.size inb_S128x14336_S128x512_0_2560) (f 5) ∗ ptW c m5 (Rect.unit (s := S128x14336) ![0, 3072] S128x512.size inb_S128x14336_S128x512_0_3072) (f 6) ∗ ptW c m5 (Rect.unit (s := S128x14336) ![0, 3584] S128x512.size inb_S128x14336_S128x512_0_3584) (f 7) ∗ ptW c m5 (Rect.unit (s := S128x14336) ![0, 4096] S128x512.size inb_S128x14336_S128x512_0_4096) (f 8) ∗ ptW c m5 (Rect.unit (s := S128x14336) ![0, 4608] S128x512.size inb_S128x14336_S128x512_0_4608) (f 9) ∗ ptW c m5 (Rect.unit (s := S128x14336) ![0, 5120] S128x512.size inb_S128x14336_S128x512_0_5120) (f 10) ∗ ptW c m5 (Rect.unit (s := S128x14336) ![0, 5632] S128x512.size inb_S128x14336_S128x512_0_5632) (f 11) ∗ ptW c m5 (Rect.unit (s := S128x14336) ![0, 6144] S128x512.size inb_S128x14336_S128x512_0_6144) (f 12) ∗ ptW c m5 (Rect.unit (s := S128x14336) ![0, 6656] S128x512.size inb_S128x14336_S128x512_0_6656) (f 13) ∗ ptW c m5 (Rect.unit (s := S128x14336) ![0, 7168] S128x512.size inb_S128x14336_S128x512_0_7168) (f 14) ∗ ptW c m5 (Rect.unit (s := S128x14336) ![0, 7680] S128x512.size inb_S128x14336_S128x512_0_7680) (f 15) ∗ ptW c m5 (Rect.unit (s := S128x14336) ![0, 8192] S128x512.size inb_S128x14336_S128x512_0_8192) (f 16) ∗ ptW c m5 (Rect.unit (s := S128x14336) ![0, 8704] S128x512.size inb_S128x14336_S128x512_0_8704) (f 17) ∗ ptW c m5 (Rect.unit (s := S128x14336) ![0, 9216] S128x512.size inb_S128x14336_S128x512_0_9216) (f 18) ∗ ptW c m5 (Rect.unit (s := S128x14336) ![0, 9728] S128x512.size inb_S128x14336_S128x512_0_9728) (f 19) ∗ ptW c m5 (Rect.unit (s := S128x14336) ![0, 10240] S128x512.size inb_S128x14336_S128x512_0_10240) (f 20) ∗ ptW c m5 (Rect.unit (s := S128x14336) ![0, 10752] S128x512.size inb_S128x14336_S128x512_0_10752) (f 21) ∗ ptW c m5 (Rect.unit (s := S128x14336) ![0, 11264] S128x512.size inb_S128x14336_S128x512_0_11264) (f 22) ∗ ptW c m5 (Rect.unit (s := S128x14336) ![0, 11776] S128x512.size inb_S128x14336_S128x512_0_11776) (f 23) ∗ ptW c m5 (Rect.unit (s := S128x14336) ![0, 12288] S128x512.size inb_S128x14336_S128x512_0_12288) (f 24) ∗ ptW c m5 (Rect.unit (s := S128x14336) ![0, 12800] S128x512.size inb_S128x14336_S128x512_0_12800) (f 25) ∗ ptW c m5 (Rect.unit (s := S128x14336) ![0, 13312] S128x512.size inb_S128x14336_S128x512_0_13312) (f 26) ∗ ptW c m5 (Rect.unit (s := S128x14336) ![0, 13824] S128x512.size inb_S128x14336_S128x512_0_13824) (f 27)) := by
  rw [BI.bigSep_eq_bigSepL_of_eq [0, 1, 2, 3, 4, 5, 6, 7, 8, 9, 10, 11, 12, 13, 14, 15, 16, 17, 18, 19, 20, 21, 22, 23, 24, 25, 26, 27] (by decide) (by decide)]
  refine (show _ = iprop(ptW c m5 (hcodR 0) (f 0) ∗ ptW c m5 (hcodR 1) (f 1) ∗ ptW c m5 (hcodR 2) (f 2) ∗ ptW c m5 (hcodR 3) (f 3) ∗ ptW c m5 (hcodR 4) (f 4) ∗ ptW c m5 (hcodR 5) (f 5) ∗ ptW c m5 (hcodR 6) (f 6) ∗ ptW c m5 (hcodR 7) (f 7) ∗ ptW c m5 (hcodR 8) (f 8) ∗ ptW c m5 (hcodR 9) (f 9) ∗ ptW c m5 (hcodR 10) (f 10) ∗ ptW c m5 (hcodR 11) (f 11) ∗ ptW c m5 (hcodR 12) (f 12) ∗ ptW c m5 (hcodR 13) (f 13) ∗ ptW c m5 (hcodR 14) (f 14) ∗ ptW c m5 (hcodR 15) (f 15) ∗ ptW c m5 (hcodR 16) (f 16) ∗ ptW c m5 (hcodR 17) (f 17) ∗ ptW c m5 (hcodR 18) (f 18) ∗ ptW c m5 (hcodR 19) (f 19) ∗ ptW c m5 (hcodR 20) (f 20) ∗ ptW c m5 (hcodR 21) (f 21) ∗ ptW c m5 (hcodR 22) (f 22) ∗ ptW c m5 (hcodR 23) (f 23) ∗ ptW c m5 (hcodR 24) (f 24) ∗ ptW c m5 (hcodR 25) (f 25) ∗ ptW c m5 (hcodR 26) (f 26) ∗ ptW c m5 (hcodR 27) (f 27)) from rfl).trans ?_
  rw [hcodR_0, hcodR_1, hcodR_2, hcodR_3, hcodR_4, hcodR_5, hcodR_6, hcodR_7, hcodR_8, hcodR_9, hcodR_10, hcodR_11, hcodR_12, hcodR_13, hcodR_14, hcodR_15, hcodR_16, hcodR_17, hcodR_18, hcodR_19, hcodR_20, hcodR_21, hcodR_22, hcodR_23, hcodR_24, hcodR_25, hcodR_26, hcodR_27]
/-- The buffer held whole is held window by window, -/
theorem hcod_split (c : Dev nD) (f : BufOf (F := F) c m5) :
    (pt c m5 f : sProp 𝕄) ⊢ iprop(ptW c m5 (Rect.unit (s := S128x14336) ![0, 0] S128x512.size inb_S128x14336_S128x512_0_0) f ∗ ptW c m5 (Rect.unit (s := S128x14336) ![0, 512] S128x512.size inb_S128x14336_S128x512_0_512) f ∗ ptW c m5 (Rect.unit (s := S128x14336) ![0, 1024] S128x512.size inb_S128x14336_S128x512_0_1024) f ∗ ptW c m5 (Rect.unit (s := S128x14336) ![0, 1536] S128x512.size inb_S128x14336_S128x512_0_1536) f ∗ ptW c m5 (Rect.unit (s := S128x14336) ![0, 2048] S128x512.size inb_S128x14336_S128x512_0_2048) f ∗ ptW c m5 (Rect.unit (s := S128x14336) ![0, 2560] S128x512.size inb_S128x14336_S128x512_0_2560) f ∗ ptW c m5 (Rect.unit (s := S128x14336) ![0, 3072] S128x512.size inb_S128x14336_S128x512_0_3072) f ∗ ptW c m5 (Rect.unit (s := S128x14336) ![0, 3584] S128x512.size inb_S128x14336_S128x512_0_3584) f ∗ ptW c m5 (Rect.unit (s := S128x14336) ![0, 4096] S128x512.size inb_S128x14336_S128x512_0_4096) f ∗ ptW c m5 (Rect.unit (s := S128x14336) ![0, 4608] S128x512.size inb_S128x14336_S128x512_0_4608) f ∗ ptW c m5 (Rect.unit (s := S128x14336) ![0, 5120] S128x512.size inb_S128x14336_S128x512_0_5120) f ∗ ptW c m5 (Rect.unit (s := S128x14336) ![0, 5632] S128x512.size inb_S128x14336_S128x512_0_5632) f ∗ ptW c m5 (Rect.unit (s := S128x14336) ![0, 6144] S128x512.size inb_S128x14336_S128x512_0_6144) f ∗ ptW c m5 (Rect.unit (s := S128x14336) ![0, 6656] S128x512.size inb_S128x14336_S128x512_0_6656) f ∗ ptW c m5 (Rect.unit (s := S128x14336) ![0, 7168] S128x512.size inb_S128x14336_S128x512_0_7168) f ∗ ptW c m5 (Rect.unit (s := S128x14336) ![0, 7680] S128x512.size inb_S128x14336_S128x512_0_7680) f ∗ ptW c m5 (Rect.unit (s := S128x14336) ![0, 8192] S128x512.size inb_S128x14336_S128x512_0_8192) f ∗ ptW c m5 (Rect.unit (s := S128x14336) ![0, 8704] S128x512.size inb_S128x14336_S128x512_0_8704) f ∗ ptW c m5 (Rect.unit (s := S128x14336) ![0, 9216] S128x512.size inb_S128x14336_S128x512_0_9216) f ∗ ptW c m5 (Rect.unit (s := S128x14336) ![0, 9728] S128x512.size inb_S128x14336_S128x512_0_9728) f ∗ ptW c m5 (Rect.unit (s := S128x14336) ![0, 10240] S128x512.size inb_S128x14336_S128x512_0_10240) f ∗ ptW c m5 (Rect.unit (s := S128x14336) ![0, 10752] S128x512.size inb_S128x14336_S128x512_0_10752) f ∗ ptW c m5 (Rect.unit (s := S128x14336) ![0, 11264] S128x512.size inb_S128x14336_S128x512_0_11264) f ∗ ptW c m5 (Rect.unit (s := S128x14336) ![0, 11776] S128x512.size inb_S128x14336_S128x512_0_11776) f ∗ ptW c m5 (Rect.unit (s := S128x14336) ![0, 12288] S128x512.size inb_S128x14336_S128x512_0_12288) f ∗ ptW c m5 (Rect.unit (s := S128x14336) ![0, 12800] S128x512.size inb_S128x14336_S128x512_0_12800) f ∗ ptW c m5 (Rect.unit (s := S128x14336) ![0, 13312] S128x512.size inb_S128x14336_S128x512_0_13312) f ∗ ptW c m5 (Rect.unit (s := S128x14336) ![0, 13824] S128x512.size inb_S128x14336_S128x512_0_13824) f) := by
  rw [← hcod_chain c (fun _ => f)]
  exact Entails.of_eq (Ring.pointsTo_blocks (Ix := Unit) (Name := ℕ) (U := Pipeline.UD sig nD τ) (Lvl := ℕ) (q := fullShare)
    (ℓ := m5.view.loc (c : Thread nD τ)) hcodI hcod_disj hcod_cover f)
/-- and window by window, each at contents of its own, joins to the buffer held whole at contents that agree with each on its window. -/
theorem hcod_join (c : Dev nD) (f : Fin 28 → BufOf (F := F) c m5) :
    iprop(ptW c m5 (Rect.unit (s := S128x14336) ![0, 0] S128x512.size inb_S128x14336_S128x512_0_0) (f 0) ∗ ptW c m5 (Rect.unit (s := S128x14336) ![0, 512] S128x512.size inb_S128x14336_S128x512_0_512) (f 1) ∗ ptW c m5 (Rect.unit (s := S128x14336) ![0, 1024] S128x512.size inb_S128x14336_S128x512_0_1024) (f 2) ∗ ptW c m5 (Rect.unit (s := S128x14336) ![0, 1536] S128x512.size inb_S128x14336_S128x512_0_1536) (f 3) ∗ ptW c m5 (Rect.unit (s := S128x14336) ![0, 2048] S128x512.size inb_S128x14336_S128x512_0_2048) (f 4) ∗ ptW c m5 (Rect.unit (s := S128x14336) ![0, 2560] S128x512.size inb_S128x14336_S128x512_0_2560) (f 5) ∗ ptW c m5 (Rect.unit (s := S128x14336) ![0, 3072] S128x512.size inb_S128x14336_S128x512_0_3072) (f 6) ∗ ptW c m5 (Rect.unit (s := S128x14336) ![0, 3584] S128x512.size inb_S128x14336_S128x512_0_3584) (f 7) ∗ ptW c m5 (Rect.unit (s := S128x14336) ![0, 4096] S128x512.size inb_S128x14336_S128x512_0_4096) (f 8) ∗ ptW c m5 (Rect.unit (s := S128x14336) ![0, 4608] S128x512.size inb_S128x14336_S128x512_0_4608) (f 9) ∗ ptW c m5 (Rect.unit (s := S128x14336) ![0, 5120] S128x512.size inb_S128x14336_S128x512_0_5120) (f 10) ∗ ptW c m5 (Rect.unit (s := S128x14336) ![0, 5632] S128x512.size inb_S128x14336_S128x512_0_5632) (f 11) ∗ ptW c m5 (Rect.unit (s := S128x14336) ![0, 6144] S128x512.size inb_S128x14336_S128x512_0_6144) (f 12) ∗ ptW c m5 (Rect.unit (s := S128x14336) ![0, 6656] S128x512.size inb_S128x14336_S128x512_0_6656) (f 13) ∗ ptW c m5 (Rect.unit (s := S128x14336) ![0, 7168] S128x512.size inb_S128x14336_S128x512_0_7168) (f 14) ∗ ptW c m5 (Rect.unit (s := S128x14336) ![0, 7680] S128x512.size inb_S128x14336_S128x512_0_7680) (f 15) ∗ ptW c m5 (Rect.unit (s := S128x14336) ![0, 8192] S128x512.size inb_S128x14336_S128x512_0_8192) (f 16) ∗ ptW c m5 (Rect.unit (s := S128x14336) ![0, 8704] S128x512.size inb_S128x14336_S128x512_0_8704) (f 17) ∗ ptW c m5 (Rect.unit (s := S128x14336) ![0, 9216] S128x512.size inb_S128x14336_S128x512_0_9216) (f 18) ∗ ptW c m5 (Rect.unit (s := S128x14336) ![0, 9728] S128x512.size inb_S128x14336_S128x512_0_9728) (f 19) ∗ ptW c m5 (Rect.unit (s := S128x14336) ![0, 10240] S128x512.size inb_S128x14336_S128x512_0_10240) (f 20) ∗ ptW c m5 (Rect.unit (s := S128x14336) ![0, 10752] S128x512.size inb_S128x14336_S128x512_0_10752) (f 21) ∗ ptW c m5 (Rect.unit (s := S128x14336) ![0, 11264] S128x512.size inb_S128x14336_S128x512_0_11264) (f 22) ∗ ptW c m5 (Rect.unit (s := S128x14336) ![0, 11776] S128x512.size inb_S128x14336_S128x512_0_11776) (f 23) ∗ ptW c m5 (Rect.unit (s := S128x14336) ![0, 12288] S128x512.size inb_S128x14336_S128x512_0_12288) (f 24) ∗ ptW c m5 (Rect.unit (s := S128x14336) ![0, 12800] S128x512.size inb_S128x14336_S128x512_0_12800) (f 25) ∗ ptW c m5 (Rect.unit (s := S128x14336) ![0, 13312] S128x512.size inb_S128x14336_S128x512_0_13312) (f 26) ∗ ptW c m5 (Rect.unit (s := S128x14336) ![0, 13824] S128x512.size inb_S128x14336_S128x512_0_13824) (f 27)) ⊢ (iprop(∃ g : BufOf (F := F) c m5, ⌜∀ i : Fin 28, ∀ y ∈ hcodI i, g y = f i y⌝ ∗ pt c m5 g) : sProp 𝕄) := by
  rw [← hcod_chain c f]
  refine (pointsTo_biUnion_join (Ix := Unit) (Name := ℕ) (U := Pipeline.UD sig nD τ) (Lvl := ℕ) (q := fullShare) (ℓ := m5.view.loc (c : Thread nD τ)) Finset.univ hcodI f (f 0) (fun b _ b' _ h => hcod_disj b b' h)).trans ?_
  rw [hcod_cover]
  iintro ⟨%g, %hg, H⟩; iexists g
  isplitr; · ipureintro; exact fun i y hy => hg i (Finset.mem_univ i) y hy
  iexact H

theorem out_inb (i : Fin 8) : ∀ a, (![0, 512 * i.val] : Fin 2 → ℕ) a + S128x512.size a ≤ S128x4096.size a := by revert i; decide
/-- Window `i` of the family. -/
abbrev outR (i : Fin 8) : Rect S128x4096 := Rect.unit (s := S128x4096) ![0, 512 * i.val] S128x512.size (out_inb i)
abbrev outI (i : Fin 8) : Finset m18.view.ty.Idx := m18.view.setOn (outR i).set
theorem out_disj (i i' : Fin 8) (h : i ≠ i') : Disjoint (outI i) (outI i') := by
  refine View.disjoint_setOn _ (LoadRect.disjoint_of_separated (outR i).toLoadRect (outR i').toLoadRect 1 ?_)
  have h' : i.val ≠ i'.val := fun e => h (Fin.ext e)
  have e1 : (outR i).toLoadRect.off 1 = 512 * i.val := rfl
  have e2 : (outR i').toLoadRect.off 1 = 512 * i'.val := rfl
  have e3 : (outR i).toLoadRect.size 1 = 512 := rfl
  have e4 : (outR i').toLoadRect.size 1 = 512 := rfl
  have e5 : (outR i).toLoadRect.stride 1 = 1 := rfl
  have e6 : (outR i').toLoadRect.stride 1 = 1 := rfl
  rw [e1, e2, e3, e4, e5, e6]; omega
theorem out_mem (i : Fin 8) (y : S128x4096.Idx) : y ∈ outI i ↔ (y 1).val / 512 = i.val := by
  refine (View.mem_setOn (v := m18.view) (x := y)).trans (LoadRect.mem_set (r := (outR i).toLoadRect) (i := y) |>.trans ?_)
  constructor
  · intro h
    obtain ⟨j, hj, e⟩ := h 1
    have hj' : j < 512 := hj
    have e' : (y 1).val = 512 * i.val + 1 * j := e
    omega
  · intro h a
    fin_cases a
    · exact ⟨(y 0).val, (y 0).isLt, by show (y 0).val = 0 + 1 * (y 0).val; omega⟩
    · exact ⟨(y 1).val - 512 * i.val, by show (y 1).val - 512 * i.val < 512; omega, by show (y 1).val = 512 * i.val + 1 * ((y 1).val - 512 * i.val); omega⟩
theorem out_cover : (Finset.univ : Finset (Fin 8)).biUnion outI = Finset.univ := by
  ext y
  simp only [Finset.mem_biUnion, Finset.mem_univ, true_and, iff_true]
  have hy : (y 1).val < 4096 := (y 1).isLt
  exact ⟨⟨(y 1).val / 512, by omega⟩, (out_mem _ y).mpr rfl⟩
theorem outR_0 : outR 0 = Rect.unit (s := S128x4096) ![0, 0] S128x512.size inb_S128x4096_S128x512_0_0 := rfl
theorem outR_1 : outR 1 = Rect.unit (s := S128x4096) ![0, 512] S128x512.size inb_S128x4096_S128x512_0_512 := rfl
theorem outR_2 : outR 2 = Rect.unit (s := S128x4096) ![0, 1024] S128x512.size inb_S128x4096_S128x512_0_1024 := rfl
theorem outR_3 : outR 3 = Rect.unit (s := S128x4096) ![0, 1536] S128x512.size inb_S128x4096_S128x512_0_1536 := rfl
theorem outR_4 : outR 4 = Rect.unit (s := S128x4096) ![0, 2048] S128x512.size inb_S128x4096_S128x512_0_2048 := rfl
theorem outR_5 : outR 5 = Rect.unit (s := S128x4096) ![0, 2560] S128x512.size inb_S128x4096_S128x512_0_2560 := rfl
theorem outR_6 : outR 6 = Rect.unit (s := S128x4096) ![0, 3072] S128x512.size inb_S128x4096_S128x512_0_3072 := rfl
theorem outR_7 : outR 7 = Rect.unit (s := S128x4096) ![0, 3584] S128x512.size inb_S128x4096_S128x512_0_3584 := rfl
set_option maxRecDepth 8192 in
theorem out_chain (c : Dev nD) (f : Fin 8 → BufOf (F := F) c m18) :
    (bigSep Finset.univ (fun b : Fin 8 => m18.view.loc (c : Thread nD τ) ↦[outI b]{fullShare} f b) : sProp 𝕄)
      = iprop(ptW c m18 (Rect.unit (s := S128x4096) ![0, 0] S128x512.size inb_S128x4096_S128x512_0_0) (f 0) ∗ ptW c m18 (Rect.unit (s := S128x4096) ![0, 512] S128x512.size inb_S128x4096_S128x512_0_512) (f 1) ∗ ptW c m18 (Rect.unit (s := S128x4096) ![0, 1024] S128x512.size inb_S128x4096_S128x512_0_1024) (f 2) ∗ ptW c m18 (Rect.unit (s := S128x4096) ![0, 1536] S128x512.size inb_S128x4096_S128x512_0_1536) (f 3) ∗ ptW c m18 (Rect.unit (s := S128x4096) ![0, 2048] S128x512.size inb_S128x4096_S128x512_0_2048) (f 4) ∗ ptW c m18 (Rect.unit (s := S128x4096) ![0, 2560] S128x512.size inb_S128x4096_S128x512_0_2560) (f 5) ∗ ptW c m18 (Rect.unit (s := S128x4096) ![0, 3072] S128x512.size inb_S128x4096_S128x512_0_3072) (f 6) ∗ ptW c m18 (Rect.unit (s := S128x4096) ![0, 3584] S128x512.size inb_S128x4096_S128x512_0_3584) (f 7)) := by
  rw [BI.bigSep_eq_bigSepL_of_eq [0, 1, 2, 3, 4, 5, 6, 7] (by decide) (by decide)]
  refine (show _ = iprop(ptW c m18 (outR 0) (f 0) ∗ ptW c m18 (outR 1) (f 1) ∗ ptW c m18 (outR 2) (f 2) ∗ ptW c m18 (outR 3) (f 3) ∗ ptW c m18 (outR 4) (f 4) ∗ ptW c m18 (outR 5) (f 5) ∗ ptW c m18 (outR 6) (f 6) ∗ ptW c m18 (outR 7) (f 7)) from rfl).trans ?_
  rw [outR_0, outR_1, outR_2, outR_3, outR_4, outR_5, outR_6, outR_7]
/-- The buffer held whole is held window by window, -/
theorem out_split (c : Dev nD) (f : BufOf (F := F) c m18) :
    (pt c m18 f : sProp 𝕄) ⊢ iprop(ptW c m18 (Rect.unit (s := S128x4096) ![0, 0] S128x512.size inb_S128x4096_S128x512_0_0) f ∗ ptW c m18 (Rect.unit (s := S128x4096) ![0, 512] S128x512.size inb_S128x4096_S128x512_0_512) f ∗ ptW c m18 (Rect.unit (s := S128x4096) ![0, 1024] S128x512.size inb_S128x4096_S128x512_0_1024) f ∗ ptW c m18 (Rect.unit (s := S128x4096) ![0, 1536] S128x512.size inb_S128x4096_S128x512_0_1536) f ∗ ptW c m18 (Rect.unit (s := S128x4096) ![0, 2048] S128x512.size inb_S128x4096_S128x512_0_2048) f ∗ ptW c m18 (Rect.unit (s := S128x4096) ![0, 2560] S128x512.size inb_S128x4096_S128x512_0_2560) f ∗ ptW c m18 (Rect.unit (s := S128x4096) ![0, 3072] S128x512.size inb_S128x4096_S128x512_0_3072) f ∗ ptW c m18 (Rect.unit (s := S128x4096) ![0, 3584] S128x512.size inb_S128x4096_S128x512_0_3584) f) := by
  rw [← out_chain c (fun _ => f)]
  exact Entails.of_eq (Ring.pointsTo_blocks (Ix := Unit) (Name := ℕ) (U := Pipeline.UD sig nD τ) (Lvl := ℕ) (q := fullShare)
    (ℓ := m18.view.loc (c : Thread nD τ)) outI out_disj out_cover f)
/-- and window by window, each at contents of its own, joins to the buffer held whole at contents that agree with each on its window. -/
theorem out_join (c : Dev nD) (f : Fin 8 → BufOf (F := F) c m18) :
    iprop(ptW c m18 (Rect.unit (s := S128x4096) ![0, 0] S128x512.size inb_S128x4096_S128x512_0_0) (f 0) ∗ ptW c m18 (Rect.unit (s := S128x4096) ![0, 512] S128x512.size inb_S128x4096_S128x512_0_512) (f 1) ∗ ptW c m18 (Rect.unit (s := S128x4096) ![0, 1024] S128x512.size inb_S128x4096_S128x512_0_1024) (f 2) ∗ ptW c m18 (Rect.unit (s := S128x4096) ![0, 1536] S128x512.size inb_S128x4096_S128x512_0_1536) (f 3) ∗ ptW c m18 (Rect.unit (s := S128x4096) ![0, 2048] S128x512.size inb_S128x4096_S128x512_0_2048) (f 4) ∗ ptW c m18 (Rect.unit (s := S128x4096) ![0, 2560] S128x512.size inb_S128x4096_S128x512_0_2560) (f 5) ∗ ptW c m18 (Rect.unit (s := S128x4096) ![0, 3072] S128x512.size inb_S128x4096_S128x512_0_3072) (f 6) ∗ ptW c m18 (Rect.unit (s := S128x4096) ![0, 3584] S128x512.size inb_S128x4096_S128x512_0_3584) (f 7)) ⊢ (iprop(∃ g : BufOf (F := F) c m18, ⌜∀ i : Fin 8, ∀ y ∈ outI i, g y = f i y⌝ ∗ pt c m18 g) : sProp 𝕄) := by
  rw [← out_chain c f]
  refine (pointsTo_biUnion_join (Ix := Unit) (Name := ℕ) (U := Pipeline.UD sig nD τ) (Lvl := ℕ) (q := fullShare) (ℓ := m18.view.loc (c : Thread nD τ)) Finset.univ outI f (f 0) (fun b _ b' _ h => out_disj b b' h)).trans ?_
  rw [out_cover]
  iintro ⟨%g, %hg, H⟩; iexists g
  isplitr; · ipureintro; exact fun i y hy => hg i (Finset.mem_univ i) y hy
  iexact H

theorem hout_inb (i : Fin 8) : ∀ a, (![0, 512 * i.val] : Fin 2 → ℕ) a + S128x512.size a ≤ S128x4096.size a := by revert i; decide
/-- Window `i` of the family. -/
abbrev houtR (i : Fin 8) : Rect S128x4096 := Rect.unit (s := S128x4096) ![0, 512 * i.val] S128x512.size (hout_inb i)
abbrev houtI (i : Fin 8) : Finset m4.view.ty.Idx := m4.view.setOn (houtR i).set
theorem hout_disj (i i' : Fin 8) (h : i ≠ i') : Disjoint (houtI i) (houtI i') := by
  refine View.disjoint_setOn _ (LoadRect.disjoint_of_separated (houtR i).toLoadRect (houtR i').toLoadRect 1 ?_)
  have h' : i.val ≠ i'.val := fun e => h (Fin.ext e)
  have e1 : (houtR i).toLoadRect.off 1 = 512 * i.val := rfl
  have e2 : (houtR i').toLoadRect.off 1 = 512 * i'.val := rfl
  have e3 : (houtR i).toLoadRect.size 1 = 512 := rfl
  have e4 : (houtR i').toLoadRect.size 1 = 512 := rfl
  have e5 : (houtR i).toLoadRect.stride 1 = 1 := rfl
  have e6 : (houtR i').toLoadRect.stride 1 = 1 := rfl
  rw [e1, e2, e3, e4, e5, e6]; omega
theorem hout_mem (i : Fin 8) (y : S128x4096.Idx) : y ∈ houtI i ↔ (y 1).val / 512 = i.val := by
  refine (View.mem_setOn (v := m4.view) (x := y)).trans (LoadRect.mem_set (r := (houtR i).toLoadRect) (i := y) |>.trans ?_)
  constructor
  · intro h
    obtain ⟨j, hj, e⟩ := h 1
    have hj' : j < 512 := hj
    have e' : (y 1).val = 512 * i.val + 1 * j := e
    omega
  · intro h a
    fin_cases a
    · exact ⟨(y 0).val, (y 0).isLt, by show (y 0).val = 0 + 1 * (y 0).val; omega⟩
    · exact ⟨(y 1).val - 512 * i.val, by show (y 1).val - 512 * i.val < 512; omega, by show (y 1).val = 512 * i.val + 1 * ((y 1).val - 512 * i.val); omega⟩
theorem hout_cover : (Finset.univ : Finset (Fin 8)).biUnion houtI = Finset.univ := by
  ext y
  simp only [Finset.mem_biUnion, Finset.mem_univ, true_and, iff_true]
  have hy : (y 1).val < 4096 := (y 1).isLt
  exact ⟨⟨(y 1).val / 512, by omega⟩, (hout_mem _ y).mpr rfl⟩
theorem houtR_0 : houtR 0 = Rect.unit (s := S128x4096) ![0, 0] S128x512.size inb_S128x4096_S128x512_0_0 := rfl
theorem houtR_1 : houtR 1 = Rect.unit (s := S128x4096) ![0, 512] S128x512.size inb_S128x4096_S128x512_0_512 := rfl
theorem houtR_2 : houtR 2 = Rect.unit (s := S128x4096) ![0, 1024] S128x512.size inb_S128x4096_S128x512_0_1024 := rfl
theorem houtR_3 : houtR 3 = Rect.unit (s := S128x4096) ![0, 1536] S128x512.size inb_S128x4096_S128x512_0_1536 := rfl
theorem houtR_4 : houtR 4 = Rect.unit (s := S128x4096) ![0, 2048] S128x512.size inb_S128x4096_S128x512_0_2048 := rfl
theorem houtR_5 : houtR 5 = Rect.unit (s := S128x4096) ![0, 2560] S128x512.size inb_S128x4096_S128x512_0_2560 := rfl
theorem houtR_6 : houtR 6 = Rect.unit (s := S128x4096) ![0, 3072] S128x512.size inb_S128x4096_S128x512_0_3072 := rfl
theorem houtR_7 : houtR 7 = Rect.unit (s := S128x4096) ![0, 3584] S128x512.size inb_S128x4096_S128x512_0_3584 := rfl
set_option maxRecDepth 8192 in
theorem hout_chain (c : Dev nD) (f : Fin 8 → BufOf (F := F) c m4) :
    (bigSep Finset.univ (fun b : Fin 8 => m4.view.loc (c : Thread nD τ) ↦[houtI b]{fullShare} f b) : sProp 𝕄)
      = iprop(ptW c m4 (Rect.unit (s := S128x4096) ![0, 0] S128x512.size inb_S128x4096_S128x512_0_0) (f 0) ∗ ptW c m4 (Rect.unit (s := S128x4096) ![0, 512] S128x512.size inb_S128x4096_S128x512_0_512) (f 1) ∗ ptW c m4 (Rect.unit (s := S128x4096) ![0, 1024] S128x512.size inb_S128x4096_S128x512_0_1024) (f 2) ∗ ptW c m4 (Rect.unit (s := S128x4096) ![0, 1536] S128x512.size inb_S128x4096_S128x512_0_1536) (f 3) ∗ ptW c m4 (Rect.unit (s := S128x4096) ![0, 2048] S128x512.size inb_S128x4096_S128x512_0_2048) (f 4) ∗ ptW c m4 (Rect.unit (s := S128x4096) ![0, 2560] S128x512.size inb_S128x4096_S128x512_0_2560) (f 5) ∗ ptW c m4 (Rect.unit (s := S128x4096) ![0, 3072] S128x512.size inb_S128x4096_S128x512_0_3072) (f 6) ∗ ptW c m4 (Rect.unit (s := S128x4096) ![0, 3584] S128x512.size inb_S128x4096_S128x512_0_3584) (f 7)) := by
  rw [BI.bigSep_eq_bigSepL_of_eq [0, 1, 2, 3, 4, 5, 6, 7] (by decide) (by decide)]
  refine (show _ = iprop(ptW c m4 (houtR 0) (f 0) ∗ ptW c m4 (houtR 1) (f 1) ∗ ptW c m4 (houtR 2) (f 2) ∗ ptW c m4 (houtR 3) (f 3) ∗ ptW c m4 (houtR 4) (f 4) ∗ ptW c m4 (houtR 5) (f 5) ∗ ptW c m4 (houtR 6) (f 6) ∗ ptW c m4 (houtR 7) (f 7)) from rfl).trans ?_
  rw [houtR_0, houtR_1, houtR_2, houtR_3, houtR_4, houtR_5, houtR_6, houtR_7]
/-- The buffer held whole is held window by window, -/
theorem hout_split (c : Dev nD) (f : BufOf (F := F) c m4) :
    (pt c m4 f : sProp 𝕄) ⊢ iprop(ptW c m4 (Rect.unit (s := S128x4096) ![0, 0] S128x512.size inb_S128x4096_S128x512_0_0) f ∗ ptW c m4 (Rect.unit (s := S128x4096) ![0, 512] S128x512.size inb_S128x4096_S128x512_0_512) f ∗ ptW c m4 (Rect.unit (s := S128x4096) ![0, 1024] S128x512.size inb_S128x4096_S128x512_0_1024) f ∗ ptW c m4 (Rect.unit (s := S128x4096) ![0, 1536] S128x512.size inb_S128x4096_S128x512_0_1536) f ∗ ptW c m4 (Rect.unit (s := S128x4096) ![0, 2048] S128x512.size inb_S128x4096_S128x512_0_2048) f ∗ ptW c m4 (Rect.unit (s := S128x4096) ![0, 2560] S128x512.size inb_S128x4096_S128x512_0_2560) f ∗ ptW c m4 (Rect.unit (s := S128x4096) ![0, 3072] S128x512.size inb_S128x4096_S128x512_0_3072) f ∗ ptW c m4 (Rect.unit (s := S128x4096) ![0, 3584] S128x512.size inb_S128x4096_S128x512_0_3584) f) := by
  rw [← hout_chain c (fun _ => f)]
  exact Entails.of_eq (Ring.pointsTo_blocks (Ix := Unit) (Name := ℕ) (U := Pipeline.UD sig nD τ) (Lvl := ℕ) (q := fullShare)
    (ℓ := m4.view.loc (c : Thread nD τ)) houtI hout_disj hout_cover f)
/-- and window by window, each at contents of its own, joins to the buffer held whole at contents that agree with each on its window. -/
theorem hout_join (c : Dev nD) (f : Fin 8 → BufOf (F := F) c m4) :
    iprop(ptW c m4 (Rect.unit (s := S128x4096) ![0, 0] S128x512.size inb_S128x4096_S128x512_0_0) (f 0) ∗ ptW c m4 (Rect.unit (s := S128x4096) ![0, 512] S128x512.size inb_S128x4096_S128x512_0_512) (f 1) ∗ ptW c m4 (Rect.unit (s := S128x4096) ![0, 1024] S128x512.size inb_S128x4096_S128x512_0_1024) (f 2) ∗ ptW c m4 (Rect.unit (s := S128x4096) ![0, 1536] S128x512.size inb_S128x4096_S128x512_0_1536) (f 3) ∗ ptW c m4 (Rect.unit (s := S128x4096) ![0, 2048] S128x512.size inb_S128x4096_S128x512_0_2048) (f 4) ∗ ptW c m4 (Rect.unit (s := S128x4096) ![0, 2560] S128x512.size inb_S128x4096_S128x512_0_2560) (f 5) ∗ ptW c m4 (Rect.unit (s := S128x4096) ![0, 3072] S128x512.size inb_S128x4096_S128x512_0_3072) (f 6) ∗ ptW c m4 (Rect.unit (s := S128x4096) ![0, 3584] S128x512.size inb_S128x4096_S128x512_0_3584) (f 7)) ⊢ (iprop(∃ g : BufOf (F := F) c m4, ⌜∀ i : Fin 8, ∀ y ∈ houtI i, g y = f i y⌝ ∗ pt c m4 g) : sProp 𝕄) := by
  rw [← hout_chain c f]
  refine (pointsTo_biUnion_join (Ix := Unit) (Name := ℕ) (U := Pipeline.UD sig nD τ) (Lvl := ℕ) (q := fullShare) (ℓ := m4.view.loc (c : Thread nD τ)) Finset.univ houtI f (f 0) (fun b _ b' _ h => hout_disj b b' h)).trans ?_
  rw [hout_cover]
  iintro ⟨%g, %hg, H⟩; iexists g
  isplitr; · ipureintro; exact fun i y hy => hg i (Finset.mem_univ i) y hy
  iexact H

end Cert.Kernel.Hand

end
-- ==== Proof.K.P91.lean ====
/- The residual step of the mix: the part that may add the fractional rows again. -/
module

public import proofs.«01_k».proof.Proof.K.Setup

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
theorem p91 (c : Dev nD) (f7 : BufOf (F := F) c m7) (f11 : BufOf (F := F) c m11) (f13 : BufOf (F := F) c m13) (f17 : BufOf (F := F) c m17) (v676 : F .f32) (v677 : FVec F S32x512 .f32) (v1326 : FVec F S224x256 .bf16) (v1327 : Vec F S16x14336 .bf16) :
    iprop(pt c m7 f7 ∗ pt c m11 f11 ∗ pt c m13 f13 ∗ pt c m17 f17) ⊢ wp frame (wpE (defs₀ (F := F)) Variants.none c none) Set.univ
      (k0_part91 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) cc0_scratch12 cc0_scratch13 cc0_scratch14 cc0_scratch15 cc0_scratch16 v676 v677 v1326 v1327)
      (fun r => iprop(∃ fz : BufOf (F := F) c m13, pt c m7 f7 ∗ pt c m11 f11 ∗ pt c m13 fz ∗ pt c m17 f17)) := by
  iintro ⟨H7, H11, H13, H17⟩
  rw [k0_part91_eq_skeleton]; unfold k0_part91_skel
  sl_exec
  by_cases hc : p91.sl.v1368 v676 = 1#1
  · rw [if_pos hc]
    sl_for (fun _ _ => iprop(pt c m7 f7 ∗ pt c m11 f11 ∗ ∃ fz : BufOf (F := F) c m13, pt c m13 fz)) $$ [H7 H11 H13]
    case region =>
      intro k a; iintro ⟨H7, H11, %fz, H13⟩
      sl_exec_parts
      sl_step
      sl_close
    · sl_close
    iintro %a ⟨H7, H11, %fz, H13⟩
    sl_exec
    sl_step
    iexists fz
    sl_close
  · rw [if_neg hc]
    sl_exec
    sl_step
    iexists _
    sl_close

end Cert.Kernel.Hand

end
-- ==== Proof.K.S1.lean ====
/- The body run up to the residual step of the mix. -/
module

public import proofs.«01_k».proof.Proof.K.Windows
public import proofs.«01_k».proof.Proof.K.P91

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The body's first stretch: the operands' copies are started, the accumulators cleared, and the mix formed up to its last rows. -/
def s1 (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → ∀ (W : Waits sig Unit) (K : PUnit → sProp 𝕄),
    iprop(pt c m0 f0 ∗ pt c m1 f1 ∗ pt c m2 f2 ∗ pt c m3 f3 ∗ pt c m4 f4 ∗ pt c m5 f5 ∗ pt c m6 f6 ∗ pt c m7 f7 ∗ pt c m8 f8 ∗ pt c m9 f9 ∗ pt c m10 f10 ∗ pt c m11 f11 ∗ pt c m12 f12 ∗ pt c m13 f13 ∗ pt c m14 f14 ∗ pt c m15 f15 ∗ pt c m16 f16 ∗ pt c m17 f17 ∗ pt c m18 f18 ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ owes (c : Thread nD τ) 0 W ∗ (iprop((∃ (g4 : BufOf (F := F) c m4) (g5 : BufOf (F := F) c m5) (g6 : BufOf (F := F) c m6), pt c m4 g4 ∗ pt c m5 g5 ∗ pt c m6 g6) ∗ pt c m0 f0 ∗ pt c m1 f1 ∗ pt c m2 f2 ∗ pt c m3 f3 ∗ (∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f) ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ (∃ W', owes (c : Thread nD τ) 0 W')) -∗ K ⟨⟩)) ⊢ wp frame (wpE (defs₀ (F := F)) Variants.none c none) Set.univ (body (F := F)) K := by
  sl_stretch
  intro W K
  iintro ⟨H0, H1, H2, H3, H4, H5, H6, H7, H8, H9, H10, H11, H12, H13, H14, H15, H16, H17, H18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, HW, Hk⟩
  ihave Hsp := ring_split c f10 $$ H10
  icases Hsp with ⟨Ha0, Ha1, Ha2, Ha3, Ha4, Ha5, Ha6, Ha7, Ha8, Ha9, Ha10, Ha11, Ha12, Ha13, Ha14, Ha15, Ha16, Ha17, Ha18, Ha19⟩
  ihave Hsp := cod_split c f16 $$ H16
  icases Hsp with ⟨Hb0, Hb1, Hb2, Hb3, Hb4, Hb5, Hb6, Hb7, Hb8, Hb9, Hb10, Hb11, Hb12, Hb13, Hb14, Hb15, Hb16, Hb17, Hb18, Hb19, Hb20, Hb21, Hb22, Hb23, Hb24, Hb25, Hb26, Hb27⟩
  ihave Hsp := hcod_split c f5 $$ H5
  icases Hsp with ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27⟩
  ihave Hsp := out_split c f18 $$ H18
  icases Hsp with ⟨Hd0, Hd1, Hd2, Hd3, Hd4, Hd5, Hd6, Hd7⟩
  ihave Hsp := hout_split c f4 $$ H4
  icases Hsp with ⟨He0, He1, He2, He3, He4, He5, He6, He7⟩
  have b31 : Transfers.BatchOf (c : Thread nD τ) (SemLoc.dma (sig := sig) 31) 28 := trivial
  have b32 : Transfers.BatchOf (c : Thread nD τ) (SemLoc.dma (sig := sig) 32) 8 := trivial
  unfold body
  simp only [cc0_hadamard_fp8_down_proj_eq_skeleton]; unfold cc0_hadamard_fp8_down_proj_skel
  set_option sl_exec.dmaWindow true in
  set_option sl_exec.stopBefore "k0_part91" in
  sl_exec_parts
  sl_seam

end Cert.Kernel.Hand

end
-- ==== Proof.K.S2.lean ====
/- The residual step of the mix and the first four blocks. -/
module

public import proofs.«01_k».proof.Proof.K.S1

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The body's second stretch: the residual step of the mix, and the first four blocks transformed and rounded. -/
def s2 (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (s1 c f0 f1 f2 f3 f4 f5 f6 f7 f8 f9 f10 f11 f12 f13 f14 f15 f16 f17 f18).1 := by
  sl_stretch
  sl_resume
  have b31 : Transfers.BatchOf (c : Thread nD τ) (SemLoc.dma (sig := sig) 31) 28 := trivial
  have b32 : Transfers.BatchOf (c : Thread nD τ) (SemLoc.dma (sig := sig) 32) 8 := trivial
  have hcut := @p91 F _ c
  set_option sl_exec.dmaWindow true in
  sl_exec_parts
  sl_seam

end Cert.Kernel.Hand

end
-- ==== Proof.K.T0.lean ====
/- The first trip of the loop over the blocks. -/
module

public import proofs.«01_k».proof.Proof.K.S2

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The first half of the loop's first trip. -/
def t0a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (s2 c f0 f1 f2 f3 f4 f5 f6 f7 f8 f9 f10 f11 f12 f13 f14 f15 f16 f17 f18).1 := by
  sl_stretch
  sl_resume
  sl_unroll
  set_option sl_exec.dmaWindow true in
  set_option sl_exec.stopBefore "k0_part31" in
  sl_exec_parts
  sl_seam

set_option maxHeartbeats 4000000 in
/-- The second half of the loop's first trip. -/
def t0b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t0a c f0 f1 f2 f3 f4 f5 f6 f7 f8 f9 f10 f11 f12 f13 f14 f15 f16 f17 f18).1 := by
  sl_stretch
  sl_resume
  set_option sl_exec.dmaWindow true in
  set_option sl_exec.stopBefore "k0_part59" in
  sl_exec_parts
  sl_seam

end Cert.Kernel.Hand

end
-- ==== Proof.K.T1.lean ====
/- The second trip of the loop over the blocks. -/
module

public import proofs.«01_k».proof.Proof.K.T0

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The first half of the loop's second trip. -/
def t1a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t0b c f0 f1 f2 f3 f4 f5 f6 f7 f8 f9 f10 f11 f12 f13 f14 f15 f16 f17 f18).1 := by
  sl_stretch
  sl_resume
  set_option sl_exec.dmaWindow true in
  set_option sl_exec.stopBefore "k0_part31" in
  sl_exec_parts
  sl_seam

set_option maxHeartbeats 4000000 in
/-- The second half of the loop's second trip. -/
def t1b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t1a c f0 f1 f2 f3 f4 f5 f6 f7 f8 f9 f10 f11 f12 f13 f14 f15 f16 f17 f18).1 := by
  sl_stretch
  sl_resume
  set_option sl_exec.dmaWindow true in
  set_option sl_exec.stopBefore "k0_part59" in
  sl_exec_parts
  sl_seam

end Cert.Kernel.Hand

end
-- ==== Proof.K.T2.lean ====
/- The third trip of the loop over the blocks. -/
module

public import proofs.«01_k».proof.Proof.K.T1

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The first half of the loop's third trip. -/
def t2a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t1b c f0 f1 f2 f3 f4 f5 f6 f7 f8 f9 f10 f11 f12 f13 f14 f15 f16 f17 f18).1 := by
  sl_stretch
  sl_resume
  set_option sl_exec.dmaWindow true in
  set_option sl_exec.stopBefore "k0_part31" in
  sl_exec_parts
  sl_seam

set_option maxHeartbeats 4000000 in
/-- The second half of the loop's third trip. -/
def t2b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t2a c f0 f1 f2 f3 f4 f5 f6 f7 f8 f9 f10 f11 f12 f13 f14 f15 f16 f17 f18).1 := by
  sl_stretch
  sl_resume
  set_option sl_exec.dmaWindow true in
  set_option sl_exec.stopBefore "k0_part59" in
  sl_exec_parts
  sl_seam

end Cert.Kernel.Hand

end
-- ==== Proof.K.T3.lean ====
/- The fourth trip of the loop over the blocks. -/
module

public import proofs.«01_k».proof.Proof.K.T2

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The first half of the loop's fourth trip. -/
def t3a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t2b c f0 f1 f2 f3 f4 f5 f6 f7 f8 f9 f10 f11 f12 f13 f14 f15 f16 f17 f18).1 := by
  sl_stretch
  sl_resume
  set_option sl_exec.dmaWindow true in
  set_option sl_exec.stopBefore "k0_part31" in
  sl_exec_parts
  sl_seam

set_option maxHeartbeats 4000000 in
/-- The second half of the loop's fourth trip. -/
def t3b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t3a c f0 f1 f2 f3 f4 f5 f6 f7 f8 f9 f10 f11 f12 f13 f14 f15 f16 f17 f18).1 := by
  sl_stretch
  sl_resume
  set_option sl_exec.dmaWindow true in
  set_option sl_exec.stopBefore "k0_part59" in
  sl_exec_parts
  sl_seam

end Cert.Kernel.Hand

end
-- ==== Proof.K.T4.lean ====
/- The fifth trip of the loop over the blocks. -/
module

public import proofs.«01_k».proof.Proof.K.T3

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The first half of the loop's fifth trip. -/
def t4a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t3b c f0 f1 f2 f3 f4 f5 f6 f7 f8 f9 f10 f11 f12 f13 f14 f15 f16 f17 f18).1 := by
  sl_stretch
  sl_resume
  set_option sl_exec.dmaWindow true in
  set_option sl_exec.stopBefore "k0_part31" in
  sl_exec_parts
  sl_seam

set_option maxHeartbeats 4000000 in
/-- The second half of the loop's fifth trip. -/
def t4b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t4a c f0 f1 f2 f3 f4 f5 f6 f7 f8 f9 f10 f11 f12 f13 f14 f15 f16 f17 f18).1 := by
  sl_stretch
  sl_resume
  set_option sl_exec.dmaWindow true in
  set_option sl_exec.stopBefore "k0_part59" in
  sl_exec_parts
  sl_seam

end Cert.Kernel.Hand

end
-- ==== Proof.K.T5.lean ====
/- The sixth trip of the loop over the blocks. -/
module

public import proofs.«01_k».proof.Proof.K.T4

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 4000000 in
/-- The first half of the loop's sixth trip. -/
def t5a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t4b c f0 f1 f2 f3 f4 f5 f6 f7 f8 f9 f10 f11 f12 f13 f14 f15 f16 f17 f18).1 := by
  sl_stretch
  sl_resume
  set_option sl_exec.dmaWindow true in
  set_option sl_exec.stopBefore "k0_part31" in
  sl_exec_parts
  sl_seam

set_option maxHeartbeats 4000000 in
/-- The second half of the loop's sixth trip. -/
def t5b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) : Σ' (G : Prop), G → (t5a c f0 f1 f2 f3 f4 f5 f6 f7 f8 f9 f10 f11 f12 f13 f14 f15 f16 f17 f18).1 := by
  sl_stretch
  sl_resume
  set_option sl_exec.dmaWindow true in
  set_option sl_exec.stopBefore "k0_part134" in
  sl_exec_parts
  sl_seam

end Cert.Kernel.Hand

end
-- ==== Proof.K.Joins.lean ====
/- The windows of each buffer joined again, one at a time. -/
module

public import proofs.«01_k».proof.Proof.K.Windows

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 2000000 in
/-- The windows of the buffer, held apart with their contents, are the buffer with contents that agree with each window's. -/
theorem ring_joinw (c : Dev nD) {g0 g1 g2 g3 g4 g5 g6 g7 g8 g9 g10 g11 g12 g13 g14 g15 g16 g17 g18 g19 : BufOf (F := F) c m10} :
    ⊢ (iprop(ptW c m10 (Rect.unit (s := S20x512x4096) ![0, 0, 0] S1x512x4096.size inb_S20x512x4096_S1x512x4096_0_0_0) g0 -∗ ptW c m10 (Rect.unit (s := S20x512x4096) ![1, 0, 0] S1x512x4096.size inb_S20x512x4096_S1x512x4096_1_0_0) g1 -∗ ptW c m10 (Rect.unit (s := S20x512x4096) ![2, 0, 0] S1x512x4096.size inb_S20x512x4096_S1x512x4096_2_0_0) g2 -∗ ptW c m10 (Rect.unit (s := S20x512x4096) ![3, 0, 0] S1x512x4096.size inb_S20x512x4096_S1x512x4096_3_0_0) g3 -∗ ptW c m10 (Rect.unit (s := S20x512x4096) ![4, 0, 0] S1x512x4096.size inb_S20x512x4096_S1x512x4096_4_0_0) g4 -∗ ptW c m10 (Rect.unit (s := S20x512x4096) ![5, 0, 0] S1x512x4096.size inb_S20x512x4096_S1x512x4096_5_0_0) g5 -∗ ptW c m10 (Rect.unit (s := S20x512x4096) ![6, 0, 0] S1x512x4096.size inb_S20x512x4096_S1x512x4096_6_0_0) g6 -∗ ptW c m10 (Rect.unit (s := S20x512x4096) ![7, 0, 0] S1x512x4096.size inb_S20x512x4096_S1x512x4096_7_0_0) g7 -∗ ptW c m10 (Rect.unit (s := S20x512x4096) ![8, 0, 0] S1x512x4096.size inb_S20x512x4096_S1x512x4096_8_0_0) g8 -∗ ptW c m10 (Rect.unit (s := S20x512x4096) ![9, 0, 0] S1x512x4096.size inb_S20x512x4096_S1x512x4096_9_0_0) g9 -∗ ptW c m10 (Rect.unit (s := S20x512x4096) ![10, 0, 0] S1x512x4096.size inb_S20x512x4096_S1x512x4096_10_0_0) g10 -∗ ptW c m10 (Rect.unit (s := S20x512x4096) ![11, 0, 0] S1x512x4096.size inb_S20x512x4096_S1x512x4096_11_0_0) g11 -∗ ptW c m10 (Rect.unit (s := S20x512x4096) ![12, 0, 0] S1x512x4096.size inb_S20x512x4096_S1x512x4096_12_0_0) g12 -∗ ptW c m10 (Rect.unit (s := S20x512x4096) ![13, 0, 0] S1x512x4096.size inb_S20x512x4096_S1x512x4096_13_0_0) g13 -∗ ptW c m10 (Rect.unit (s := S20x512x4096) ![14, 0, 0] S1x512x4096.size inb_S20x512x4096_S1x512x4096_14_0_0) g14 -∗ ptW c m10 (Rect.unit (s := S20x512x4096) ![15, 0, 0] S1x512x4096.size inb_S20x512x4096_S1x512x4096_15_0_0) g15 -∗ ptW c m10 (Rect.unit (s := S20x512x4096) ![16, 0, 0] S1x512x4096.size inb_S20x512x4096_S1x512x4096_16_0_0) g16 -∗ ptW c m10 (Rect.unit (s := S20x512x4096) ![17, 0, 0] S1x512x4096.size inb_S20x512x4096_S1x512x4096_17_0_0) g17 -∗ ptW c m10 (Rect.unit (s := S20x512x4096) ![18, 0, 0] S1x512x4096.size inb_S20x512x4096_S1x512x4096_18_0_0) g18 -∗ ptW c m10 (Rect.unit (s := S20x512x4096) ![19, 0, 0] S1x512x4096.size inb_S20x512x4096_S1x512x4096_19_0_0) g19 -∗ ∃ g : BufOf (F := F) c m10, ⌜(∀ y ∈ ringI 0, g y = g0 y) ∧ (∀ y ∈ ringI 1, g y = g1 y) ∧ (∀ y ∈ ringI 2, g y = g2 y) ∧ (∀ y ∈ ringI 3, g y = g3 y) ∧ (∀ y ∈ ringI 4, g y = g4 y) ∧ (∀ y ∈ ringI 5, g y = g5 y) ∧ (∀ y ∈ ringI 6, g y = g6 y) ∧ (∀ y ∈ ringI 7, g y = g7 y) ∧ (∀ y ∈ ringI 8, g y = g8 y) ∧ (∀ y ∈ ringI 9, g y = g9 y) ∧ (∀ y ∈ ringI 10, g y = g10 y) ∧ (∀ y ∈ ringI 11, g y = g11 y) ∧ (∀ y ∈ ringI 12, g y = g12 y) ∧ (∀ y ∈ ringI 13, g y = g13 y) ∧ (∀ y ∈ ringI 14, g y = g14 y) ∧ (∀ y ∈ ringI 15, g y = g15 y) ∧ (∀ y ∈ ringI 16, g y = g16 y) ∧ (∀ y ∈ ringI 17, g y = g17 y) ∧ (∀ y ∈ ringI 18, g y = g18 y) ∧ (∀ y ∈ ringI 19, g y = g19 y)⌝ ∗ pt c m10 g) : sProp 𝕄) := by
  iintro H0
  iintro H1
  iintro H2
  iintro H3
  iintro H4
  iintro H5
  iintro H6
  iintro H7
  iintro H8
  iintro H9
  iintro H10
  iintro H11
  iintro H12
  iintro H13
  iintro H14
  iintro H15
  iintro H16
  iintro H17
  iintro H18
  iintro H19
  ihave Hj : iprop(∃ g : BufOf (F := F) c m10, ⌜∀ i y, y ∈ ringI i → g y = (![g0, g1, g2, g3, g4, g5, g6, g7, g8, g9, g10, g11, g12, g13, g14, g15, g16, g17, g18, g19] : Fin 20 → BufOf (F := F) c m10) i y⌝ ∗ pt c m10 g) $$ [H0 H1 H2 H3 H4 H5 H6 H7 H8 H9 H10 H11 H12 H13 H14 H15 H16 H17 H18 H19]
  · iapply (ring_join c (![g0, g1, g2, g3, g4, g5, g6, g7, g8, g9, g10, g11, g12, g13, g14, g15, g16, g17, g18, g19] : Fin 20 → BufOf (F := F) c m10))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy, fun y hy => hg 8 y hy, fun y hy => hg 9 y hy, fun y hy => hg 10 y hy, fun y hy => hg 11 y hy, fun y hy => hg 12 y hy, fun y hy => hg 13 y hy, fun y hy => hg 14 y hy, fun y hy => hg 15 y hy, fun y hy => hg 16 y hy, fun y hy => hg 17 y hy, fun y hy => hg 18 y hy, fun y hy => hg 19 y hy⟩
  iexact Hj

set_option maxHeartbeats 2000000 in
/-- The windows of the buffer, held apart with their contents, are the buffer with contents that agree with each window's. -/
theorem cod_joinw (c : Dev nD) {g0 g1 g2 g3 g4 g5 g6 g7 g8 g9 g10 g11 g12 g13 g14 g15 g16 g17 g18 g19 g20 g21 g22 g23 g24 g25 g26 g27 : BufOf (F := F) c m16} :
    ⊢ (iprop(ptW c m16 (Rect.unit (s := S28x128x512) ![0, 0, 0] S1x128x512.size inb_S28x128x512_S1x128x512_0_0_0) g0 -∗ ptW c m16 (Rect.unit (s := S28x128x512) ![1, 0, 0] S1x128x512.size inb_S28x128x512_S1x128x512_1_0_0) g1 -∗ ptW c m16 (Rect.unit (s := S28x128x512) ![2, 0, 0] S1x128x512.size inb_S28x128x512_S1x128x512_2_0_0) g2 -∗ ptW c m16 (Rect.unit (s := S28x128x512) ![3, 0, 0] S1x128x512.size inb_S28x128x512_S1x128x512_3_0_0) g3 -∗ ptW c m16 (Rect.unit (s := S28x128x512) ![4, 0, 0] S1x128x512.size inb_S28x128x512_S1x128x512_4_0_0) g4 -∗ ptW c m16 (Rect.unit (s := S28x128x512) ![5, 0, 0] S1x128x512.size inb_S28x128x512_S1x128x512_5_0_0) g5 -∗ ptW c m16 (Rect.unit (s := S28x128x512) ![6, 0, 0] S1x128x512.size inb_S28x128x512_S1x128x512_6_0_0) g6 -∗ ptW c m16 (Rect.unit (s := S28x128x512) ![7, 0, 0] S1x128x512.size inb_S28x128x512_S1x128x512_7_0_0) g7 -∗ ptW c m16 (Rect.unit (s := S28x128x512) ![8, 0, 0] S1x128x512.size inb_S28x128x512_S1x128x512_8_0_0) g8 -∗ ptW c m16 (Rect.unit (s := S28x128x512) ![9, 0, 0] S1x128x512.size inb_S28x128x512_S1x128x512_9_0_0) g9 -∗ ptW c m16 (Rect.unit (s := S28x128x512) ![10, 0, 0] S1x128x512.size inb_S28x128x512_S1x128x512_10_0_0) g10 -∗ ptW c m16 (Rect.unit (s := S28x128x512) ![11, 0, 0] S1x128x512.size inb_S28x128x512_S1x128x512_11_0_0) g11 -∗ ptW c m16 (Rect.unit (s := S28x128x512) ![12, 0, 0] S1x128x512.size inb_S28x128x512_S1x128x512_12_0_0) g12 -∗ ptW c m16 (Rect.unit (s := S28x128x512) ![13, 0, 0] S1x128x512.size inb_S28x128x512_S1x128x512_13_0_0) g13 -∗ ptW c m16 (Rect.unit (s := S28x128x512) ![14, 0, 0] S1x128x512.size inb_S28x128x512_S1x128x512_14_0_0) g14 -∗ ptW c m16 (Rect.unit (s := S28x128x512) ![15, 0, 0] S1x128x512.size inb_S28x128x512_S1x128x512_15_0_0) g15 -∗ ptW c m16 (Rect.unit (s := S28x128x512) ![16, 0, 0] S1x128x512.size inb_S28x128x512_S1x128x512_16_0_0) g16 -∗ ptW c m16 (Rect.unit (s := S28x128x512) ![17, 0, 0] S1x128x512.size inb_S28x128x512_S1x128x512_17_0_0) g17 -∗ ptW c m16 (Rect.unit (s := S28x128x512) ![18, 0, 0] S1x128x512.size inb_S28x128x512_S1x128x512_18_0_0) g18 -∗ ptW c m16 (Rect.unit (s := S28x128x512) ![19, 0, 0] S1x128x512.size inb_S28x128x512_S1x128x512_19_0_0) g19 -∗ ptW c m16 (Rect.unit (s := S28x128x512) ![20, 0, 0] S1x128x512.size inb_S28x128x512_S1x128x512_20_0_0) g20 -∗ ptW c m16 (Rect.unit (s := S28x128x512) ![21, 0, 0] S1x128x512.size inb_S28x128x512_S1x128x512_21_0_0) g21 -∗ ptW c m16 (Rect.unit (s := S28x128x512) ![22, 0, 0] S1x128x512.size inb_S28x128x512_S1x128x512_22_0_0) g22 -∗ ptW c m16 (Rect.unit (s := S28x128x512) ![23, 0, 0] S1x128x512.size inb_S28x128x512_S1x128x512_23_0_0) g23 -∗ ptW c m16 (Rect.unit (s := S28x128x512) ![24, 0, 0] S1x128x512.size inb_S28x128x512_S1x128x512_24_0_0) g24 -∗ ptW c m16 (Rect.unit (s := S28x128x512) ![25, 0, 0] S1x128x512.size inb_S28x128x512_S1x128x512_25_0_0) g25 -∗ ptW c m16 (Rect.unit (s := S28x128x512) ![26, 0, 0] S1x128x512.size inb_S28x128x512_S1x128x512_26_0_0) g26 -∗ ptW c m16 (Rect.unit (s := S28x128x512) ![27, 0, 0] S1x128x512.size inb_S28x128x512_S1x128x512_27_0_0) g27 -∗ ∃ g : BufOf (F := F) c m16, ⌜(∀ y ∈ codI 0, g y = g0 y) ∧ (∀ y ∈ codI 1, g y = g1 y) ∧ (∀ y ∈ codI 2, g y = g2 y) ∧ (∀ y ∈ codI 3, g y = g3 y) ∧ (∀ y ∈ codI 4, g y = g4 y) ∧ (∀ y ∈ codI 5, g y = g5 y) ∧ (∀ y ∈ codI 6, g y = g6 y) ∧ (∀ y ∈ codI 7, g y = g7 y) ∧ (∀ y ∈ codI 8, g y = g8 y) ∧ (∀ y ∈ codI 9, g y = g9 y) ∧ (∀ y ∈ codI 10, g y = g10 y) ∧ (∀ y ∈ codI 11, g y = g11 y) ∧ (∀ y ∈ codI 12, g y = g12 y) ∧ (∀ y ∈ codI 13, g y = g13 y) ∧ (∀ y ∈ codI 14, g y = g14 y) ∧ (∀ y ∈ codI 15, g y = g15 y) ∧ (∀ y ∈ codI 16, g y = g16 y) ∧ (∀ y ∈ codI 17, g y = g17 y) ∧ (∀ y ∈ codI 18, g y = g18 y) ∧ (∀ y ∈ codI 19, g y = g19 y) ∧ (∀ y ∈ codI 20, g y = g20 y) ∧ (∀ y ∈ codI 21, g y = g21 y) ∧ (∀ y ∈ codI 22, g y = g22 y) ∧ (∀ y ∈ codI 23, g y = g23 y) ∧ (∀ y ∈ codI 24, g y = g24 y) ∧ (∀ y ∈ codI 25, g y = g25 y) ∧ (∀ y ∈ codI 26, g y = g26 y) ∧ (∀ y ∈ codI 27, g y = g27 y)⌝ ∗ pt c m16 g) : sProp 𝕄) := by
  iintro H0
  iintro H1
  iintro H2
  iintro H3
  iintro H4
  iintro H5
  iintro H6
  iintro H7
  iintro H8
  iintro H9
  iintro H10
  iintro H11
  iintro H12
  iintro H13
  iintro H14
  iintro H15
  iintro H16
  iintro H17
  iintro H18
  iintro H19
  iintro H20
  iintro H21
  iintro H22
  iintro H23
  iintro H24
  iintro H25
  iintro H26
  iintro H27
  ihave Hj : iprop(∃ g : BufOf (F := F) c m16, ⌜∀ i y, y ∈ codI i → g y = (![g0, g1, g2, g3, g4, g5, g6, g7, g8, g9, g10, g11, g12, g13, g14, g15, g16, g17, g18, g19, g20, g21, g22, g23, g24, g25, g26, g27] : Fin 28 → BufOf (F := F) c m16) i y⌝ ∗ pt c m16 g) $$ [H0 H1 H2 H3 H4 H5 H6 H7 H8 H9 H10 H11 H12 H13 H14 H15 H16 H17 H18 H19 H20 H21 H22 H23 H24 H25 H26 H27]
  · iapply (cod_join c (![g0, g1, g2, g3, g4, g5, g6, g7, g8, g9, g10, g11, g12, g13, g14, g15, g16, g17, g18, g19, g20, g21, g22, g23, g24, g25, g26, g27] : Fin 28 → BufOf (F := F) c m16))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy, fun y hy => hg 8 y hy, fun y hy => hg 9 y hy, fun y hy => hg 10 y hy, fun y hy => hg 11 y hy, fun y hy => hg 12 y hy, fun y hy => hg 13 y hy, fun y hy => hg 14 y hy, fun y hy => hg 15 y hy, fun y hy => hg 16 y hy, fun y hy => hg 17 y hy, fun y hy => hg 18 y hy, fun y hy => hg 19 y hy, fun y hy => hg 20 y hy, fun y hy => hg 21 y hy, fun y hy => hg 22 y hy, fun y hy => hg 23 y hy, fun y hy => hg 24 y hy, fun y hy => hg 25 y hy, fun y hy => hg 26 y hy, fun y hy => hg 27 y hy⟩
  iexact Hj

set_option maxHeartbeats 2000000 in
/-- The windows of the buffer, held apart with their contents, are the buffer with contents that agree with each window's. -/
theorem hcod_joinw (c : Dev nD) {g0 g1 g2 g3 g4 g5 g6 g7 g8 g9 g10 g11 g12 g13 g14 g15 g16 g17 g18 g19 g20 g21 g22 g23 g24 g25 g26 g27 : BufOf (F := F) c m5} :
    ⊢ (iprop(ptW c m5 (Rect.unit (s := S128x14336) ![0, 0] S128x512.size inb_S128x14336_S128x512_0_0) g0 -∗ ptW c m5 (Rect.unit (s := S128x14336) ![0, 512] S128x512.size inb_S128x14336_S128x512_0_512) g1 -∗ ptW c m5 (Rect.unit (s := S128x14336) ![0, 1024] S128x512.size inb_S128x14336_S128x512_0_1024) g2 -∗ ptW c m5 (Rect.unit (s := S128x14336) ![0, 1536] S128x512.size inb_S128x14336_S128x512_0_1536) g3 -∗ ptW c m5 (Rect.unit (s := S128x14336) ![0, 2048] S128x512.size inb_S128x14336_S128x512_0_2048) g4 -∗ ptW c m5 (Rect.unit (s := S128x14336) ![0, 2560] S128x512.size inb_S128x14336_S128x512_0_2560) g5 -∗ ptW c m5 (Rect.unit (s := S128x14336) ![0, 3072] S128x512.size inb_S128x14336_S128x512_0_3072) g6 -∗ ptW c m5 (Rect.unit (s := S128x14336) ![0, 3584] S128x512.size inb_S128x14336_S128x512_0_3584) g7 -∗ ptW c m5 (Rect.unit (s := S128x14336) ![0, 4096] S128x512.size inb_S128x14336_S128x512_0_4096) g8 -∗ ptW c m5 (Rect.unit (s := S128x14336) ![0, 4608] S128x512.size inb_S128x14336_S128x512_0_4608) g9 -∗ ptW c m5 (Rect.unit (s := S128x14336) ![0, 5120] S128x512.size inb_S128x14336_S128x512_0_5120) g10 -∗ ptW c m5 (Rect.unit (s := S128x14336) ![0, 5632] S128x512.size inb_S128x14336_S128x512_0_5632) g11 -∗ ptW c m5 (Rect.unit (s := S128x14336) ![0, 6144] S128x512.size inb_S128x14336_S128x512_0_6144) g12 -∗ ptW c m5 (Rect.unit (s := S128x14336) ![0, 6656] S128x512.size inb_S128x14336_S128x512_0_6656) g13 -∗ ptW c m5 (Rect.unit (s := S128x14336) ![0, 7168] S128x512.size inb_S128x14336_S128x512_0_7168) g14 -∗ ptW c m5 (Rect.unit (s := S128x14336) ![0, 7680] S128x512.size inb_S128x14336_S128x512_0_7680) g15 -∗ ptW c m5 (Rect.unit (s := S128x14336) ![0, 8192] S128x512.size inb_S128x14336_S128x512_0_8192) g16 -∗ ptW c m5 (Rect.unit (s := S128x14336) ![0, 8704] S128x512.size inb_S128x14336_S128x512_0_8704) g17 -∗ ptW c m5 (Rect.unit (s := S128x14336) ![0, 9216] S128x512.size inb_S128x14336_S128x512_0_9216) g18 -∗ ptW c m5 (Rect.unit (s := S128x14336) ![0, 9728] S128x512.size inb_S128x14336_S128x512_0_9728) g19 -∗ ptW c m5 (Rect.unit (s := S128x14336) ![0, 10240] S128x512.size inb_S128x14336_S128x512_0_10240) g20 -∗ ptW c m5 (Rect.unit (s := S128x14336) ![0, 10752] S128x512.size inb_S128x14336_S128x512_0_10752) g21 -∗ ptW c m5 (Rect.unit (s := S128x14336) ![0, 11264] S128x512.size inb_S128x14336_S128x512_0_11264) g22 -∗ ptW c m5 (Rect.unit (s := S128x14336) ![0, 11776] S128x512.size inb_S128x14336_S128x512_0_11776) g23 -∗ ptW c m5 (Rect.unit (s := S128x14336) ![0, 12288] S128x512.size inb_S128x14336_S128x512_0_12288) g24 -∗ ptW c m5 (Rect.unit (s := S128x14336) ![0, 12800] S128x512.size inb_S128x14336_S128x512_0_12800) g25 -∗ ptW c m5 (Rect.unit (s := S128x14336) ![0, 13312] S128x512.size inb_S128x14336_S128x512_0_13312) g26 -∗ ptW c m5 (Rect.unit (s := S128x14336) ![0, 13824] S128x512.size inb_S128x14336_S128x512_0_13824) g27 -∗ ∃ g : BufOf (F := F) c m5, ⌜(∀ y ∈ hcodI 0, g y = g0 y) ∧ (∀ y ∈ hcodI 1, g y = g1 y) ∧ (∀ y ∈ hcodI 2, g y = g2 y) ∧ (∀ y ∈ hcodI 3, g y = g3 y) ∧ (∀ y ∈ hcodI 4, g y = g4 y) ∧ (∀ y ∈ hcodI 5, g y = g5 y) ∧ (∀ y ∈ hcodI 6, g y = g6 y) ∧ (∀ y ∈ hcodI 7, g y = g7 y) ∧ (∀ y ∈ hcodI 8, g y = g8 y) ∧ (∀ y ∈ hcodI 9, g y = g9 y) ∧ (∀ y ∈ hcodI 10, g y = g10 y) ∧ (∀ y ∈ hcodI 11, g y = g11 y) ∧ (∀ y ∈ hcodI 12, g y = g12 y) ∧ (∀ y ∈ hcodI 13, g y = g13 y) ∧ (∀ y ∈ hcodI 14, g y = g14 y) ∧ (∀ y ∈ hcodI 15, g y = g15 y) ∧ (∀ y ∈ hcodI 16, g y = g16 y) ∧ (∀ y ∈ hcodI 17, g y = g17 y) ∧ (∀ y ∈ hcodI 18, g y = g18 y) ∧ (∀ y ∈ hcodI 19, g y = g19 y) ∧ (∀ y ∈ hcodI 20, g y = g20 y) ∧ (∀ y ∈ hcodI 21, g y = g21 y) ∧ (∀ y ∈ hcodI 22, g y = g22 y) ∧ (∀ y ∈ hcodI 23, g y = g23 y) ∧ (∀ y ∈ hcodI 24, g y = g24 y) ∧ (∀ y ∈ hcodI 25, g y = g25 y) ∧ (∀ y ∈ hcodI 26, g y = g26 y) ∧ (∀ y ∈ hcodI 27, g y = g27 y)⌝ ∗ pt c m5 g) : sProp 𝕄) := by
  iintro H0
  iintro H1
  iintro H2
  iintro H3
  iintro H4
  iintro H5
  iintro H6
  iintro H7
  iintro H8
  iintro H9
  iintro H10
  iintro H11
  iintro H12
  iintro H13
  iintro H14
  iintro H15
  iintro H16
  iintro H17
  iintro H18
  iintro H19
  iintro H20
  iintro H21
  iintro H22
  iintro H23
  iintro H24
  iintro H25
  iintro H26
  iintro H27
  ihave Hj : iprop(∃ g : BufOf (F := F) c m5, ⌜∀ i y, y ∈ hcodI i → g y = (![g0, g1, g2, g3, g4, g5, g6, g7, g8, g9, g10, g11, g12, g13, g14, g15, g16, g17, g18, g19, g20, g21, g22, g23, g24, g25, g26, g27] : Fin 28 → BufOf (F := F) c m5) i y⌝ ∗ pt c m5 g) $$ [H0 H1 H2 H3 H4 H5 H6 H7 H8 H9 H10 H11 H12 H13 H14 H15 H16 H17 H18 H19 H20 H21 H22 H23 H24 H25 H26 H27]
  · iapply (hcod_join c (![g0, g1, g2, g3, g4, g5, g6, g7, g8, g9, g10, g11, g12, g13, g14, g15, g16, g17, g18, g19, g20, g21, g22, g23, g24, g25, g26, g27] : Fin 28 → BufOf (F := F) c m5))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy, fun y hy => hg 8 y hy, fun y hy => hg 9 y hy, fun y hy => hg 10 y hy, fun y hy => hg 11 y hy, fun y hy => hg 12 y hy, fun y hy => hg 13 y hy, fun y hy => hg 14 y hy, fun y hy => hg 15 y hy, fun y hy => hg 16 y hy, fun y hy => hg 17 y hy, fun y hy => hg 18 y hy, fun y hy => hg 19 y hy, fun y hy => hg 20 y hy, fun y hy => hg 21 y hy, fun y hy => hg 22 y hy, fun y hy => hg 23 y hy, fun y hy => hg 24 y hy, fun y hy => hg 25 y hy, fun y hy => hg 26 y hy, fun y hy => hg 27 y hy⟩
  iexact Hj

set_option maxHeartbeats 2000000 in
/-- The windows of the buffer, held apart with their contents, are the buffer with contents that agree with each window's. -/
theorem out_joinw (c : Dev nD) {g0 g1 g2 g3 g4 g5 g6 g7 : BufOf (F := F) c m18} :
    ⊢ (iprop(ptW c m18 (Rect.unit (s := S128x4096) ![0, 0] S128x512.size inb_S128x4096_S128x512_0_0) g0 -∗ ptW c m18 (Rect.unit (s := S128x4096) ![0, 512] S128x512.size inb_S128x4096_S128x512_0_512) g1 -∗ ptW c m18 (Rect.unit (s := S128x4096) ![0, 1024] S128x512.size inb_S128x4096_S128x512_0_1024) g2 -∗ ptW c m18 (Rect.unit (s := S128x4096) ![0, 1536] S128x512.size inb_S128x4096_S128x512_0_1536) g3 -∗ ptW c m18 (Rect.unit (s := S128x4096) ![0, 2048] S128x512.size inb_S128x4096_S128x512_0_2048) g4 -∗ ptW c m18 (Rect.unit (s := S128x4096) ![0, 2560] S128x512.size inb_S128x4096_S128x512_0_2560) g5 -∗ ptW c m18 (Rect.unit (s := S128x4096) ![0, 3072] S128x512.size inb_S128x4096_S128x512_0_3072) g6 -∗ ptW c m18 (Rect.unit (s := S128x4096) ![0, 3584] S128x512.size inb_S128x4096_S128x512_0_3584) g7 -∗ ∃ g : BufOf (F := F) c m18, ⌜(∀ y ∈ outI 0, g y = g0 y) ∧ (∀ y ∈ outI 1, g y = g1 y) ∧ (∀ y ∈ outI 2, g y = g2 y) ∧ (∀ y ∈ outI 3, g y = g3 y) ∧ (∀ y ∈ outI 4, g y = g4 y) ∧ (∀ y ∈ outI 5, g y = g5 y) ∧ (∀ y ∈ outI 6, g y = g6 y) ∧ (∀ y ∈ outI 7, g y = g7 y)⌝ ∗ pt c m18 g) : sProp 𝕄) := by
  iintro H0
  iintro H1
  iintro H2
  iintro H3
  iintro H4
  iintro H5
  iintro H6
  iintro H7
  ihave Hj : iprop(∃ g : BufOf (F := F) c m18, ⌜∀ i y, y ∈ outI i → g y = (![g0, g1, g2, g3, g4, g5, g6, g7] : Fin 8 → BufOf (F := F) c m18) i y⌝ ∗ pt c m18 g) $$ [H0 H1 H2 H3 H4 H5 H6 H7]
  · iapply (out_join c (![g0, g1, g2, g3, g4, g5, g6, g7] : Fin 8 → BufOf (F := F) c m18))
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy⟩
  iexact Hj

set_option maxHeartbeats 2000000 in
/-- The windows of the buffer, held apart with their contents, are the buffer with contents that agree with each window's. -/
theorem hout_joinw (c : Dev nD) {g0 g1 g2 g3 g4 g5 g6 g7 : BufOf (F := F) c m4} :
    ⊢ (iprop(ptW c m4 (Rect.unit (s := S128x4096) ![0, 0] S128x512.size inb_S128x4096_S128x512_0_0) g0 -∗ ptW c m4 (Rect.unit (s := S128x4096) ![0, 512] S128x512.size inb_S128x4096_S128x512_0_512) g1 -∗ ptW c m4 (Rect.unit (s := S128x4096) ![0, 1024] S128x512.size inb_S128x4096_S128x512_0_1024) g2 -∗ ptW c m4 (Rect.unit (s := S128x4096) ![0, 1536] S128x512.size inb_S128x4096_S128x512_0_1536) g3 -∗ ptW c m4 (Rect.unit (s := S128x4096) ![0, 2048] S128x512.size inb_S128x4096_S128x512_0_2048) g4 -∗ ptW c m4 (Rect.unit (s := S128x4096) ![0, 2560] S128x512.size inb_S128x4096_S128x512_0_2560) g5 -∗ ptW c m4 (Rect.unit (s := S128x4096) ![0, 3072] S128x512.size inb_S128x4096_S128x512_0_3072) g6 -∗ ptW c m4 (Rect.unit (s := S128x4096) ![0, 3584] S128x512.size inb_S128x4096_S128x512_0_3584) g7 -∗ ∃ g : BufOf (F := F) c m4, ⌜(∀ y ∈ houtI 0, g y = g0 y) ∧ (∀ y ∈ houtI 1, g y = g1 y) ∧ (∀ y ∈ houtI 2, g y = g2 y) ∧ (∀ y ∈ houtI 3, g y = g3 y) ∧ (∀ y ∈ houtI 4, g y = g4 y) ∧ (∀ y ∈ houtI 5, g y = g5 y) ∧ (∀ y ∈ houtI 6, g y = g6 y) ∧ (∀ y ∈ houtI 7, g y = g7 y)⌝ ∗ pt c m4 g) : sProp 𝕄) := by
  iintro H0
  iintro H1
  iintro H2
  iintro H3
  iintro H4
  iintro H5
  iintro H6
  iintro H7
  ihave Hj : iprop(∃ g : BufOf (F := F) c m4, ⌜∀ i y, y ∈ houtI i → g y = (![g0, g1, g2, g3, g4, g5, g6, g7] : Fin 8 → BufOf (F := F) c m4) i y⌝ ∗ pt c m4 g) $$ [H0 H1 H2 H3 H4 H5 H6 H7]
  · iapply (hout_join c (![g0, g1, g2, g3, g4, g5, g6, g7] : Fin 8 → BufOf (F := F) c m4))
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy⟩
  iexact Hj

end Cert.Kernel.Hand

end
-- ==== Proof.K.Fin.lean ====
/- The body run to its end. -/
module

public import proofs.«01_k».proof.Proof.K.T5
public import proofs.«01_k».proof.Proof.K.Joins

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

set_option maxHeartbeats 8000000 in
/-- The body, run from its operands, scratch and semaphores, ends with the operands as they were. -/
theorem run (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (W : Waits sig Unit) (K : PUnit → sProp 𝕄) :
    iprop(pt c m0 f0 ∗ pt c m1 f1 ∗ pt c m2 f2 ∗ pt c m3 f3 ∗ pt c m4 f4 ∗ pt c m5 f5 ∗ pt c m6 f6 ∗ pt c m7 f7 ∗ pt c m8 f8 ∗ pt c m9 f9 ∗ pt c m10 f10 ∗ pt c m11 f11 ∗ pt c m12 f12 ∗ pt c m13 f13 ∗ pt c m14 f14 ∗ pt c m15 f15 ∗ pt c m16 f16 ∗ pt c m17 f17 ∗ pt c m18 f18 ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ owes (c : Thread nD τ) 0 W ∗ (iprop((∃ (g4 : BufOf (F := F) c m4) (g5 : BufOf (F := F) c m5) (g6 : BufOf (F := F) c m6), pt c m4 g4 ∗ pt c m5 g5 ∗ pt c m6 g6) ∗ pt c m0 f0 ∗ pt c m1 f1 ∗ pt c m2 f2 ∗ pt c m3 f3 ∗ (∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f) ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ (∃ W', owes (c : Thread nD τ) 0 W')) -∗ K ⟨⟩)) ⊢ wp frame (wpE (defs₀ (F := F)) Variants.none c none) Set.univ (body (F := F)) K := by
  refine (s1 c f0 f1 f2 f3 f4 f5 f6 f7 f8 f9 f10 f11 f12 f13 f14 f15 f16 f17 f18).2 ((s2 c f0 f1 f2 f3 f4 f5 f6 f7 f8 f9 f10 f11 f12 f13 f14 f15 f16 f17 f18).2 ((t0a c f0 f1 f2 f3 f4 f5 f6 f7 f8 f9 f10 f11 f12 f13 f14 f15 f16 f17 f18).2 ((t0b c f0 f1 f2 f3 f4 f5 f6 f7 f8 f9 f10 f11 f12 f13 f14 f15 f16 f17 f18).2 ((t1a c f0 f1 f2 f3 f4 f5 f6 f7 f8 f9 f10 f11 f12 f13 f14 f15 f16 f17 f18).2 ((t1b c f0 f1 f2 f3 f4 f5 f6 f7 f8 f9 f10 f11 f12 f13 f14 f15 f16 f17 f18).2 ((t2a c f0 f1 f2 f3 f4 f5 f6 f7 f8 f9 f10 f11 f12 f13 f14 f15 f16 f17 f18).2 ((t2b c f0 f1 f2 f3 f4 f5 f6 f7 f8 f9 f10 f11 f12 f13 f14 f15 f16 f17 f18).2 ((t3a c f0 f1 f2 f3 f4 f5 f6 f7 f8 f9 f10 f11 f12 f13 f14 f15 f16 f17 f18).2 ((t3b c f0 f1 f2 f3 f4 f5 f6 f7 f8 f9 f10 f11 f12 f13 f14 f15 f16 f17 f18).2 ((t4a c f0 f1 f2 f3 f4 f5 f6 f7 f8 f9 f10 f11 f12 f13 f14 f15 f16 f17 f18).2 ((t4b c f0 f1 f2 f3 f4 f5 f6 f7 f8 f9 f10 f11 f12 f13 f14 f15 f16 f17 f18).2 ((t5a c f0 f1 f2 f3 f4 f5 f6 f7 f8 f9 f10 f11 f12 f13 f14 f15 f16 f17 f18).2 ((t5b c f0 f1 f2 f3 f4 f5 f6 f7 f8 f9 f10 f11 f12 f13 f14 f15 f16 f17 f18).2 ?_))))))))))))) W K
  sl_resume
  set_option sl_exec.dmaWindow true in
  sl_exec_parts
  ihave Hj := ring_joinw c $$ Ha0 Ha1 Ha2 Ha3 Ha4 Ha5 Ha6 Ha7 Ha8 Ha9 Ha10 Ha11 Ha12 Ha13 Ha14 Ha15 Ha16 Ha17 Ha18 Ha19
  icases Hj with ⟨%j10, %h10, Ha⟩
  ihave Hj := cod_joinw c $$ Hb0 Hb1 Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27
  icases Hj with ⟨%j16, %h16, Hb⟩
  ihave Hj := out_joinw c $$ Hd0 Hd1 Hd2 Hd3 Hd4 Hd5 Hd6 Hd7
  icases Hj with ⟨%j18, %h18, Hd⟩
  ihave Hj := hcod_joinw c $$ Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27
  icases Hj with ⟨%j5, %h5, Hc⟩
  ihave Hj := hout_joinw c $$ He0 He1 He2 He3 He4 He5 He6 He7
  icases Hj with ⟨%j4, %h4, He⟩
  sl_step
  iapply Hk
  isplitl [He Hc H6]
  · iexists _; iexists _; iexists _
    isplitl [He]; · iexact He
    isplitl [Hc]; · iexact Hc
    iexact H6
  isplitl [H0]; · iexact H0
  isplitl [H1]; · iexact H1
  isplitl [H2]; · iexact H2
  isplitl [H3]; · iexact H3
  isplitl [Hk0_part91_0]; · iexists _; iexact Hk0_part91_0
  isplitl [H8]; · iexists _; iexact H8
  isplitl [H9]; · iexists _; iexact H9
  isplitl [Ha]; · iexists _; iexact Ha
  isplitl [Hk0_part91_1]; · iexists _; iexact Hk0_part91_1
  isplitl [H12]; · iexists _; iexact H12
  isplitl [Hk0_part91_2]; · iexists _; iexact Hk0_part91_2
  isplitl [H14]; · iexists _; iexact H14
  isplitl [H15]; · iexists _; iexact H15
  isplitl [Hb]; · iexists _; iexact Hb
  isplitl [Hk0_part91_3]; · iexists _; iexact Hk0_part91_3
  isplitl [Hd]; · iexists _; iexact Hd
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  iexists _; iexact HW

end Cert.Kernel.Hand

end
-- ==== Proof.K.Fr.lean ====
/- The region launched: the run ends with every operand unchanged. -/
module

public import proofs.«01_k».proof.Proof.K.Fin
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the region: its two host reshapes, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownedPts0_eq (c : Dev nD) :
    (Pipeline.owned R0 c : sProp 𝕄) = iprop((∃ f : BufOf (F := F) c m4, pt c m4 f) ∗ (∃ f : BufOf (F := F) c m5, pt c m5 f) ∗ (∃ f : BufOf (F := F) c m6, pt c m6 f)) := by
  unfold Pipeline.owned; rw [BI.bigSep_eq_bigSepL_of_eq [main_v2_0, main_v2_1, main_v2_2] (by decide) (by decide)]; rfl

/-- The region's invariant as a chain of held buffers. -/
theorem PhiDR0_eq (c : Dev nD) :
    (Pipeline.ΦDR osem0 (cfg0.spec) H0 R0 (V m) c : sProp 𝕄)
      = iprop(iprop((∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f)) ∗ (∃ r, prngReg c r) ∗ iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32) ∗ iprop(pt c m0 (V m c main_v0) ∗ pt c m1 (V m c main_arg1) ∗ pt c m2 (V m c main_arg2) ∗ pt c m3 (V m c main_v1)) ∗ iprop((∃ f : BufOf (F := F) c m4, pt c m4 f) ∗ (∃ f : BufOf (F := F) c m5, pt c m5 f) ∗ (∃ f : BufOf (F := F) c m6, pt c m6 f))) := by
  rw [Pipeline.ΦDR_eq, scopedRest0_eq, ownSems00_eq, hbmPts0_eq, ownedPts0_eq]

/-- The region's proof data: the written results owned, nothing owed. -/
def dats (_ : Fin 1) (c : Dev nD) : Pipeline.Dat τ (Elt F) Unit ℕ (Pipeline.UD sig nD τ) ℕ cfg0 c where
  A w := V m c (Pipeline.arrRef (cfg0.spec) w)
  after w _ := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := w.elim0

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

set_option maxHeartbeats 1000000 in
/-- The body's one point keeps the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Pipeline.Dat.owesAt Pipeline.owesWithin
  rw [show (dats m 0 c).owed t.castSucc = 0 from rfl, show (dats m 0 c).owed t.succ = 0 from rfl]
  iintro ⟨⟨⟨⟨%g7, HS7⟩, ⟨%g8, HS8⟩, ⟨%g9, HS9⟩, ⟨%g10, HS10⟩, ⟨%g11, HS11⟩, ⟨%g12, HS12⟩, ⟨%g13, HS13⟩, ⟨%g14, HS14⟩, ⟨%g15, HS15⟩, ⟨%g16, HS16⟩, ⟨%g17, HS17⟩, ⟨%g18, HS18⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32⟩, ⟨Hh0, Hh1, Hh2, Hh3⟩, ⟨⟨%g4, Hh4⟩, ⟨%g5, Hh5⟩, ⟨%g6, Hh6⟩⟩⟩, ⟨%W, -, HW⟩⟩
  iapply (run c (V m c main_v0) (V m c main_arg1) (V m c main_arg2) (V m c main_v1) g4 g5 g6 g7 g8 g9 g10 g11 g12 g13 g14 g15 g16 g17 g18 W _)
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [HW]; · iexact HW
  iintro ⟨⟨%r4, %r5, %r6, Hh4, Hh5, Hh6⟩, Hh0, Hh1, Hh2, Hh3, HS7, HS8, HS9, HS10, HS11, HS12, HS13, HS14, HS15, HS16, HS17, HS18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, ⟨%W', HW'⟩⟩
  isplitl [Hh0 Hh1 Hh2 Hh3 Hh4 Hh5 Hh6 Hg HS7 HS8 HS9 HS10 HS11 HS12 HS13 HS14 HS15 HS16 HS17 HS18 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
  · isplitl [HS7 HS8 HS9 HS10 HS11 HS12 HS13 HS14 HS15 HS16 HS17 HS18]
    · isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      iexact HS18
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      iexact Hq32
    isplitl [Hh0 Hh1 Hh2 Hh3]
    · isplitl [Hh0]; · iexact Hh0
      isplitl [Hh1]; · iexact Hh1
      isplitl [Hh2]; · iexact Hh2
      iexact Hh3
    isplitl [Hh4]; · iexists _; iexact Hh4
    isplitl [Hh5]; · iexists _; iexact Hh5
    iexists _; iexact Hh6
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [defs₀_row]
  refine triple_restated (sound_body m c t) ?_ ?_ fun _ => ?_
  · rfl
  · iintro ⟨H1, H2, -⟩
    unfold bodyPre
    isplitl [H1]; · iexact H1
    iexact H2
  · unfold bodyPost
    iintro ⟨H1, H2⟩
    isplitl [H1]; · iexact H1
    isplitl [H2]; · iexact H2
    iapply (Entails.of_eq (by haveI : IsEmpty (Fin cfg0.W) := ⟨fun w => w.elim0⟩; rw [Finset.univ_eq_empty]; rfl : (iprop(emp) : sProp 𝕄) = _)); exact .rfl

set_option backward.isDefEq.respectTransparency.types false in
/-- The run ends: every unscoped buffer but the results is as the region found it, every counter at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ)

end Cert.Kernel.Hand

end
-- ==== Proof.KI.Setup.lean ====
/- The kernel's operands and cells, and the region's invariant as a chain of held buffers (`KernelIdeal`). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev BufOf (c : Dev nD) {sp : Space} {S : Shape} {e : EltTy} (M : Memref sig .tc sp S e) : Type := Buf (Elt F) (M.view.loc (c : Thread nD τ))
/-- A buffer of the core held whole at given contents, its location spelt through its memref. -/
abbrev pt (c : Dev nD) {sp : Space} {S : Shape} {e : EltTy} (M : Memref sig .tc sp S e) (f : BufOf (F := F) c M) : sProp 𝕄 :=
  M.view.loc (c : Thread nD τ) ↦{fullShare} f
/-- Part of a buffer of the core, the elements of a window of it. -/
abbrev ptW (c : Dev nD) {sp : Space} {S : Shape} {e : EltTy} (M : Memref sig .tc sp S e) (R : Rect S) (f : BufOf (F := F) c M) : sProp 𝕄 :=
  M.view.loc (c : Thread nD τ) ↦[M.view.setOn R.set]{fullShare} f
abbrev cell (c : Dev nD) (j : Fin 33) : sProp 𝕄 := semVal ((c : Thread nD τ), SemLoc.dma j) 0

abbrev m0 : Memref sig .tc .hbm S128x14336 .bf16 := Memref.whole main_v0
abbrev m1 : Memref sig .tc .hbm S28x28 .f32 := Memref.whole main_arg1
abbrev m2 : Memref sig .tc .hbm S14336x4096 .fp8e4m3 := Memref.whole main_arg2
abbrev m3 : Memref sig .tc .hbm S1x4096 .f32 := Memref.whole main_v1
abbrev m4 : Memref sig .tc .hbm S128x4096 .bf16 := Memref.whole main_v2_0
abbrev m5 : Memref sig .tc .hbm S128x14336 .fp8e4m3 := Memref.whole main_v2_1
abbrev m6 : Memref sig .tc .hbm S128x112 .f32 := Memref.whole main_v2_2
abbrev m7 : Memref sig .tc .vmem S128x14336 .bf16 := Memref.whole cc0_scratch0
abbrev m8 : Memref sig .tc .vmem S28x28 .f32 := Memref.whole cc0_scratch1
abbrev m9 : Memref sig .tc .vmem S1x4096 .f32 := Memref.whole cc0_scratch2
abbrev m10 : Memref sig .tc .vmem S20x512x4096 .fp8e4m3 := Memref.whole cc0_scratch3
abbrev m11 : Memref sig .tc .vmem S3x224x256 .bf16 := Memref.whole cc0_scratch4
abbrev m12 : Memref sig .tc .vmem S256x256 .bf16 := Memref.whole cc0_scratch5
abbrev m13 : Memref sig .tc .vmem S28x128x512 .f32 := Memref.whole cc0_scratch6
abbrev m14 : Memref sig .tc .vmem S2x4x128x512 .bf16 := Memref.whole cc0_scratch7
abbrev m15 : Memref sig .tc .vmem S128x4096 .f32 := Memref.whole cc0_scratch8
abbrev m16 : Memref sig .tc .vmem S28x128x512 .fp8e4m3 := Memref.whole cc0_scratch9
abbrev m17 : Memref sig .tc .vmem S128x112 .f32 := Memref.whole cc0_scratch10
abbrev m18 : Memref sig .tc .vmem S128x4096 .bf16 := Memref.whole cc0_scratch11

/-- The kernel's body on its operands. -/
abbrev body : Prog (TpuEff nD τ sig (Elt F) Λ₀ .tc) PUnit :=
  cc0_hadamard_fp8_down_proj m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) cc0_scratch12 cc0_scratch13 cc0_scratch14 cc0_scratch15 cc0_scratch16

abbrev osem0 : Fin 33 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32] (by decide) (by decide)]; rfl

variable (m : (ℓ : Loc nD τ sig) → Buf (Elt F) ℓ) (ρ : Dev nD → PrngReg)

/-- What the core's buffers hold when the region is entered: after the two host reshapes. -/
abbrev V (c : Dev nD) (b : Ref sig .tc) : Buf (Elt F) ((c : Thread nD τ).loc b) := StableHlo.after hostOps0 (fun b => m (c, b)) b

/-- The unscoped buffers the body's transfers read, and those they write. -/
def H0 : Finset (Ref sig .tc) := {main_v0, main_arg1, main_arg2, main_v1}
def R0 : Finset (Ref sig .tc) := {main_v2_0, main_v2_1, main_v2_2}
theorem H0_sub : H0 ⊆ Pipeline.restRefs sig (cfg0.spec) := by decide
theorem R0_sub : R0 ⊆ Pipeline.restRefs sig (cfg0.spec) \ H0 := by decide
theorem hbmPts0_eq (c : Dev nD) :
    (bigSep H0 (fun b => ((c : Thread nD τ).loc b) ↦{fullShare} V m c b) : sProp 𝕄)
      = iprop(pt c m0 (V m c main_v0) ∗ pt c m1 (V m c main_arg1) ∗ pt c m2 (V m c main_arg2) ∗ pt c m3 (V m c main_v1)) := by
  rw [BI.bigSep_eq_bigSepL_of_eq [main_v0, main_arg1, main_arg2, main_v1] (by decide) (by decide)]; rfl
theorem routedPts0_eq (c : Dev nD) (G : (b : Ref sig .tc) → Buf (Elt F) ((c : Thread nD τ).loc b)) :
    (Pipeline.routed R0 c G : sProp 𝕄) = iprop(pt c m4 (G main_v2_0) ∗ pt c m5 (G main_v2_1) ∗ pt c m6 (G main_v2_2)) := by
  unfold Pipeline.routed; rw [BI.bigSep_eq_bigSepL_of_eq [main_v2_0, main_v2_1, main_v2_2] (by decide) (by decide)]; rfl

end Cert.KernelIdeal.Hand

end
-- ==== Proof.KI.Windows.lean ====
/- Buffers held window by window: each family of windows tiles its buffer along one axis. -/
module

public import proofs.«01_k».proof.Proof.KI.Setup

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem ring_inb (i : Fin 20) : ∀ a, (![i.val, 0, 0] : Fin 3 → ℕ) a + S1x512x4096.size a ≤ S20x512x4096.size a := by revert i; decide
/-- Window `i` of the family. -/
abbrev ringR (i : Fin 20) : Rect S20x512x4096 := Rect.unit (s := S20x512x4096) ![i.val, 0, 0] S1x512x4096.size (ring_inb i)
abbrev ringI (i : Fin 20) : Finset m10.view.ty.Idx := m10.view.setOn (ringR i).set
theorem ring_disj (i i' : Fin 20) (h : i ≠ i') : Disjoint (ringI i) (ringI i') := by
  refine View.disjoint_setOn _ (LoadRect.disjoint_of_separated (ringR i).toLoadRect (ringR i').toLoadRect 0 ?_)
  have h' : i.val ≠ i'.val := fun e => h (Fin.ext e)
  have e1 : (ringR i).toLoadRect.off 0 = 1 * i.val := (Nat.one_mul _).symm
  have e2 : (ringR i').toLoadRect.off 0 = 1 * i'.val := (Nat.one_mul _).symm
  have e3 : (ringR i).toLoadRect.size 0 = 1 := rfl
  have e4 : (ringR i').toLoadRect.size 0 = 1 := rfl
  have e5 : (ringR i).toLoadRect.stride 0 = 1 := rfl
  have e6 : (ringR i').toLoadRect.stride 0 = 1 := rfl
  rw [e1, e2, e3, e4, e5, e6]; omega
theorem ring_mem (i : Fin 20) (y : S20x512x4096.Idx) : y ∈ ringI i ↔ (y 0).val / 1 = i.val := by
  refine (View.mem_setOn (v := m10.view) (x := y)).trans (LoadRect.mem_set (r := (ringR i).toLoadRect) (i := y) |>.trans ?_)
  constructor
  · intro h
    obtain ⟨j, hj, e⟩ := h 0
    have hj' : j < 1 := hj
    have e' : (y 0).val = 1 * i.val + 1 * j := by rw [Nat.one_mul]; exact e
    omega
  · intro h a
    fin_cases a
    · exact ⟨(y 0).val - 1 * i.val, by show (y 0).val - 1 * i.val < 1; omega, by show (y 0).val = i.val + 1 * ((y 0).val - 1 * i.val); omega⟩
    · exact ⟨(y 1).val, (y 1).isLt, by show (y 1).val = 0 + 1 * (y 1).val; omega⟩
    · exact ⟨(y 2).val, (y 2).isLt, by show (y 2).val = 0 + 1 * (y 2).val; omega⟩
theorem ring_cover : (Finset.univ : Finset (Fin 20)).biUnion ringI = Finset.univ := by
  ext y
  simp only [Finset.mem_biUnion, Finset.mem_univ, true_and, iff_true]
  have hy : (y 0).val < 20 := (y 0).isLt
  exact ⟨⟨(y 0).val / 1, by omega⟩, (ring_mem _ y).mpr rfl⟩
theorem ringR_0 : ringR 0 = Rect.unit (s := S20x512x4096) ![0, 0, 0] S1x512x4096.size inb_S20x512x4096_S1x512x4096_0_0_0 := rfl
theorem ringR_1 : ringR 1 = Rect.unit (s := S20x512x4096) ![1, 0, 0] S1x512x4096.size inb_S20x512x4096_S1x512x4096_1_0_0 := rfl
theorem ringR_2 : ringR 2 = Rect.unit (s := S20x512x4096) ![2, 0, 0] S1x512x4096.size inb_S20x512x4096_S1x512x4096_2_0_0 := rfl
theorem ringR_3 : ringR 3 = Rect.unit (s := S20x512x4096) ![3, 0, 0] S1x512x4096.size inb_S20x512x4096_S1x512x4096_3_0_0 := rfl
theorem ringR_4 : ringR 4 = Rect.unit (s := S20x512x4096) ![4, 0, 0] S1x512x4096.size inb_S20x512x4096_S1x512x4096_4_0_0 := rfl
theorem ringR_5 : ringR 5 = Rect.unit (s := S20x512x4096) ![5, 0, 0] S1x512x4096.size inb_S20x512x4096_S1x512x4096_5_0_0 := rfl
theorem ringR_6 : ringR 6 = Rect.unit (s := S20x512x4096) ![6, 0, 0] S1x512x4096.size inb_S20x512x4096_S1x512x4096_6_0_0 := rfl
theorem ringR_7 : ringR 7 = Rect.unit (s := S20x512x4096) ![7, 0, 0] S1x512x4096.size inb_S20x512x4096_S1x512x4096_7_0_0 := rfl
theorem ringR_8 : ringR 8 = Rect.unit (s := S20x512x4096) ![8, 0, 0] S1x512x4096.size inb_S20x512x4096_S1x512x4096_8_0_0 := rfl
theorem ringR_9 : ringR 9 = Rect.unit (s := S20x512x4096) ![9, 0, 0] S1x512x4096.size inb_S20x512x4096_S1x512x4096_9_0_0 := rfl
theorem ringR_10 : ringR 10 = Rect.unit (s := S20x512x4096) ![10, 0, 0] S1x512x4096.size inb_S20x512x4096_S1x512x4096_10_0_0 := rfl
theorem ringR_11 : ringR 11 = Rect.unit (s := S20x512x4096) ![11, 0, 0] S1x512x4096.size inb_S20x512x4096_S1x512x4096_11_0_0 := rfl
theorem ringR_12 : ringR 12 = Rect.unit (s := S20x512x4096) ![12, 0, 0] S1x512x4096.size inb_S20x512x4096_S1x512x4096_12_0_0 := rfl
theorem ringR_13 : ringR 13 = Rect.unit (s := S20x512x4096) ![13, 0, 0] S1x512x4096.size inb_S20x512x4096_S1x512x4096_13_0_0 := rfl
theorem ringR_14 : ringR 14 = Rect.unit (s := S20x512x4096) ![14, 0, 0] S1x512x4096.size inb_S20x512x4096_S1x512x4096_14_0_0 := rfl
theorem ringR_15 : ringR 15 = Rect.unit (s := S20x512x4096) ![15, 0, 0] S1x512x4096.size inb_S20x512x4096_S1x512x4096_15_0_0 := rfl
theorem ringR_16 : ringR 16 = Rect.unit (s := S20x512x4096) ![16, 0, 0] S1x512x4096.size inb_S20x512x4096_S1x512x4096_16_0_0 := rfl
theorem ringR_17 : ringR 17 = Rect.unit (s := S20x512x4096) ![17, 0, 0] S1x512x4096.size inb_S20x512x4096_S1x512x4096_17_0_0 := rfl
theorem ringR_18 : ringR 18 = Rect.unit (s := S20x512x4096) ![18, 0, 0] S1x512x4096.size inb_S20x512x4096_S1x512x4096_18_0_0 := rfl
theorem ringR_19 : ringR 19 = Rect.unit (s := S20x512x4096) ![19, 0, 0] S1x512x4096.size inb_S20x512x4096_S1x512x4096_19_0_0 := rfl
set_option maxRecDepth 8192 in
theorem ring_chain (c : Dev nD) (f : Fin 20 → BufOf (F := F) c m10) :
    (bigSep Finset.univ (fun b : Fin 20 => m10.view.loc (c : Thread nD τ) ↦[ringI b]{fullShare} f b) : sProp 𝕄)
      = iprop(ptW c m10 (Rect.unit (s := S20x512x4096) ![0, 0, 0] S1x512x4096.size inb_S20x512x4096_S1x512x4096_0_0_0) (f 0) ∗ ptW c m10 (Rect.unit (s := S20x512x4096) ![1, 0, 0] S1x512x4096.size inb_S20x512x4096_S1x512x4096_1_0_0) (f 1) ∗ ptW c m10 (Rect.unit (s := S20x512x4096) ![2, 0, 0] S1x512x4096.size inb_S20x512x4096_S1x512x4096_2_0_0) (f 2) ∗ ptW c m10 (Rect.unit (s := S20x512x4096) ![3, 0, 0] S1x512x4096.size inb_S20x512x4096_S1x512x4096_3_0_0) (f 3) ∗ ptW c m10 (Rect.unit (s := S20x512x4096) ![4, 0, 0] S1x512x4096.size inb_S20x512x4096_S1x512x4096_4_0_0) (f 4) ∗ ptW c m10 (Rect.unit (s := S20x512x4096) ![5, 0, 0] S1x512x4096.size inb_S20x512x4096_S1x512x4096_5_0_0) (f 5) ∗ ptW c m10 (Rect.unit (s := S20x512x4096) ![6, 0, 0] S1x512x4096.size inb_S20x512x4096_S1x512x4096_6_0_0) (f 6) ∗ ptW c m10 (Rect.unit (s := S20x512x4096) ![7, 0, 0] S1x512x4096.size inb_S20x512x4096_S1x512x4096_7_0_0) (f 7) ∗ ptW c m10 (Rect.unit (s := S20x512x4096) ![8, 0, 0] S1x512x4096.size inb_S20x512x4096_S1x512x4096_8_0_0) (f 8) ∗ ptW c m10 (Rect.unit (s := S20x512x4096) ![9, 0, 0] S1x512x4096.size inb_S20x512x4096_S1x512x4096_9_0_0) (f 9) ∗ ptW c m10 (Rect.unit (s := S20x512x4096) ![10, 0, 0] S1x512x4096.size inb_S20x512x4096_S1x512x4096_10_0_0) (f 10) ∗ ptW c m10 (Rect.unit (s := S20x512x4096) ![11, 0, 0] S1x512x4096.size inb_S20x512x4096_S1x512x4096_11_0_0) (f 11) ∗ ptW c m10 (Rect.unit (s := S20x512x4096) ![12, 0, 0] S1x512x4096.size inb_S20x512x4096_S1x512x4096_12_0_0) (f 12) ∗ ptW c m10 (Rect.unit (s := S20x512x4096) ![13, 0, 0] S1x512x4096.size inb_S20x512x4096_S1x512x4096_13_0_0) (f 13) ∗ ptW c m10 (Rect.unit (s := S20x512x4096) ![14, 0, 0] S1x512x4096.size inb_S20x512x4096_S1x512x4096_14_0_0) (f 14) ∗ ptW c m10 (Rect.unit (s := S20x512x4096) ![15, 0, 0] S1x512x4096.size inb_S20x512x4096_S1x512x4096_15_0_0) (f 15) ∗ ptW c m10 (Rect.unit (s := S20x512x4096) ![16, 0, 0] S1x512x4096.size inb_S20x512x4096_S1x512x4096_16_0_0) (f 16) ∗ ptW c m10 (Rect.unit (s := S20x512x4096) ![17, 0, 0] S1x512x4096.size inb_S20x512x4096_S1x512x4096_17_0_0) (f 17) ∗ ptW c m10 (Rect.unit (s := S20x512x4096) ![18, 0, 0] S1x512x4096.size inb_S20x512x4096_S1x512x4096_18_0_0) (f 18) ∗ ptW c m10 (Rect.unit (s := S20x512x4096) ![19, 0, 0] S1x512x4096.size inb_S20x512x4096_S1x512x4096_19_0_0) (f 19)) := by
  rw [BI.bigSep_eq_bigSepL_of_eq [0, 1, 2, 3, 4, 5, 6, 7, 8, 9, 10, 11, 12, 13, 14, 15, 16, 17, 18, 19] (by decide) (by decide)]
  refine (show _ = iprop(ptW c m10 (ringR 0) (f 0) ∗ ptW c m10 (ringR 1) (f 1) ∗ ptW c m10 (ringR 2) (f 2) ∗ ptW c m10 (ringR 3) (f 3) ∗ ptW c m10 (ringR 4) (f 4) ∗ ptW c m10 (ringR 5) (f 5) ∗ ptW c m10 (ringR 6) (f 6) ∗ ptW c m10 (ringR 7) (f 7) ∗ ptW c m10 (ringR 8) (f 8) ∗ ptW c m10 (ringR 9) (f 9) ∗ ptW c m10 (ringR 10) (f 10) ∗ ptW c m10 (ringR 11) (f 11) ∗ ptW c m10 (ringR 12) (f 12) ∗ ptW c m10 (ringR 13) (f 13) ∗ ptW c m10 (ringR 14) (f 14) ∗ ptW c m10 (ringR 15) (f 15) ∗ ptW c m10 (ringR 16) (f 16) ∗ ptW c m10 (ringR 17) (f 17) ∗ ptW c m10 (ringR 18) (f 18) ∗ ptW c m10 (ringR 19) (f 19)) from rfl).trans ?_
  rw [ringR_0, ringR_1, ringR_2, ringR_3, ringR_4, ringR_5, ringR_6, ringR_7, ringR_8, ringR_9, ringR_10, ringR_11, ringR_12, ringR_13, ringR_14, ringR_15, ringR_16, ringR_17, ringR_18, ringR_19]
/-- The buffer held whole is held window by window, -/
theorem ring_split (c : Dev nD) (f : BufOf (F := F) c m10) :
    (pt c m10 f : sProp 𝕄) ⊢ iprop(ptW c m10 (Rect.unit (s := S20x512x4096) ![0, 0, 0] S1x512x4096.size inb_S20x512x4096_S1x512x4096_0_0_0) f ∗ ptW c m10 (Rect.unit (s := S20x512x4096) ![1, 0, 0] S1x512x4096.size inb_S20x512x4096_S1x512x4096_1_0_0) f ∗ ptW c m10 (Rect.unit (s := S20x512x4096) ![2, 0, 0] S1x512x4096.size inb_S20x512x4096_S1x512x4096_2_0_0) f ∗ ptW c m10 (Rect.unit (s := S20x512x4096) ![3, 0, 0] S1x512x4096.size inb_S20x512x4096_S1x512x4096_3_0_0) f ∗ ptW c m10 (Rect.unit (s := S20x512x4096) ![4, 0, 0] S1x512x4096.size inb_S20x512x4096_S1x512x4096_4_0_0) f ∗ ptW c m10 (Rect.unit (s := S20x512x4096) ![5, 0, 0] S1x512x4096.size inb_S20x512x4096_S1x512x4096_5_0_0) f ∗ ptW c m10 (Rect.unit (s := S20x512x4096) ![6, 0, 0] S1x512x4096.size inb_S20x512x4096_S1x512x4096_6_0_0) f ∗ ptW c m10 (Rect.unit (s := S20x512x4096) ![7, 0, 0] S1x512x4096.size inb_S20x512x4096_S1x512x4096_7_0_0) f ∗ ptW c m10 (Rect.unit (s := S20x512x4096) ![8, 0, 0] S1x512x4096.size inb_S20x512x4096_S1x512x4096_8_0_0) f ∗ ptW c m10 (Rect.unit (s := S20x512x4096) ![9, 0, 0] S1x512x4096.size inb_S20x512x4096_S1x512x4096_9_0_0) f ∗ ptW c m10 (Rect.unit (s := S20x512x4096) ![10, 0, 0] S1x512x4096.size inb_S20x512x4096_S1x512x4096_10_0_0) f ∗ ptW c m10 (Rect.unit (s := S20x512x4096) ![11, 0, 0] S1x512x4096.size inb_S20x512x4096_S1x512x4096_11_0_0) f ∗ ptW c m10 (Rect.unit (s := S20x512x4096) ![12, 0, 0] S1x512x4096.size inb_S20x512x4096_S1x512x4096_12_0_0) f ∗ ptW c m10 (Rect.unit (s := S20x512x4096) ![13, 0, 0] S1x512x4096.size inb_S20x512x4096_S1x512x4096_13_0_0) f ∗ ptW c m10 (Rect.unit (s := S20x512x4096) ![14, 0, 0] S1x512x4096.size inb_S20x512x4096_S1x512x4096_14_0_0) f ∗ ptW c m10 (Rect.unit (s := S20x512x4096) ![15, 0, 0] S1x512x4096.size inb_S20x512x4096_S1x512x4096_15_0_0) f ∗ ptW c m10 (Rect.unit (s := S20x512x4096) ![16, 0, 0] S1x512x4096.size inb_S20x512x4096_S1x512x4096_16_0_0) f ∗ ptW c m10 (Rect.unit (s := S20x512x4096) ![17, 0, 0] S1x512x4096.size inb_S20x512x4096_S1x512x4096_17_0_0) f ∗ ptW c m10 (Rect.unit (s := S20x512x4096) ![18, 0, 0] S1x512x4096.size inb_S20x512x4096_S1x512x4096_18_0_0) f ∗ ptW c m10 (Rect.unit (s := S20x512x4096) ![19, 0, 0] S1x512x4096.size inb_S20x512x4096_S1x512x4096_19_0_0) f) := by
  rw [← ring_chain c (fun _ => f)]
  exact Entails.of_eq (Ring.pointsTo_blocks (Ix := Unit) (Name := ℕ) (U := Pipeline.UD sig nD τ) (Lvl := ℕ) (q := fullShare)
    (ℓ := m10.view.loc (c : Thread nD τ)) ringI ring_disj ring_cover f)
/-- and window by window, each at contents of its own, joins to the buffer held whole at contents that agree with each on its window. -/
theorem ring_join (c : Dev nD) (f : Fin 20 → BufOf (F := F) c m10) :
    iprop(ptW c m10 (Rect.unit (s := S20x512x4096) ![0, 0, 0] S1x512x4096.size inb_S20x512x4096_S1x512x4096_0_0_0) (f 0) ∗ ptW c m10 (Rect.unit (s := S20x512x4096) ![1, 0, 0] S1x512x4096.size inb_S20x512x4096_S1x512x4096_1_0_0) (f 1) ∗ ptW c m10 (Rect.unit (s := S20x512x4096) ![2, 0, 0] S1x512x4096.size inb_S20x512x4096_S1x512x4096_2_0_0) (f 2) ∗ ptW c m10 (Rect.unit (s := S20x512x4096) ![3, 0, 0] S1x512x4096.size inb_S20x512x4096_S1x512x4096_3_0_0) (f 3) ∗ ptW c m10 (Rect.unit (s := S20x512x4096) ![4, 0, 0] S1x512x4096.size inb_S20x512x4096_S1x512x4096_4_0_0) (f 4) ∗ ptW c m10 (Rect.unit (s := S20x512x4096) ![5, 0, 0] S1x512x4096.size inb_S20x512x4096_S1x512x4096_5_0_0) (f 5) ∗ ptW c m10 (Rect.unit (s := S20x512x4096) ![6, 0, 0] S1x512x4096.size inb_S20x512x4096_S1x512x4096_6_0_0) (f 6) ∗ ptW c m10 (Rect.unit (s := S20x512x4096) ![7, 0, 0] S1x512x4096.size inb_S20x512x4096_S1x512x4096_7_0_0) (f 7) ∗ ptW c m10 (Rect.unit (s := S20x512x4096) ![8, 0, 0] S1x512x4096.size inb_S20x512x4096_S1x512x4096_8_0_0) (f 8) ∗ ptW c m10 (Rect.unit (s := S20x512x4096) ![9, 0, 0] S1x512x4096.size inb_S20x512x4096_S1x512x4096_9_0_0) (f 9) ∗ ptW c m10 (Rect.unit (s := S20x512x4096) ![10, 0, 0] S1x512x4096.size inb_S20x512x4096_S1x512x4096_10_0_0) (f 10) ∗ ptW c m10 (Rect.unit (s := S20x512x4096) ![11, 0, 0] S1x512x4096.size inb_S20x512x4096_S1x512x4096_11_0_0) (f 11) ∗ ptW c m10 (Rect.unit (s := S20x512x4096) ![12, 0, 0] S1x512x4096.size inb_S20x512x4096_S1x512x4096_12_0_0) (f 12) ∗ ptW c m10 (Rect.unit (s := S20x512x4096) ![13, 0, 0] S1x512x4096.size inb_S20x512x4096_S1x512x4096_13_0_0) (f 13) ∗ ptW c m10 (Rect.unit (s := S20x512x4096) ![14, 0, 0] S1x512x4096.size inb_S20x512x4096_S1x512x4096_14_0_0) (f 14) ∗ ptW c m10 (Rect.unit (s := S20x512x4096) ![15, 0, 0] S1x512x4096.size inb_S20x512x4096_S1x512x4096_15_0_0) (f 15) ∗ ptW c m10 (Rect.unit (s := S20x512x4096) ![16, 0, 0] S1x512x4096.size inb_S20x512x4096_S1x512x4096_16_0_0) (f 16) ∗ ptW c m10 (Rect.unit (s := S20x512x4096) ![17, 0, 0] S1x512x4096.size inb_S20x512x4096_S1x512x4096_17_0_0) (f 17) ∗ ptW c m10 (Rect.unit (s := S20x512x4096) ![18, 0, 0] S1x512x4096.size inb_S20x512x4096_S1x512x4096_18_0_0) (f 18) ∗ ptW c m10 (Rect.unit (s := S20x512x4096) ![19, 0, 0] S1x512x4096.size inb_S20x512x4096_S1x512x4096_19_0_0) (f 19)) ⊢ (iprop(∃ g : BufOf (F := F) c m10, ⌜∀ i : Fin 20, ∀ y ∈ ringI i, g y = f i y⌝ ∗ pt c m10 g) : sProp 𝕄) := by
  rw [← ring_chain c f]
  refine (pointsTo_biUnion_join (Ix := Unit) (Name := ℕ) (U := Pipeline.UD sig nD τ) (Lvl := ℕ) (q := fullShare) (ℓ := m10.view.loc (c : Thread nD τ)) Finset.univ ringI f (f 0) (fun b _ b' _ h => ring_disj b b' h)).trans ?_
  rw [ring_cover]
  iintro ⟨%g, %hg, H⟩; iexists g
  isplitr; · ipureintro; exact fun i y hy => hg i (Finset.mem_univ i) y hy
  iexact H

theorem cod_inb (i : Fin 28) : ∀ a, (![i.val, 0, 0] : Fin 3 → ℕ) a + S1x128x512.size a ≤ S28x128x512.size a := by revert i; decide
/-- Window `i` of the family. -/
abbrev codR (i : Fin 28) : Rect S28x128x512 := Rect.unit (s := S28x128x512) ![i.val, 0, 0] S1x128x512.size (cod_inb i)
abbrev codI (i : Fin 28) : Finset m16.view.ty.Idx := m16.view.setOn (codR i).set
theorem cod_disj (i i' : Fin 28) (h : i ≠ i') : Disjoint (codI i) (codI i') := by
  refine View.disjoint_setOn _ (LoadRect.disjoint_of_separated (codR i).toLoadRect (codR i').toLoadRect 0 ?_)
  have h' : i.val ≠ i'.val := fun e => h (Fin.ext e)
  have e1 : (codR i).toLoadRect.off 0 = 1 * i.val := (Nat.one_mul _).symm
  have e2 : (codR i').toLoadRect.off 0 = 1 * i'.val := (Nat.one_mul _).symm
  have e3 : (codR i).toLoadRect.size 0 = 1 := rfl
  have e4 : (codR i').toLoadRect.size 0 = 1 := rfl
  have e5 : (codR i).toLoadRect.stride 0 = 1 := rfl
  have e6 : (codR i').toLoadRect.stride 0 = 1 := rfl
  rw [e1, e2, e3, e4, e5, e6]; omega
theorem cod_mem (i : Fin 28) (y : S28x128x512.Idx) : y ∈ codI i ↔ (y 0).val / 1 = i.val := by
  refine (View.mem_setOn (v := m16.view) (x := y)).trans (LoadRect.mem_set (r := (codR i).toLoadRect) (i := y) |>.trans ?_)
  constructor
  · intro h
    obtain ⟨j, hj, e⟩ := h 0
    have hj' : j < 1 := hj
    have e' : (y 0).val = 1 * i.val + 1 * j := by rw [Nat.one_mul]; exact e
    omega
  · intro h a
    fin_cases a
    · exact ⟨(y 0).val - 1 * i.val, by show (y 0).val - 1 * i.val < 1; omega, by show (y 0).val = i.val + 1 * ((y 0).val - 1 * i.val); omega⟩
    · exact ⟨(y 1).val, (y 1).isLt, by show (y 1).val = 0 + 1 * (y 1).val; omega⟩
    · exact ⟨(y 2).val, (y 2).isLt, by show (y 2).val = 0 + 1 * (y 2).val; omega⟩
theorem cod_cover : (Finset.univ : Finset (Fin 28)).biUnion codI = Finset.univ := by
  ext y
  simp only [Finset.mem_biUnion, Finset.mem_univ, true_and, iff_true]
  have hy : (y 0).val < 28 := (y 0).isLt
  exact ⟨⟨(y 0).val / 1, by omega⟩, (cod_mem _ y).mpr rfl⟩
theorem codR_0 : codR 0 = Rect.unit (s := S28x128x512) ![0, 0, 0] S1x128x512.size inb_S28x128x512_S1x128x512_0_0_0 := rfl
theorem codR_1 : codR 1 = Rect.unit (s := S28x128x512) ![1, 0, 0] S1x128x512.size inb_S28x128x512_S1x128x512_1_0_0 := rfl
theorem codR_2 : codR 2 = Rect.unit (s := S28x128x512) ![2, 0, 0] S1x128x512.size inb_S28x128x512_S1x128x512_2_0_0 := rfl
theorem codR_3 : codR 3 = Rect.unit (s := S28x128x512) ![3, 0, 0] S1x128x512.size inb_S28x128x512_S1x128x512_3_0_0 := rfl
theorem codR_4 : codR 4 = Rect.unit (s := S28x128x512) ![4, 0, 0] S1x128x512.size inb_S28x128x512_S1x128x512_4_0_0 := rfl
theorem codR_5 : codR 5 = Rect.unit (s := S28x128x512) ![5, 0, 0] S1x128x512.size inb_S28x128x512_S1x128x512_5_0_0 := rfl
theorem codR_6 : codR 6 = Rect.unit (s := S28x128x512) ![6, 0, 0] S1x128x512.size inb_S28x128x512_S1x128x512_6_0_0 := rfl
theorem codR_7 : codR 7 = Rect.unit (s := S28x128x512) ![7, 0, 0] S1x128x512.size inb_S28x128x512_S1x128x512_7_0_0 := rfl
theorem codR_8 : codR 8 = Rect.unit (s := S28x128x512) ![8, 0, 0] S1x128x512.size inb_S28x128x512_S1x128x512_8_0_0 := rfl
theorem codR_9 : codR 9 = Rect.unit (s := S28x128x512) ![9, 0, 0] S1x128x512.size inb_S28x128x512_S1x128x512_9_0_0 := rfl
theorem codR_10 : codR 10 = Rect.unit (s := S28x128x512) ![10, 0, 0] S1x128x512.size inb_S28x128x512_S1x128x512_10_0_0 := rfl
theorem codR_11 : codR 11 = Rect.unit (s := S28x128x512) ![11, 0, 0] S1x128x512.size inb_S28x128x512_S1x128x512_11_0_0 := rfl
theorem codR_12 : codR 12 = Rect.unit (s := S28x128x512) ![12, 0, 0] S1x128x512.size inb_S28x128x512_S1x128x512_12_0_0 := rfl
theorem codR_13 : codR 13 = Rect.unit (s := S28x128x512) ![13, 0, 0] S1x128x512.size inb_S28x128x512_S1x128x512_13_0_0 := rfl
theorem codR_14 : codR 14 = Rect.unit (s := S28x128x512) ![14, 0, 0] S1x128x512.size inb_S28x128x512_S1x128x512_14_0_0 := rfl
theorem codR_15 : codR 15 = Rect.unit (s := S28x128x512) ![15, 0, 0] S1x128x512.size inb_S28x128x512_S1x128x512_15_0_0 := rfl
theorem codR_16 : codR 16 = Rect.unit (s := S28x128x512) ![16, 0, 0] S1x128x512.size inb_S28x128x512_S1x128x512_16_0_0 := rfl
theorem codR_17 : codR 17 = Rect.unit (s := S28x128x512) ![17, 0, 0] S1x128x512.size inb_S28x128x512_S1x128x512_17_0_0 := rfl
theorem codR_18 : codR 18 = Rect.unit (s := S28x128x512) ![18, 0, 0] S1x128x512.size inb_S28x128x512_S1x128x512_18_0_0 := rfl
theorem codR_19 : codR 19 = Rect.unit (s := S28x128x512) ![19, 0, 0] S1x128x512.size inb_S28x128x512_S1x128x512_19_0_0 := rfl
theorem codR_20 : codR 20 = Rect.unit (s := S28x128x512) ![20, 0, 0] S1x128x512.size inb_S28x128x512_S1x128x512_20_0_0 := rfl
theorem codR_21 : codR 21 = Rect.unit (s := S28x128x512) ![21, 0, 0] S1x128x512.size inb_S28x128x512_S1x128x512_21_0_0 := rfl
theorem codR_22 : codR 22 = Rect.unit (s := S28x128x512) ![22, 0, 0] S1x128x512.size inb_S28x128x512_S1x128x512_22_0_0 := rfl
theorem codR_23 : codR 23 = Rect.unit (s := S28x128x512) ![23, 0, 0] S1x128x512.size inb_S28x128x512_S1x128x512_23_0_0 := rfl
theorem codR_24 : codR 24 = Rect.unit (s := S28x128x512) ![24, 0, 0] S1x128x512.size inb_S28x128x512_S1x128x512_24_0_0 := rfl
theorem codR_25 : codR 25 = Rect.unit (s := S28x128x512) ![25, 0, 0] S1x128x512.size inb_S28x128x512_S1x128x512_25_0_0 := rfl
theorem codR_26 : codR 26 = Rect.unit (s := S28x128x512) ![26, 0, 0] S1x128x512.size inb_S28x128x512_S1x128x512_26_0_0 := rfl
theorem codR_27 : codR 27 = Rect.unit (s := S28x128x512) ![27, 0, 0] S1x128x512.size inb_S28x128x512_S1x128x512_27_0_0 := rfl
set_option maxRecDepth 8192 in
theorem cod_chain (c : Dev nD) (f : Fin 28 → BufOf (F := F) c m16) :
    (bigSep Finset.univ (fun b : Fin 28 => m16.view.loc (c : Thread nD τ) ↦[codI b]{fullShare} f b) : sProp 𝕄)
      = iprop(ptW c m16 (Rect.unit (s := S28x128x512) ![0, 0, 0] S1x128x512.size inb_S28x128x512_S1x128x512_0_0_0) (f 0) ∗ ptW c m16 (Rect.unit (s := S28x128x512) ![1, 0, 0] S1x128x512.size inb_S28x128x512_S1x128x512_1_0_0) (f 1) ∗ ptW c m16 (Rect.unit (s := S28x128x512) ![2, 0, 0] S1x128x512.size inb_S28x128x512_S1x128x512_2_0_0) (f 2) ∗ ptW c m16 (Rect.unit (s := S28x128x512) ![3, 0, 0] S1x128x512.size inb_S28x128x512_S1x128x512_3_0_0) (f 3) ∗ ptW c m16 (Rect.unit (s := S28x128x512) ![4, 0, 0] S1x128x512.size inb_S28x128x512_S1x128x512_4_0_0) (f 4) ∗ ptW c m16 (Rect.unit (s := S28x128x512) ![5, 0, 0] S1x128x512.size inb_S28x128x512_S1x128x512_5_0_0) (f 5) ∗ ptW c m16 (Rect.unit (s := S28x128x512) ![6, 0, 0] S1x128x512.size inb_S28x128x512_S1x128x512_6_0_0) (f 6) ∗ ptW c m16 (Rect.unit (s := S28x128x512) ![7, 0, 0] S1x128x512.size inb_S28x128x512_S1x128x512_7_0_0) (f 7) ∗ ptW c m16 (Rect.unit (s := S28x128x512) ![8, 0, 0] S1x128x512.size inb_S28x128x512_S1x128x512_8_0_0) (f 8) ∗ ptW c m16 (Rect.unit (s := S28x128x512) ![9, 0, 0] S1x128x512.size inb_S28x128x512_S1x128x512_9_0_0) (f 9) ∗ ptW c m16 (Rect.unit (s := S28x128x512) ![10, 0, 0] S1x128x512.size inb_S28x128x512_S1x128x512_10_0_0) (f 10) ∗ ptW c m16 (Rect.unit (s := S28x128x512) ![11, 0, 0] S1x128x512.size inb_S28x128x512_S1x128x512_11_0_0) (f 11) ∗ ptW c m16 (Rect.unit (s := S28x128x512) ![12, 0, 0] S1x128x512.size inb_S28x128x512_S1x128x512_12_0_0) (f 12) ∗ ptW c m16 (Rect.unit (s := S28x128x512) ![13, 0, 0] S1x128x512.size inb_S28x128x512_S1x128x512_13_0_0) (f 13) ∗ ptW c m16 (Rect.unit (s := S28x128x512) ![14, 0, 0] S1x128x512.size inb_S28x128x512_S1x128x512_14_0_0) (f 14) ∗ ptW c m16 (Rect.unit (s := S28x128x512) ![15, 0, 0] S1x128x512.size inb_S28x128x512_S1x128x512_15_0_0) (f 15) ∗ ptW c m16 (Rect.unit (s := S28x128x512) ![16, 0, 0] S1x128x512.size inb_S28x128x512_S1x128x512_16_0_0) (f 16) ∗ ptW c m16 (Rect.unit (s := S28x128x512) ![17, 0, 0] S1x128x512.size inb_S28x128x512_S1x128x512_17_0_0) (f 17) ∗ ptW c m16 (Rect.unit (s := S28x128x512) ![18, 0, 0] S1x128x512.size inb_S28x128x512_S1x128x512_18_0_0) (f 18) ∗ ptW c m16 (Rect.unit (s := S28x128x512) ![19, 0, 0] S1x128x512.size inb_S28x128x512_S1x128x512_19_0_0) (f 19) ∗ ptW c m16 (Rect.unit (s := S28x128x512) ![20, 0, 0] S1x128x512.size inb_S28x128x512_S1x128x512_20_0_0) (f 20) ∗ ptW c m16 (Rect.unit (s := S28x128x512) ![21, 0, 0] S1x128x512.size inb_S28x128x512_S1x128x512_21_0_0) (f 21) ∗ ptW c m16 (Rect.unit (s := S28x128x512) ![22, 0, 0] S1x128x512.size inb_S28x128x512_S1x128x512_22_0_0) (f 22) ∗ ptW c m16 (Rect.unit (s := S28x128x512) ![23, 0, 0] S1x128x512.size inb_S28x128x512_S1x128x512_23_0_0) (f 23) ∗ ptW c m16 (Rect.unit (s := S28x128x512) ![24, 0, 0] S1x128x512.size inb_S28x128x512_S1x128x512_24_0_0) (f 24) ∗ ptW c m16 (Rect.unit (s := S28x128x512) ![25, 0, 0] S1x128x512.size inb_S28x128x512_S1x128x512_25_0_0) (f 25) ∗ ptW c m16 (Rect.unit (s := S28x128x512) ![26, 0, 0] S1x128x512.size inb_S28x128x512_S1x128x512_26_0_0) (f 26) ∗ ptW c m16 (Rect.unit (s := S28x128x512) ![27, 0, 0] S1x128x512.size inb_S28x128x512_S1x128x512_27_0_0) (f 27)) := by
  rw [BI.bigSep_eq_bigSepL_of_eq [0, 1, 2, 3, 4, 5, 6, 7, 8, 9, 10, 11, 12, 13, 14, 15, 16, 17, 18, 19, 20, 21, 22, 23, 24, 25, 26, 27] (by decide) (by decide)]
  refine (show _ = iprop(ptW c m16 (codR 0) (f 0) ∗ ptW c m16 (codR 1) (f 1) ∗ ptW c m16 (codR 2) (f 2) ∗ ptW c m16 (codR 3) (f 3) ∗ ptW c m16 (codR 4) (f 4) ∗ ptW c m16 (codR 5) (f 5) ∗ ptW c m16 (codR 6) (f 6) ∗ ptW c m16 (codR 7) (f 7) ∗ ptW c m16 (codR 8) (f 8) ∗ ptW c m16 (codR 9) (f 9) ∗ ptW c m16 (codR 10) (f 10) ∗ ptW c m16 (codR 11) (f 11) ∗ ptW c m16 (codR 12) (f 12) ∗ ptW c m16 (codR 13) (f 13) ∗ ptW c m16 (codR 14) (f 14) ∗ ptW c m16 (codR 15) (f 15) ∗ ptW c m16 (codR 16) (f 16) ∗ ptW c m16 (codR 17) (f 17) ∗ ptW c m16 (codR 18) (f 18) ∗ ptW c m16 (codR 19) (f 19) ∗ ptW c m16 (codR 20) (f 20) ∗ ptW c m16 (codR 21) (f 21) ∗ ptW c m16 (codR 22) (f 22) ∗ ptW c m16 (codR 23) (f 23) ∗ ptW c m16 (codR 24) (f 24) ∗ ptW c m16 (codR 25) (f 25) ∗ ptW c m16 (codR 26) (f 26) ∗ ptW c m16 (codR 27) (f 27)) from rfl).trans ?_
  rw [codR_0, codR_1, codR_2, codR_3, codR_4, codR_5, codR_6, codR_7, codR_8, codR_9, codR_10, codR_11, codR_12, codR_13, codR_14, codR_15, codR_16, codR_17, codR_18, codR_19, codR_20, codR_21, codR_22, codR_23, codR_24, codR_25, codR_26, codR_27]
/-- The buffer held whole is held window by window, -/
theorem cod_split (c : Dev nD) (f : BufOf (F := F) c m16) :
    (pt c m16 f : sProp 𝕄) ⊢ iprop(ptW c m16 (Rect.unit (s := S28x128x512) ![0, 0, 0] S1x128x512.size inb_S28x128x512_S1x128x512_0_0_0) f ∗ ptW c m16 (Rect.unit (s := S28x128x512) ![1, 0, 0] S1x128x512.size inb_S28x128x512_S1x128x512_1_0_0) f ∗ ptW c m16 (Rect.unit (s := S28x128x512) ![2, 0, 0] S1x128x512.size inb_S28x128x512_S1x128x512_2_0_0) f ∗ ptW c m16 (Rect.unit (s := S28x128x512) ![3, 0, 0] S1x128x512.size inb_S28x128x512_S1x128x512_3_0_0) f ∗ ptW c m16 (Rect.unit (s := S28x128x512) ![4, 0, 0] S1x128x512.size inb_S28x128x512_S1x128x512_4_0_0) f ∗ ptW c m16 (Rect.unit (s := S28x128x512) ![5, 0, 0] S1x128x512.size inb_S28x128x512_S1x128x512_5_0_0) f ∗ ptW c m16 (Rect.unit (s := S28x128x512) ![6, 0, 0] S1x128x512.size inb_S28x128x512_S1x128x512_6_0_0) f ∗ ptW c m16 (Rect.unit (s := S28x128x512) ![7, 0, 0] S1x128x512.size inb_S28x128x512_S1x128x512_7_0_0) f ∗ ptW c m16 (Rect.unit (s := S28x128x512) ![8, 0, 0] S1x128x512.size inb_S28x128x512_S1x128x512_8_0_0) f ∗ ptW c m16 (Rect.unit (s := S28x128x512) ![9, 0, 0] S1x128x512.size inb_S28x128x512_S1x128x512_9_0_0) f ∗ ptW c m16 (Rect.unit (s := S28x128x512) ![10, 0, 0] S1x128x512.size inb_S28x128x512_S1x128x512_10_0_0) f ∗ ptW c m16 (Rect.unit (s := S28x128x512) ![11, 0, 0] S1x128x512.size inb_S28x128x512_S1x128x512_11_0_0) f ∗ ptW c m16 (Rect.unit (s := S28x128x512) ![12, 0, 0] S1x128x512.size inb_S28x128x512_S1x128x512_12_0_0) f ∗ ptW c m16 (Rect.unit (s := S28x128x512) ![13, 0, 0] S1x128x512.size inb_S28x128x512_S1x128x512_13_0_0) f ∗ ptW c m16 (Rect.unit (s := S28x128x512) ![14, 0, 0] S1x128x512.size inb_S28x128x512_S1x128x512_14_0_0) f ∗ ptW c m16 (Rect.unit (s := S28x128x512) ![15, 0, 0] S1x128x512.size inb_S28x128x512_S1x128x512_15_0_0) f ∗ ptW c m16 (Rect.unit (s := S28x128x512) ![16, 0, 0] S1x128x512.size inb_S28x128x512_S1x128x512_16_0_0) f ∗ ptW c m16 (Rect.unit (s := S28x128x512) ![17, 0, 0] S1x128x512.size inb_S28x128x512_S1x128x512_17_0_0) f ∗ ptW c m16 (Rect.unit (s := S28x128x512) ![18, 0, 0] S1x128x512.size inb_S28x128x512_S1x128x512_18_0_0) f ∗ ptW c m16 (Rect.unit (s := S28x128x512) ![19, 0, 0] S1x128x512.size inb_S28x128x512_S1x128x512_19_0_0) f ∗ ptW c m16 (Rect.unit (s := S28x128x512) ![20, 0, 0] S1x128x512.size inb_S28x128x512_S1x128x512_20_0_0) f ∗ ptW c m16 (Rect.unit (s := S28x128x512) ![21, 0, 0] S1x128x512.size inb_S28x128x512_S1x128x512_21_0_0) f ∗ ptW c m16 (Rect.unit (s := S28x128x512) ![22, 0, 0] S1x128x512.size inb_S28x128x512_S1x128x512_22_0_0) f ∗ ptW c m16 (Rect.unit (s := S28x128x512) ![23, 0, 0] S1x128x512.size inb_S28x128x512_S1x128x512_23_0_0) f ∗ ptW c m16 (Rect.unit (s := S28x128x512) ![24, 0, 0] S1x128x512.size inb_S28x128x512_S1x128x512_24_0_0) f ∗ ptW c m16 (Rect.unit (s := S28x128x512) ![25, 0, 0] S1x128x512.size inb_S28x128x512_S1x128x512_25_0_0) f ∗ ptW c m16 (Rect.unit (s := S28x128x512) ![26, 0, 0] S1x128x512.size inb_S28x128x512_S1x128x512_26_0_0) f ∗ ptW c m16 (Rect.unit (s := S28x128x512) ![27, 0, 0] S1x128x512.size inb_S28x128x512_S1x128x512_27_0_0) f) := by
  rw [← cod_chain c (fun _ => f)]
  exact Entails.of_eq (Ring.pointsTo_blocks (Ix := Unit) (Name := ℕ) (U := Pipeline.UD sig nD τ) (Lvl := ℕ) (q := fullShare)
    (ℓ := m16.view.loc (c : Thread nD τ)) codI cod_disj cod_cover f)
/-- and window by window, each at contents of its own, joins to the buffer held whole at contents that agree with each on its window. -/
theorem cod_join (c : Dev nD) (f : Fin 28 → BufOf (F := F) c m16) :
    iprop(ptW c m16 (Rect.unit (s := S28x128x512) ![0, 0, 0] S1x128x512.size inb_S28x128x512_S1x128x512_0_0_0) (f 0) ∗ ptW c m16 (Rect.unit (s := S28x128x512) ![1, 0, 0] S1x128x512.size inb_S28x128x512_S1x128x512_1_0_0) (f 1) ∗ ptW c m16 (Rect.unit (s := S28x128x512) ![2, 0, 0] S1x128x512.size inb_S28x128x512_S1x128x512_2_0_0) (f 2) ∗ ptW c m16 (Rect.unit (s := S28x128x512) ![3, 0, 0] S1x128x512.size inb_S28x128x512_S1x128x512_3_0_0) (f 3) ∗ ptW c m16 (Rect.unit (s := S28x128x512) ![4, 0, 0] S1x128x512.size inb_S28x128x512_S1x128x512_4_0_0) (f 4) ∗ ptW c m16 (Rect.unit (s := S28x128x512) ![5, 0, 0] S1x128x512.size inb_S28x128x512_S1x128x512_5_0_0) (f 5) ∗ ptW c m16 (Rect.unit (s := S28x128x512) ![6, 0, 0] S1x128x512.size inb_S28x128x512_S1x128x512_6_0_0) (f 6) ∗ ptW c m16 (Rect.unit (s := S28x128x512) ![7, 0, 0] S1x128x512.size inb_S28x128x512_S1x128x512_7_0_0) (f 7) ∗ ptW c m16 (Rect.unit (s := S28x128x512) ![8, 0, 0] S1x128x512.size inb_S28x128x512_S1x128x512_8_0_0) (f 8) ∗ ptW c m16 (Rect.unit (s := S28x128x512) ![9, 0, 0] S1x128x512.size inb_S28x128x512_S1x128x512_9_0_0) (f 9) ∗ ptW c m16 (Rect.unit (s := S28x128x512) ![10, 0, 0] S1x128x512.size inb_S28x128x512_S1x128x512_10_0_0) (f 10) ∗ ptW c m16 (Rect.unit (s := S28x128x512) ![11, 0, 0] S1x128x512.size inb_S28x128x512_S1x128x512_11_0_0) (f 11) ∗ ptW c m16 (Rect.unit (s := S28x128x512) ![12, 0, 0] S1x128x512.size inb_S28x128x512_S1x128x512_12_0_0) (f 12) ∗ ptW c m16 (Rect.unit (s := S28x128x512) ![13, 0, 0] S1x128x512.size inb_S28x128x512_S1x128x512_13_0_0) (f 13) ∗ ptW c m16 (Rect.unit (s := S28x128x512) ![14, 0, 0] S1x128x512.size inb_S28x128x512_S1x128x512_14_0_0) (f 14) ∗ ptW c m16 (Rect.unit (s := S28x128x512) ![15, 0, 0] S1x128x512.size inb_S28x128x512_S1x128x512_15_0_0) (f 15) ∗ ptW c m16 (Rect.unit (s := S28x128x512) ![16, 0, 0] S1x128x512.size inb_S28x128x512_S1x128x512_16_0_0) (f 16) ∗ ptW c m16 (Rect.unit (s := S28x128x512) ![17, 0, 0] S1x128x512.size inb_S28x128x512_S1x128x512_17_0_0) (f 17) ∗ ptW c m16 (Rect.unit (s := S28x128x512) ![18, 0, 0] S1x128x512.size inb_S28x128x512_S1x128x512_18_0_0) (f 18) ∗ ptW c m16 (Rect.unit (s := S28x128x512) ![19, 0, 0] S1x128x512.size inb_S28x128x512_S1x128x512_19_0_0) (f 19) ∗ ptW c m16 (Rect.unit (s := S28x128x512) ![20, 0, 0] S1x128x512.size inb_S28x128x512_S1x128x512_20_0_0) (f 20) ∗ ptW c m16 (Rect.unit (s := S28x128x512) ![21, 0, 0] S1x128x512.size inb_S28x128x512_S1x128x512_21_0_0) (f 21) ∗ ptW c m16 (Rect.unit (s := S28x128x512) ![22, 0, 0] S1x128x512.size inb_S28x128x512_S1x128x512_22_0_0) (f 22) ∗ ptW c m16 (Rect.unit (s := S28x128x512) ![23, 0, 0] S1x128x512.size inb_S28x128x512_S1x128x512_23_0_0) (f 23) ∗ ptW c m16 (Rect.unit (s := S28x128x512) ![24, 0, 0] S1x128x512.size inb_S28x128x512_S1x128x512_24_0_0) (f 24) ∗ ptW c m16 (Rect.unit (s := S28x128x512) ![25, 0, 0] S1x128x512.size inb_S28x128x512_S1x128x512_25_0_0) (f 25) ∗ ptW c m16 (Rect.unit (s := S28x128x512) ![26, 0, 0] S1x128x512.size inb_S28x128x512_S1x128x512_26_0_0) (f 26) ∗ ptW c m16 (Rect.unit (s := S28x128x512) ![27, 0, 0] S1x128x512.size inb_S28x128x512_S1x128x512_27_0_0) (f 27)) ⊢ (iprop(∃ g : BufOf (F := F) c m16, ⌜∀ i : Fin 28, ∀ y ∈ codI i, g y = f i y⌝ ∗ pt c m16 g) : sProp 𝕄) := by
  rw [← cod_chain c f]
  refine (pointsTo_biUnion_join (Ix := Unit) (Name := ℕ) (U := Pipeline.UD sig nD τ) (Lvl := ℕ) (q := fullShare) (ℓ := m16.view.loc (c : Thread nD τ)) Finset.univ codI f (f 0) (fun b _ b' _ h => cod_disj b b' h)).trans ?_
  rw [cod_cover]
  iintro ⟨%g, %hg, H⟩; iexists g
  isplitr; · ipureintro; exact fun i y hy => hg i (Finset.mem_univ i) y hy
  iexact H

theorem hcod_inb (i : Fin 28) : ∀ a, (![0, 512 * i.val] : Fin 2 → ℕ) a + S128x512.size a ≤ S128x14336.size a := by revert i; decide
/-- Window `i` of the family. -/
abbrev hcodR (i : Fin 28) : Rect S128x14336 := Rect.unit (s := S128x14336) ![0, 512 * i.val] S128x512.size (hcod_inb i)
abbrev hcodI (i : Fin 28) : Finset m5.view.ty.Idx := m5.view.setOn (hcodR i).set
theorem hcod_disj (i i' : Fin 28) (h : i ≠ i') : Disjoint (hcodI i) (hcodI i') := by
  refine View.disjoint_setOn _ (LoadRect.disjoint_of_separated (hcodR i).toLoadRect (hcodR i').toLoadRect 1 ?_)
  have h' : i.val ≠ i'.val := fun e => h (Fin.ext e)
  have e1 : (hcodR i).toLoadRect.off 1 = 512 * i.val := rfl
  have e2 : (hcodR i').toLoadRect.off 1 = 512 * i'.val := rfl
  have e3 : (hcodR i).toLoadRect.size 1 = 512 := rfl
  have e4 : (hcodR i').toLoadRect.size 1 = 512 := rfl
  have e5 : (hcodR i).toLoadRect.stride 1 = 1 := rfl
  have e6 : (hcodR i').toLoadRect.stride 1 = 1 := rfl
  rw [e1, e2, e3, e4, e5, e6]; omega
theorem hcod_mem (i : Fin 28) (y : S128x14336.Idx) : y ∈ hcodI i ↔ (y 1).val / 512 = i.val := by
  refine (View.mem_setOn (v := m5.view) (x := y)).trans (LoadRect.mem_set (r := (hcodR i).toLoadRect) (i := y) |>.trans ?_)
  constructor
  · intro h
    obtain ⟨j, hj, e⟩ := h 1
    have hj' : j < 512 := hj
    have e' : (y 1).val = 512 * i.val + 1 * j := e
    omega
  · intro h a
    fin_cases a
    · exact ⟨(y 0).val, (y 0).isLt, by show (y 0).val = 0 + 1 * (y 0).val; omega⟩
    · exact ⟨(y 1).val - 512 * i.val, by show (y 1).val - 512 * i.val < 512; omega, by show (y 1).val = 512 * i.val + 1 * ((y 1).val - 512 * i.val); omega⟩
theorem hcod_cover : (Finset.univ : Finset (Fin 28)).biUnion hcodI = Finset.univ := by
  ext y
  simp only [Finset.mem_biUnion, Finset.mem_univ, true_and, iff_true]
  have hy : (y 1).val < 14336 := (y 1).isLt
  exact ⟨⟨(y 1).val / 512, by omega⟩, (hcod_mem _ y).mpr rfl⟩
theorem hcodR_0 : hcodR 0 = Rect.unit (s := S128x14336) ![0, 0] S128x512.size inb_S128x14336_S128x512_0_0 := rfl
theorem hcodR_1 : hcodR 1 = Rect.unit (s := S128x14336) ![0, 512] S128x512.size inb_S128x14336_S128x512_0_512 := rfl
theorem hcodR_2 : hcodR 2 = Rect.unit (s := S128x14336) ![0, 1024] S128x512.size inb_S128x14336_S128x512_0_1024 := rfl
theorem hcodR_3 : hcodR 3 = Rect.unit (s := S128x14336) ![0, 1536] S128x512.size inb_S128x14336_S128x512_0_1536 := rfl
theorem hcodR_4 : hcodR 4 = Rect.unit (s := S128x14336) ![0, 2048] S128x512.size inb_S128x14336_S128x512_0_2048 := rfl
theorem hcodR_5 : hcodR 5 = Rect.unit (s := S128x14336) ![0, 2560] S128x512.size inb_S128x14336_S128x512_0_2560 := rfl
theorem hcodR_6 : hcodR 6 = Rect.unit (s := S128x14336) ![0, 3072] S128x512.size inb_S128x14336_S128x512_0_3072 := rfl
theorem hcodR_7 : hcodR 7 = Rect.unit (s := S128x14336) ![0, 3584] S128x512.size inb_S128x14336_S128x512_0_3584 := rfl
theorem hcodR_8 : hcodR 8 = Rect.unit (s := S128x14336) ![0, 4096] S128x512.size inb_S128x14336_S128x512_0_4096 := rfl
theorem hcodR_9 : hcodR 9 = Rect.unit (s := S128x14336) ![0, 4608] S128x512.size inb_S128x14336_S128x512_0_4608 := rfl
theorem hcodR_10 : hcodR 10 = Rect.unit (s := S128x14336) ![0, 5120] S128x512.size inb_S128x14336_S128x512_0_5120 := rfl
theorem hcodR_11 : hcodR 11 = Rect.unit (s := S128x14336) ![0, 5632] S128x512.size inb_S128x14336_S128x512_0_5632 := rfl
theorem hcodR_12 : hcodR 12 = Rect.unit (s := S128x14336) ![0, 6144] S128x512.size inb_S128x14336_S128x512_0_6144 := rfl
theorem hcodR_13 : hcodR 13 = Rect.unit (s := S128x14336) ![0, 6656] S128x512.size inb_S128x14336_S128x512_0_6656 := rfl
theorem hcodR_14 : hcodR 14 = Rect.unit (s := S128x14336) ![0, 7168] S128x512.size inb_S128x14336_S128x512_0_7168 := rfl
theorem hcodR_15 : hcodR 15 = Rect.unit (s := S128x14336) ![0, 7680] S128x512.size inb_S128x14336_S128x512_0_7680 := rfl
theorem hcodR_16 : hcodR 16 = Rect.unit (s := S128x14336) ![0, 8192] S128x512.size inb_S128x14336_S128x512_0_8192 := rfl
theorem hcodR_17 : hcodR 17 = Rect.unit (s := S128x14336) ![0, 8704] S128x512.size inb_S128x14336_S128x512_0_8704 := rfl
theorem hcodR_18 : hcodR 18 = Rect.unit (s := S128x14336) ![0, 9216] S128x512.size inb_S128x14336_S128x512_0_9216 := rfl
theorem hcodR_19 : hcodR 19 = Rect.unit (s := S128x14336) ![0, 9728] S128x512.size inb_S128x14336_S128x512_0_9728 := rfl
theorem hcodR_20 : hcodR 20 = Rect.unit (s := S128x14336) ![0, 10240] S128x512.size inb_S128x14336_S128x512_0_10240 := rfl
theorem hcodR_21 : hcodR 21 = Rect.unit (s := S128x14336) ![0, 10752] S128x512.size inb_S128x14336_S128x512_0_10752 := rfl
theorem hcodR_22 : hcodR 22 = Rect.unit (s := S128x14336) ![0, 11264] S128x512.size inb_S128x14336_S128x512_0_11264 := rfl
theorem hcodR_23 : hcodR 23 = Rect.unit (s := S128x14336) ![0, 11776] S128x512.size inb_S128x14336_S128x512_0_11776 := rfl
theorem hcodR_24 : hcodR 24 = Rect.unit (s := S128x14336) ![0, 12288] S128x512.size inb_S128x14336_S128x512_0_12288 := rfl
theorem hcodR_25 : hcodR 25 = Rect.unit (s := S128x14336) ![0, 12800] S128x512.size inb_S128x14336_S128x512_0_12800 := rfl
theorem hcodR_26 : hcodR 26 = Rect.unit (s := S128x14336) ![0, 13312] S128x512.size inb_S128x14336_S128x512_0_13312 := rfl
theorem hcodR_27 : hcodR 27 = Rect.unit (s := S128x14336) ![0, 13824] S128x512.size inb_S128x14336_S128x512_0_13824 := rfl
set_option maxRecDepth 8192 in
theorem hcod_chain (c : Dev nD) (f : Fin 28 → BufOf (F := F) c m5) :
    (bigSep Finset.univ (fun b : Fin 28 => m5.view.loc (c : Thread nD τ) ↦[hcodI b]{fullShare} f b) : sProp 𝕄)
      = iprop(ptW c m5 (Rect.unit (s := S128x14336) ![0, 0] S128x512.size inb_S128x14336_S128x512_0_0) (f 0) ∗ ptW c m5 (Rect.unit (s := S128x14336) ![0, 512] S128x512.size inb_S128x14336_S128x512_0_512) (f 1) ∗ ptW c m5 (Rect.unit (s := S128x14336) ![0, 1024] S128x512.size inb_S128x14336_S128x512_0_1024) (f 2) ∗ ptW c m5 (Rect.unit (s := S128x14336) ![0, 1536] S128x512.size inb_S128x14336_S128x512_0_1536) (f 3) ∗ ptW c m5 (Rect.unit (s := S128x14336) ![0, 2048] S128x512.size inb_S128x14336_S128x512_0_2048) (f 4) ∗ ptW c m5 (Rect.unit (s := S128x14336) ![0, 2560] S128x512.size inb_S128x14336_S128x512_0_2560) (f 5) ∗ ptW c m5 (Rect.unit (s := S128x14336) ![0, 3072] S128x512.size inb_S128x14336_S128x512_0_3072) (f 6) ∗ ptW c m5 (Rect.unit (s := S128x14336) ![0, 3584] S128x512.size inb_S128x14336_S128x512_0_3584) (f 7) ∗ ptW c m5 (Rect.unit (s := S128x14336) ![0, 4096] S128x512.size inb_S128x14336_S128x512_0_4096) (f 8) ∗ ptW c m5 (Rect.unit (s := S128x14336) ![0, 4608] S128x512.size inb_S128x14336_S128x512_0_4608) (f 9) ∗ ptW c m5 (Rect.unit (s := S128x14336) ![0, 5120] S128x512.size inb_S128x14336_S128x512_0_5120) (f 10) ∗ ptW c m5 (Rect.unit (s := S128x14336) ![0, 5632] S128x512.size inb_S128x14336_S128x512_0_5632) (f 11) ∗ ptW c m5 (Rect.unit (s := S128x14336) ![0, 6144] S128x512.size inb_S128x14336_S128x512_0_6144) (f 12) ∗ ptW c m5 (Rect.unit (s := S128x14336) ![0, 6656] S128x512.size inb_S128x14336_S128x512_0_6656) (f 13) ∗ ptW c m5 (Rect.unit (s := S128x14336) ![0, 7168] S128x512.size inb_S128x14336_S128x512_0_7168) (f 14) ∗ ptW c m5 (Rect.unit (s := S128x14336) ![0, 7680] S128x512.size inb_S128x14336_S128x512_0_7680) (f 15) ∗ ptW c m5 (Rect.unit (s := S128x14336) ![0, 8192] S128x512.size inb_S128x14336_S128x512_0_8192) (f 16) ∗ ptW c m5 (Rect.unit (s := S128x14336) ![0, 8704] S128x512.size inb_S128x14336_S128x512_0_8704) (f 17) ∗ ptW c m5 (Rect.unit (s := S128x14336) ![0, 9216] S128x512.size inb_S128x14336_S128x512_0_9216) (f 18) ∗ ptW c m5 (Rect.unit (s := S128x14336) ![0, 9728] S128x512.size inb_S128x14336_S128x512_0_9728) (f 19) ∗ ptW c m5 (Rect.unit (s := S128x14336) ![0, 10240] S128x512.size inb_S128x14336_S128x512_0_10240) (f 20) ∗ ptW c m5 (Rect.unit (s := S128x14336) ![0, 10752] S128x512.size inb_S128x14336_S128x512_0_10752) (f 21) ∗ ptW c m5 (Rect.unit (s := S128x14336) ![0, 11264] S128x512.size inb_S128x14336_S128x512_0_11264) (f 22) ∗ ptW c m5 (Rect.unit (s := S128x14336) ![0, 11776] S128x512.size inb_S128x14336_S128x512_0_11776) (f 23) ∗ ptW c m5 (Rect.unit (s := S128x14336) ![0, 12288] S128x512.size inb_S128x14336_S128x512_0_12288) (f 24) ∗ ptW c m5 (Rect.unit (s := S128x14336) ![0, 12800] S128x512.size inb_S128x14336_S128x512_0_12800) (f 25) ∗ ptW c m5 (Rect.unit (s := S128x14336) ![0, 13312] S128x512.size inb_S128x14336_S128x512_0_13312) (f 26) ∗ ptW c m5 (Rect.unit (s := S128x14336) ![0, 13824] S128x512.size inb_S128x14336_S128x512_0_13824) (f 27)) := by
  rw [BI.bigSep_eq_bigSepL_of_eq [0, 1, 2, 3, 4, 5, 6, 7, 8, 9, 10, 11, 12, 13, 14, 15, 16, 17, 18, 19, 20, 21, 22, 23, 24, 25, 26, 27] (by decide) (by decide)]
  refine (show _ = iprop(ptW c m5 (hcodR 0) (f 0) ∗ ptW c m5 (hcodR 1) (f 1) ∗ ptW c m5 (hcodR 2) (f 2) ∗ ptW c m5 (hcodR 3) (f 3) ∗ ptW c m5 (hcodR 4) (f 4) ∗ ptW c m5 (hcodR 5) (f 5) ∗ ptW c m5 (hcodR 6) (f 6) ∗ ptW c m5 (hcodR 7) (f 7) ∗ ptW c m5 (hcodR 8) (f 8) ∗ ptW c m5 (hcodR 9) (f 9) ∗ ptW c m5 (hcodR 10) (f 10) ∗ ptW c m5 (hcodR 11) (f 11) ∗ ptW c m5 (hcodR 12) (f 12) ∗ ptW c m5 (hcodR 13) (f 13) ∗ ptW c m5 (hcodR 14) (f 14) ∗ ptW c m5 (hcodR 15) (f 15) ∗ ptW c m5 (hcodR 16) (f 16) ∗ ptW c m5 (hcodR 17) (f 17) ∗ ptW c m5 (hcodR 18) (f 18) ∗ ptW c m5 (hcodR 19) (f 19) ∗ ptW c m5 (hcodR 20) (f 20) ∗ ptW c m5 (hcodR 21) (f 21) ∗ ptW c m5 (hcodR 22) (f 22) ∗ ptW c m5 (hcodR 23) (f 23) ∗ ptW c m5 (hcodR 24) (f 24) ∗ ptW c m5 (hcodR 25) (f 25) ∗ ptW c m5 (hcodR 26) (f 26) ∗ ptW c m5 (hcodR 27) (f 27)) from rfl).trans ?_
  rw [hcodR_0, hcodR_1, hcodR_2, hcodR_3, hcodR_4, hcodR_5, hcodR_6, hcodR_7, hcodR_8, hcodR_9, hcodR_10, hcodR_11, hcodR_12, hcodR_13, hcodR_14, hcodR_15, hcodR_16, hcodR_17, hcodR_18, hcodR_19, hcodR_20, hcodR_21, hcodR_22, hcodR_23, hcodR_24, hcodR_25, hcodR_26, hcodR_27]
/-- The buffer held whole is held window by window, -/
theorem hcod_split (c : Dev nD) (f : BufOf (F := F) c m5) :
    (pt c m5 f : sProp 𝕄) ⊢ iprop(ptW c m5 (Rect.unit (s := S128x14336) ![0, 0] S128x512.size inb_S128x14336_S128x512_0_0) f ∗ ptW c m5 (Rect.unit (s := S128x14336) ![0, 512] S128x512.size inb_S128x14336_S128x512_0_512) f ∗ ptW c m5 (Rect.unit (s := S128x14336) ![0, 1024] S128x512.size inb_S128x14336_S128x512_0_1024) f ∗ ptW c m5 (Rect.unit (s := S128x14336) ![0, 1536] S128x512.size inb_S128x14336_S128x512_0_1536) f ∗ ptW c m5 (Rect.unit (s := S128x14336) ![0, 2048] S128x512.size inb_S128x14336_S128x512_0_2048) f ∗ ptW c m5 (Rect.unit (s := S128x14336) ![0, 2560] S128x512.size inb_S128x14336_S128x512_0_2560) f ∗ ptW c m5 (Rect.unit (s := S128x14336) ![0, 3072] S128x512.size inb_S128x14336_S128x512_0_3072) f ∗ ptW c m5 (Rect.unit (s := S128x14336) ![0, 3584] S128x512.size inb_S128x14336_S128x512_0_3584) f ∗ ptW c m5 (Rect.unit (s := S128x14336) ![0, 4096] S128x512.size inb_S128x14336_S128x512_0_4096) f ∗ ptW c m5 (Rect.unit (s := S128x14336) ![0, 4608] S128x512.size inb_S128x14336_S128x512_0_4608) f ∗ ptW c m5 (Rect.unit (s := S128x14336) ![0, 5120] S128x512.size inb_S128x14336_S128x512_0_5120) f ∗ ptW c m5 (Rect.unit (s := S128x14336) ![0, 5632] S128x512.size inb_S128x14336_S128x512_0_5632) f ∗ ptW c m5 (Rect.unit (s := S128x14336) ![0, 6144] S128x512.size inb_S128x14336_S128x512_0_6144) f ∗ ptW c m5 (Rect.unit (s := S128x14336) ![0, 6656] S128x512.size inb_S128x14336_S128x512_0_6656) f ∗ ptW c m5 (Rect.unit (s := S128x14336) ![0, 7168] S128x512.size inb_S128x14336_S128x512_0_7168) f ∗ ptW c m5 (Rect.unit (s := S128x14336) ![0, 7680] S128x512.size inb_S128x14336_S128x512_0_7680) f ∗ ptW c m5 (Rect.unit (s := S128x14336) ![0, 8192] S128x512.size inb_S128x14336_S128x512_0_8192) f ∗ ptW c m5 (Rect.unit (s := S128x14336) ![0, 8704] S128x512.size inb_S128x14336_S128x512_0_8704) f ∗ ptW c m5 (Rect.unit (s := S128x14336) ![0, 9216] S128x512.size inb_S128x14336_S128x512_0_9216) f ∗ ptW c m5 (Rect.unit (s := S128x14336) ![0, 9728] S128x512.size inb_S128x14336_S128x512_0_9728) f ∗ ptW c m5 (Rect.unit (s := S128x14336) ![0, 10240] S128x512.size inb_S128x14336_S128x512_0_10240) f ∗ ptW c m5 (Rect.unit (s := S128x14336) ![0, 10752] S128x512.size inb_S128x14336_S128x512_0_10752) f ∗ ptW c m5 (Rect.unit (s := S128x14336) ![0, 11264] S128x512.size inb_S128x14336_S128x512_0_11264) f ∗ ptW c m5 (Rect.unit (s := S128x14336) ![0, 11776] S128x512.size inb_S128x14336_S128x512_0_11776) f ∗ ptW c m5 (Rect.unit (s := S128x14336) ![0, 12288] S128x512.size inb_S128x14336_S128x512_0_12288) f ∗ ptW c m5 (Rect.unit (s := S128x14336) ![0, 12800] S128x512.size inb_S128x14336_S128x512_0_12800) f ∗ ptW c m5 (Rect.unit (s := S128x14336) ![0, 13312] S128x512.size inb_S128x14336_S128x512_0_13312) f ∗ ptW c m5 (Rect.unit (s := S128x14336) ![0, 13824] S128x512.size inb_S128x14336_S128x512_0_13824) f) := by
  rw [← hcod_chain c (fun _ => f)]
  exact Entails.of_eq (Ring.pointsTo_blocks (Ix := Unit) (Name := ℕ) (U := Pipeline.UD sig nD τ) (Lvl := ℕ) (q := fullShare)
    (ℓ := m5.view.loc (c : Thread nD τ)) hcodI hcod_disj hcod_cover f)
/-- and window by window, each at contents of its own, joins to the buffer held whole at contents that agree with each on its window. -/
theorem hcod_join (c : Dev nD) (f : Fin 28 → BufOf (F := F) c m5) :
    iprop(ptW c m5 (Rect.unit (s := S128x14336) ![0, 0] S128x512.size inb_S128x14336_S128x512_0_0) (f 0) ∗ ptW c m5 (Rect.unit (s := S128x14336) ![0, 512] S128x512.size inb_S128x14336_S128x512_0_512) (f 1) ∗ ptW c m5 (Rect.unit (s := S128x14336) ![0, 1024] S128x512.size inb_S128x14336_S128x512_0_1024) (f 2) ∗ ptW c m5 (Rect.unit (s := S128x14336) ![0, 1536] S128x512.size inb_S128x14336_S128x512_0_1536) (f 3) ∗ ptW c m5 (Rect.unit (s := S128x14336) ![0, 2048] S128x512.size inb_S128x14336_S128x512_0_2048) (f 4) ∗ ptW c m5 (Rect.unit (s := S128x14336) ![0, 2560] S128x512.size inb_S128x14336_S128x512_0_2560) (f 5) ∗ ptW c m5 (Rect.unit (s := S128x14336) ![0, 3072] S128x512.size inb_S128x14336_S128x512_0_3072) (f 6) ∗ ptW c m5 (Rect.unit (s := S128x14336) ![0, 3584] S128x512.size inb_S128x14336_S128x512_0_3584) (f 7) ∗ ptW c m5 (Rect.unit (s := S128x14336) ![0, 4096] S128x512.size inb_S128x14336_S128x512_0_4096) (f 8) ∗ ptW c m5 (Rect.unit (s := S128x14336) ![0, 4608] S128x512.size inb_S128x14336_S128x512_0_4608) (f 9) ∗ ptW c m5 (Rect.unit (s := S128x14336) ![0, 5120] S128x512.size inb_S128x14336_S128x512_0_5120) (f 10) ∗ ptW c m5 (Rect.unit (s := S128x14336) ![0, 5632] S128x512.size inb_S128x14336_S128x512_0_5632) (f 11) ∗ ptW c m5 (Rect.unit (s := S128x14336) ![0, 6144] S128x512.size inb_S128x14336_S128x512_0_6144) (f 12) ∗ ptW c m5 (Rect.unit (s := S128x14336) ![0, 6656] S128x512.size inb_S128x14336_S128x512_0_6656) (f 13) ∗ ptW c m5 (Rect.unit (s := S128x14336) ![0, 7168] S128x512.size inb_S128x14336_S128x512_0_7168) (f 14) ∗ ptW c m5 (Rect.unit (s := S128x14336) ![0, 7680] S128x512.size inb_S128x14336_S128x512_0_7680) (f 15) ∗ ptW c m5 (Rect.unit (s := S128x14336) ![0, 8192] S128x512.size inb_S128x14336_S128x512_0_8192) (f 16) ∗ ptW c m5 (Rect.unit (s := S128x14336) ![0, 8704] S128x512.size inb_S128x14336_S128x512_0_8704) (f 17) ∗ ptW c m5 (Rect.unit (s := S128x14336) ![0, 9216] S128x512.size inb_S128x14336_S128x512_0_9216) (f 18) ∗ ptW c m5 (Rect.unit (s := S128x14336) ![0, 9728] S128x512.size inb_S128x14336_S128x512_0_9728) (f 19) ∗ ptW c m5 (Rect.unit (s := S128x14336) ![0, 10240] S128x512.size inb_S128x14336_S128x512_0_10240) (f 20) ∗ ptW c m5 (Rect.unit (s := S128x14336) ![0, 10752] S128x512.size inb_S128x14336_S128x512_0_10752) (f 21) ∗ ptW c m5 (Rect.unit (s := S128x14336) ![0, 11264] S128x512.size inb_S128x14336_S128x512_0_11264) (f 22) ∗ ptW c m5 (Rect.unit (s := S128x14336) ![0, 11776] S128x512.size inb_S128x14336_S128x512_0_11776) (f 23) ∗ ptW c m5 (Rect.unit (s := S128x14336) ![0, 12288] S128x512.size inb_S128x14336_S128x512_0_12288) (f 24) ∗ ptW c m5 (Rect.unit (s := S128x14336) ![0, 12800] S128x512.size inb_S128x14336_S128x512_0_12800) (f 25) ∗ ptW c m5 (Rect.unit (s := S128x14336) ![0, 13312] S128x512.size inb_S128x14336_S128x512_0_13312) (f 26) ∗ ptW c m5 (Rect.unit (s := S128x14336) ![0, 13824] S128x512.size inb_S128x14336_S128x512_0_13824) (f 27)) ⊢ (iprop(∃ g : BufOf (F := F) c m5, ⌜∀ i : Fin 28, ∀ y ∈ hcodI i, g y = f i y⌝ ∗ pt c m5 g) : sProp 𝕄) := by
  rw [← hcod_chain c f]
  refine (pointsTo_biUnion_join (Ix := Unit) (Name := ℕ) (U := Pipeline.UD sig nD τ) (Lvl := ℕ) (q := fullShare) (ℓ := m5.view.loc (c : Thread nD τ)) Finset.univ hcodI f (f 0) (fun b _ b' _ h => hcod_disj b b' h)).trans ?_
  rw [hcod_cover]
  iintro ⟨%g, %hg, H⟩; iexists g
  isplitr; · ipureintro; exact fun i y hy => hg i (Finset.mem_univ i) y hy
  iexact H

theorem out_inb (i : Fin 8) : ∀ a, (![0, 512 * i.val] : Fin 2 → ℕ) a + S128x512.size a ≤ S128x4096.size a := by revert i; decide
/-- Window `i` of the family. -/
abbrev outR (i : Fin 8) : Rect S128x4096 := Rect.unit (s := S128x4096) ![0, 512 * i.val] S128x512.size (out_inb i)
abbrev outI (i : Fin 8) : Finset m18.view.ty.Idx := m18.view.setOn (outR i).set
theorem out_disj (i i' : Fin 8) (h : i ≠ i') : Disjoint (outI i) (outI i') := by
  refine View.disjoint_setOn _ (LoadRect.disjoint_of_separated (outR i).toLoadRect (outR i').toLoadRect 1 ?_)
  have h' : i.val ≠ i'.val := fun e => h (Fin.ext e)
  have e1 : (outR i).toLoadRect.off 1 = 512 * i.val := rfl
  have e2 : (outR i').toLoadRect.off 1 = 512 * i'.val := rfl
  have e3 : (outR i).toLoadRect.size 1 = 512 := rfl
  have e4 : (outR i').toLoadRect.size 1 = 512 := rfl
  have e5 : (outR i).toLoadRect.stride 1 = 1 := rfl
  have e6 : (outR i').toLoadRect.stride 1 = 1 := rfl
  rw [e1, e2, e3, e4, e5, e6]; omega
theorem out_mem (i : Fin 8) (y : S128x4096.Idx) : y ∈ outI i ↔ (y 1).val / 512 = i.val := by
  refine (View.mem_setOn (v := m18.view) (x := y)).trans (LoadRect.mem_set (r := (outR i).toLoadRect) (i := y) |>.trans ?_)
  constructor
  · intro h
    obtain ⟨j, hj, e⟩ := h 1
    have hj' : j < 512 := hj
    have e' : (y 1).val = 512 * i.val + 1 * j := e
    omega
  · intro h a
    fin_cases a
    · exact ⟨(y 0).val, (y 0).isLt, by show (y 0).val = 0 + 1 * (y 0).val; omega⟩
    · exact ⟨(y 1).val - 512 * i.val, by show (y 1).val - 512 * i.val < 512; omega, by show (y 1).val = 512 * i.val + 1 * ((y 1).val - 512 * i.val); omega⟩
theorem out_cover : (Finset.univ : Finset (Fin 8)).biUnion outI = Finset.univ := by
  ext y
  simp only [Finset.mem_biUnion, Finset.mem_univ, true_and, iff_true]
  have hy : (y 1).val < 4096 := (y 1).isLt
  exact ⟨⟨(y 1).val / 512, by omega⟩, (out_mem _ y).mpr rfl⟩
theorem outR_0 : outR 0 = Rect.unit (s := S128x4096) ![0, 0] S128x512.size inb_S128x4096_S128x512_0_0 := rfl
theorem outR_1 : outR 1 = Rect.unit (s := S128x4096) ![0, 512] S128x512.size inb_S128x4096_S128x512_0_512 := rfl
theorem outR_2 : outR 2 = Rect.unit (s := S128x4096) ![0, 1024] S128x512.size inb_S128x4096_S128x512_0_1024 := rfl
theorem outR_3 : outR 3 = Rect.unit (s := S128x4096) ![0, 1536] S128x512.size inb_S128x4096_S128x512_0_1536 := rfl
theorem outR_4 : outR 4 = Rect.unit (s := S128x4096) ![0, 2048] S128x512.size inb_S128x4096_S128x512_0_2048 := rfl
theorem outR_5 : outR 5 = Rect.unit (s := S128x4096) ![0, 2560] S128x512.size inb_S128x4096_S128x512_0_2560 := rfl
theorem outR_6 : outR 6 = Rect.unit (s := S128x4096) ![0, 3072] S128x512.size inb_S128x4096_S128x512_0_3072 := rfl
theorem outR_7 : outR 7 = Rect.unit (s := S128x4096) ![0, 3584] S128x512.size inb_S128x4096_S128x512_0_3584 := rfl
set_option maxRecDepth 8192 in
theorem out_chain (c : Dev nD) (f : Fin 8 → BufOf (F := F) c m18) :
    (bigSep Finset.univ (fun b : Fin 8 => m18.view.loc (c : Thread nD τ) ↦[outI b]{fullShare} f b) : sProp 𝕄)
      = iprop(ptW c m18 (Rect.unit (s := S128x4096) ![0, 0] S128x512.size inb_S128x4096_S128x512_0_0) (f 0) ∗ ptW c m18 (Rect.unit (s := S128x4096) ![0, 512] S128x512.size inb_S128x4096_S128x512_0_512) (f 1) ∗ ptW c m18 (Rect.unit (s := S128x4096) ![0, 1024] S128x512.size inb_S128x4096_S128x512_0_1024) (f 2) ∗ ptW c m18 (Rect.unit (s := S128x4096) ![0, 1536] S128x512.size inb_S128x4096_S128x512_0_1536) (f 3) ∗ ptW c m18 (Rect.unit (s := S128x4096) ![0, 2048] S128x512.size inb_S128x4096_S128x512_0_2048) (f 4) ∗ ptW c m18 (Rect.unit (s := S128x4096) ![0, 2560] S128x512.size inb_S128x4096_S128x512_0_2560) (f 5) ∗ ptW c m18 (Rect.unit (s := S128x4096) ![0, 3072] S128x512.size inb_S128x4096_S128x512_0_3072) (f 6) ∗ ptW c m18 (Rect.unit (s := S128x4096) ![0, 3584] S128x512.size inb_S128x4096_S128x512_0_3584) (f 7)) := by
  rw [BI.bigSep_eq_bigSepL_of_eq [0, 1, 2, 3, 4, 5, 6, 7] (by decide) (by decide)]
  refine (show _ = iprop(ptW c m18 (outR 0) (f 0) ∗ ptW c m18 (outR 1) (f 1) ∗ ptW c m18 (outR 2) (f 2) ∗ ptW c m18 (outR 3) (f 3) ∗ ptW c m18 (outR 4) (f 4) ∗ ptW c m18 (outR 5) (f 5) ∗ ptW c m18 (outR 6) (f 6) ∗ ptW c m18 (outR 7) (f 7)) from rfl).trans ?_
  rw [outR_0, outR_1, outR_2, outR_3, outR_4, outR_5, outR_6, outR_7]
/-- The buffer held whole is held window by window, -/
theorem out_split (c : Dev nD) (f : BufOf (F := F) c m18) :
    (pt c m18 f : sProp 𝕄) ⊢ iprop(ptW c m18 (Rect.unit (s := S128x4096) ![0, 0] S128x512.size inb_S128x4096_S128x512_0_0) f ∗ ptW c m18 (Rect.unit (s := S128x4096) ![0, 512] S128x512.size inb_S128x4096_S128x512_0_512) f ∗ ptW c m18 (Rect.unit (s := S128x4096) ![0, 1024] S128x512.size inb_S128x4096_S128x512_0_1024) f ∗ ptW c m18 (Rect.unit (s := S128x4096) ![0, 1536] S128x512.size inb_S128x4096_S128x512_0_1536) f ∗ ptW c m18 (Rect.unit (s := S128x4096) ![0, 2048] S128x512.size inb_S128x4096_S128x512_0_2048) f ∗ ptW c m18 (Rect.unit (s := S128x4096) ![0, 2560] S128x512.size inb_S128x4096_S128x512_0_2560) f ∗ ptW c m18 (Rect.unit (s := S128x4096) ![0, 3072] S128x512.size inb_S128x4096_S128x512_0_3072) f ∗ ptW c m18 (Rect.unit (s := S128x4096) ![0, 3584] S128x512.size inb_S128x4096_S128x512_0_3584) f) := by
  rw [← out_chain c (fun _ => f)]
  exact Entails.of_eq (Ring.pointsTo_blocks (Ix := Unit) (Name := ℕ) (U := Pipeline.UD sig nD τ) (Lvl := ℕ) (q := fullShare)
    (ℓ := m18.view.loc (c : Thread nD τ)) outI out_disj out_cover f)
/-- and window by window, each at contents of its own, joins to the buffer held whole at contents that agree with each on its window. -/
theorem out_join (c : Dev nD) (f : Fin 8 → BufOf (F := F) c m18) :
    iprop(ptW c m18 (Rect.unit (s := S128x4096) ![0, 0] S128x512.size inb_S128x4096_S128x512_0_0) (f 0) ∗ ptW c m18 (Rect.unit (s := S128x4096) ![0, 512] S128x512.size inb_S128x4096_S128x512_0_512) (f 1) ∗ ptW c m18 (Rect.unit (s := S128x4096) ![0, 1024] S128x512.size inb_S128x4096_S128x512_0_1024) (f 2) ∗ ptW c m18 (Rect.unit (s := S128x4096) ![0, 1536] S128x512.size inb_S128x4096_S128x512_0_1536) (f 3) ∗ ptW c m18 (Rect.unit (s := S128x4096) ![0, 2048] S128x512.size inb_S128x4096_S128x512_0_2048) (f 4) ∗ ptW c m18 (Rect.unit (s := S128x4096) ![0, 2560] S128x512.size inb_S128x4096_S128x512_0_2560) (f 5) ∗ ptW c m18 (Rect.unit (s := S128x4096) ![0, 3072] S128x512.size inb_S128x4096_S128x512_0_3072) (f 6) ∗ ptW c m18 (Rect.unit (s := S128x4096) ![0, 3584] S128x512.size inb_S128x4096_S128x512_0_3584) (f 7)) ⊢ (iprop(∃ g : BufOf (F := F) c m18, ⌜∀ i : Fin 8, ∀ y ∈ outI i, g y = f i y⌝ ∗ pt c m18 g) : sProp 𝕄) := by
  rw [← out_chain c f]
  refine (pointsTo_biUnion_join (Ix := Unit) (Name := ℕ) (U := Pipeline.UD sig nD τ) (Lvl := ℕ) (q := fullShare) (ℓ := m18.view.loc (c : Thread nD τ)) Finset.univ outI f (f 0) (fun b _ b' _ h => out_disj b b' h)).trans ?_
  rw [out_cover]
  iintro ⟨%g, %hg, H⟩; iexists g
  isplitr; · ipureintro; exact fun i y hy => hg i (Finset.mem_univ i) y hy
  iexact H

theorem hout_inb (i : Fin 8) : ∀ a, (![0, 512 * i.val] : Fin 2 → ℕ) a + S128x512.size a ≤ S128x4096.size a := by revert i; decide
/-- Window `i` of the family. -/
abbrev houtR (i : Fin 8) : Rect S128x4096 := Rect.unit (s := S128x4096) ![0, 512 * i.val] S128x512.size (hout_inb i)
abbrev houtI (i : Fin 8) : Finset m4.view.ty.Idx := m4.view.setOn (houtR i).set
theorem hout_disj (i i' : Fin 8) (h : i ≠ i') : Disjoint (houtI i) (houtI i') := by
  refine View.disjoint_setOn _ (LoadRect.disjoint_of_separated (houtR i).toLoadRect (houtR i').toLoadRect 1 ?_)
  have h' : i.val ≠ i'.val := fun e => h (Fin.ext e)
  have e1 : (houtR i).toLoadRect.off 1 = 512 * i.val := rfl
  have e2 : (houtR i').toLoadRect.off 1 = 512 * i'.val := rfl
  have e3 : (houtR i).toLoadRect.size 1 = 512 := rfl
  have e4 : (houtR i').toLoadRect.size 1 = 512 := rfl
  have e5 : (houtR i).toLoadRect.stride 1 = 1 := rfl
  have e6 : (houtR i').toLoadRect.stride 1 = 1 := rfl
  rw [e1, e2, e3, e4, e5, e6]; omega
theorem hout_mem (i : Fin 8) (y : S128x4096.Idx) : y ∈ houtI i ↔ (y 1).val / 512 = i.val := by
  refine (View.mem_setOn (v := m4.view) (x := y)).trans (LoadRect.mem_set (r := (houtR i).toLoadRect) (i := y) |>.trans ?_)
  constructor
  · intro h
    obtain ⟨j, hj, e⟩ := h 1
    have hj' : j < 512 := hj
    have e' : (y 1).val = 512 * i.val + 1 * j := e
    omega
  · intro h a
    fin_cases a
    · exact ⟨(y 0).val, (y 0).isLt, by show (y 0).val = 0 + 1 * (y 0).val; omega⟩
    · exact ⟨(y 1).val - 512 * i.val, by show (y 1).val - 512 * i.val < 512; omega, by show (y 1).val = 512 * i.val + 1 * ((y 1).val - 512 * i.val); omega⟩
theorem hout_cover : (Finset.univ : Finset (Fin 8)).biUnion houtI = Finset.univ := by
  ext y
  simp only [Finset.mem_biUnion, Finset.mem_univ, true_and, iff_true]
  have hy : (y 1).val < 4096 := (y 1).isLt
  exact ⟨⟨(y 1).val / 512, by omega⟩, (hout_mem _ y).mpr rfl⟩
theorem houtR_0 : houtR 0 = Rect.unit (s := S128x4096) ![0, 0] S128x512.size inb_S128x4096_S128x512_0_0 := rfl
theorem houtR_1 : houtR 1 = Rect.unit (s := S128x4096) ![0, 512] S128x512.size inb_S128x4096_S128x512_0_512 := rfl
theorem houtR_2 : houtR 2 = Rect.unit (s := S128x4096) ![0, 1024] S128x512.size inb_S128x4096_S128x512_0_1024 := rfl
theorem houtR_3 : houtR 3 = Rect.unit (s := S128x4096) ![0, 1536] S128x512.size inb_S128x4096_S128x512_0_1536 := rfl
theorem houtR_4 : houtR 4 = Rect.unit (s := S128x4096) ![0, 2048] S128x512.size inb_S128x4096_S128x512_0_2048 := rfl
theorem houtR_5 : houtR 5 = Rect.unit (s := S128x4096) ![0, 2560] S128x512.size inb_S128x4096_S128x512_0_2560 := rfl
theorem houtR_6 : houtR 6 = Rect.unit (s := S128x4096) ![0, 3072] S128x512.size inb_S128x4096_S128x512_0_3072 := rfl
theorem houtR_7 : houtR 7 = Rect.unit (s := S128x4096) ![0, 3584] S128x512.size inb_S128x4096_S128x512_0_3584 := rfl
set_option maxRecDepth 8192 in
theorem hout_chain (c : Dev nD) (f : Fin 8 → BufOf (F := F) c m4) :
    (bigSep Finset.univ (fun b : Fin 8 => m4.view.loc (c : Thread nD τ) ↦[houtI b]{fullShare} f b) : sProp 𝕄)
      = iprop(ptW c m4 (Rect.unit (s := S128x4096) ![0, 0] S128x512.size inb_S128x4096_S128x512_0_0) (f 0) ∗ ptW c m4 (Rect.unit (s := S128x4096) ![0, 512] S128x512.size inb_S128x4096_S128x512_0_512) (f 1) ∗ ptW c m4 (Rect.unit (s := S128x4096) ![0, 1024] S128x512.size inb_S128x4096_S128x512_0_1024) (f 2) ∗ ptW c m4 (Rect.unit (s := S128x4096) ![0, 1536] S128x512.size inb_S128x4096_S128x512_0_1536) (f 3) ∗ ptW c m4 (Rect.unit (s := S128x4096) ![0, 2048] S128x512.size inb_S128x4096_S128x512_0_2048) (f 4) ∗ ptW c m4 (Rect.unit (s := S128x4096) ![0, 2560] S128x512.size inb_S128x4096_S128x512_0_2560) (f 5) ∗ ptW c m4 (Rect.unit (s := S128x4096) ![0, 3072] S128x512.size inb_S128x4096_S128x512_0_3072) (f 6) ∗ ptW c m4 (Rect.unit (s := S128x4096) ![0, 3584] S128x512.size inb_S128x4096_S128x512_0_3584) (f 7)) := by
  rw [BI.bigSep_eq_bigSepL_of_eq [0, 1, 2, 3, 4, 5, 6, 7] (by decide) (by decide)]
  refine (show _ = iprop(ptW c m4 (houtR 0) (f 0) ∗ ptW c m4 (houtR 1) (f 1) ∗ ptW c m4 (houtR 2) (f 2) ∗ ptW c m4 (houtR 3) (f 3) ∗ ptW c m4 (houtR 4) (f 4) ∗ ptW c m4 (houtR 5) (f 5) ∗ ptW c m4 (houtR 6) (f 6) ∗ ptW c m4 (houtR 7) (f 7)) from rfl).trans ?_
  rw [houtR_0, houtR_1, houtR_2, houtR_3, houtR_4, houtR_5, houtR_6, houtR_7]
/-- The buffer held whole is held window by window, -/
theorem hout_split (c : Dev nD) (f : BufOf (F := F) c m4) :
    (pt c m4 f : sProp 𝕄) ⊢ iprop(ptW c m4 (Rect.unit (s := S128x4096) ![0, 0] S128x512.size inb_S128x4096_S128x512_0_0) f ∗ ptW c m4 (Rect.unit (s := S128x4096) ![0, 512] S128x512.size inb_S128x4096_S128x512_0_512) f ∗ ptW c m4 (Rect.unit (s := S128x4096) ![0, 1024] S128x512.size inb_S128x4096_S128x512_0_1024) f ∗ ptW c m4 (Rect.unit (s := S128x4096) ![0, 1536] S128x512.size inb_S128x4096_S128x512_0_1536) f ∗ ptW c m4 (Rect.unit (s := S128x4096) ![0, 2048] S128x512.size inb_S128x4096_S128x512_0_2048) f ∗ ptW c m4 (Rect.unit (s := S128x4096) ![0, 2560] S128x512.size inb_S128x4096_S128x512_0_2560) f ∗ ptW c m4 (Rect.unit (s := S128x4096) ![0, 3072] S128x512.size inb_S128x4096_S128x512_0_3072) f ∗ ptW c m4 (Rect.unit (s := S128x4096) ![0, 3584] S128x512.size inb_S128x4096_S128x512_0_3584) f) := by
  rw [← hout_chain c (fun _ => f)]
  exact Entails.of_eq (Ring.pointsTo_blocks (Ix := Unit) (Name := ℕ) (U := Pipeline.UD sig nD τ) (Lvl := ℕ) (q := fullShare)
    (ℓ := m4.view.loc (c : Thread nD τ)) houtI hout_disj hout_cover f)
/-- and window by window, each at contents of its own, joins to the buffer held whole at contents that agree with each on its window. -/
theorem hout_join (c : Dev nD) (f : Fin 8 → BufOf (F := F) c m4) :
    iprop(ptW c m4 (Rect.unit (s := S128x4096) ![0, 0] S128x512.size inb_S128x4096_S128x512_0_0) (f 0) ∗ ptW c m4 (Rect.unit (s := S128x4096) ![0, 512] S128x512.size inb_S128x4096_S128x512_0_512) (f 1) ∗ ptW c m4 (Rect.unit (s := S128x4096) ![0, 1024] S128x512.size inb_S128x4096_S128x512_0_1024) (f 2) ∗ ptW c m4 (Rect.unit (s := S128x4096) ![0, 1536] S128x512.size inb_S128x4096_S128x512_0_1536) (f 3) ∗ ptW c m4 (Rect.unit (s := S128x4096) ![0, 2048] S128x512.size inb_S128x4096_S128x512_0_2048) (f 4) ∗ ptW c m4 (Rect.unit (s := S128x4096) ![0, 2560] S128x512.size inb_S128x4096_S128x512_0_2560) (f 5) ∗ ptW c m4 (Rect.unit (s := S128x4096) ![0, 3072] S128x512.size inb_S128x4096_S128x512_0_3072) (f 6) ∗ ptW c m4 (Rect.unit (s := S128x4096) ![0, 3584] S128x512.size inb_S128x4096_S128x512_0_3584) (f 7)) ⊢ (iprop(∃ g : BufOf (F := F) c m4, ⌜∀ i : Fin 8, ∀ y ∈ houtI i, g y = f i y⌝ ∗ pt c m4 g) : sProp 𝕄) := by
  rw [← hout_chain c f]
  refine (pointsTo_biUnion_join (Ix := Unit) (Name := ℕ) (U := Pipeline.UD sig nD τ) (Lvl := ℕ) (q := fullShare) (ℓ := m4.view.loc (c : Thread nD τ)) Finset.univ houtI f (f 0) (fun b _ b' _ h => hout_disj b b' h)).trans ?_
  rw [hout_cover]
  iintro ⟨%g, %hg, H⟩; iexists g
  isplitr; · ipureintro; exact fun i y hy => hg i (Finset.mem_univ i) y hy
  iexact H

end Cert.KernelIdeal.Hand

end
-- ==== Proof.KI.P91.lean ====
/- The residual step of the mix: the part that may add the fractional rows again. -/
module

public import proofs.«01_k».proof.Proof.KI.Setup

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The test that decides whether the fractional rows are added again. -/
def cnd (v676 : F .f32) : BitVec 1 :=
  Scalar.cmpi .ne (Scalar.extui (Scalar.cmpf .ogt v676 (Scalar.ofBits (F := F) .f32 0x00000000#32)) : BitVec 32) 0#32

set_option maxHeartbeats 4000000 in
theorem p91 (c : Dev nD) (f7 : BufOf (F := F) c m7) (f11 : BufOf (F := F) c m11) (f13 : BufOf (F := F) c m13) (f17 : BufOf (F := F) c m17) (v676 : F .f32) (v677 : FVec F S32x512 .f32) (v1326 : FVec F S224x256 .bf16) (v1328 : FVec F S16x14336 .f32) (v1329 : FVec F S8x512 .f32) (v1330 : FVec F S8x512 .f32) (v1331 : FVec F S8x512 .f32) :
    iprop(pt c m7 f7 ∗ pt c m11 f11 ∗ pt c m13 f13 ∗ pt c m17 f17) ⊢ wp frame (wpE (defs₀ (F := F)) Variants.none c none) Set.univ
      (k0_part91 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) cc0_scratch12 cc0_scratch13 cc0_scratch14 cc0_scratch15 cc0_scratch16 v676 v677 v1326 v1328 v1329 v1330 v1331)
      (fun r => iprop(∃ fz : BufOf (F := F) c m13, ⌜cnd v676 ≠ 1#1 → fz = m13.view.writes (Elt F) f13
      [⟨Rect.unit ![0, 120, 0] S28x8x512.size inb_S28x128x512_S28x8x512_0_120_0,
          k0_pay470 v677 v1326 v1328 v1329 v1330 v1331⟩]⌝ ∗ pt c m7 f7 ∗ pt c m11 f11 ∗ pt c m13 fz ∗ pt c m17 f17 ∗
          ⌜r = ⟨iota .tc S128x112 32 [1] iota_S128x112_d1_w32, View.readAt (Elt F) m17.view (Rect.unit (s := S128x112) ![0, 0] S128x112.size inb_S128x112_S128x112_0_0).toLoadRect f17,
            k0_pay475 (View.readAt (Elt F) m13.view (Rect.unit (s := S28x128x512) ![0, 0, 0] S1x128x512.size inb_S28x128x512_S1x128x512_0_0_0).toLoadRect fz),
            k0_pay476 (View.readAt (Elt F) m13.view (Rect.unit (s := S28x128x512) ![0, 0, 0] S1x128x512.size inb_S28x128x512_S1x128x512_0_0_0).toLoadRect fz)⟩⌝)) := by
  iintro ⟨H7, H11, H13, H17⟩
  rw [k0_part91_eq_skeleton]; unfold k0_part91_skel
  sl_exec
  by_cases hc : p91.sl.v1368 v676 = 1#1
  · rw [if_pos hc]
    sl_for (fun _ _ => iprop(pt c m7 f7 ∗ pt c m11 f11 ∗ ∃ fz : BufOf (F := F) c m13, pt c m13 fz)) $$ [H7 H11 H13]
    case region =>
      intro k a; iintro ⟨H7, H11, %fz, H13⟩
      sl_exec_parts
      sl_step
      sl_close
    · sl_close
    iintro %a ⟨H7, H11, %fz, H13⟩
    sl_exec
    sl_step
    iexists fz
    isplitr
    · ipureintro; intro h; exact absurd hc h
    sl_close
  · rw [if_neg hc]
    sl_exec
    sl_step
    iexists _
    isplitr
    · ipureintro; intro h; rfl
    sl_close

end Cert.KernelIdeal.Hand

end
-- ==== Proof.KI.S1.lean ====
/- The body run up to the residual step of the mix. -/
module

public import proofs.«01_k».proof.Proof.KI.Windows
public import proofs.«01_k».proof.Proof.KI.P91

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The body's first stretch: the operands' copies are started, the accumulators cleared, and the mix formed up to its last rows. -/
def s1 (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → ∀ (W : Waits sig Unit) (K : PUnit → sProp 𝕄),
    iprop(pt c m0 f0 ∗ pt c m1 f1 ∗ pt c m2 f2 ∗ pt c m3 f3 ∗ pt c m4 f4 ∗ pt c m5 f5 ∗ pt c m6 f6 ∗ pt c m7 f7 ∗ pt c m8 f8 ∗ pt c m9 f9 ∗ pt c m10 f10 ∗ pt c m11 f11 ∗ pt c m12 f12 ∗ pt c m13 f13 ∗ pt c m14 f14 ∗ pt c m15 f15 ∗ pt c m16 f16 ∗ pt c m17 f17 ∗ pt c m18 f18 ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ owes (c : Thread nD τ) 0 W ∗ (iprop((∃ (g4 : BufOf (F := F) c m4) (g5 : BufOf (F := F) c m5) (g6 : BufOf (F := F) c m6), ⌜Out g4 g5 g6⌝ ∗ pt c m4 g4 ∗ pt c m5 g5 ∗ pt c m6 g6) ∗ pt c m0 f0 ∗ pt c m1 f1 ∗ pt c m2 f2 ∗ pt c m3 f3 ∗ (∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f) ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ (∃ W', owes (c : Thread nD τ) 0 W')) -∗ K ⟨⟩)) ⊢ wp frame (wpE (defs₀ (F := F)) Variants.none c none) Set.univ (body (F := F)) K := by
  sl_stretch
  intro W K
  iintro ⟨H0, H1, H2, H3, H4, H5, H6, H7, H8, H9, H10, H11, H12, H13, H14, H15, H16, H17, H18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, HW, Hk⟩
  ihave Hsp := ring_split c f10 $$ H10
  icases Hsp with ⟨Ha0, Ha1, Ha2, Ha3, Ha4, Ha5, Ha6, Ha7, Ha8, Ha9, Ha10, Ha11, Ha12, Ha13, Ha14, Ha15, Ha16, Ha17, Ha18, Ha19⟩
  ihave Hsp := cod_split c f16 $$ H16
  icases Hsp with ⟨Hb0, Hb1, Hb2, Hb3, Hb4, Hb5, Hb6, Hb7, Hb8, Hb9, Hb10, Hb11, Hb12, Hb13, Hb14, Hb15, Hb16, Hb17, Hb18, Hb19, Hb20, Hb21, Hb22, Hb23, Hb24, Hb25, Hb26, Hb27⟩
  ihave Hsp := hcod_split c f5 $$ H5
  icases Hsp with ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27⟩
  ihave Hsp := out_split c f18 $$ H18
  icases Hsp with ⟨Hd0, Hd1, Hd2, Hd3, Hd4, Hd5, Hd6, Hd7⟩
  ihave Hsp := hout_split c f4 $$ H4
  icases Hsp with ⟨He0, He1, He2, He3, He4, He5, He6, He7⟩
  have b31 : Transfers.BatchOf (c : Thread nD τ) (SemLoc.dma (sig := sig) 31) 28 := trivial
  have b32 : Transfers.BatchOf (c : Thread nD τ) (SemLoc.dma (sig := sig) 32) 8 := trivial
  unfold body
  simp only [cc0_hadamard_fp8_down_proj_eq_skeleton]; unfold cc0_hadamard_fp8_down_proj_skel
  set_option sl_exec.dmaWindow true in
  set_option sl_exec.stopBefore "k0_part91" in
  sl_exec_parts
  sl_seam

end Cert.KernelIdeal.Hand

end
-- ==== Proof.KI.S2.lean ====
/- The residual step of the mix and the first four blocks. -/
module

public import proofs.«01_k».proof.Proof.KI.S1

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The body's second stretch: the residual step of the mix, and the first four blocks transformed and rounded. -/
def s2 (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (s1 c f0 f1 f2 f3 f4 f5 f6 f7 f8 f9 f10 f11 f12 f13 f14 f15 f16 f17 f18 Out).1 := by
  sl_stretch
  sl_resume
  have b31 : Transfers.BatchOf (c : Thread nD τ) (SemLoc.dma (sig := sig) 31) 28 := trivial
  have b32 : Transfers.BatchOf (c : Thread nD τ) (SemLoc.dma (sig := sig) 32) 8 := trivial
  have hcut := @p91 F _ c
  set_option sl_exec.dmaWindow true in
  sl_exec_parts
  sl_seam

end Cert.KernelIdeal.Hand

end
-- ==== Proof.KI.T0.lean ====
/- The first trip of the loop over the blocks. -/
module

public import proofs.«01_k».proof.Proof.KI.S2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The first half of the loop's first trip. -/
def t0a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (s2 c f0 f1 f2 f3 f4 f5 f6 f7 f8 f9 f10 f11 f12 f13 f14 f15 f16 f17 f18 Out).1 := by
  sl_stretch
  sl_resume
  sl_unroll
  set_option sl_exec.dmaWindow true in
  set_option sl_exec.stopBefore "k0_part31" in
  sl_exec_parts
  sl_seam

set_option maxHeartbeats 4000000 in
/-- The second half of the loop's first trip. -/
def t0b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t0a c f0 f1 f2 f3 f4 f5 f6 f7 f8 f9 f10 f11 f12 f13 f14 f15 f16 f17 f18 Out).1 := by
  sl_stretch
  sl_resume
  set_option sl_exec.dmaWindow true in
  set_option sl_exec.stopBefore "k0_part59" in
  sl_exec_parts
  sl_seam

end Cert.KernelIdeal.Hand

end
-- ==== Proof.KI.T1.lean ====
/- The second trip of the loop over the blocks. -/
module

public import proofs.«01_k».proof.Proof.KI.T0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The first half of the loop's second trip. -/
def t1a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t0b c f0 f1 f2 f3 f4 f5 f6 f7 f8 f9 f10 f11 f12 f13 f14 f15 f16 f17 f18 Out).1 := by
  sl_stretch
  sl_resume
  set_option sl_exec.dmaWindow true in
  set_option sl_exec.stopBefore "k0_part31" in
  sl_exec_parts
  sl_seam

set_option maxHeartbeats 4000000 in
/-- The second half of the loop's second trip. -/
def t1b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t1a c f0 f1 f2 f3 f4 f5 f6 f7 f8 f9 f10 f11 f12 f13 f14 f15 f16 f17 f18 Out).1 := by
  sl_stretch
  sl_resume
  set_option sl_exec.dmaWindow true in
  set_option sl_exec.stopBefore "k0_part59" in
  sl_exec_parts
  sl_seam

end Cert.KernelIdeal.Hand

end
-- ==== Proof.KI.T2.lean ====
/- The third trip of the loop over the blocks. -/
module

public import proofs.«01_k».proof.Proof.KI.T1

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The first half of the loop's third trip. -/
def t2a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t1b c f0 f1 f2 f3 f4 f5 f6 f7 f8 f9 f10 f11 f12 f13 f14 f15 f16 f17 f18 Out).1 := by
  sl_stretch
  sl_resume
  set_option sl_exec.dmaWindow true in
  set_option sl_exec.stopBefore "k0_part31" in
  sl_exec_parts
  sl_seam

set_option maxHeartbeats 4000000 in
/-- The second half of the loop's third trip. -/
def t2b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t2a c f0 f1 f2 f3 f4 f5 f6 f7 f8 f9 f10 f11 f12 f13 f14 f15 f16 f17 f18 Out).1 := by
  sl_stretch
  sl_resume
  set_option sl_exec.dmaWindow true in
  set_option sl_exec.stopBefore "k0_part59" in
  sl_exec_parts
  sl_seam

end Cert.KernelIdeal.Hand

end
-- ==== Proof.KI.T3.lean ====
/- The fourth trip of the loop over the blocks. -/
module

public import proofs.«01_k».proof.Proof.KI.T2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The first half of the loop's fourth trip. -/
def t3a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t2b c f0 f1 f2 f3 f4 f5 f6 f7 f8 f9 f10 f11 f12 f13 f14 f15 f16 f17 f18 Out).1 := by
  sl_stretch
  sl_resume
  set_option sl_exec.dmaWindow true in
  set_option sl_exec.stopBefore "k0_part31" in
  sl_exec_parts
  sl_seam

set_option maxHeartbeats 4000000 in
/-- The second half of the loop's fourth trip. -/
def t3b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t3a c f0 f1 f2 f3 f4 f5 f6 f7 f8 f9 f10 f11 f12 f13 f14 f15 f16 f17 f18 Out).1 := by
  sl_stretch
  sl_resume
  set_option sl_exec.dmaWindow true in
  set_option sl_exec.stopBefore "k0_part59" in
  sl_exec_parts
  sl_seam

end Cert.KernelIdeal.Hand

end
-- ==== Proof.KI.T4.lean ====
/- The fifth trip of the loop over the blocks. -/
module

public import proofs.«01_k».proof.Proof.KI.T3

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The first half of the loop's fifth trip. -/
def t4a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t3b c f0 f1 f2 f3 f4 f5 f6 f7 f8 f9 f10 f11 f12 f13 f14 f15 f16 f17 f18 Out).1 := by
  sl_stretch
  sl_resume
  set_option sl_exec.dmaWindow true in
  set_option sl_exec.stopBefore "k0_part31" in
  sl_exec_parts
  sl_seam

set_option maxHeartbeats 4000000 in
/-- The second half of the loop's fifth trip. -/
def t4b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t4a c f0 f1 f2 f3 f4 f5 f6 f7 f8 f9 f10 f11 f12 f13 f14 f15 f16 f17 f18 Out).1 := by
  sl_stretch
  sl_resume
  set_option sl_exec.dmaWindow true in
  set_option sl_exec.stopBefore "k0_part59" in
  sl_exec_parts
  sl_seam

end Cert.KernelIdeal.Hand

end
-- ==== Proof.KI.T5.lean ====
/- The sixth trip of the loop over the blocks. -/
module

public import proofs.«01_k».proof.Proof.KI.T4

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- The first half of the loop's sixth trip. -/
def t5a (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t4b c f0 f1 f2 f3 f4 f5 f6 f7 f8 f9 f10 f11 f12 f13 f14 f15 f16 f17 f18 Out).1 := by
  sl_stretch
  sl_resume
  set_option sl_exec.dmaWindow true in
  set_option sl_exec.stopBefore "k0_part31" in
  sl_exec_parts
  sl_seam

set_option maxHeartbeats 4000000 in
/-- The second half of the loop's sixth trip. -/
def t5b (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) : Σ' (G : Prop), G → (t5a c f0 f1 f2 f3 f4 f5 f6 f7 f8 f9 f10 f11 f12 f13 f14 f15 f16 f17 f18 Out).1 := by
  sl_stretch
  sl_resume
  set_option sl_exec.dmaWindow true in
  set_option sl_exec.stopBefore "k0_part133" in
  sl_exec_parts
  sl_seam

end Cert.KernelIdeal.Hand

end
-- ==== Proof.KI.Joins.lean ====
/- The windows of each buffer joined again, one at a time. -/
module

public import proofs.«01_k».proof.Proof.KI.Windows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The windows of the buffer, held apart with their contents, are the buffer with contents that agree with each window's. -/
theorem ring_joinw (c : Dev nD) {g0 g1 g2 g3 g4 g5 g6 g7 g8 g9 g10 g11 g12 g13 g14 g15 g16 g17 g18 g19 : BufOf (F := F) c m10} :
    ⊢ (iprop(ptW c m10 (Rect.unit (s := S20x512x4096) ![0, 0, 0] S1x512x4096.size inb_S20x512x4096_S1x512x4096_0_0_0) g0 -∗ ptW c m10 (Rect.unit (s := S20x512x4096) ![1, 0, 0] S1x512x4096.size inb_S20x512x4096_S1x512x4096_1_0_0) g1 -∗ ptW c m10 (Rect.unit (s := S20x512x4096) ![2, 0, 0] S1x512x4096.size inb_S20x512x4096_S1x512x4096_2_0_0) g2 -∗ ptW c m10 (Rect.unit (s := S20x512x4096) ![3, 0, 0] S1x512x4096.size inb_S20x512x4096_S1x512x4096_3_0_0) g3 -∗ ptW c m10 (Rect.unit (s := S20x512x4096) ![4, 0, 0] S1x512x4096.size inb_S20x512x4096_S1x512x4096_4_0_0) g4 -∗ ptW c m10 (Rect.unit (s := S20x512x4096) ![5, 0, 0] S1x512x4096.size inb_S20x512x4096_S1x512x4096_5_0_0) g5 -∗ ptW c m10 (Rect.unit (s := S20x512x4096) ![6, 0, 0] S1x512x4096.size inb_S20x512x4096_S1x512x4096_6_0_0) g6 -∗ ptW c m10 (Rect.unit (s := S20x512x4096) ![7, 0, 0] S1x512x4096.size inb_S20x512x4096_S1x512x4096_7_0_0) g7 -∗ ptW c m10 (Rect.unit (s := S20x512x4096) ![8, 0, 0] S1x512x4096.size inb_S20x512x4096_S1x512x4096_8_0_0) g8 -∗ ptW c m10 (Rect.unit (s := S20x512x4096) ![9, 0, 0] S1x512x4096.size inb_S20x512x4096_S1x512x4096_9_0_0) g9 -∗ ptW c m10 (Rect.unit (s := S20x512x4096) ![10, 0, 0] S1x512x4096.size inb_S20x512x4096_S1x512x4096_10_0_0) g10 -∗ ptW c m10 (Rect.unit (s := S20x512x4096) ![11, 0, 0] S1x512x4096.size inb_S20x512x4096_S1x512x4096_11_0_0) g11 -∗ ptW c m10 (Rect.unit (s := S20x512x4096) ![12, 0, 0] S1x512x4096.size inb_S20x512x4096_S1x512x4096_12_0_0) g12 -∗ ptW c m10 (Rect.unit (s := S20x512x4096) ![13, 0, 0] S1x512x4096.size inb_S20x512x4096_S1x512x4096_13_0_0) g13 -∗ ptW c m10 (Rect.unit (s := S20x512x4096) ![14, 0, 0] S1x512x4096.size inb_S20x512x4096_S1x512x4096_14_0_0) g14 -∗ ptW c m10 (Rect.unit (s := S20x512x4096) ![15, 0, 0] S1x512x4096.size inb_S20x512x4096_S1x512x4096_15_0_0) g15 -∗ ptW c m10 (Rect.unit (s := S20x512x4096) ![16, 0, 0] S1x512x4096.size inb_S20x512x4096_S1x512x4096_16_0_0) g16 -∗ ptW c m10 (Rect.unit (s := S20x512x4096) ![17, 0, 0] S1x512x4096.size inb_S20x512x4096_S1x512x4096_17_0_0) g17 -∗ ptW c m10 (Rect.unit (s := S20x512x4096) ![18, 0, 0] S1x512x4096.size inb_S20x512x4096_S1x512x4096_18_0_0) g18 -∗ ptW c m10 (Rect.unit (s := S20x512x4096) ![19, 0, 0] S1x512x4096.size inb_S20x512x4096_S1x512x4096_19_0_0) g19 -∗ ∃ g : BufOf (F := F) c m10, ⌜(∀ y ∈ ringI 0, g y = g0 y) ∧ (∀ y ∈ ringI 1, g y = g1 y) ∧ (∀ y ∈ ringI 2, g y = g2 y) ∧ (∀ y ∈ ringI 3, g y = g3 y) ∧ (∀ y ∈ ringI 4, g y = g4 y) ∧ (∀ y ∈ ringI 5, g y = g5 y) ∧ (∀ y ∈ ringI 6, g y = g6 y) ∧ (∀ y ∈ ringI 7, g y = g7 y) ∧ (∀ y ∈ ringI 8, g y = g8 y) ∧ (∀ y ∈ ringI 9, g y = g9 y) ∧ (∀ y ∈ ringI 10, g y = g10 y) ∧ (∀ y ∈ ringI 11, g y = g11 y) ∧ (∀ y ∈ ringI 12, g y = g12 y) ∧ (∀ y ∈ ringI 13, g y = g13 y) ∧ (∀ y ∈ ringI 14, g y = g14 y) ∧ (∀ y ∈ ringI 15, g y = g15 y) ∧ (∀ y ∈ ringI 16, g y = g16 y) ∧ (∀ y ∈ ringI 17, g y = g17 y) ∧ (∀ y ∈ ringI 18, g y = g18 y) ∧ (∀ y ∈ ringI 19, g y = g19 y)⌝ ∗ pt c m10 g) : sProp 𝕄) := by
  iintro H0
  iintro H1
  iintro H2
  iintro H3
  iintro H4
  iintro H5
  iintro H6
  iintro H7
  iintro H8
  iintro H9
  iintro H10
  iintro H11
  iintro H12
  iintro H13
  iintro H14
  iintro H15
  iintro H16
  iintro H17
  iintro H18
  iintro H19
  ihave Hj : iprop(∃ g : BufOf (F := F) c m10, ⌜∀ i y, y ∈ ringI i → g y = (![g0, g1, g2, g3, g4, g5, g6, g7, g8, g9, g10, g11, g12, g13, g14, g15, g16, g17, g18, g19] : Fin 20 → BufOf (F := F) c m10) i y⌝ ∗ pt c m10 g) $$ [H0 H1 H2 H3 H4 H5 H6 H7 H8 H9 H10 H11 H12 H13 H14 H15 H16 H17 H18 H19]
  · iapply (ring_join c (![g0, g1, g2, g3, g4, g5, g6, g7, g8, g9, g10, g11, g12, g13, g14, g15, g16, g17, g18, g19] : Fin 20 → BufOf (F := F) c m10))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy, fun y hy => hg 8 y hy, fun y hy => hg 9 y hy, fun y hy => hg 10 y hy, fun y hy => hg 11 y hy, fun y hy => hg 12 y hy, fun y hy => hg 13 y hy, fun y hy => hg 14 y hy, fun y hy => hg 15 y hy, fun y hy => hg 16 y hy, fun y hy => hg 17 y hy, fun y hy => hg 18 y hy, fun y hy => hg 19 y hy⟩
  iexact Hj

set_option maxHeartbeats 2000000 in
/-- The windows of the buffer, held apart with their contents, are the buffer with contents that agree with each window's. -/
theorem cod_joinw (c : Dev nD) {g0 g1 g2 g3 g4 g5 g6 g7 g8 g9 g10 g11 g12 g13 g14 g15 g16 g17 g18 g19 g20 g21 g22 g23 g24 g25 g26 g27 : BufOf (F := F) c m16} :
    ⊢ (iprop(ptW c m16 (Rect.unit (s := S28x128x512) ![0, 0, 0] S1x128x512.size inb_S28x128x512_S1x128x512_0_0_0) g0 -∗ ptW c m16 (Rect.unit (s := S28x128x512) ![1, 0, 0] S1x128x512.size inb_S28x128x512_S1x128x512_1_0_0) g1 -∗ ptW c m16 (Rect.unit (s := S28x128x512) ![2, 0, 0] S1x128x512.size inb_S28x128x512_S1x128x512_2_0_0) g2 -∗ ptW c m16 (Rect.unit (s := S28x128x512) ![3, 0, 0] S1x128x512.size inb_S28x128x512_S1x128x512_3_0_0) g3 -∗ ptW c m16 (Rect.unit (s := S28x128x512) ![4, 0, 0] S1x128x512.size inb_S28x128x512_S1x128x512_4_0_0) g4 -∗ ptW c m16 (Rect.unit (s := S28x128x512) ![5, 0, 0] S1x128x512.size inb_S28x128x512_S1x128x512_5_0_0) g5 -∗ ptW c m16 (Rect.unit (s := S28x128x512) ![6, 0, 0] S1x128x512.size inb_S28x128x512_S1x128x512_6_0_0) g6 -∗ ptW c m16 (Rect.unit (s := S28x128x512) ![7, 0, 0] S1x128x512.size inb_S28x128x512_S1x128x512_7_0_0) g7 -∗ ptW c m16 (Rect.unit (s := S28x128x512) ![8, 0, 0] S1x128x512.size inb_S28x128x512_S1x128x512_8_0_0) g8 -∗ ptW c m16 (Rect.unit (s := S28x128x512) ![9, 0, 0] S1x128x512.size inb_S28x128x512_S1x128x512_9_0_0) g9 -∗ ptW c m16 (Rect.unit (s := S28x128x512) ![10, 0, 0] S1x128x512.size inb_S28x128x512_S1x128x512_10_0_0) g10 -∗ ptW c m16 (Rect.unit (s := S28x128x512) ![11, 0, 0] S1x128x512.size inb_S28x128x512_S1x128x512_11_0_0) g11 -∗ ptW c m16 (Rect.unit (s := S28x128x512) ![12, 0, 0] S1x128x512.size inb_S28x128x512_S1x128x512_12_0_0) g12 -∗ ptW c m16 (Rect.unit (s := S28x128x512) ![13, 0, 0] S1x128x512.size inb_S28x128x512_S1x128x512_13_0_0) g13 -∗ ptW c m16 (Rect.unit (s := S28x128x512) ![14, 0, 0] S1x128x512.size inb_S28x128x512_S1x128x512_14_0_0) g14 -∗ ptW c m16 (Rect.unit (s := S28x128x512) ![15, 0, 0] S1x128x512.size inb_S28x128x512_S1x128x512_15_0_0) g15 -∗ ptW c m16 (Rect.unit (s := S28x128x512) ![16, 0, 0] S1x128x512.size inb_S28x128x512_S1x128x512_16_0_0) g16 -∗ ptW c m16 (Rect.unit (s := S28x128x512) ![17, 0, 0] S1x128x512.size inb_S28x128x512_S1x128x512_17_0_0) g17 -∗ ptW c m16 (Rect.unit (s := S28x128x512) ![18, 0, 0] S1x128x512.size inb_S28x128x512_S1x128x512_18_0_0) g18 -∗ ptW c m16 (Rect.unit (s := S28x128x512) ![19, 0, 0] S1x128x512.size inb_S28x128x512_S1x128x512_19_0_0) g19 -∗ ptW c m16 (Rect.unit (s := S28x128x512) ![20, 0, 0] S1x128x512.size inb_S28x128x512_S1x128x512_20_0_0) g20 -∗ ptW c m16 (Rect.unit (s := S28x128x512) ![21, 0, 0] S1x128x512.size inb_S28x128x512_S1x128x512_21_0_0) g21 -∗ ptW c m16 (Rect.unit (s := S28x128x512) ![22, 0, 0] S1x128x512.size inb_S28x128x512_S1x128x512_22_0_0) g22 -∗ ptW c m16 (Rect.unit (s := S28x128x512) ![23, 0, 0] S1x128x512.size inb_S28x128x512_S1x128x512_23_0_0) g23 -∗ ptW c m16 (Rect.unit (s := S28x128x512) ![24, 0, 0] S1x128x512.size inb_S28x128x512_S1x128x512_24_0_0) g24 -∗ ptW c m16 (Rect.unit (s := S28x128x512) ![25, 0, 0] S1x128x512.size inb_S28x128x512_S1x128x512_25_0_0) g25 -∗ ptW c m16 (Rect.unit (s := S28x128x512) ![26, 0, 0] S1x128x512.size inb_S28x128x512_S1x128x512_26_0_0) g26 -∗ ptW c m16 (Rect.unit (s := S28x128x512) ![27, 0, 0] S1x128x512.size inb_S28x128x512_S1x128x512_27_0_0) g27 -∗ ∃ g : BufOf (F := F) c m16, ⌜(∀ y ∈ codI 0, g y = g0 y) ∧ (∀ y ∈ codI 1, g y = g1 y) ∧ (∀ y ∈ codI 2, g y = g2 y) ∧ (∀ y ∈ codI 3, g y = g3 y) ∧ (∀ y ∈ codI 4, g y = g4 y) ∧ (∀ y ∈ codI 5, g y = g5 y) ∧ (∀ y ∈ codI 6, g y = g6 y) ∧ (∀ y ∈ codI 7, g y = g7 y) ∧ (∀ y ∈ codI 8, g y = g8 y) ∧ (∀ y ∈ codI 9, g y = g9 y) ∧ (∀ y ∈ codI 10, g y = g10 y) ∧ (∀ y ∈ codI 11, g y = g11 y) ∧ (∀ y ∈ codI 12, g y = g12 y) ∧ (∀ y ∈ codI 13, g y = g13 y) ∧ (∀ y ∈ codI 14, g y = g14 y) ∧ (∀ y ∈ codI 15, g y = g15 y) ∧ (∀ y ∈ codI 16, g y = g16 y) ∧ (∀ y ∈ codI 17, g y = g17 y) ∧ (∀ y ∈ codI 18, g y = g18 y) ∧ (∀ y ∈ codI 19, g y = g19 y) ∧ (∀ y ∈ codI 20, g y = g20 y) ∧ (∀ y ∈ codI 21, g y = g21 y) ∧ (∀ y ∈ codI 22, g y = g22 y) ∧ (∀ y ∈ codI 23, g y = g23 y) ∧ (∀ y ∈ codI 24, g y = g24 y) ∧ (∀ y ∈ codI 25, g y = g25 y) ∧ (∀ y ∈ codI 26, g y = g26 y) ∧ (∀ y ∈ codI 27, g y = g27 y)⌝ ∗ pt c m16 g) : sProp 𝕄) := by
  iintro H0
  iintro H1
  iintro H2
  iintro H3
  iintro H4
  iintro H5
  iintro H6
  iintro H7
  iintro H8
  iintro H9
  iintro H10
  iintro H11
  iintro H12
  iintro H13
  iintro H14
  iintro H15
  iintro H16
  iintro H17
  iintro H18
  iintro H19
  iintro H20
  iintro H21
  iintro H22
  iintro H23
  iintro H24
  iintro H25
  iintro H26
  iintro H27
  ihave Hj : iprop(∃ g : BufOf (F := F) c m16, ⌜∀ i y, y ∈ codI i → g y = (![g0, g1, g2, g3, g4, g5, g6, g7, g8, g9, g10, g11, g12, g13, g14, g15, g16, g17, g18, g19, g20, g21, g22, g23, g24, g25, g26, g27] : Fin 28 → BufOf (F := F) c m16) i y⌝ ∗ pt c m16 g) $$ [H0 H1 H2 H3 H4 H5 H6 H7 H8 H9 H10 H11 H12 H13 H14 H15 H16 H17 H18 H19 H20 H21 H22 H23 H24 H25 H26 H27]
  · iapply (cod_join c (![g0, g1, g2, g3, g4, g5, g6, g7, g8, g9, g10, g11, g12, g13, g14, g15, g16, g17, g18, g19, g20, g21, g22, g23, g24, g25, g26, g27] : Fin 28 → BufOf (F := F) c m16))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy, fun y hy => hg 8 y hy, fun y hy => hg 9 y hy, fun y hy => hg 10 y hy, fun y hy => hg 11 y hy, fun y hy => hg 12 y hy, fun y hy => hg 13 y hy, fun y hy => hg 14 y hy, fun y hy => hg 15 y hy, fun y hy => hg 16 y hy, fun y hy => hg 17 y hy, fun y hy => hg 18 y hy, fun y hy => hg 19 y hy, fun y hy => hg 20 y hy, fun y hy => hg 21 y hy, fun y hy => hg 22 y hy, fun y hy => hg 23 y hy, fun y hy => hg 24 y hy, fun y hy => hg 25 y hy, fun y hy => hg 26 y hy, fun y hy => hg 27 y hy⟩
  iexact Hj

set_option maxHeartbeats 2000000 in
/-- The windows of the buffer, held apart with their contents, are the buffer with contents that agree with each window's. -/
theorem hcod_joinw (c : Dev nD) {g0 g1 g2 g3 g4 g5 g6 g7 g8 g9 g10 g11 g12 g13 g14 g15 g16 g17 g18 g19 g20 g21 g22 g23 g24 g25 g26 g27 : BufOf (F := F) c m5} :
    ⊢ (iprop(ptW c m5 (Rect.unit (s := S128x14336) ![0, 0] S128x512.size inb_S128x14336_S128x512_0_0) g0 -∗ ptW c m5 (Rect.unit (s := S128x14336) ![0, 512] S128x512.size inb_S128x14336_S128x512_0_512) g1 -∗ ptW c m5 (Rect.unit (s := S128x14336) ![0, 1024] S128x512.size inb_S128x14336_S128x512_0_1024) g2 -∗ ptW c m5 (Rect.unit (s := S128x14336) ![0, 1536] S128x512.size inb_S128x14336_S128x512_0_1536) g3 -∗ ptW c m5 (Rect.unit (s := S128x14336) ![0, 2048] S128x512.size inb_S128x14336_S128x512_0_2048) g4 -∗ ptW c m5 (Rect.unit (s := S128x14336) ![0, 2560] S128x512.size inb_S128x14336_S128x512_0_2560) g5 -∗ ptW c m5 (Rect.unit (s := S128x14336) ![0, 3072] S128x512.size inb_S128x14336_S128x512_0_3072) g6 -∗ ptW c m5 (Rect.unit (s := S128x14336) ![0, 3584] S128x512.size inb_S128x14336_S128x512_0_3584) g7 -∗ ptW c m5 (Rect.unit (s := S128x14336) ![0, 4096] S128x512.size inb_S128x14336_S128x512_0_4096) g8 -∗ ptW c m5 (Rect.unit (s := S128x14336) ![0, 4608] S128x512.size inb_S128x14336_S128x512_0_4608) g9 -∗ ptW c m5 (Rect.unit (s := S128x14336) ![0, 5120] S128x512.size inb_S128x14336_S128x512_0_5120) g10 -∗ ptW c m5 (Rect.unit (s := S128x14336) ![0, 5632] S128x512.size inb_S128x14336_S128x512_0_5632) g11 -∗ ptW c m5 (Rect.unit (s := S128x14336) ![0, 6144] S128x512.size inb_S128x14336_S128x512_0_6144) g12 -∗ ptW c m5 (Rect.unit (s := S128x14336) ![0, 6656] S128x512.size inb_S128x14336_S128x512_0_6656) g13 -∗ ptW c m5 (Rect.unit (s := S128x14336) ![0, 7168] S128x512.size inb_S128x14336_S128x512_0_7168) g14 -∗ ptW c m5 (Rect.unit (s := S128x14336) ![0, 7680] S128x512.size inb_S128x14336_S128x512_0_7680) g15 -∗ ptW c m5 (Rect.unit (s := S128x14336) ![0, 8192] S128x512.size inb_S128x14336_S128x512_0_8192) g16 -∗ ptW c m5 (Rect.unit (s := S128x14336) ![0, 8704] S128x512.size inb_S128x14336_S128x512_0_8704) g17 -∗ ptW c m5 (Rect.unit (s := S128x14336) ![0, 9216] S128x512.size inb_S128x14336_S128x512_0_9216) g18 -∗ ptW c m5 (Rect.unit (s := S128x14336) ![0, 9728] S128x512.size inb_S128x14336_S128x512_0_9728) g19 -∗ ptW c m5 (Rect.unit (s := S128x14336) ![0, 10240] S128x512.size inb_S128x14336_S128x512_0_10240) g20 -∗ ptW c m5 (Rect.unit (s := S128x14336) ![0, 10752] S128x512.size inb_S128x14336_S128x512_0_10752) g21 -∗ ptW c m5 (Rect.unit (s := S128x14336) ![0, 11264] S128x512.size inb_S128x14336_S128x512_0_11264) g22 -∗ ptW c m5 (Rect.unit (s := S128x14336) ![0, 11776] S128x512.size inb_S128x14336_S128x512_0_11776) g23 -∗ ptW c m5 (Rect.unit (s := S128x14336) ![0, 12288] S128x512.size inb_S128x14336_S128x512_0_12288) g24 -∗ ptW c m5 (Rect.unit (s := S128x14336) ![0, 12800] S128x512.size inb_S128x14336_S128x512_0_12800) g25 -∗ ptW c m5 (Rect.unit (s := S128x14336) ![0, 13312] S128x512.size inb_S128x14336_S128x512_0_13312) g26 -∗ ptW c m5 (Rect.unit (s := S128x14336) ![0, 13824] S128x512.size inb_S128x14336_S128x512_0_13824) g27 -∗ ∃ g : BufOf (F := F) c m5, ⌜(∀ y ∈ hcodI 0, g y = g0 y) ∧ (∀ y ∈ hcodI 1, g y = g1 y) ∧ (∀ y ∈ hcodI 2, g y = g2 y) ∧ (∀ y ∈ hcodI 3, g y = g3 y) ∧ (∀ y ∈ hcodI 4, g y = g4 y) ∧ (∀ y ∈ hcodI 5, g y = g5 y) ∧ (∀ y ∈ hcodI 6, g y = g6 y) ∧ (∀ y ∈ hcodI 7, g y = g7 y) ∧ (∀ y ∈ hcodI 8, g y = g8 y) ∧ (∀ y ∈ hcodI 9, g y = g9 y) ∧ (∀ y ∈ hcodI 10, g y = g10 y) ∧ (∀ y ∈ hcodI 11, g y = g11 y) ∧ (∀ y ∈ hcodI 12, g y = g12 y) ∧ (∀ y ∈ hcodI 13, g y = g13 y) ∧ (∀ y ∈ hcodI 14, g y = g14 y) ∧ (∀ y ∈ hcodI 15, g y = g15 y) ∧ (∀ y ∈ hcodI 16, g y = g16 y) ∧ (∀ y ∈ hcodI 17, g y = g17 y) ∧ (∀ y ∈ hcodI 18, g y = g18 y) ∧ (∀ y ∈ hcodI 19, g y = g19 y) ∧ (∀ y ∈ hcodI 20, g y = g20 y) ∧ (∀ y ∈ hcodI 21, g y = g21 y) ∧ (∀ y ∈ hcodI 22, g y = g22 y) ∧ (∀ y ∈ hcodI 23, g y = g23 y) ∧ (∀ y ∈ hcodI 24, g y = g24 y) ∧ (∀ y ∈ hcodI 25, g y = g25 y) ∧ (∀ y ∈ hcodI 26, g y = g26 y) ∧ (∀ y ∈ hcodI 27, g y = g27 y)⌝ ∗ pt c m5 g) : sProp 𝕄) := by
  iintro H0
  iintro H1
  iintro H2
  iintro H3
  iintro H4
  iintro H5
  iintro H6
  iintro H7
  iintro H8
  iintro H9
  iintro H10
  iintro H11
  iintro H12
  iintro H13
  iintro H14
  iintro H15
  iintro H16
  iintro H17
  iintro H18
  iintro H19
  iintro H20
  iintro H21
  iintro H22
  iintro H23
  iintro H24
  iintro H25
  iintro H26
  iintro H27
  ihave Hj : iprop(∃ g : BufOf (F := F) c m5, ⌜∀ i y, y ∈ hcodI i → g y = (![g0, g1, g2, g3, g4, g5, g6, g7, g8, g9, g10, g11, g12, g13, g14, g15, g16, g17, g18, g19, g20, g21, g22, g23, g24, g25, g26, g27] : Fin 28 → BufOf (F := F) c m5) i y⌝ ∗ pt c m5 g) $$ [H0 H1 H2 H3 H4 H5 H6 H7 H8 H9 H10 H11 H12 H13 H14 H15 H16 H17 H18 H19 H20 H21 H22 H23 H24 H25 H26 H27]
  · iapply (hcod_join c (![g0, g1, g2, g3, g4, g5, g6, g7, g8, g9, g10, g11, g12, g13, g14, g15, g16, g17, g18, g19, g20, g21, g22, g23, g24, g25, g26, g27] : Fin 28 → BufOf (F := F) c m5))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy, fun y hy => hg 8 y hy, fun y hy => hg 9 y hy, fun y hy => hg 10 y hy, fun y hy => hg 11 y hy, fun y hy => hg 12 y hy, fun y hy => hg 13 y hy, fun y hy => hg 14 y hy, fun y hy => hg 15 y hy, fun y hy => hg 16 y hy, fun y hy => hg 17 y hy, fun y hy => hg 18 y hy, fun y hy => hg 19 y hy, fun y hy => hg 20 y hy, fun y hy => hg 21 y hy, fun y hy => hg 22 y hy, fun y hy => hg 23 y hy, fun y hy => hg 24 y hy, fun y hy => hg 25 y hy, fun y hy => hg 26 y hy, fun y hy => hg 27 y hy⟩
  iexact Hj

set_option maxHeartbeats 2000000 in
/-- The windows of the buffer, held apart with their contents, are the buffer with contents that agree with each window's. -/
theorem out_joinw (c : Dev nD) {g0 g1 g2 g3 g4 g5 g6 g7 : BufOf (F := F) c m18} :
    ⊢ (iprop(ptW c m18 (Rect.unit (s := S128x4096) ![0, 0] S128x512.size inb_S128x4096_S128x512_0_0) g0 -∗ ptW c m18 (Rect.unit (s := S128x4096) ![0, 512] S128x512.size inb_S128x4096_S128x512_0_512) g1 -∗ ptW c m18 (Rect.unit (s := S128x4096) ![0, 1024] S128x512.size inb_S128x4096_S128x512_0_1024) g2 -∗ ptW c m18 (Rect.unit (s := S128x4096) ![0, 1536] S128x512.size inb_S128x4096_S128x512_0_1536) g3 -∗ ptW c m18 (Rect.unit (s := S128x4096) ![0, 2048] S128x512.size inb_S128x4096_S128x512_0_2048) g4 -∗ ptW c m18 (Rect.unit (s := S128x4096) ![0, 2560] S128x512.size inb_S128x4096_S128x512_0_2560) g5 -∗ ptW c m18 (Rect.unit (s := S128x4096) ![0, 3072] S128x512.size inb_S128x4096_S128x512_0_3072) g6 -∗ ptW c m18 (Rect.unit (s := S128x4096) ![0, 3584] S128x512.size inb_S128x4096_S128x512_0_3584) g7 -∗ ∃ g : BufOf (F := F) c m18, ⌜(∀ y ∈ outI 0, g y = g0 y) ∧ (∀ y ∈ outI 1, g y = g1 y) ∧ (∀ y ∈ outI 2, g y = g2 y) ∧ (∀ y ∈ outI 3, g y = g3 y) ∧ (∀ y ∈ outI 4, g y = g4 y) ∧ (∀ y ∈ outI 5, g y = g5 y) ∧ (∀ y ∈ outI 6, g y = g6 y) ∧ (∀ y ∈ outI 7, g y = g7 y)⌝ ∗ pt c m18 g) : sProp 𝕄) := by
  iintro H0
  iintro H1
  iintro H2
  iintro H3
  iintro H4
  iintro H5
  iintro H6
  iintro H7
  ihave Hj : iprop(∃ g : BufOf (F := F) c m18, ⌜∀ i y, y ∈ outI i → g y = (![g0, g1, g2, g3, g4, g5, g6, g7] : Fin 8 → BufOf (F := F) c m18) i y⌝ ∗ pt c m18 g) $$ [H0 H1 H2 H3 H4 H5 H6 H7]
  · iapply (out_join c (![g0, g1, g2, g3, g4, g5, g6, g7] : Fin 8 → BufOf (F := F) c m18))
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy⟩
  iexact Hj

set_option maxHeartbeats 2000000 in
/-- The windows of the buffer, held apart with their contents, are the buffer with contents that agree with each window's. -/
theorem hout_joinw (c : Dev nD) {g0 g1 g2 g3 g4 g5 g6 g7 : BufOf (F := F) c m4} :
    ⊢ (iprop(ptW c m4 (Rect.unit (s := S128x4096) ![0, 0] S128x512.size inb_S128x4096_S128x512_0_0) g0 -∗ ptW c m4 (Rect.unit (s := S128x4096) ![0, 512] S128x512.size inb_S128x4096_S128x512_0_512) g1 -∗ ptW c m4 (Rect.unit (s := S128x4096) ![0, 1024] S128x512.size inb_S128x4096_S128x512_0_1024) g2 -∗ ptW c m4 (Rect.unit (s := S128x4096) ![0, 1536] S128x512.size inb_S128x4096_S128x512_0_1536) g3 -∗ ptW c m4 (Rect.unit (s := S128x4096) ![0, 2048] S128x512.size inb_S128x4096_S128x512_0_2048) g4 -∗ ptW c m4 (Rect.unit (s := S128x4096) ![0, 2560] S128x512.size inb_S128x4096_S128x512_0_2560) g5 -∗ ptW c m4 (Rect.unit (s := S128x4096) ![0, 3072] S128x512.size inb_S128x4096_S128x512_0_3072) g6 -∗ ptW c m4 (Rect.unit (s := S128x4096) ![0, 3584] S128x512.size inb_S128x4096_S128x512_0_3584) g7 -∗ ∃ g : BufOf (F := F) c m4, ⌜(∀ y ∈ houtI 0, g y = g0 y) ∧ (∀ y ∈ houtI 1, g y = g1 y) ∧ (∀ y ∈ houtI 2, g y = g2 y) ∧ (∀ y ∈ houtI 3, g y = g3 y) ∧ (∀ y ∈ houtI 4, g y = g4 y) ∧ (∀ y ∈ houtI 5, g y = g5 y) ∧ (∀ y ∈ houtI 6, g y = g6 y) ∧ (∀ y ∈ houtI 7, g y = g7 y)⌝ ∗ pt c m4 g) : sProp 𝕄) := by
  iintro H0
  iintro H1
  iintro H2
  iintro H3
  iintro H4
  iintro H5
  iintro H6
  iintro H7
  ihave Hj : iprop(∃ g : BufOf (F := F) c m4, ⌜∀ i y, y ∈ houtI i → g y = (![g0, g1, g2, g3, g4, g5, g6, g7] : Fin 8 → BufOf (F := F) c m4) i y⌝ ∗ pt c m4 g) $$ [H0 H1 H2 H3 H4 H5 H6 H7]
  · iapply (hout_join c (![g0, g1, g2, g3, g4, g5, g6, g7] : Fin 8 → BufOf (F := F) c m4))
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases Hj with ⟨%g, %hg, Hj⟩
  iexists g
  isplitr
  · ipureintro
    exact ⟨fun y hy => hg 0 y hy, fun y hy => hg 1 y hy, fun y hy => hg 2 y hy, fun y hy => hg 3 y hy, fun y hy => hg 4 y hy, fun y hy => hg 5 y hy, fun y hy => hg 6 y hy, fun y hy => hg 7 y hy⟩
  iexact Hj

end Cert.KernelIdeal.Hand

end
-- ==== Proof.KI.Fin.lean ====
/- The body run to its end. -/
module

public import proofs.«01_k».proof.Proof.KI.T5
public import proofs.«01_k».proof.Proof.KI.Joins

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- The body, run from its operands, scratch and semaphores, ends with the operands as they were. -/
theorem run (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) (hOut : ∀ g4 g5 g6, Out g4 g5 g6) (W : Waits sig Unit) (K : PUnit → sProp 𝕄) :
    iprop(pt c m0 f0 ∗ pt c m1 f1 ∗ pt c m2 f2 ∗ pt c m3 f3 ∗ pt c m4 f4 ∗ pt c m5 f5 ∗ pt c m6 f6 ∗ pt c m7 f7 ∗ pt c m8 f8 ∗ pt c m9 f9 ∗ pt c m10 f10 ∗ pt c m11 f11 ∗ pt c m12 f12 ∗ pt c m13 f13 ∗ pt c m14 f14 ∗ pt c m15 f15 ∗ pt c m16 f16 ∗ pt c m17 f17 ∗ pt c m18 f18 ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ owes (c : Thread nD τ) 0 W ∗ (iprop((∃ (g4 : BufOf (F := F) c m4) (g5 : BufOf (F := F) c m5) (g6 : BufOf (F := F) c m6), ⌜Out g4 g5 g6⌝ ∗ pt c m4 g4 ∗ pt c m5 g5 ∗ pt c m6 g6) ∗ pt c m0 f0 ∗ pt c m1 f1 ∗ pt c m2 f2 ∗ pt c m3 f3 ∗ (∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f) ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ (∃ W', owes (c : Thread nD τ) 0 W')) -∗ K ⟨⟩)) ⊢ wp frame (wpE (defs₀ (F := F)) Variants.none c none) Set.univ (body (F := F)) K := by
  refine (s1 c f0 f1 f2 f3 f4 f5 f6 f7 f8 f9 f10 f11 f12 f13 f14 f15 f16 f17 f18 Out).2 ((s2 c f0 f1 f2 f3 f4 f5 f6 f7 f8 f9 f10 f11 f12 f13 f14 f15 f16 f17 f18 Out).2 ((t0a c f0 f1 f2 f3 f4 f5 f6 f7 f8 f9 f10 f11 f12 f13 f14 f15 f16 f17 f18 Out).2 ((t0b c f0 f1 f2 f3 f4 f5 f6 f7 f8 f9 f10 f11 f12 f13 f14 f15 f16 f17 f18 Out).2 ((t1a c f0 f1 f2 f3 f4 f5 f6 f7 f8 f9 f10 f11 f12 f13 f14 f15 f16 f17 f18 Out).2 ((t1b c f0 f1 f2 f3 f4 f5 f6 f7 f8 f9 f10 f11 f12 f13 f14 f15 f16 f17 f18 Out).2 ((t2a c f0 f1 f2 f3 f4 f5 f6 f7 f8 f9 f10 f11 f12 f13 f14 f15 f16 f17 f18 Out).2 ((t2b c f0 f1 f2 f3 f4 f5 f6 f7 f8 f9 f10 f11 f12 f13 f14 f15 f16 f17 f18 Out).2 ((t3a c f0 f1 f2 f3 f4 f5 f6 f7 f8 f9 f10 f11 f12 f13 f14 f15 f16 f17 f18 Out).2 ((t3b c f0 f1 f2 f3 f4 f5 f6 f7 f8 f9 f10 f11 f12 f13 f14 f15 f16 f17 f18 Out).2 ((t4a c f0 f1 f2 f3 f4 f5 f6 f7 f8 f9 f10 f11 f12 f13 f14 f15 f16 f17 f18 Out).2 ((t4b c f0 f1 f2 f3 f4 f5 f6 f7 f8 f9 f10 f11 f12 f13 f14 f15 f16 f17 f18 Out).2 ((t5a c f0 f1 f2 f3 f4 f5 f6 f7 f8 f9 f10 f11 f12 f13 f14 f15 f16 f17 f18 Out).2 ((t5b c f0 f1 f2 f3 f4 f5 f6 f7 f8 f9 f10 f11 f12 f13 f14 f15 f16 f17 f18 Out).2 ?_))))))))))))) W K
  sl_resume
  set_option sl_exec.dmaWindow true in
  sl_exec_parts
  ihave Hj := ring_joinw c $$ Ha0 Ha1 Ha2 Ha3 Ha4 Ha5 Ha6 Ha7 Ha8 Ha9 Ha10 Ha11 Ha12 Ha13 Ha14 Ha15 Ha16 Ha17 Ha18 Ha19
  icases Hj with ⟨%j10, %h10, Ha⟩
  ihave Hj := cod_joinw c $$ Hb0 Hb1 Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27
  icases Hj with ⟨%j16, %h16, Hb⟩
  ihave Hj := out_joinw c $$ Hd0 Hd1 Hd2 Hd3 Hd4 Hd5 Hd6 Hd7
  icases Hj with ⟨%j18, %h18, Hd⟩
  ihave Hj := hcod_joinw c $$ Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27
  icases Hj with ⟨%j5, %h5, Hc⟩
  ihave Hj := hout_joinw c $$ He0 He1 He2 He3 He4 He5 He6 He7
  icases Hj with ⟨%j4, %h4, He⟩
  sl_step
  iapply Hk
  isplitl [He Hc H6]
  · iexists _; iexists _; iexists _
    isplitr; swap; (isplitl [He]; · iexact He); (isplitl [Hc]; · iexact Hc); iexact H6
    ipureintro; exact hOut _ _ _
  isplitl [H0]; · iexact H0
  isplitl [H1]; · iexact H1
  isplitl [H2]; · iexact H2
  isplitl [H3]; · iexact H3
  isplitl [Hk0_part91_1]; · iexists _; iexact Hk0_part91_1
  isplitl [H8]; · iexists _; iexact H8
  isplitl [H9]; · iexists _; iexact H9
  isplitl [Ha]; · iexists _; iexact Ha
  isplitl [Hk0_part91_2]; · iexists _; iexact Hk0_part91_2
  isplitl [H12]; · iexists _; iexact H12
  isplitl [Hk0_part91_3]; · iexists _; iexact Hk0_part91_3
  isplitl [H14]; · iexists _; iexact H14
  isplitl [H15]; · iexists _; iexact H15
  isplitl [Hb]; · iexists _; iexact Hb
  isplitl [Hk0_part91_4]; · iexists _; iexact Hk0_part91_4
  isplitl [Hd]; · iexists _; iexact Hd
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  iexists _; iexact HW

end Cert.KernelIdeal.Hand

end
-- ==== Proof.KI.Fr.lean ====
/- The region launched: the run ends with every operand unchanged. -/
module

public import proofs.«01_k».proof.Proof.KI.Fin
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the region: its two host reshapes, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownedPts0_eq (c : Dev nD) :
    (Pipeline.owned R0 c : sProp 𝕄) = iprop((∃ f : BufOf (F := F) c m4, pt c m4 f) ∗ (∃ f : BufOf (F := F) c m5, pt c m5 f) ∗ (∃ f : BufOf (F := F) c m6, pt c m6 f)) := by
  unfold Pipeline.owned; rw [BI.bigSep_eq_bigSepL_of_eq [main_v2_0, main_v2_1, main_v2_2] (by decide) (by decide)]; rfl

/-- The region's invariant as a chain of held buffers. -/
theorem PhiDR0_eq (c : Dev nD) :
    (Pipeline.ΦDR osem0 (cfg0.spec) H0 R0 (V m) c : sProp 𝕄)
      = iprop(iprop((∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f)) ∗ (∃ r, prngReg c r) ∗ iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32) ∗ iprop(pt c m0 (V m c main_v0) ∗ pt c m1 (V m c main_arg1) ∗ pt c m2 (V m c main_arg2) ∗ pt c m3 (V m c main_v1)) ∗ iprop((∃ f : BufOf (F := F) c m4, pt c m4 f) ∗ (∃ f : BufOf (F := F) c m5, pt c m5 f) ∗ (∃ f : BufOf (F := F) c m6, pt c m6 f))) := by
  rw [Pipeline.ΦDR_eq, scopedRest0_eq, ownSems00_eq, hbmPts0_eq, ownedPts0_eq]

/-- The region's proof data: the written results owned, nothing owed. -/
def dats (_ : Fin 1) (c : Dev nD) : Pipeline.Dat τ (Elt F) Unit ℕ (Pipeline.UD sig nD τ) ℕ cfg0 c where
  A w := V m c (Pipeline.arrRef (cfg0.spec) w)
  after w _ := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := w.elim0

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

set_option maxHeartbeats 1000000 in
/-- The body's one point keeps the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Pipeline.Dat.owesAt Pipeline.owesWithin
  rw [show (dats m 0 c).owed t.castSucc = 0 from rfl, show (dats m 0 c).owed t.succ = 0 from rfl]
  iintro ⟨⟨⟨⟨%g7, HS7⟩, ⟨%g8, HS8⟩, ⟨%g9, HS9⟩, ⟨%g10, HS10⟩, ⟨%g11, HS11⟩, ⟨%g12, HS12⟩, ⟨%g13, HS13⟩, ⟨%g14, HS14⟩, ⟨%g15, HS15⟩, ⟨%g16, HS16⟩, ⟨%g17, HS17⟩, ⟨%g18, HS18⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32⟩, ⟨Hh0, Hh1, Hh2, Hh3⟩, ⟨⟨%g4, Hh4⟩, ⟨%g5, Hh5⟩, ⟨%g6, Hh6⟩⟩⟩, ⟨%W, -, HW⟩⟩
  iapply (run c (V m c main_v0) (V m c main_arg1) (V m c main_arg2) (V m c main_v1) g4 g5 g6 g7 g8 g9 g10 g11 g12 g13 g14 g15 g16 g17 g18 (fun _ _ _ => True) (fun _ _ _ => trivial) W _)
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [HW]; · iexact HW
  iintro ⟨⟨%r4, %r5, %r6, -, Hh4, Hh5, Hh6⟩, Hh0, Hh1, Hh2, Hh3, HS7, HS8, HS9, HS10, HS11, HS12, HS13, HS14, HS15, HS16, HS17, HS18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, ⟨%W', HW'⟩⟩
  isplitl [Hh0 Hh1 Hh2 Hh3 Hh4 Hh5 Hh6 Hg HS7 HS8 HS9 HS10 HS11 HS12 HS13 HS14 HS15 HS16 HS17 HS18 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
  · isplitl [HS7 HS8 HS9 HS10 HS11 HS12 HS13 HS14 HS15 HS16 HS17 HS18]
    · isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      iexact HS18
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      iexact Hq32
    isplitl [Hh0 Hh1 Hh2 Hh3]
    · isplitl [Hh0]; · iexact Hh0
      isplitl [Hh1]; · iexact Hh1
      isplitl [Hh2]; · iexact Hh2
      iexact Hh3
    isplitl [Hh4]; · iexists _; iexact Hh4
    isplitl [Hh5]; · iexists _; iexact Hh5
    iexists _; iexact Hh6
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [defs₀_row]
  refine triple_restated (sound_body m c t) ?_ ?_ fun _ => ?_
  · rfl
  · iintro ⟨H1, H2, -⟩
    unfold bodyPre
    isplitl [H1]; · iexact H1
    iexact H2
  · unfold bodyPost
    iintro ⟨H1, H2⟩
    isplitl [H1]; · iexact H1
    isplitl [H2]; · iexact H2
    iapply (Entails.of_eq (by haveI : IsEmpty (Fin cfg0.W) := ⟨fun w => w.elim0⟩; rw [Finset.univ_eq_empty]; rfl : (iprop(emp) : sProp 𝕄) = _)); exact .rfl

set_option backward.isDefEq.respectTransparency.types false in
/-- The run ends: every unscoped buffer but the results is as the region found it, every counter at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ)

end Cert.KernelIdeal.Hand

end
-- ==== Proof.V.Math.lean ====
/-
The arithmetic both programs share: the signs of a Walsh–Hadamard transform built stage by stage, and the
search for the greatest power of two below a ratio, bit by bit, against the ratio's logarithm.
-/
module

public import Idealize.ShloMosaic.PureOps.Ideal

@[expose] public section

set_option maxRecDepth 65536
set_option maxHeartbeats 400000

noncomputable section

namespace Cert.V

open Idealize.ShloMosaic

/-- The sign at row `i`, column `j` of the transform of `2 ^ k` points. -/
def sgn : ℕ → ℕ → ℕ → ℤ
  | 0, _, _ => 1
  | k + 1, i, j => (if i / 2 ^ k % 2 = 1 ∧ j / 2 ^ k % 2 = 1 then -1 else 1) * sgn k (i % 2 ^ k) (j % 2 ^ k)

/-- One butterfly stage at distance `2 ^ k`. -/
def stg (k : ℕ) (g : ℕ → ℝ) (i : ℕ) : ℝ := if i / 2 ^ k % 2 = 0 then g i + g (i + 2 ^ k) else g (i - 2 ^ k) - g i
/-- The first `k` stages. -/
def stgs : ℕ → (ℕ → ℝ) → ℕ → ℝ
  | 0, g => g
  | k + 1, g => stg k (stgs k g)

theorem stgs_eq (k : ℕ) (g : ℕ → ℝ) (i : ℕ) :
    stgs k g i = ∑ j ∈ Finset.range (2 ^ k), (sgn k (i % 2 ^ k) j : ℝ) * g (2 ^ k * (i / 2 ^ k) + j) := by
  induction k generalizing i with
  | zero => simp [stgs, sgn]
  | succ k ih =>
    have hp : 0 < 2 ^ k := by positivity
    set P := 2 ^ k with hP
    have h2 : 2 ^ (k + 1) = P + P := by rw [pow_succ, hP]; ring
    have hdd : i / (P + P) = i / P / 2 := by rw [Nat.div_div_eq_div_mul]; congr 1; ring
    have e1 : i % (P + P) / P = i / P % 2 := by
      have : P + P = P * 2 := by ring
      rw [this, Nat.mod_mul_right_div_self]
    have e2 : i % (P + P) % P = i % P := Nat.mod_mod_of_dvd _ ⟨2, by ring⟩
    have eL : ∀ j ∈ Finset.range P, (sgn (k + 1) (i % (P + P)) j : ℝ) = sgn k (i % P) j := by
      intro j hj
      have hj := Finset.mem_range.mp hj
      simp only [sgn, ← hP, e2, Nat.div_eq_of_lt hj, Nat.mod_eq_of_lt hj]
      simp
    have eR : ∀ j ∈ Finset.range P, (sgn (k + 1) (i % (P + P)) (P + j) : ℝ) = (if i / P % 2 = 1 then -1 else 1) * sgn k (i % P) j := by
      intro j hj
      have hj := Finset.mem_range.mp hj
      have a1 : (P + j) / P = 1 := by rw [Nat.add_div_left _ hp, Nat.div_eq_of_lt hj]
      have a2 : (P + j) % P = j := by rw [Nat.add_mod_left, Nat.mod_eq_of_lt hj]
      simp only [sgn, ← hP, e1, e2, a1, a2]
      split_ifs with u v v <;> simp_all
    show stg k (stgs k g) i = _
    have sL : ∑ j ∈ Finset.range P, (sgn (k + 1) (i % (P + P)) j : ℝ) * g ((P + P) * (i / (P + P)) + j) = ∑ j ∈ Finset.range P, (sgn k (i % P) j : ℝ) * g ((P + P) * (i / (P + P)) + j) :=
      Finset.sum_congr rfl fun j hj => by rw [eL j hj]
    have sR : ∑ j ∈ Finset.range P, (sgn (k + 1) (i % (P + P)) (P + j) : ℝ) * g ((P + P) * (i / (P + P)) + (P + j)) = ∑ j ∈ Finset.range P, ((if i / P % 2 = 1 then -1 else 1) * (sgn k (i % P) j : ℝ)) * g ((P + P) * (i / (P + P)) + (P + j)) :=
      Finset.sum_congr rfl fun j hj => by rw [eR j hj]
    rw [h2, Finset.sum_range_add, sL, sR]
    unfold stg
    rcases Nat.mod_two_eq_zero_or_one (i / P) with hb | hb
    · rw [if_pos hb, ih i, ih (i + P)]
      have d1 : P * (i / P) = (P + P) * (i / (P + P)) := by
        rw [hdd]; have := Nat.div_add_mod (i / P) 2; rw [hb] at this; nlinarith
      have d2 : (i + P) / P = i / P + 1 := Nat.add_div_right _ hp
      have d3 : (i + P) % P = i % P := Nat.add_mod_right _ _
      rw [d2, d3, if_neg (by rw [hb]; decide), mul_add, d1]
      simp only [one_mul, mul_one, add_assoc]
    · have hge : P ≤ i := by
        by_contra h; rw [Nat.div_eq_of_lt (Nat.lt_of_not_le h)] at hb; exact absurd hb (by decide)
      rw [if_neg (by rw [hb]; decide), ih i, ih (i - P)]
      have d1 : P * (i / P) = (P + P) * (i / (P + P)) + P := by
        rw [hdd]; have := Nat.div_add_mod (i / P) 2; rw [hb] at this; nlinarith
      have d2 : (i - P) / P = i / P - 1 := by
        have := Nat.add_div_right (i - P) hp
        rw [Nat.sub_add_cancel hge] at this; rw [this, Nat.add_sub_cancel]
      have d3 : (i - P) % P = i % P := by
        conv_rhs => rw [← Nat.sub_add_cancel hge, Nat.add_mod_right]
      have d4 : P * (i / P - 1) = (P + P) * (i / (P + P)) := by rw [Nat.mul_sub, d1]; simp
      rw [d2, d3, d4, d1, if_pos hb, sub_eq_add_neg, ← Finset.sum_neg_distrib]
      congr 1
      refine Finset.sum_congr rfl fun j _ => ?_
      rw [add_assoc]; ring

/-- The whole transform: all nine stages, as signs times points. -/
theorem stgs9 (g : ℕ → ℝ) (i : ℕ) (hi : i < 512) : stgs 9 g i = ∑ j ∈ Finset.range 512, (sgn 9 i j : ℝ) * g j := by
  rw [stgs_eq, show (2 : ℕ) ^ 9 = 512 from rfl, Nat.mod_eq_of_lt hi, Nat.div_eq_of_lt hi]; simp

/-- The transform a half at a time: the halves' sum or difference under 256 signs. -/
theorem stgs9_half (g : ℕ → ℝ) (p : ℕ) (hp : p < 2) (c : ℕ) (hc : c < 256) :
    stgs 9 g (p * 256 + c) = ∑ j ∈ Finset.range 256, (if p = 0 then g j + g (j + 256) else g j - g (j + 256)) * (sgn 8 c j : ℝ) := by
  rw [stgs9 _ _ (by omega), show 512 = 256 + 256 from rfl, Finset.sum_range_add, ← Finset.sum_add_distrib]
  refine Finset.sum_congr rfl fun j hj => ?_
  have hj := Finset.mem_range.mp hj
  have i1 : (p * 256 + c) / 256 = p := by omega
  have i2 : (p * 256 + c) % 256 = c := by omega
  have j1 : j / 256 = 0 := by omega
  have j2 : j % 256 = j := by omega
  have j3 : (256 + j) / 256 = 1 := by omega
  have j4 : (256 + j) % 256 = j := by omega
  have a : sgn 9 (p * 256 + c) j = sgn 8 c j := by
    show (if (p * 256 + c) / 256 % 2 = 1 ∧ j / 256 % 2 = 1 then -1 else 1) * sgn 8 ((p * 256 + c) % 256) (j % 256) = _
    rw [i2, j2, j1]; simp
  have b : sgn 9 (p * 256 + c) (256 + j) = (if p = 0 then 1 else -1) * sgn 8 c j := by
    show (if (p * 256 + c) / 256 % 2 = 1 ∧ (256 + j) / 256 % 2 = 1 then -1 else 1) * sgn 8 ((p * 256 + c) % 256) ((256 + j) % 256) = _
    rw [i1, i2, j3, j4]
    have : p = 0 ∨ p = 1 := by omega
    rcases this with rfl | rfl <;> simp
  rw [a, b, add_comm 256 j]
  split_ifs <;> push_cast <;> ring

/-- Sums of reals, embedded. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The exponent search -/

/-- A step of the search: the bits kept if the test holds of them. -/
def sstep (P : BitVec 32 → Prop) [DecidablePred P] (b e : BitVec 32) : BitVec 32 := if P (e ||| b) then e ||| b else e
/-- The search, high bit first. -/
def ssearch (P : BitVec 32 → Prop) [DecidablePred P] : BitVec 32 :=
  sstep P 1#32 (sstep P 2#32 (sstep P 4#32 (sstep P 8#32 (sstep P 16#32 (sstep P 32#32 (sstep P 64#32 (sstep P 128#32 0#32)))))))

theorem sstep_lt (P : BitVec 32 → Prop) [DecidablePred P] (b e : BitVec 32) (hb : b.toNat < 256) (he : e.toNat < 256) : (sstep P b e).toNat < 256 := by
  unfold sstep; split
  · rw [BitVec.toNat_or]; exact Nat.or_lt_two_pow (n := 8) he hb
  · exact he

theorem sstep_congr (P Q : BitVec 32 → Prop) [DecidablePred P] [DecidablePred Q] (h : ∀ k : BitVec 32, 1 ≤ k.toNat → k.toNat < 256 → (P k ↔ Q k))
    (b e : BitVec 32) (h1 : 1 ≤ b.toNat) (hb : b.toNat < 256) (he : e.toNat < 256) : sstep P b e = sstep Q b e := by
  unfold sstep
  have : P (e ||| b) ↔ Q (e ||| b) := h _ (by rw [BitVec.toNat_or]; exact h1.trans Nat.right_le_or) (by rw [BitVec.toNat_or]; exact Nat.or_lt_two_pow (n := 8) he hb)
  by_cases hp : P (e ||| b)
  · rw [if_pos hp, if_pos (this.mp hp)]
  · rw [if_neg hp, if_neg (fun q => hp (this.mpr q))]

theorem ssearch_congr (P Q : BitVec 32 → Prop) [DecidablePred P] [DecidablePred Q] (h : ∀ k : BitVec 32, 1 ≤ k.toNat → k.toNat < 256 → (P k ↔ Q k)) :
    ssearch P = ssearch Q := by
  unfold ssearch
  have e0 : (0#32).toNat < 256 := by decide
  have s7 := sstep_congr P Q h 128#32 0#32 (by decide) (by decide) e0
  have l7 := sstep_lt Q 128#32 0#32 (by decide) e0
  have s6 := sstep_congr P Q h 64#32 _ (by decide) (by decide) l7
  have l6 := sstep_lt Q 64#32 _ (by decide) l7
  have s5 := sstep_congr P Q h 32#32 _ (by decide) (by decide) l6
  have l5 := sstep_lt Q 32#32 _ (by decide) l6
  have s4 := sstep_congr P Q h 16#32 _ (by decide) (by decide) l5
  have l4 := sstep_lt Q 16#32 _ (by decide) l5
  have s3 := sstep_congr P Q h 8#32 _ (by decide) (by decide) l4
  have l3 := sstep_lt Q 8#32 _ (by decide) l4
  have s2 := sstep_congr P Q h 4#32 _ (by decide) (by decide) l3
  have l2 := sstep_lt Q 4#32 _ (by decide) l3
  have s1 := sstep_congr P Q h 2#32 _ (by decide) (by decide) l2
  have l1 := sstep_lt Q 2#32 _ (by decide) l2
  have s0 := sstep_congr P Q h 1#32 _ (by decide) (by decide) l1
  rw [s7, s6, s5, s4, s3, s2, s1, s0]

theorem ssearch_le : ∀ m : Fin 256, ssearch (fun k => k.toNat ≤ m.val) = BitVec.ofNat 32 m.val := by
  unfold ssearch sstep; decide +kernel

theorem field_parts (m : ℕ) (h2 : m ≤ 254) : (BitVec.ofNat 32 m <<< 23).extractLsb' (8 + 23) 1 = 0#1 ∧ ((BitVec.ofNat 32 m <<< 23).extractLsb' 23 8).toNat = m ∧ ((BitVec.ofNat 32 m <<< 23).extractLsb' 0 23).toNat = 0 := by
  have hm : ∀ m : Fin 255, (BitVec.ofNat 32 m.val <<< 23).extractLsb' (8 + 23) 1 = 0#1 ∧ ((BitVec.ofNat 32 m.val <<< 23).extractLsb' 23 8).toNat = m.val ∧ ((BitVec.ofNat 32 m.val <<< 23).extractLsb' 0 23).toNat = 0 := by decide +kernel
  exact hm ⟨m, by omega⟩

theorem ieee_parts (b : BitVec 32) (m : ℕ) (h0 : b.extractLsb' (8 + 23) 1 = 0#1) (h1 : (b.extractLsb' 23 8).toNat = m) (h2 : (b.extractLsb' 0 23).toNat = 0) (hm : m ≠ 2 ^ 8 - 1) (hm' : m ≠ 0) :
    Ideal.ieee 8 23 b = ((1 * (2 ^ 23 + 0 : ℕ) * (2 : ℝ) ^ ((m : ℤ) - (2 ^ (8 - 1) - 1) - (23 : ℕ)) : ℝ) : EReal) := by
  unfold Ideal.ieee
  simp only [h0, h1, h2, if_neg hm, if_neg hm']
  rfl

/-- The number whose pattern is exponent field `m` and nothing else. -/
theorem ofBits_field (m : ℕ) (h1 : 1 ≤ m) (h2 : m ≤ 254) : Ideal.ofBits .f32 (BitVec.ofNat 32 m <<< 23) = (((2 : ℝ) ^ ((m : ℤ) - 127) : ℝ) : EReal) := by
  obtain ⟨a, b, c⟩ := field_parts m h2
  have e : (1 * (2 ^ 23 + 0 : ℕ) * (2 : ℝ) ^ ((m : ℤ) - (2 ^ (8 - 1) - 1) - (23 : ℕ)) : ℝ) = (2 : ℝ) ^ ((m : ℤ) - 127) := by
    have e1 : (((2 ^ 23 + 0 : ℕ) : ℝ)) = (2 : ℝ) ^ (23 : ℤ) := by norm_num
    have e2 : ((m : ℤ) - (2 ^ (8 - 1) - 1) - (23 : ℕ)) = (m : ℤ) - 127 - 23 := by norm_num
    rw [e1, e2, one_mul, ← zpow_add₀ (by norm_num), add_sub_cancel]
  have h := ieee_parts _ m a b c (by omega) (by omega)
  rw [e] at h
  unfold Ideal.ofBits
  exact h

theorem ofBits_top : Ideal.ofBits .f32 (BitVec.ofNat 32 255 <<< 23) = ⊤ := by
  simp [Ideal.ofBits, Ideal.ieee]

end Cert.V
-- ==== Proof.V.Bound.lean ====
/-
What the precondition says of the arguments: finite numbers, with bounds.
-/
module

public import proofs.«01_k».proof.Defs
public import proofs.«01_k».proof.Proof.Gen.Pre_bounded
public import proofs.«01_k».proof.Proof.V.Math
public import Idealize.ShloMosaic.Lib.ReduceAll
public import Idealize.ShloMosaic.Lib.Affine

@[expose] public section

set_option maxRecDepth 65536

noncomputable section

namespace Cert.Pre_bounded

open Idealize.ShloMosaic Cert.V

theorem real_of (u : EReal) (n : ℕ) (h1 : 1 ≤ n) (h2 : n ≤ 254) (w : BitVec 32) (hw : w = BitVec.ofNat 32 n <<< 23)
    (h : Ideal.cmp .ole (max u (-u)) (Ideal.ofBits .f32 w) = 1#1) : ∃ r : ℝ, u = (r : EReal) ∧ |r| ≤ (2 : ℝ) ^ ((n : ℤ) - 127) := by
  rw [hw, ofBits_field n h1 h2] at h
  have hle : max u (-u) ≤ (((2 : ℝ) ^ ((n : ℤ) - 127) : ℝ) : EReal) := by
    by_contra hc
    simp [Ideal.cmp, hc] at h
  obtain ⟨ha, hb⟩ := max_le_iff.1 hle
  induction u using EReal.rec with
  | bot => simp at hb
  | top => simp at ha
  | coe r =>
    refine ⟨r, rfl, abs_le.2 ⟨?_, EReal.coe_le_coe_iff.1 ha⟩⟩
    rw [← EReal.coe_neg, EReal.coe_le_coe_iff] at hb
    linarith

instance : Subsingleton S_.Idx := ⟨fun a b => funext fun d => d.elim0⟩

theorem and1 (a b : BitVec 1) (h : a &&& b = 1#1) : a = 1#1 ∧ b = 1#1 := by
  revert a b; decide

theorem reals [Facts] (x : FVec Ideal S1x128x14336 .bf16) (h : FVec Ideal S28x28 .f32) (w : FVec Ideal S14336x4096 .fp8e4m3) (s : FVec Ideal S4096 .f32)
    (e : fn (F := Ideal) x h w s = (fun _ => 1#1)) :
    (∀ i, ∃ r : ℝ, x i = (r : EReal) ∧ |r| ≤ (2 : ℝ) ^ (((187 : ℕ) : ℤ) - 127)) ∧ (∀ i, ∃ r : ℝ, h i = (r : EReal) ∧ |r| ≤ (2 : ℝ) ^ (((175 : ℕ) : ℤ) - 127)) := by
  have j : S_.Idx := fun d => d.elim0
  have e1 := congrFun e j
  dsimp only [fn] at e1
  obtain ⟨ea, eb⟩ := and1 _ _ e1
  constructor
  · intro i
    have := Host.reduce_andi_all _ _ _ _ j ea i
    exact real_of (x i) 187 (by decide) (by decide) 0x5D800000#32 (by decide) this
  · intro i
    have := Host.reduce_andi_all _ _ _ _ j eb i
    exact real_of (h i) 175 (by decide) (by decide) 0x57800000#32 (by decide) this

end Cert.Pre_bounded
-- ==== Proof.V.Canon.lean ====
/-
What one group of 128 columns of a block becomes: the canonical forms of the kernel's pieces, over the
block of the mixed array and the sign table.
-/
module

public import proofs.«01_k».proof.Proof.KI.Fin
public import Idealize.ShloMosaic.Lib.Pipeline.Value

@[expose] public section

noncomputable section

namespace Cert.KernelIdeal.Hand

open Cert.KernelIdeal Cert.KernelIdeal.Gen Idealize.ShloMosaic

variable {F : FTy → Type} [FloatOps F]

/-- The table of signs. -/
def cW : FVec F S256x256 .bf16 :=
  m12.view.readCov (s1.sl.H12_1 (F := F)) (Rect.unit (s := S256x256) ![0, 0] S256x256.size inb_S256x256_S256x256_0_0).toLoadRect

theorem cW_eq : cW (F := F) = k0_pay257 (F := F) k0_pay256 1#32 := by
  unfold cW s1.sl.H12_1
  exact View.readCov_unit_zero _ (by funext a; fin_cases a <;> rfl) _ _

/-- The sum (`p = 0`) or the difference of the two halves of a block. -/
def cV (p : Bool) (z : Vec F S1x128x512 .f32) : FVec F S128x256 .f32 := bif p then k0_pay476 z else k0_pay475 z
/-- The transformed half. -/
def cY (p : Bool) (z : Vec F S1x128x512 .f32) : FVec F S128x256 .f32 := k0_pay477 (cV p z) cW
/-- One group of it. -/
def cG (p q : Bool) (z : Vec F S1x128x512 .f32) : FVec F S128x128 .f32 :=
  bif q then extractStridedSlice S128x128 ![0, 128] (cY p z) slices_S128x256_o0_128_S128x128
  else extractStridedSlice S128x128 ![0, 0] (cY p z) slices_S128x256_o0_0_S128x128
/-- A group's ratio: its greatest magnitude over 448, spread along the row. -/
def cR (y : FVec F S128x128 .f32) : FVec F S128x128 .f32 :=
  broadcastTo S128x128 (shapeCast S128x1 (mulf (shapeCast S128x1 (multiReduction .maximumf [1] S128 (absf y) 0xFF800000#32 reduces_S128x128_S128 (.inl rfl) rfl) shapeCasts_S128_S128x1)
    (broadcast S128x1 (Scalar.ofBits .f32 0x3B124925#32))) shapeCasts_S128x1_S128x1) broadcasts_S128x1_S128x128
/-- One step of the exponent search. -/
def cStep (r : FVec F S128x128 .f32) (b : BitVec 32) (e : IVec S128x128 32) : IVec S128x128 32 :=
  select (cmpf .oge r (bitcastToFloat .f32 (shli (ori e (broadcast S128x128 b)) (broadcast S128x128 23#32)))) (ori e (broadcast S128x128 b)) e
/-- The exponent field found. -/
def cE0 (r : FVec F S128x128 .f32) : IVec S128x128 32 :=
  cStep r 1#32 (cStep r 2#32 (cStep r 4#32 (cStep r 8#32 (cStep r 16#32 (cStep r 32#32 (cStep r 64#32 (cStep r 128#32 (broadcast S128x128 0#32))))))))
/-- The exponent field used: 126 where none was found. -/
def cE (r : FVec F S128x128 .f32) : IVec S128x128 32 :=
  select (cmpi .eq (cE0 r) (broadcast S128x128 0#32)) (broadcast S128x128 126#32) (cE0 r)
/-- The scale. -/
def cS (e : IVec S128x128 32) : FVec F S128x128 .f32 := bitcastToFloat .f32 (shli (addi e (broadcast S128x128 1#32)) (broadcast S128x128 23#32))
/-- The codes. -/
def cC (y : FVec F S128x128 .f32) (e : IVec S128x128 32) : FVec F S128x128 .fp8e4m3 :=
  truncf .fp8e4m3 (minimumf (broadcast S128x128 (Scalar.ofBits .f32 0x43E00000#32)) (maximumf (broadcast S128x128 (Scalar.ofBits .f32 0xC3E00000#32))
    (mulf y (bitcastToFloat .f32 (shli (subi (broadcast S128x128 253#32) e) (broadcast S128x128 23#32)))))) bitsLt_fp8e4m3_f32
/-- The exponent field of a block's group. -/
def gE (p q : Bool) (z : Vec F S1x128x512 .f32) : IVec S128x128 32 := cE (cR (cG p q z))
/-- The codes of a block's group, as stored. -/
def gC (p q : Bool) (z : Vec F S1x128x512 .f32) : FVec F S1x128x128 .fp8e4m3 :=
  shapeCast S1x128x128 (cC (cG p q z) (gE p q z)) shapeCasts_S128x128_S1x128x128
/-- The codes times their scale, as stored. -/
def gX (p q : Bool) (z : Vec F S1x128x512 .f32) : FVec F S1x1x128x128 .bf16 :=
  shapeCast S1x1x128x128 (truncf .bf16 (mulf (extf .f32 (cC (cG p q z) (gE p q z)) bitsLt_fp8e4m3_f32) (cS (gE p q z))) bitsLt_bf16_f32) shapeCasts_S128x128_S1x1x128x128
/-- The scales with one group's put in. -/
def gS (p q : Bool) (g : BitVec 32) (z : Vec F S1x128x512 .f32) (s : Vec F S128x112 .f32) : FVec F S128x112 .f32 :=
  select (cmpi .eq (iota .tc S128x112 32 [1] iota_S128x112_d1_w32) (broadcast S128x112 g)) (extractStridedSlice S128x112 ![0, 0] (cS (gE p q z)) slices_S128x128_o0_0_S128x112) s
/-- Block `b` of the mixed array. -/
def zB (c : Dev nD) (fz : BufOf (F := F) c m13) (b : Fin 28) : Vec F S1x128x512 .f32 :=
  View.readAt (Elt F) m13.view (Rect.unit (s := S28x128x512) ![b.val, 0, 0] S1x128x512.size (by
    have := b.isLt
    intro a; fin_cases a <;> simp <;> omega)).toLoadRect fz

theorem inbP (b : Fin 28) (o : Fin 4) : ∀ a, (![b.val, 0, 128 * o.val] : Fin 3 → Nat) a + S1x128x128.size a ≤ S28x128x512.size a := by
  have := b.isLt
  have := o.isLt
  intro a; fin_cases a <;> simp <;> omega

/-- The piece of codes stored for a block's group. -/
def cPc (c : Dev nD) (fz : BufOf (F := F) c m13) (b : Fin 28) (p q : Bool) (o : Fin 4) : View.Piece (Elt F) S28x128x512 .fp8e4m3 :=
  ⟨Rect.unit (s := S28x128x512) ![b.val, 0, 128 * o.val] S1x128x128.size (inbP b o), gC p q (zB c fz b)⟩
/-- The four pieces of codes of a block, the last stored first. -/
def cL (c : Dev nD) (fz : BufOf (F := F) c m13) (b : Fin 28) : List (View.Piece (Elt F) S28x128x512 .fp8e4m3) :=
  [cPc c fz b true true 3, cPc c fz b true false 2, cPc c fz b false true 1, cPc c fz b false false 0]

theorem inbX (s : Fin 2) (t o : Fin 4) : ∀ a, (![s.val, t.val, 0, 128 * o.val] : Fin 4 → Nat) a + S1x1x128x128.size a ≤ S2x4x128x512.size a := by
  have := s.isLt
  have := t.isLt
  have := o.isLt
  intro a; fin_cases a <;> simp <;> omega

/-- The piece of scaled codes stored for a block's group, at place `t` of half `s` of the pair of staging areas. -/
def xPc (c : Dev nD) (fz : BufOf (F := F) c m13) (b : Fin 28) (s : Fin 2) (t : Fin 4) (p q : Bool) (o : Fin 4) : View.Piece (Elt F) S2x4x128x512 .bf16 :=
  ⟨Rect.unit (s := S2x4x128x512) ![s.val, t.val, 0, 128 * o.val] S1x1x128x128.size (inbX s t o), gX p q (zB c fz b)⟩
/-- The four pieces of scaled codes of a block, the last stored first, before the rest. -/
def xL (c : Dev nD) (fz : BufOf (F := F) c m13) (b : Fin 28) (s : Fin 2) (t : Fin 4) (l : List (View.Piece (Elt F) S2x4x128x512 .bf16)) : List (View.Piece (Elt F) S2x4x128x512 .bf16) :=
  xPc c fz b s t true true 3 :: xPc c fz b s t true false 2 :: xPc c fz b s t false true 1 :: xPc c fz b s t false false 0 :: l

/-- The scales with a block's four put in. -/
def sB (c : Dev nD) (fz : BufOf (F := F) c m13) (b : Fin 28) (s : Vec F S128x112 .f32) : Vec F S128x112 .f32 :=
  shapeCast S128x112 (gS true true (BitVec.ofNat 32 (4 * b.val + 3)) (zB c fz b) (gS true false (BitVec.ofNat 32 (4 * b.val + 2)) (zB c fz b)
    (gS false true (BitVec.ofNat 32 (4 * b.val + 1)) (zB c fz b) (gS false false (BitVec.ofNat 32 (4 * b.val)) (zB c fz b) s)))) shapeCasts_S128x112_S128x112

/-- The lane numbers, and the first block's two halves. -/
abbrev VL : IVec S128x112 32 := iota .tc S128x112 32 [1] iota_S128x112_d1_w32
abbrev V5 (c : Dev nD) (fz : BufOf (F := F) c m13) : FVec F S128x256 .f32 := k0_pay475 (zB c fz 0)
abbrev V6 (c : Dev nD) (fz : BufOf (F := F) c m13) : FVec F S128x256 .f32 := k0_pay476 (zB c fz 0)

/-- The scales' piece: the whole array. -/
def sPc (v : Vec F S128x112 .f32) : View.Piece (Elt F) S128x112 .f32 := ⟨Rect.unit (s := S128x112) ![0, 0] S128x112.size inb_S128x112_S128x112_0_0, v⟩
/-- The scales after one more block. -/
def sStep (c : Dev nD) (fz : BufOf (F := F) c m13) (b : Fin 28) (l : List (View.Piece (Elt F) S128x112 .f32)) : List (View.Piece (Elt F) S128x112 .f32) :=
  sPc (sB c fz b (m17.view.readCov l (Rect.unit (s := S128x112) ![0, 0] S128x112.size inb_S128x112_S128x112_0_0).toLoadRect)) :: l

/-- Where block `m` of the scaled codes is staged. -/
def xs (m : Fin 28) : Fin 2 := ⟨m.val / 4 % 2, Nat.mod_lt _ (by omega)⟩
def xt (m : Fin 28) : Fin 4 := ⟨m.val % 4, Nat.mod_lt _ (by omega)⟩
/-- The staging areas after one more block. -/
def xStep (c : Dev nD) (fz : BufOf (F := F) c m13) (b : Fin 28) (l : List (View.Piece (Elt F) S2x4x128x512 .bf16)) : List (View.Piece (Elt F) S2x4x128x512 .bf16) :=
  xL c fz b (xs b) (xt b) l

theorem inbW (sl : Fin 20) (n : Fin 8) : ∀ a, (![sl.val, 0, 512 * n.val] : Fin 3 → Nat) a + S1x512x512.size a ≤ S20x512x4096.size a := by
  have := sl.isLt
  have := n.isLt
  intro a; fin_cases a <;> simp <;> omega
theorem inbV (sl : Fin 20) : ∀ a, (![sl.val, 0, 0] : Fin 3 → Nat) a + S1x512x4096.size a ≤ S20x512x4096.size a := by
  have := sl.isLt
  intro a; fin_cases a <;> simp <;> omega
theorem inbM (b : Fin 28) : ∀ a, (![512 * b.val, 0] : Fin 2 → Nat) a + S512x4096.size a ≤ S14336x4096.size a := by
  have := b.isLt
  intro a; fin_cases a <;> simp <;> omega
theorem inbR (s : Fin 2) (t : Fin 4) : ∀ a, (![s.val, t.val, 0, 0] : Fin 4 → Nat) a + S1x1x128x512.size a ≤ S2x4x128x512.size a := by
  have := s.isLt
  have := t.isLt
  intro a; fin_cases a <;> simp <;> omega
theorem inbA (n : Fin 8) : ∀ a, (![0, 512 * n.val] : Fin 2 → Nat) a + S128x512.size a ≤ S128x4096.size a := by
  have := n.isLt
  intro a; fin_cases a <;> simp <;> omega

/-- The weights' ring with block `b` copied into its slot over `g`. -/
def wPut (c : Dev nD) (f2 : BufOf (F := F) c m2) (b : Fin 28) (g : BufOf (F := F) c m10) : BufOf (F := F) c m10 := by
  exact View.write (Elt F) ((m10.slice (Rect.unit (s := S20x512x4096) ![b.val % 20, 0, 0] S1x512x4096.size (inbV ⟨b.val % 20, Nat.mod_lt _ (by omega)⟩)) (fun _ => rfl)).squeeze S512x4096 squeezes_S1x512x4096_S512x4096).view (by exact g)
      (ReadAs.same.apply (View.read (Elt F) (m2.slice (Rect.unit (s := S14336x4096) ![512 * b.val, 0] S512x4096.size (inbM b)) (fun _ => rfl)).view f2)) Finset.univ
/-- Tile `n` of the ring's slot holding block `b`. -/
def wRd (c : Dev nD) (b : Fin 28) (n : Fin 8) (g : BufOf (F := F) c m10) : Vec F S1x512x512 .fp8e4m3 :=
  View.readAt (Elt F) m10.view (Rect.unit (s := S20x512x4096) ![b.val % 20, 0, 512 * n.val] S1x512x512.size (inbW ⟨b.val % 20, Nat.mod_lt _ (by omega)⟩ n)).toLoadRect g
/-- The ring's slot of block `b` when it is read. -/
def wBuf (c : Dev nD) (f2 : BufOf (F := F) c m2) (f10 : BufOf (F := F) c m10) (b : Fin 28) : BufOf (F := F) c m10 :=
  bif Nat.blt b.val 20 then wPut c f2 b f10 else wPut c f2 b (wPut c f2 ⟨b.val - 20, Nat.lt_of_le_of_lt (Nat.sub_le _ _) b.isLt⟩ f10)
/-- Block `b`'s scaled codes, read out of the staging areas. -/
def xRd (l : List (View.Piece (Elt F) S2x4x128x512 .bf16)) (b : Fin 28) : Vec F S1x1x128x512 .bf16 :=
  m14.view.readCov l (Rect.unit (s := S2x4x128x512) ![(xs b).val, (xt b).val, 0, 0] S1x1x128x512.size (inbR (xs b) (xt b))).toLoadRect
/-- One block's product with one tile of the weights. -/
def cM (x : Vec F S1x1x128x512 .bf16) (w : Vec F S1x512x512 .fp8e4m3) : FVec F S128x512 .f32 :=
  FloatOps.matmul (φ₁ := .bf16) (φ₂ := .fp8e4m3) dot_S128x512_S512x512_S128x512_1_0_0_1_n_n none (shapeCast S128x512 x shapeCasts_S1x1x128x512_S128x512) (shapeCast S512x512 w shapeCasts_S1x512x512_S512x512) (constant S128x512 .f32 0x00000000#32)
def fb (s : Fin 7) (t : Fin 4) : Fin 28 := ⟨4 * s.val + t.val, by omega⟩
/-- The product of one step: four blocks with one tile of the weights. -/
def cProd (c : Dev nD) (f2 : BufOf (F := F) c m2) (f10 : BufOf (F := F) c m10) (X : List (View.Piece (Elt F) S2x4x128x512 .bf16)) (s : Fin 7) (n : Fin 8) : FVec F S128x512 .f32 :=
  addf (addf (addf (addf (broadcast S128x512 (Scalar.ofBits .f32 0x00000000#32)) (cM (xRd X (fb s 0)) (wRd c (fb s 0) n (wBuf c f2 f10 (fb s 0)))))
    (cM (xRd X (fb s 1)) (wRd c (fb s 1) n (wBuf c f2 f10 (fb s 1))))) (cM (xRd X (fb s 2)) (wRd c (fb s 2) n (wBuf c f2 f10 (fb s 2)))))
    (cM (xRd X (fb s 3)) (wRd c (fb s 3) n (wBuf c f2 f10 (fb s 3))))
/-- Tile `n` of the running sum. -/
def aRd (l : List (View.Piece (Elt F) S128x4096 .f32)) (n : Fin 8) : Vec F S128x512 .f32 :=
  m15.view.readCov l (Rect.unit (s := S128x4096) ![0, 512 * n.val] S128x512.size (inbA n)).toLoadRect
/-- The running sum after one more tile of a step. -/
def aStep (c : Dev nD) (f2 : BufOf (F := F) c m2) (f10 : BufOf (F := F) c m10) (X : List (View.Piece (Elt F) S2x4x128x512 .bf16)) (s : Fin 7) (n : Fin 8)
    (l : List (View.Piece (Elt F) S128x4096 .f32)) : List (View.Piece (Elt F) S128x4096 .f32) :=
  ⟨Rect.unit (s := S128x4096) ![0, 512 * n.val] S128x512.size (inbA n), shapeCast S128x512 (addf (aRd l n) (cProd c f2 f10 X s n)) shapeCasts_S128x512_S128x512⟩ :: l

theorem inbS (n : Fin 8) : ∀ a, (![0, 512 * n.val] : Fin 2 → Nat) a + S1x512.size a ≤ S1x4096.size a := by
  have := n.isLt
  intro a; fin_cases a <;> simp <;> omega
/-- Tile `n` of the column scales, out of their buffer. -/
def wsRd (c : Dev nD) (f3 : BufOf (F := F) c m3) (f9 : BufOf (F := F) c m9) (n : Fin 8) : Vec F S1x512 .f32 :=
  View.readAt (Elt F) m9.view (Rect.unit (s := S1x4096) ![0, 512 * n.val] S1x512.size (inbS n)).toLoadRect (View.write (Elt F) m9.view f9 (s1.sl.dma0_9 c f3) Finset.univ)
/-- The result's piece of tile `n`. -/
def oPc (c : Dev nD) (f2 : BufOf (F := F) c m2) (f3 : BufOf (F := F) c m3) (f9 : BufOf (F := F) c m9) (f10 : BufOf (F := F) c m10) (X : List (View.Piece (Elt F) S2x4x128x512 .bf16))
    (l : List (View.Piece (Elt F) S128x4096 .f32)) (n : Fin 8) : View.Piece (Elt F) S128x4096 .bf16 :=
  ⟨Rect.unit (s := S128x4096) ![0, 512 * n.val] S128x512.size (inbA n), shapeCast S128x512 (truncf .bf16 (mulf (addf (aRd l n) (cProd c f2 f10 X 6 n)) (broadcastTo S128x512 (wsRd c f3 f9 n) broadcasts_S1x512_S128x512)) bitsLt_bf16_f32) shapeCasts_S128x512_S128x512⟩

end Cert.KernelIdeal.Hand
-- ==== Proof.V.IdC.lean ====
/-
The codes each block stores are the canonical ones.
-/
module

public import proofs.«01_k».proof.Proof.V.Canon

@[expose] public section

set_option maxRecDepth 65536
set_option maxHeartbeats 4000000

noncomputable section

namespace Cert.KernelIdeal.Hand

open Cert.KernelIdeal Cert.KernelIdeal.Gen Idealize.ShloMosaic

variable {F : FTy → Type} [FloatOps F]

theorem codes0 (c : Dev nD) (fz : BufOf (F := F) c m13) : ((s2.sl.Hb0_4 (V5 c fz) (V6 c fz)) : List (View.Piece (Elt F) S28x128x512 .fp8e4m3)) = cL c fz 0 := rfl
theorem codes1 (c : Dev nD) (fz : BufOf (F := F) c m13) : ((s2.sl.Hb1_4 c fz) : List (View.Piece (Elt F) S28x128x512 .fp8e4m3)) = cL c fz 1 := rfl
theorem codes2 (c : Dev nD) (fz : BufOf (F := F) c m13) : ((s2.sl.Hb2_4 c fz) : List (View.Piece (Elt F) S28x128x512 .fp8e4m3)) = cL c fz 2 := rfl
theorem codes3 (c : Dev nD) (fz : BufOf (F := F) c m13) : ((⟨Rect.unit (s := S28x128x512) ![3, 0, 384] S1x128x128.size (inbP 3 3), k0_pay692 (s2.sl.r_120 c fz) (s2.sl.r_123 c fz) k0_pay690⟩ :: s2.sl.Hb3_3 c fz) : List (View.Piece (Elt F) S28x128x512 .fp8e4m3)) = cL c fz 3 := rfl
theorem codes4 (c : Dev nD) (fz : BufOf (F := F) c m13) : ((t0a.sl.Hb4_4 c fz) : List (View.Piece (Elt F) S28x128x512 .fp8e4m3)) = cL c fz 4 := rfl
theorem codes5 (c : Dev nD) (fz : BufOf (F := F) c m13) : ((⟨Rect.unit (s := S28x128x512) ![5, 0, 384] S1x128x128.size (inbP 5 3), k0_pay120 (t0a.sl.r_59 c fz)⟩ :: t0a.sl.Hb5_3 c fz) : List (View.Piece (Elt F) S28x128x512 .fp8e4m3)) = cL c fz 5 := rfl
theorem codes6 (c : Dev nD) (fz : BufOf (F := F) c m13) : ((t0b.sl.Hb6_4 c fz) : List (View.Piece (Elt F) S28x128x512 .fp8e4m3)) = cL c fz 6 := rfl
theorem codes7 (c : Dev nD) (fz : BufOf (F := F) c m13) : ((t0b.sl.Hb7_4 c fz) : List (View.Piece (Elt F) S28x128x512 .fp8e4m3)) = cL c fz 7 := rfl
theorem codes8 (c : Dev nD) (fz : BufOf (F := F) c m13) : ((t1a.sl.Hb8_4 c fz) : List (View.Piece (Elt F) S28x128x512 .fp8e4m3)) = cL c fz 8 := rfl
theorem codes9 (c : Dev nD) (fz : BufOf (F := F) c m13) : ((⟨Rect.unit (s := S28x128x512) ![9, 0, 384] S1x128x128.size (inbP 9 3), k0_pay120 (t1a.sl.r_59 c fz)⟩ :: t1a.sl.Hb9_3 c fz) : List (View.Piece (Elt F) S28x128x512 .fp8e4m3)) = cL c fz 9 := rfl
theorem codes10 (c : Dev nD) (fz : BufOf (F := F) c m13) : ((t1b.sl.Hb10_4 c fz) : List (View.Piece (Elt F) S28x128x512 .fp8e4m3)) = cL c fz 10 := rfl
theorem codes11 (c : Dev nD) (fz : BufOf (F := F) c m13) : ((t1b.sl.Hb11_4 c fz) : List (View.Piece (Elt F) S28x128x512 .fp8e4m3)) = cL c fz 11 := rfl
theorem codes12 (c : Dev nD) (fz : BufOf (F := F) c m13) : ((t2a.sl.Hb12_4 c fz) : List (View.Piece (Elt F) S28x128x512 .fp8e4m3)) = cL c fz 12 := rfl
theorem codes13 (c : Dev nD) (fz : BufOf (F := F) c m13) : ((⟨Rect.unit (s := S28x128x512) ![13, 0, 384] S1x128x128.size (inbP 13 3), k0_pay120 (t2a.sl.r_59 c fz)⟩ :: t2a.sl.Hb13_3 c fz) : List (View.Piece (Elt F) S28x128x512 .fp8e4m3)) = cL c fz 13 := rfl
theorem codes14 (c : Dev nD) (fz : BufOf (F := F) c m13) : ((t2b.sl.Hb14_4 c fz) : List (View.Piece (Elt F) S28x128x512 .fp8e4m3)) = cL c fz 14 := rfl
theorem codes15 (c : Dev nD) (fz : BufOf (F := F) c m13) : ((t2b.sl.Hb15_4 c fz) : List (View.Piece (Elt F) S28x128x512 .fp8e4m3)) = cL c fz 15 := rfl
theorem codes16 (c : Dev nD) (fz : BufOf (F := F) c m13) : ((t3a.sl.Hb16_4 c fz) : List (View.Piece (Elt F) S28x128x512 .fp8e4m3)) = cL c fz 16 := rfl
theorem codes17 (c : Dev nD) (fz : BufOf (F := F) c m13) : ((⟨Rect.unit (s := S28x128x512) ![17, 0, 384] S1x128x128.size (inbP 17 3), k0_pay120 (t3a.sl.r_59 c fz)⟩ :: t3a.sl.Hb17_3 c fz) : List (View.Piece (Elt F) S28x128x512 .fp8e4m3)) = cL c fz 17 := rfl
theorem codes18 (c : Dev nD) (fz : BufOf (F := F) c m13) : ((t3b.sl.Hb18_4 c fz) : List (View.Piece (Elt F) S28x128x512 .fp8e4m3)) = cL c fz 18 := rfl
theorem codes19 (c : Dev nD) (fz : BufOf (F := F) c m13) : ((t3b.sl.Hb19_4 c fz) : List (View.Piece (Elt F) S28x128x512 .fp8e4m3)) = cL c fz 19 := rfl
theorem codes20 (c : Dev nD) (fz : BufOf (F := F) c m13) : ((t4a.sl.Hb20_4 c fz) : List (View.Piece (Elt F) S28x128x512 .fp8e4m3)) = cL c fz 20 := rfl
theorem codes21 (c : Dev nD) (fz : BufOf (F := F) c m13) : ((⟨Rect.unit (s := S28x128x512) ![21, 0, 384] S1x128x128.size (inbP 21 3), k0_pay120 (t4a.sl.r_59 c fz)⟩ :: t4a.sl.Hb21_3 c fz) : List (View.Piece (Elt F) S28x128x512 .fp8e4m3)) = cL c fz 21 := rfl
theorem codes22 (c : Dev nD) (fz : BufOf (F := F) c m13) : ((t4b.sl.Hb22_4 c fz) : List (View.Piece (Elt F) S28x128x512 .fp8e4m3)) = cL c fz 22 := rfl
theorem codes23 (c : Dev nD) (fz : BufOf (F := F) c m13) : ((t4b.sl.Hb23_4 c fz) : List (View.Piece (Elt F) S28x128x512 .fp8e4m3)) = cL c fz 23 := rfl
theorem codes24 (c : Dev nD) (fz : BufOf (F := F) c m13) : ((t5a.sl.Hb24_4 c fz) : List (View.Piece (Elt F) S28x128x512 .fp8e4m3)) = cL c fz 24 := rfl
theorem codes25 (c : Dev nD) (fz : BufOf (F := F) c m13) : ((⟨Rect.unit (s := S28x128x512) ![25, 0, 384] S1x128x128.size (inbP 25 3), k0_pay120 (t5a.sl.r_59 c fz)⟩ :: t5a.sl.Hb25_3 c fz) : List (View.Piece (Elt F) S28x128x512 .fp8e4m3)) = cL c fz 25 := rfl
theorem codes26 (c : Dev nD) (fz : BufOf (F := F) c m13) : ((t5b.sl.Hb26_4 c fz) : List (View.Piece (Elt F) S28x128x512 .fp8e4m3)) = cL c fz 26 := rfl
theorem codes27 (c : Dev nD) (fz : BufOf (F := F) c m13) : ((t5b.sl.Hb27_4 c fz) : List (View.Piece (Elt F) S28x128x512 .fp8e4m3)) = cL c fz 27 := rfl
end Cert.KernelIdeal.Hand
-- ==== Proof.V.IdS.lean ====
/-
The scales each block stores are the canonical ones.
-/
module

public import proofs.«01_k».proof.Proof.V.Canon

@[expose] public section

set_option maxRecDepth 65536
set_option maxHeartbeats 4000000

noncomputable section

namespace Cert.KernelIdeal.Hand

open Cert.KernelIdeal Cert.KernelIdeal.Gen Idealize.ShloMosaic

variable {F : FTy → Type} [FloatOps F]

abbrev V4 (c : Dev nD) (f17 : BufOf (F := F) c m17) : Vec F S128x112 .f32 :=
  View.readAt (Elt F) m17.view (Rect.unit (s := S128x112) ![0, 0] S128x112.size inb_S128x112_S128x112_0_0).toLoadRect (m17.view.writes (Elt F) f17 s1.sl.H17_1)
/-- The scales' buffer once `m` blocks are done. -/
def sList (c : Dev nD) (fz : BufOf (F := F) c m13) (s : Vec F S128x112 .f32) : ℕ → List (View.Piece (Elt F) S128x112 .f32)
  | 0 => sPc (sB c fz 0 s) :: s1.sl.H17_1
  | m + 1 => sStep c fz ⟨(m + 1) % 28, Nat.mod_lt _ (by omega)⟩ (sList c fz s m)

theorem sone0 (c : Dev nD) (fz : BufOf (F := F) c m13) (s : Vec F S128x112 .f32) : s2.sl.Hk0_part91_4_2 VL s (V5 c fz) (V6 c fz) = sPc (sB c fz 0 s) :: s1.sl.H17_1 := rfl
theorem ss0 (c : Dev nD) (fz : BufOf (F := F) c m13) (s : Vec F S128x112 .f32) : s2.sl.Hk0_part91_4_2 VL s (V5 c fz) (V6 c fz) = sList c fz s 0 := by
  rw [sone0]; rfl
theorem sone1 (c : Dev nD) (fz : BufOf (F := F) c m13) (s : Vec F S128x112 .f32) : s2.sl.Hk0_part91_4_3 c VL s (V5 c fz) (V6 c fz) fz = sStep c fz 1 (s2.sl.Hk0_part91_4_2 VL s (V5 c fz) (V6 c fz)) := rfl
theorem ss1 (c : Dev nD) (fz : BufOf (F := F) c m13) (s : Vec F S128x112 .f32) : s2.sl.Hk0_part91_4_3 c VL s (V5 c fz) (V6 c fz) fz = sList c fz s 1 := by
  rw [sone1, ss0]; rfl
theorem sone2 (c : Dev nD) (fz : BufOf (F := F) c m13) (s : Vec F S128x112 .f32) : s2.sl.Hk0_part91_4_4 c VL s (V5 c fz) (V6 c fz) fz = sStep c fz 2 (s2.sl.Hk0_part91_4_3 c VL s (V5 c fz) (V6 c fz) fz) := rfl
theorem ss2 (c : Dev nD) (fz : BufOf (F := F) c m13) (s : Vec F S128x112 .f32) : s2.sl.Hk0_part91_4_4 c VL s (V5 c fz) (V6 c fz) fz = sList c fz s 2 := by
  rw [sone2, ss1]; rfl
theorem sone3 (c : Dev nD) (fz : BufOf (F := F) c m13) (s : Vec F S128x112 .f32) : s2.sl.Hk0_part91_4_5 c VL s (V5 c fz) (V6 c fz) fz = sStep c fz 3 (s2.sl.Hk0_part91_4_4 c VL s (V5 c fz) (V6 c fz) fz) := rfl
theorem ss3 (c : Dev nD) (fz : BufOf (F := F) c m13) (s : Vec F S128x112 .f32) : s2.sl.Hk0_part91_4_5 c VL s (V5 c fz) (V6 c fz) fz = sList c fz s 3 := by
  rw [sone3, ss2]; rfl
theorem sone4 (c : Dev nD) (fz : BufOf (F := F) c m13) (s : Vec F S128x112 .f32) : t0a.sl.Hk0_part91_4_6 c VL s (V5 c fz) (V6 c fz) fz = sStep c fz 4 (s2.sl.Hk0_part91_4_5 c VL s (V5 c fz) (V6 c fz) fz) := rfl
theorem ss4 (c : Dev nD) (fz : BufOf (F := F) c m13) (s : Vec F S128x112 .f32) : t0a.sl.Hk0_part91_4_6 c VL s (V5 c fz) (V6 c fz) fz = sList c fz s 4 := by
  rw [sone4, ss3]; rfl
theorem sone6 (c : Dev nD) (fz : BufOf (F := F) c m13) (s : Vec F S128x112 .f32) : t0b.sl.Hk0_part91_4_8 c VL s (V5 c fz) (V6 c fz) fz = sStep c fz 6 (sStep c fz 5 (t0a.sl.Hk0_part91_4_6 c VL s (V5 c fz) (V6 c fz) fz)) := rfl
theorem ss6 (c : Dev nD) (fz : BufOf (F := F) c m13) (s : Vec F S128x112 .f32) : t0b.sl.Hk0_part91_4_8 c VL s (V5 c fz) (V6 c fz) fz = sList c fz s 6 := by
  rw [sone6, ss4]; rfl
theorem sone7 (c : Dev nD) (fz : BufOf (F := F) c m13) (s : Vec F S128x112 .f32) : t0b.sl.Hk0_part91_4_9 c VL s (V5 c fz) (V6 c fz) fz = sStep c fz 7 (t0b.sl.Hk0_part91_4_8 c VL s (V5 c fz) (V6 c fz) fz) := rfl
theorem ss7 (c : Dev nD) (fz : BufOf (F := F) c m13) (s : Vec F S128x112 .f32) : t0b.sl.Hk0_part91_4_9 c VL s (V5 c fz) (V6 c fz) fz = sList c fz s 7 := by
  rw [sone7, ss6]; rfl
theorem sone8 (c : Dev nD) (fz : BufOf (F := F) c m13) (s : Vec F S128x112 .f32) : t1a.sl.Hk0_part91_4_10 c VL s (V5 c fz) (V6 c fz) fz = sStep c fz 8 (t0b.sl.Hk0_part91_4_9 c VL s (V5 c fz) (V6 c fz) fz) := rfl
theorem ss8 (c : Dev nD) (fz : BufOf (F := F) c m13) (s : Vec F S128x112 .f32) : t1a.sl.Hk0_part91_4_10 c VL s (V5 c fz) (V6 c fz) fz = sList c fz s 8 := by
  rw [sone8, ss7]; rfl
theorem sone10 (c : Dev nD) (fz : BufOf (F := F) c m13) (s : Vec F S128x112 .f32) : t1b.sl.Hk0_part91_4_12 c VL s (V5 c fz) (V6 c fz) fz = sStep c fz 10 (sStep c fz 9 (t1a.sl.Hk0_part91_4_10 c VL s (V5 c fz) (V6 c fz) fz)) := rfl
theorem ss10 (c : Dev nD) (fz : BufOf (F := F) c m13) (s : Vec F S128x112 .f32) : t1b.sl.Hk0_part91_4_12 c VL s (V5 c fz) (V6 c fz) fz = sList c fz s 10 := by
  rw [sone10, ss8]; rfl
theorem sone11 (c : Dev nD) (fz : BufOf (F := F) c m13) (s : Vec F S128x112 .f32) : t1b.sl.Hk0_part91_4_13 c VL s (V5 c fz) (V6 c fz) fz = sStep c fz 11 (t1b.sl.Hk0_part91_4_12 c VL s (V5 c fz) (V6 c fz) fz) := rfl
theorem ss11 (c : Dev nD) (fz : BufOf (F := F) c m13) (s : Vec F S128x112 .f32) : t1b.sl.Hk0_part91_4_13 c VL s (V5 c fz) (V6 c fz) fz = sList c fz s 11 := by
  rw [sone11, ss10]; rfl
theorem sone12 (c : Dev nD) (fz : BufOf (F := F) c m13) (s : Vec F S128x112 .f32) : t2a.sl.Hk0_part91_4_14 c VL s (V5 c fz) (V6 c fz) fz = sStep c fz 12 (t1b.sl.Hk0_part91_4_13 c VL s (V5 c fz) (V6 c fz) fz) := rfl
theorem ss12 (c : Dev nD) (fz : BufOf (F := F) c m13) (s : Vec F S128x112 .f32) : t2a.sl.Hk0_part91_4_14 c VL s (V5 c fz) (V6 c fz) fz = sList c fz s 12 := by
  rw [sone12, ss11]; rfl
theorem sone14 (c : Dev nD) (fz : BufOf (F := F) c m13) (s : Vec F S128x112 .f32) : t2b.sl.Hk0_part91_4_16 c VL s (V5 c fz) (V6 c fz) fz = sStep c fz 14 (sStep c fz 13 (t2a.sl.Hk0_part91_4_14 c VL s (V5 c fz) (V6 c fz) fz)) := rfl
theorem ss14 (c : Dev nD) (fz : BufOf (F := F) c m13) (s : Vec F S128x112 .f32) : t2b.sl.Hk0_part91_4_16 c VL s (V5 c fz) (V6 c fz) fz = sList c fz s 14 := by
  rw [sone14, ss12]; rfl
theorem sone15 (c : Dev nD) (fz : BufOf (F := F) c m13) (s : Vec F S128x112 .f32) : t2b.sl.Hk0_part91_4_17 c VL s (V5 c fz) (V6 c fz) fz = sStep c fz 15 (t2b.sl.Hk0_part91_4_16 c VL s (V5 c fz) (V6 c fz) fz) := rfl
theorem ss15 (c : Dev nD) (fz : BufOf (F := F) c m13) (s : Vec F S128x112 .f32) : t2b.sl.Hk0_part91_4_17 c VL s (V5 c fz) (V6 c fz) fz = sList c fz s 15 := by
  rw [sone15, ss14]; rfl
theorem sone16 (c : Dev nD) (fz : BufOf (F := F) c m13) (s : Vec F S128x112 .f32) : t3a.sl.Hk0_part91_4_18 c VL s (V5 c fz) (V6 c fz) fz = sStep c fz 16 (t2b.sl.Hk0_part91_4_17 c VL s (V5 c fz) (V6 c fz) fz) := rfl
theorem ss16 (c : Dev nD) (fz : BufOf (F := F) c m13) (s : Vec F S128x112 .f32) : t3a.sl.Hk0_part91_4_18 c VL s (V5 c fz) (V6 c fz) fz = sList c fz s 16 := by
  rw [sone16, ss15]; rfl
theorem sone18 (c : Dev nD) (fz : BufOf (F := F) c m13) (s : Vec F S128x112 .f32) : t3b.sl.Hk0_part91_4_20 c VL s (V5 c fz) (V6 c fz) fz = sStep c fz 18 (sStep c fz 17 (t3a.sl.Hk0_part91_4_18 c VL s (V5 c fz) (V6 c fz) fz)) := rfl
theorem ss18 (c : Dev nD) (fz : BufOf (F := F) c m13) (s : Vec F S128x112 .f32) : t3b.sl.Hk0_part91_4_20 c VL s (V5 c fz) (V6 c fz) fz = sList c fz s 18 := by
  rw [sone18, ss16]; rfl
theorem sone19 (c : Dev nD) (fz : BufOf (F := F) c m13) (s : Vec F S128x112 .f32) : t3b.sl.Hk0_part91_4_21 c VL s (V5 c fz) (V6 c fz) fz = sStep c fz 19 (t3b.sl.Hk0_part91_4_20 c VL s (V5 c fz) (V6 c fz) fz) := rfl
theorem ss19 (c : Dev nD) (fz : BufOf (F := F) c m13) (s : Vec F S128x112 .f32) : t3b.sl.Hk0_part91_4_21 c VL s (V5 c fz) (V6 c fz) fz = sList c fz s 19 := by
  rw [sone19, ss18]; rfl
theorem sone20 (c : Dev nD) (fz : BufOf (F := F) c m13) (s : Vec F S128x112 .f32) : t4a.sl.Hk0_part91_4_22 c VL s (V5 c fz) (V6 c fz) fz = sStep c fz 20 (t3b.sl.Hk0_part91_4_21 c VL s (V5 c fz) (V6 c fz) fz) := rfl
theorem ss20 (c : Dev nD) (fz : BufOf (F := F) c m13) (s : Vec F S128x112 .f32) : t4a.sl.Hk0_part91_4_22 c VL s (V5 c fz) (V6 c fz) fz = sList c fz s 20 := by
  rw [sone20, ss19]; rfl
theorem sone22 (c : Dev nD) (fz : BufOf (F := F) c m13) (s : Vec F S128x112 .f32) : t4b.sl.Hk0_part91_4_24 c VL s (V5 c fz) (V6 c fz) fz = sStep c fz 22 (sStep c fz 21 (t4a.sl.Hk0_part91_4_22 c VL s (V5 c fz) (V6 c fz) fz)) := rfl
theorem ss22 (c : Dev nD) (fz : BufOf (F := F) c m13) (s : Vec F S128x112 .f32) : t4b.sl.Hk0_part91_4_24 c VL s (V5 c fz) (V6 c fz) fz = sList c fz s 22 := by
  rw [sone22, ss20]; rfl
theorem sone23 (c : Dev nD) (fz : BufOf (F := F) c m13) (s : Vec F S128x112 .f32) : t4b.sl.Hk0_part91_4_25 c VL s (V5 c fz) (V6 c fz) fz = sStep c fz 23 (t4b.sl.Hk0_part91_4_24 c VL s (V5 c fz) (V6 c fz) fz) := rfl
theorem ss23 (c : Dev nD) (fz : BufOf (F := F) c m13) (s : Vec F S128x112 .f32) : t4b.sl.Hk0_part91_4_25 c VL s (V5 c fz) (V6 c fz) fz = sList c fz s 23 := by
  rw [sone23, ss22]; rfl
theorem sone24 (c : Dev nD) (fz : BufOf (F := F) c m13) (s : Vec F S128x112 .f32) : t5a.sl.Hk0_part91_4_26 c VL s (V5 c fz) (V6 c fz) fz = sStep c fz 24 (t4b.sl.Hk0_part91_4_25 c VL s (V5 c fz) (V6 c fz) fz) := rfl
theorem ss24 (c : Dev nD) (fz : BufOf (F := F) c m13) (s : Vec F S128x112 .f32) : t5a.sl.Hk0_part91_4_26 c VL s (V5 c fz) (V6 c fz) fz = sList c fz s 24 := by
  rw [sone24, ss23]; rfl
theorem sone26 (c : Dev nD) (fz : BufOf (F := F) c m13) (s : Vec F S128x112 .f32) : t5b.sl.Hk0_part91_4_28 c VL s (V5 c fz) (V6 c fz) fz = sStep c fz 26 (sStep c fz 25 (t5a.sl.Hk0_part91_4_26 c VL s (V5 c fz) (V6 c fz) fz)) := rfl
theorem ss26 (c : Dev nD) (fz : BufOf (F := F) c m13) (s : Vec F S128x112 .f32) : t5b.sl.Hk0_part91_4_28 c VL s (V5 c fz) (V6 c fz) fz = sList c fz s 26 := by
  rw [sone26, ss24]; rfl
theorem sone27 (c : Dev nD) (fz : BufOf (F := F) c m13) (s : Vec F S128x112 .f32) : t5b.sl.Hk0_part91_4_29 c VL s (V5 c fz) (V6 c fz) fz = sStep c fz 27 (t5b.sl.Hk0_part91_4_28 c VL s (V5 c fz) (V6 c fz) fz) := rfl
theorem ss27 (c : Dev nD) (fz : BufOf (F := F) c m13) (s : Vec F S128x112 .f32) : t5b.sl.Hk0_part91_4_29 c VL s (V5 c fz) (V6 c fz) fz = sList c fz s 27 := by
  rw [sone27, ss26]; rfl
end Cert.KernelIdeal.Hand
-- ==== Proof.V.IdX.lean ====
/-
The scaled codes each block stages are the canonical ones.
-/
module

public import proofs.«01_k».proof.Proof.V.Canon

@[expose] public section

set_option maxRecDepth 65536
set_option maxHeartbeats 4000000

noncomputable section

namespace Cert.KernelIdeal.Hand

open Cert.KernelIdeal Cert.KernelIdeal.Gen Idealize.ShloMosaic

variable {F : FTy → Type} [FloatOps F]

/-- The staging areas once `m` blocks are staged. -/
def xList (c : Dev nD) (fz : BufOf (F := F) c m13) : ℕ → List (View.Piece (Elt F) S2x4x128x512 .bf16)
  | 0 => []
  | m + 1 => xStep c fz ⟨m % 28, Nat.mod_lt _ (by omega)⟩ (xList c fz m)

theorem xone1 (c : Dev nD) (fz : BufOf (F := F) c m13) : s2.sl.H14_4 (V5 c fz) (V6 c fz) = xStep c fz 0 [] := rfl
theorem xs1 (c : Dev nD) (fz : BufOf (F := F) c m13) : s2.sl.H14_4 (V5 c fz) (V6 c fz) = xList c fz 1 := by
  rw [xone1]; rfl
theorem xone2 (c : Dev nD) (fz : BufOf (F := F) c m13) : s2.sl.H14_8 c (V5 c fz) (V6 c fz) fz = xStep c fz 1 (s2.sl.H14_4 (V5 c fz) (V6 c fz)) := rfl
theorem xs2 (c : Dev nD) (fz : BufOf (F := F) c m13) : s2.sl.H14_8 c (V5 c fz) (V6 c fz) fz = xList c fz 2 := by
  rw [xone2, xs1]; rfl
theorem xone3 (c : Dev nD) (fz : BufOf (F := F) c m13) : s2.sl.H14_12 c (V5 c fz) (V6 c fz) fz = xStep c fz 2 (s2.sl.H14_8 c (V5 c fz) (V6 c fz) fz) := rfl
theorem xs3 (c : Dev nD) (fz : BufOf (F := F) c m13) : s2.sl.H14_12 c (V5 c fz) (V6 c fz) fz = xList c fz 3 := by
  rw [xone3, xs2]; rfl
theorem xone5 (c : Dev nD) (fz : BufOf (F := F) c m13) : t0a.sl.H14_20 c (V5 c fz) (V6 c fz) fz = xStep c fz 4 (xStep c fz 3 (s2.sl.H14_12 c (V5 c fz) (V6 c fz) fz)) := rfl
theorem xs5 (c : Dev nD) (fz : BufOf (F := F) c m13) : t0a.sl.H14_20 c (V5 c fz) (V6 c fz) fz = xList c fz 5 := by
  rw [xone5, xs3]; rfl
theorem xone6 (c : Dev nD) (fz : BufOf (F := F) c m13) : t0a.sl.H14_24 c (V5 c fz) (V6 c fz) fz = xStep c fz 5 (t0a.sl.H14_20 c (V5 c fz) (V6 c fz) fz) := rfl
theorem xs6 (c : Dev nD) (fz : BufOf (F := F) c m13) : t0a.sl.H14_24 c (V5 c fz) (V6 c fz) fz = xList c fz 6 := by
  rw [xone6, xs5]; rfl
theorem xone7 (c : Dev nD) (fz : BufOf (F := F) c m13) : t0b.sl.H14_28 c (V5 c fz) (V6 c fz) fz = xStep c fz 6 (t0a.sl.H14_24 c (V5 c fz) (V6 c fz) fz) := rfl
theorem xs7 (c : Dev nD) (fz : BufOf (F := F) c m13) : t0b.sl.H14_28 c (V5 c fz) (V6 c fz) fz = xList c fz 7 := by
  rw [xone7, xs6]; rfl
theorem xone8 (c : Dev nD) (fz : BufOf (F := F) c m13) : t0b.sl.H14_32 c (V5 c fz) (V6 c fz) fz = xStep c fz 7 (t0b.sl.H14_28 c (V5 c fz) (V6 c fz) fz) := rfl
theorem xs8 (c : Dev nD) (fz : BufOf (F := F) c m13) : t0b.sl.H14_32 c (V5 c fz) (V6 c fz) fz = xList c fz 8 := by
  rw [xone8, xs7]; rfl
theorem xone9 (c : Dev nD) (fz : BufOf (F := F) c m13) : t1a.sl.H14_36 c (V5 c fz) (V6 c fz) fz = xStep c fz 8 (t0b.sl.H14_32 c (V5 c fz) (V6 c fz) fz) := rfl
theorem xs9 (c : Dev nD) (fz : BufOf (F := F) c m13) : t1a.sl.H14_36 c (V5 c fz) (V6 c fz) fz = xList c fz 9 := by
  rw [xone9, xs8]; rfl
theorem xone10 (c : Dev nD) (fz : BufOf (F := F) c m13) : t1a.sl.H14_40 c (V5 c fz) (V6 c fz) fz = xStep c fz 9 (t1a.sl.H14_36 c (V5 c fz) (V6 c fz) fz) := rfl
theorem xs10 (c : Dev nD) (fz : BufOf (F := F) c m13) : t1a.sl.H14_40 c (V5 c fz) (V6 c fz) fz = xList c fz 10 := by
  rw [xone10, xs9]; rfl
theorem xone11 (c : Dev nD) (fz : BufOf (F := F) c m13) : t1b.sl.H14_44 c (V5 c fz) (V6 c fz) fz = xStep c fz 10 (t1a.sl.H14_40 c (V5 c fz) (V6 c fz) fz) := rfl
theorem xs11 (c : Dev nD) (fz : BufOf (F := F) c m13) : t1b.sl.H14_44 c (V5 c fz) (V6 c fz) fz = xList c fz 11 := by
  rw [xone11, xs10]; rfl
theorem xone12 (c : Dev nD) (fz : BufOf (F := F) c m13) : t1b.sl.H14_48 c (V5 c fz) (V6 c fz) fz = xStep c fz 11 (t1b.sl.H14_44 c (V5 c fz) (V6 c fz) fz) := rfl
theorem xs12 (c : Dev nD) (fz : BufOf (F := F) c m13) : t1b.sl.H14_48 c (V5 c fz) (V6 c fz) fz = xList c fz 12 := by
  rw [xone12, xs11]; rfl
theorem xone13 (c : Dev nD) (fz : BufOf (F := F) c m13) : t2a.sl.H14_52 c (V5 c fz) (V6 c fz) fz = xStep c fz 12 (t1b.sl.H14_48 c (V5 c fz) (V6 c fz) fz) := rfl
theorem xs13 (c : Dev nD) (fz : BufOf (F := F) c m13) : t2a.sl.H14_52 c (V5 c fz) (V6 c fz) fz = xList c fz 13 := by
  rw [xone13, xs12]; rfl
theorem xone14 (c : Dev nD) (fz : BufOf (F := F) c m13) : t2a.sl.H14_56 c (V5 c fz) (V6 c fz) fz = xStep c fz 13 (t2a.sl.H14_52 c (V5 c fz) (V6 c fz) fz) := rfl
theorem xs14 (c : Dev nD) (fz : BufOf (F := F) c m13) : t2a.sl.H14_56 c (V5 c fz) (V6 c fz) fz = xList c fz 14 := by
  rw [xone14, xs13]; rfl
theorem xone15 (c : Dev nD) (fz : BufOf (F := F) c m13) : t2b.sl.H14_60 c (V5 c fz) (V6 c fz) fz = xStep c fz 14 (t2a.sl.H14_56 c (V5 c fz) (V6 c fz) fz) := rfl
theorem xs15 (c : Dev nD) (fz : BufOf (F := F) c m13) : t2b.sl.H14_60 c (V5 c fz) (V6 c fz) fz = xList c fz 15 := by
  rw [xone15, xs14]; rfl
theorem xone16 (c : Dev nD) (fz : BufOf (F := F) c m13) : t2b.sl.H14_64 c (V5 c fz) (V6 c fz) fz = xStep c fz 15 (t2b.sl.H14_60 c (V5 c fz) (V6 c fz) fz) := rfl
theorem xs16 (c : Dev nD) (fz : BufOf (F := F) c m13) : t2b.sl.H14_64 c (V5 c fz) (V6 c fz) fz = xList c fz 16 := by
  rw [xone16, xs15]; rfl
theorem xone17 (c : Dev nD) (fz : BufOf (F := F) c m13) : t3a.sl.H14_68 c (V5 c fz) (V6 c fz) fz = xStep c fz 16 (t2b.sl.H14_64 c (V5 c fz) (V6 c fz) fz) := rfl
theorem xs17 (c : Dev nD) (fz : BufOf (F := F) c m13) : t3a.sl.H14_68 c (V5 c fz) (V6 c fz) fz = xList c fz 17 := by
  rw [xone17, xs16]; rfl
theorem xone18 (c : Dev nD) (fz : BufOf (F := F) c m13) : t3a.sl.H14_72 c (V5 c fz) (V6 c fz) fz = xStep c fz 17 (t3a.sl.H14_68 c (V5 c fz) (V6 c fz) fz) := rfl
theorem xs18 (c : Dev nD) (fz : BufOf (F := F) c m13) : t3a.sl.H14_72 c (V5 c fz) (V6 c fz) fz = xList c fz 18 := by
  rw [xone18, xs17]; rfl
theorem xone19 (c : Dev nD) (fz : BufOf (F := F) c m13) : t3b.sl.H14_76 c (V5 c fz) (V6 c fz) fz = xStep c fz 18 (t3a.sl.H14_72 c (V5 c fz) (V6 c fz) fz) := rfl
theorem xs19 (c : Dev nD) (fz : BufOf (F := F) c m13) : t3b.sl.H14_76 c (V5 c fz) (V6 c fz) fz = xList c fz 19 := by
  rw [xone19, xs18]; rfl
theorem xone20 (c : Dev nD) (fz : BufOf (F := F) c m13) : t3b.sl.H14_80 c (V5 c fz) (V6 c fz) fz = xStep c fz 19 (t3b.sl.H14_76 c (V5 c fz) (V6 c fz) fz) := rfl
theorem xs20 (c : Dev nD) (fz : BufOf (F := F) c m13) : t3b.sl.H14_80 c (V5 c fz) (V6 c fz) fz = xList c fz 20 := by
  rw [xone20, xs19]; rfl
theorem xone21 (c : Dev nD) (fz : BufOf (F := F) c m13) : t4a.sl.H14_84 c (V5 c fz) (V6 c fz) fz = xStep c fz 20 (t3b.sl.H14_80 c (V5 c fz) (V6 c fz) fz) := rfl
theorem xs21 (c : Dev nD) (fz : BufOf (F := F) c m13) : t4a.sl.H14_84 c (V5 c fz) (V6 c fz) fz = xList c fz 21 := by
  rw [xone21, xs20]; rfl
theorem xone22 (c : Dev nD) (fz : BufOf (F := F) c m13) : t4a.sl.H14_88 c (V5 c fz) (V6 c fz) fz = xStep c fz 21 (t4a.sl.H14_84 c (V5 c fz) (V6 c fz) fz) := rfl
theorem xs22 (c : Dev nD) (fz : BufOf (F := F) c m13) : t4a.sl.H14_88 c (V5 c fz) (V6 c fz) fz = xList c fz 22 := by
  rw [xone22, xs21]; rfl
theorem xone23 (c : Dev nD) (fz : BufOf (F := F) c m13) : t4b.sl.H14_92 c (V5 c fz) (V6 c fz) fz = xStep c fz 22 (t4a.sl.H14_88 c (V5 c fz) (V6 c fz) fz) := rfl
theorem xs23 (c : Dev nD) (fz : BufOf (F := F) c m13) : t4b.sl.H14_92 c (V5 c fz) (V6 c fz) fz = xList c fz 23 := by
  rw [xone23, xs22]; rfl
theorem xone24 (c : Dev nD) (fz : BufOf (F := F) c m13) : t4b.sl.H14_96 c (V5 c fz) (V6 c fz) fz = xStep c fz 23 (t4b.sl.H14_92 c (V5 c fz) (V6 c fz) fz) := rfl
theorem xs24 (c : Dev nD) (fz : BufOf (F := F) c m13) : t4b.sl.H14_96 c (V5 c fz) (V6 c fz) fz = xList c fz 24 := by
  rw [xone24, xs23]; rfl
theorem xone25 (c : Dev nD) (fz : BufOf (F := F) c m13) : t5a.sl.H14_100 c (V5 c fz) (V6 c fz) fz = xStep c fz 24 (t4b.sl.H14_96 c (V5 c fz) (V6 c fz) fz) := rfl
theorem xs25 (c : Dev nD) (fz : BufOf (F := F) c m13) : t5a.sl.H14_100 c (V5 c fz) (V6 c fz) fz = xList c fz 25 := by
  rw [xone25, xs24]; rfl
theorem xone26 (c : Dev nD) (fz : BufOf (F := F) c m13) : t5a.sl.H14_104 c (V5 c fz) (V6 c fz) fz = xStep c fz 25 (t5a.sl.H14_100 c (V5 c fz) (V6 c fz) fz) := rfl
theorem xs26 (c : Dev nD) (fz : BufOf (F := F) c m13) : t5a.sl.H14_104 c (V5 c fz) (V6 c fz) fz = xList c fz 26 := by
  rw [xone26, xs25]; rfl
theorem xone27 (c : Dev nD) (fz : BufOf (F := F) c m13) : t5b.sl.H14_108 c (V5 c fz) (V6 c fz) fz = xStep c fz 26 (t5a.sl.H14_104 c (V5 c fz) (V6 c fz) fz) := rfl
theorem xs27 (c : Dev nD) (fz : BufOf (F := F) c m13) : t5b.sl.H14_108 c (V5 c fz) (V6 c fz) fz = xList c fz 27 := by
  rw [xone27, xs26]; rfl
theorem xone28 (c : Dev nD) (fz : BufOf (F := F) c m13) : t5b.sl.H14_112 c (V5 c fz) (V6 c fz) fz = xStep c fz 27 (t5b.sl.H14_108 c (V5 c fz) (V6 c fz) fz) := rfl
theorem xs28 (c : Dev nD) (fz : BufOf (F := F) c m13) : t5b.sl.H14_112 c (V5 c fz) (V6 c fz) fz = xList c fz 28 := by
  rw [xone28, xs27]; rfl
end Cert.KernelIdeal.Hand
-- ==== Proof.V.IdA.lean ====
/-
The running sums each step stores are the canonical ones.
-/
module

public import proofs.«01_k».proof.Proof.V.Canon
public import proofs.«01_k».proof.Proof.V.IdX

@[expose] public section

set_option maxRecDepth 65536
set_option maxHeartbeats 4000000

noncomputable section

namespace Cert.KernelIdeal.Hand

open Cert.KernelIdeal Cert.KernelIdeal.Gen Idealize.ShloMosaic

variable {F : FTy → Type} [FloatOps F]

/-- The running sum's buffer once `k` tiles (eight a step) are stored. -/
def aList (c : Dev nD) (f2 : BufOf (F := F) c m2) (f10 : BufOf (F := F) c m10) (fz : BufOf (F := F) c m13) : ℕ → List (View.Piece (Elt F) S128x4096 .f32)
  | 0 => s1.sl.H15_1
  | k + 1 => aStep c f2 f10 (xList c fz (4 * (k / 8 + 1) + (k % 8 + 1) / 2)) ⟨k / 8 % 7, Nat.mod_lt _ (by omega)⟩ ⟨k % 8, Nat.mod_lt _ (by omega)⟩ (aList c f2 f10 fz k)

theorem aone1 (c : Dev nD) (f2 : BufOf (F := F) c m2) (f10 : BufOf (F := F) c m10) (fz : BufOf (F := F) c m13) : t0a.sl.H15_2 c f2 f10 (V5 c fz) (V6 c fz) fz = aStep c f2 f10 (xStep c fz 3 (s2.sl.H14_12 c (V5 c fz) (V6 c fz) fz)) 0 0 (s1.sl.H15_1) := rfl
theorem as1 (c : Dev nD) (f2 : BufOf (F := F) c m2) (f10 : BufOf (F := F) c m10) (fz : BufOf (F := F) c m13) : t0a.sl.H15_2 c f2 f10 (V5 c fz) (V6 c fz) fz = aList c f2 f10 fz 1 := by
  rw [aone1, xs3]; rfl
theorem aone2 (c : Dev nD) (f2 : BufOf (F := F) c m2) (f10 : BufOf (F := F) c m10) (fz : BufOf (F := F) c m13) : t0a.sl.H15_3 c f2 f10 (V5 c fz) (V6 c fz) fz = aStep c f2 f10 (t0a.sl.H14_20 c (V5 c fz) (V6 c fz) fz) 0 1 (t0a.sl.H15_2 c f2 f10 (V5 c fz) (V6 c fz) fz) := rfl
theorem as2 (c : Dev nD) (f2 : BufOf (F := F) c m2) (f10 : BufOf (F := F) c m10) (fz : BufOf (F := F) c m13) : t0a.sl.H15_3 c f2 f10 (V5 c fz) (V6 c fz) fz = aList c f2 f10 fz 2 := by
  rw [aone2, xs5, as1]; rfl
theorem aone3 (c : Dev nD) (f2 : BufOf (F := F) c m2) (f10 : BufOf (F := F) c m10) (fz : BufOf (F := F) c m13) : t0a.sl.H15_4 c f2 f10 (V5 c fz) (V6 c fz) fz = aStep c f2 f10 (t0a.sl.H14_20 c (V5 c fz) (V6 c fz) fz) 0 2 (t0a.sl.H15_3 c f2 f10 (V5 c fz) (V6 c fz) fz) := rfl
theorem as3 (c : Dev nD) (f2 : BufOf (F := F) c m2) (f10 : BufOf (F := F) c m10) (fz : BufOf (F := F) c m13) : t0a.sl.H15_4 c f2 f10 (V5 c fz) (V6 c fz) fz = aList c f2 f10 fz 3 := by
  rw [aone3, xs5, as2]; rfl
theorem aone4 (c : Dev nD) (f2 : BufOf (F := F) c m2) (f10 : BufOf (F := F) c m10) (fz : BufOf (F := F) c m13) : t0b.sl.H15_5 c f2 f10 (V5 c fz) (V6 c fz) fz = aStep c f2 f10 (t0a.sl.H14_24 c (V5 c fz) (V6 c fz) fz) 0 3 (t0a.sl.H15_4 c f2 f10 (V5 c fz) (V6 c fz) fz) := rfl
theorem as4 (c : Dev nD) (f2 : BufOf (F := F) c m2) (f10 : BufOf (F := F) c m10) (fz : BufOf (F := F) c m13) : t0b.sl.H15_5 c f2 f10 (V5 c fz) (V6 c fz) fz = aList c f2 f10 fz 4 := by
  rw [aone4, xs6, as3]; rfl
theorem aone5 (c : Dev nD) (f2 : BufOf (F := F) c m2) (f10 : BufOf (F := F) c m10) (fz : BufOf (F := F) c m13) : t0b.sl.H15_6 c f2 f10 (V5 c fz) (V6 c fz) fz = aStep c f2 f10 (t0a.sl.H14_24 c (V5 c fz) (V6 c fz) fz) 0 4 (t0b.sl.H15_5 c f2 f10 (V5 c fz) (V6 c fz) fz) := rfl
theorem as5 (c : Dev nD) (f2 : BufOf (F := F) c m2) (f10 : BufOf (F := F) c m10) (fz : BufOf (F := F) c m13) : t0b.sl.H15_6 c f2 f10 (V5 c fz) (V6 c fz) fz = aList c f2 f10 fz 5 := by
  rw [aone5, xs6, as4]; rfl
theorem aone6 (c : Dev nD) (f2 : BufOf (F := F) c m2) (f10 : BufOf (F := F) c m10) (fz : BufOf (F := F) c m13) : t0b.sl.H15_7 c f2 f10 (V5 c fz) (V6 c fz) fz = aStep c f2 f10 (t0b.sl.H14_28 c (V5 c fz) (V6 c fz) fz) 0 5 (t0b.sl.H15_6 c f2 f10 (V5 c fz) (V6 c fz) fz) := rfl
theorem as6 (c : Dev nD) (f2 : BufOf (F := F) c m2) (f10 : BufOf (F := F) c m10) (fz : BufOf (F := F) c m13) : t0b.sl.H15_7 c f2 f10 (V5 c fz) (V6 c fz) fz = aList c f2 f10 fz 6 := by
  rw [aone6, xs7, as5]; rfl
theorem aone7 (c : Dev nD) (f2 : BufOf (F := F) c m2) (f10 : BufOf (F := F) c m10) (fz : BufOf (F := F) c m13) : t0b.sl.H15_8 c f2 f10 (V5 c fz) (V6 c fz) fz = aStep c f2 f10 (t0b.sl.H14_28 c (V5 c fz) (V6 c fz) fz) 0 6 (t0b.sl.H15_7 c f2 f10 (V5 c fz) (V6 c fz) fz) := rfl
theorem as7 (c : Dev nD) (f2 : BufOf (F := F) c m2) (f10 : BufOf (F := F) c m10) (fz : BufOf (F := F) c m13) : t0b.sl.H15_8 c f2 f10 (V5 c fz) (V6 c fz) fz = aList c f2 f10 fz 7 := by
  rw [aone7, xs7, as6]; rfl
theorem aone8 (c : Dev nD) (f2 : BufOf (F := F) c m2) (f10 : BufOf (F := F) c m10) (fz : BufOf (F := F) c m13) : t0b.sl.H15_9 c f2 f10 (V5 c fz) (V6 c fz) fz = aStep c f2 f10 (t0b.sl.H14_32 c (V5 c fz) (V6 c fz) fz) 0 7 (t0b.sl.H15_8 c f2 f10 (V5 c fz) (V6 c fz) fz) := rfl
theorem as8 (c : Dev nD) (f2 : BufOf (F := F) c m2) (f10 : BufOf (F := F) c m10) (fz : BufOf (F := F) c m13) : t0b.sl.H15_9 c f2 f10 (V5 c fz) (V6 c fz) fz = aList c f2 f10 fz 8 := by
  rw [aone8, xs8, as7]; rfl
theorem aone9 (c : Dev nD) (f2 : BufOf (F := F) c m2) (f10 : BufOf (F := F) c m10) (fz : BufOf (F := F) c m13) : t1a.sl.H15_10 c f2 f10 (V5 c fz) (V6 c fz) fz = aStep c f2 f10 (t0b.sl.H14_32 c (V5 c fz) (V6 c fz) fz) 1 0 (t0b.sl.H15_9 c f2 f10 (V5 c fz) (V6 c fz) fz) := rfl
theorem as9 (c : Dev nD) (f2 : BufOf (F := F) c m2) (f10 : BufOf (F := F) c m10) (fz : BufOf (F := F) c m13) : t1a.sl.H15_10 c f2 f10 (V5 c fz) (V6 c fz) fz = aList c f2 f10 fz 9 := by
  rw [aone9, xs8, as8]; rfl
theorem aone10 (c : Dev nD) (f2 : BufOf (F := F) c m2) (f10 : BufOf (F := F) c m10) (fz : BufOf (F := F) c m13) : t1a.sl.H15_11 c f2 f10 (V5 c fz) (V6 c fz) fz = aStep c f2 f10 (t1a.sl.H14_36 c (V5 c fz) (V6 c fz) fz) 1 1 (t1a.sl.H15_10 c f2 f10 (V5 c fz) (V6 c fz) fz) := rfl
theorem as10 (c : Dev nD) (f2 : BufOf (F := F) c m2) (f10 : BufOf (F := F) c m10) (fz : BufOf (F := F) c m13) : t1a.sl.H15_11 c f2 f10 (V5 c fz) (V6 c fz) fz = aList c f2 f10 fz 10 := by
  rw [aone10, xs9, as9]; rfl
theorem aone11 (c : Dev nD) (f2 : BufOf (F := F) c m2) (f10 : BufOf (F := F) c m10) (fz : BufOf (F := F) c m13) : t1a.sl.H15_12 c f2 f10 (V5 c fz) (V6 c fz) fz = aStep c f2 f10 (t1a.sl.H14_36 c (V5 c fz) (V6 c fz) fz) 1 2 (t1a.sl.H15_11 c f2 f10 (V5 c fz) (V6 c fz) fz) := rfl
theorem as11 (c : Dev nD) (f2 : BufOf (F := F) c m2) (f10 : BufOf (F := F) c m10) (fz : BufOf (F := F) c m13) : t1a.sl.H15_12 c f2 f10 (V5 c fz) (V6 c fz) fz = aList c f2 f10 fz 11 := by
  rw [aone11, xs9, as10]; rfl
theorem aone12 (c : Dev nD) (f2 : BufOf (F := F) c m2) (f10 : BufOf (F := F) c m10) (fz : BufOf (F := F) c m13) : t1b.sl.H15_13 c f2 f10 (V5 c fz) (V6 c fz) fz = aStep c f2 f10 (t1a.sl.H14_40 c (V5 c fz) (V6 c fz) fz) 1 3 (t1a.sl.H15_12 c f2 f10 (V5 c fz) (V6 c fz) fz) := rfl
theorem as12 (c : Dev nD) (f2 : BufOf (F := F) c m2) (f10 : BufOf (F := F) c m10) (fz : BufOf (F := F) c m13) : t1b.sl.H15_13 c f2 f10 (V5 c fz) (V6 c fz) fz = aList c f2 f10 fz 12 := by
  rw [aone12, xs10, as11]; rfl
theorem aone13 (c : Dev nD) (f2 : BufOf (F := F) c m2) (f10 : BufOf (F := F) c m10) (fz : BufOf (F := F) c m13) : t1b.sl.H15_14 c f2 f10 (V5 c fz) (V6 c fz) fz = aStep c f2 f10 (t1a.sl.H14_40 c (V5 c fz) (V6 c fz) fz) 1 4 (t1b.sl.H15_13 c f2 f10 (V5 c fz) (V6 c fz) fz) := rfl
theorem as13 (c : Dev nD) (f2 : BufOf (F := F) c m2) (f10 : BufOf (F := F) c m10) (fz : BufOf (F := F) c m13) : t1b.sl.H15_14 c f2 f10 (V5 c fz) (V6 c fz) fz = aList c f2 f10 fz 13 := by
  rw [aone13, xs10, as12]; rfl
theorem aone14 (c : Dev nD) (f2 : BufOf (F := F) c m2) (f10 : BufOf (F := F) c m10) (fz : BufOf (F := F) c m13) : t1b.sl.H15_15 c f2 f10 (V5 c fz) (V6 c fz) fz = aStep c f2 f10 (t1b.sl.H14_44 c (V5 c fz) (V6 c fz) fz) 1 5 (t1b.sl.H15_14 c f2 f10 (V5 c fz) (V6 c fz) fz) := rfl
theorem as14 (c : Dev nD) (f2 : BufOf (F := F) c m2) (f10 : BufOf (F := F) c m10) (fz : BufOf (F := F) c m13) : t1b.sl.H15_15 c f2 f10 (V5 c fz) (V6 c fz) fz = aList c f2 f10 fz 14 := by
  rw [aone14, xs11, as13]; rfl
theorem aone15 (c : Dev nD) (f2 : BufOf (F := F) c m2) (f10 : BufOf (F := F) c m10) (fz : BufOf (F := F) c m13) : t1b.sl.H15_16 c f2 f10 (V5 c fz) (V6 c fz) fz = aStep c f2 f10 (t1b.sl.H14_44 c (V5 c fz) (V6 c fz) fz) 1 6 (t1b.sl.H15_15 c f2 f10 (V5 c fz) (V6 c fz) fz) := rfl
theorem as15 (c : Dev nD) (f2 : BufOf (F := F) c m2) (f10 : BufOf (F := F) c m10) (fz : BufOf (F := F) c m13) : t1b.sl.H15_16 c f2 f10 (V5 c fz) (V6 c fz) fz = aList c f2 f10 fz 15 := by
  rw [aone15, xs11, as14]; rfl
theorem aone16 (c : Dev nD) (f2 : BufOf (F := F) c m2) (f10 : BufOf (F := F) c m10) (fz : BufOf (F := F) c m13) : t1b.sl.H15_17 c f2 f10 (V5 c fz) (V6 c fz) fz = aStep c f2 f10 (t1b.sl.H14_48 c (V5 c fz) (V6 c fz) fz) 1 7 (t1b.sl.H15_16 c f2 f10 (V5 c fz) (V6 c fz) fz) := rfl
theorem as16 (c : Dev nD) (f2 : BufOf (F := F) c m2) (f10 : BufOf (F := F) c m10) (fz : BufOf (F := F) c m13) : t1b.sl.H15_17 c f2 f10 (V5 c fz) (V6 c fz) fz = aList c f2 f10 fz 16 := by
  rw [aone16, xs12, as15]; rfl
theorem aone17 (c : Dev nD) (f2 : BufOf (F := F) c m2) (f10 : BufOf (F := F) c m10) (fz : BufOf (F := F) c m13) : t2a.sl.H15_18 c f2 f10 (V5 c fz) (V6 c fz) fz = aStep c f2 f10 (t1b.sl.H14_48 c (V5 c fz) (V6 c fz) fz) 2 0 (t1b.sl.H15_17 c f2 f10 (V5 c fz) (V6 c fz) fz) := rfl
theorem as17 (c : Dev nD) (f2 : BufOf (F := F) c m2) (f10 : BufOf (F := F) c m10) (fz : BufOf (F := F) c m13) : t2a.sl.H15_18 c f2 f10 (V5 c fz) (V6 c fz) fz = aList c f2 f10 fz 17 := by
  rw [aone17, xs12, as16]; rfl
theorem aone18 (c : Dev nD) (f2 : BufOf (F := F) c m2) (f10 : BufOf (F := F) c m10) (fz : BufOf (F := F) c m13) : t2a.sl.H15_19 c f2 f10 (V5 c fz) (V6 c fz) fz = aStep c f2 f10 (t2a.sl.H14_52 c (V5 c fz) (V6 c fz) fz) 2 1 (t2a.sl.H15_18 c f2 f10 (V5 c fz) (V6 c fz) fz) := rfl
theorem as18 (c : Dev nD) (f2 : BufOf (F := F) c m2) (f10 : BufOf (F := F) c m10) (fz : BufOf (F := F) c m13) : t2a.sl.H15_19 c f2 f10 (V5 c fz) (V6 c fz) fz = aList c f2 f10 fz 18 := by
  rw [aone18, xs13, as17]; rfl
theorem aone19 (c : Dev nD) (f2 : BufOf (F := F) c m2) (f10 : BufOf (F := F) c m10) (fz : BufOf (F := F) c m13) : t2a.sl.H15_20 c f2 f10 (V5 c fz) (V6 c fz) fz = aStep c f2 f10 (t2a.sl.H14_52 c (V5 c fz) (V6 c fz) fz) 2 2 (t2a.sl.H15_19 c f2 f10 (V5 c fz) (V6 c fz) fz) := rfl
theorem as19 (c : Dev nD) (f2 : BufOf (F := F) c m2) (f10 : BufOf (F := F) c m10) (fz : BufOf (F := F) c m13) : t2a.sl.H15_20 c f2 f10 (V5 c fz) (V6 c fz) fz = aList c f2 f10 fz 19 := by
  rw [aone19, xs13, as18]; rfl
theorem aone20 (c : Dev nD) (f2 : BufOf (F := F) c m2) (f10 : BufOf (F := F) c m10) (fz : BufOf (F := F) c m13) : t2b.sl.H15_21 c f2 f10 (V5 c fz) (V6 c fz) fz = aStep c f2 f10 (t2a.sl.H14_56 c (V5 c fz) (V6 c fz) fz) 2 3 (t2a.sl.H15_20 c f2 f10 (V5 c fz) (V6 c fz) fz) := rfl
theorem as20 (c : Dev nD) (f2 : BufOf (F := F) c m2) (f10 : BufOf (F := F) c m10) (fz : BufOf (F := F) c m13) : t2b.sl.H15_21 c f2 f10 (V5 c fz) (V6 c fz) fz = aList c f2 f10 fz 20 := by
  rw [aone20, xs14, as19]; rfl
theorem aone21 (c : Dev nD) (f2 : BufOf (F := F) c m2) (f10 : BufOf (F := F) c m10) (fz : BufOf (F := F) c m13) : t2b.sl.H15_22 c f2 f10 (V5 c fz) (V6 c fz) fz = aStep c f2 f10 (t2a.sl.H14_56 c (V5 c fz) (V6 c fz) fz) 2 4 (t2b.sl.H15_21 c f2 f10 (V5 c fz) (V6 c fz) fz) := rfl
theorem as21 (c : Dev nD) (f2 : BufOf (F := F) c m2) (f10 : BufOf (F := F) c m10) (fz : BufOf (F := F) c m13) : t2b.sl.H15_22 c f2 f10 (V5 c fz) (V6 c fz) fz = aList c f2 f10 fz 21 := by
  rw [aone21, xs14, as20]; rfl
theorem aone22 (c : Dev nD) (f2 : BufOf (F := F) c m2) (f10 : BufOf (F := F) c m10) (fz : BufOf (F := F) c m13) : t2b.sl.H15_23 c f2 f10 (V5 c fz) (V6 c fz) fz = aStep c f2 f10 (t2b.sl.H14_60 c (V5 c fz) (V6 c fz) fz) 2 5 (t2b.sl.H15_22 c f2 f10 (V5 c fz) (V6 c fz) fz) := rfl
theorem as22 (c : Dev nD) (f2 : BufOf (F := F) c m2) (f10 : BufOf (F := F) c m10) (fz : BufOf (F := F) c m13) : t2b.sl.H15_23 c f2 f10 (V5 c fz) (V6 c fz) fz = aList c f2 f10 fz 22 := by
  rw [aone22, xs15, as21]; rfl
theorem aone23 (c : Dev nD) (f2 : BufOf (F := F) c m2) (f10 : BufOf (F := F) c m10) (fz : BufOf (F := F) c m13) : t2b.sl.H15_24 c f2 f10 (V5 c fz) (V6 c fz) fz = aStep c f2 f10 (t2b.sl.H14_60 c (V5 c fz) (V6 c fz) fz) 2 6 (t2b.sl.H15_23 c f2 f10 (V5 c fz) (V6 c fz) fz) := rfl
theorem as23 (c : Dev nD) (f2 : BufOf (F := F) c m2) (f10 : BufOf (F := F) c m10) (fz : BufOf (F := F) c m13) : t2b.sl.H15_24 c f2 f10 (V5 c fz) (V6 c fz) fz = aList c f2 f10 fz 23 := by
  rw [aone23, xs15, as22]; rfl
theorem aone24 (c : Dev nD) (f2 : BufOf (F := F) c m2) (f10 : BufOf (F := F) c m10) (fz : BufOf (F := F) c m13) : t2b.sl.H15_25 c f2 f10 (V5 c fz) (V6 c fz) fz = aStep c f2 f10 (t2b.sl.H14_64 c (V5 c fz) (V6 c fz) fz) 2 7 (t2b.sl.H15_24 c f2 f10 (V5 c fz) (V6 c fz) fz) := rfl
theorem as24 (c : Dev nD) (f2 : BufOf (F := F) c m2) (f10 : BufOf (F := F) c m10) (fz : BufOf (F := F) c m13) : t2b.sl.H15_25 c f2 f10 (V5 c fz) (V6 c fz) fz = aList c f2 f10 fz 24 := by
  rw [aone24, xs16, as23]; rfl
theorem aone25 (c : Dev nD) (f2 : BufOf (F := F) c m2) (f10 : BufOf (F := F) c m10) (fz : BufOf (F := F) c m13) : t3a.sl.H15_26 c f2 f10 (V5 c fz) (V6 c fz) fz = aStep c f2 f10 (t2b.sl.H14_64 c (V5 c fz) (V6 c fz) fz) 3 0 (t2b.sl.H15_25 c f2 f10 (V5 c fz) (V6 c fz) fz) := rfl
theorem as25 (c : Dev nD) (f2 : BufOf (F := F) c m2) (f10 : BufOf (F := F) c m10) (fz : BufOf (F := F) c m13) : t3a.sl.H15_26 c f2 f10 (V5 c fz) (V6 c fz) fz = aList c f2 f10 fz 25 := by
  rw [aone25, xs16, as24]; rfl
theorem aone26 (c : Dev nD) (f2 : BufOf (F := F) c m2) (f10 : BufOf (F := F) c m10) (fz : BufOf (F := F) c m13) : t3a.sl.H15_27 c f2 f10 (V5 c fz) (V6 c fz) fz = aStep c f2 f10 (t3a.sl.H14_68 c (V5 c fz) (V6 c fz) fz) 3 1 (t3a.sl.H15_26 c f2 f10 (V5 c fz) (V6 c fz) fz) := rfl
theorem as26 (c : Dev nD) (f2 : BufOf (F := F) c m2) (f10 : BufOf (F := F) c m10) (fz : BufOf (F := F) c m13) : t3a.sl.H15_27 c f2 f10 (V5 c fz) (V6 c fz) fz = aList c f2 f10 fz 26 := by
  rw [aone26, xs17, as25]; rfl
theorem aone27 (c : Dev nD) (f2 : BufOf (F := F) c m2) (f10 : BufOf (F := F) c m10) (fz : BufOf (F := F) c m13) : t3a.sl.H15_28 c f2 f10 (V5 c fz) (V6 c fz) fz = aStep c f2 f10 (t3a.sl.H14_68 c (V5 c fz) (V6 c fz) fz) 3 2 (t3a.sl.H15_27 c f2 f10 (V5 c fz) (V6 c fz) fz) := rfl
theorem as27 (c : Dev nD) (f2 : BufOf (F := F) c m2) (f10 : BufOf (F := F) c m10) (fz : BufOf (F := F) c m13) : t3a.sl.H15_28 c f2 f10 (V5 c fz) (V6 c fz) fz = aList c f2 f10 fz 27 := by
  rw [aone27, xs17, as26]; rfl
theorem aone28 (c : Dev nD) (f2 : BufOf (F := F) c m2) (f10 : BufOf (F := F) c m10) (fz : BufOf (F := F) c m13) : t3b.sl.H15_29 c f2 f10 (V5 c fz) (V6 c fz) fz = aStep c f2 f10 (t3a.sl.H14_72 c (V5 c fz) (V6 c fz) fz) 3 3 (t3a.sl.H15_28 c f2 f10 (V5 c fz) (V6 c fz) fz) := rfl
theorem as28 (c : Dev nD) (f2 : BufOf (F := F) c m2) (f10 : BufOf (F := F) c m10) (fz : BufOf (F := F) c m13) : t3b.sl.H15_29 c f2 f10 (V5 c fz) (V6 c fz) fz = aList c f2 f10 fz 28 := by
  rw [aone28, xs18, as27]; rfl
theorem aone29 (c : Dev nD) (f2 : BufOf (F := F) c m2) (f10 : BufOf (F := F) c m10) (fz : BufOf (F := F) c m13) : t3b.sl.H15_30 c f2 f10 (V5 c fz) (V6 c fz) fz = aStep c f2 f10 (t3a.sl.H14_72 c (V5 c fz) (V6 c fz) fz) 3 4 (t3b.sl.H15_29 c f2 f10 (V5 c fz) (V6 c fz) fz) := rfl
theorem as29 (c : Dev nD) (f2 : BufOf (F := F) c m2) (f10 : BufOf (F := F) c m10) (fz : BufOf (F := F) c m13) : t3b.sl.H15_30 c f2 f10 (V5 c fz) (V6 c fz) fz = aList c f2 f10 fz 29 := by
  rw [aone29, xs18, as28]; rfl
theorem aone30 (c : Dev nD) (f2 : BufOf (F := F) c m2) (f10 : BufOf (F := F) c m10) (fz : BufOf (F := F) c m13) : t3b.sl.H15_31 c f2 f10 (V5 c fz) (V6 c fz) fz = aStep c f2 f10 (t3b.sl.H14_76 c (V5 c fz) (V6 c fz) fz) 3 5 (t3b.sl.H15_30 c f2 f10 (V5 c fz) (V6 c fz) fz) := rfl
theorem as30 (c : Dev nD) (f2 : BufOf (F := F) c m2) (f10 : BufOf (F := F) c m10) (fz : BufOf (F := F) c m13) : t3b.sl.H15_31 c f2 f10 (V5 c fz) (V6 c fz) fz = aList c f2 f10 fz 30 := by
  rw [aone30, xs19, as29]; rfl
theorem aone31 (c : Dev nD) (f2 : BufOf (F := F) c m2) (f10 : BufOf (F := F) c m10) (fz : BufOf (F := F) c m13) : t3b.sl.H15_32 c f2 f10 (V5 c fz) (V6 c fz) fz = aStep c f2 f10 (t3b.sl.H14_76 c (V5 c fz) (V6 c fz) fz) 3 6 (t3b.sl.H15_31 c f2 f10 (V5 c fz) (V6 c fz) fz) := rfl
theorem as31 (c : Dev nD) (f2 : BufOf (F := F) c m2) (f10 : BufOf (F := F) c m10) (fz : BufOf (F := F) c m13) : t3b.sl.H15_32 c f2 f10 (V5 c fz) (V6 c fz) fz = aList c f2 f10 fz 31 := by
  rw [aone31, xs19, as30]; rfl
theorem aone32 (c : Dev nD) (f2 : BufOf (F := F) c m2) (f10 : BufOf (F := F) c m10) (fz : BufOf (F := F) c m13) : t3b.sl.H15_33 c f2 f10 (V5 c fz) (V6 c fz) fz = aStep c f2 f10 (t3b.sl.H14_80 c (V5 c fz) (V6 c fz) fz) 3 7 (t3b.sl.H15_32 c f2 f10 (V5 c fz) (V6 c fz) fz) := rfl
theorem as32 (c : Dev nD) (f2 : BufOf (F := F) c m2) (f10 : BufOf (F := F) c m10) (fz : BufOf (F := F) c m13) : t3b.sl.H15_33 c f2 f10 (V5 c fz) (V6 c fz) fz = aList c f2 f10 fz 32 := by
  rw [aone32, xs20, as31]; rfl
theorem aone33 (c : Dev nD) (f2 : BufOf (F := F) c m2) (f10 : BufOf (F := F) c m10) (fz : BufOf (F := F) c m13) : t4a.sl.H15_34 c f2 f10 (V5 c fz) (V6 c fz) fz = aStep c f2 f10 (t3b.sl.H14_80 c (V5 c fz) (V6 c fz) fz) 4 0 (t3b.sl.H15_33 c f2 f10 (V5 c fz) (V6 c fz) fz) := rfl
theorem as33 (c : Dev nD) (f2 : BufOf (F := F) c m2) (f10 : BufOf (F := F) c m10) (fz : BufOf (F := F) c m13) : t4a.sl.H15_34 c f2 f10 (V5 c fz) (V6 c fz) fz = aList c f2 f10 fz 33 := by
  rw [aone33, xs20, as32]; rfl
theorem aone34 (c : Dev nD) (f2 : BufOf (F := F) c m2) (f10 : BufOf (F := F) c m10) (fz : BufOf (F := F) c m13) : t4a.sl.H15_35 c f2 f10 (V5 c fz) (V6 c fz) fz = aStep c f2 f10 (t4a.sl.H14_84 c (V5 c fz) (V6 c fz) fz) 4 1 (t4a.sl.H15_34 c f2 f10 (V5 c fz) (V6 c fz) fz) := rfl
theorem as34 (c : Dev nD) (f2 : BufOf (F := F) c m2) (f10 : BufOf (F := F) c m10) (fz : BufOf (F := F) c m13) : t4a.sl.H15_35 c f2 f10 (V5 c fz) (V6 c fz) fz = aList c f2 f10 fz 34 := by
  rw [aone34, xs21, as33]; rfl
theorem aone35 (c : Dev nD) (f2 : BufOf (F := F) c m2) (f10 : BufOf (F := F) c m10) (fz : BufOf (F := F) c m13) : t4a.sl.H15_36 c f2 f10 (V5 c fz) (V6 c fz) fz = aStep c f2 f10 (t4a.sl.H14_84 c (V5 c fz) (V6 c fz) fz) 4 2 (t4a.sl.H15_35 c f2 f10 (V5 c fz) (V6 c fz) fz) := rfl
theorem as35 (c : Dev nD) (f2 : BufOf (F := F) c m2) (f10 : BufOf (F := F) c m10) (fz : BufOf (F := F) c m13) : t4a.sl.H15_36 c f2 f10 (V5 c fz) (V6 c fz) fz = aList c f2 f10 fz 35 := by
  rw [aone35, xs21, as34]; rfl
theorem aone36 (c : Dev nD) (f2 : BufOf (F := F) c m2) (f10 : BufOf (F := F) c m10) (fz : BufOf (F := F) c m13) : t4b.sl.H15_37 c f2 f10 (V5 c fz) (V6 c fz) fz = aStep c f2 f10 (t4a.sl.H14_88 c (V5 c fz) (V6 c fz) fz) 4 3 (t4a.sl.H15_36 c f2 f10 (V5 c fz) (V6 c fz) fz) := rfl
theorem as36 (c : Dev nD) (f2 : BufOf (F := F) c m2) (f10 : BufOf (F := F) c m10) (fz : BufOf (F := F) c m13) : t4b.sl.H15_37 c f2 f10 (V5 c fz) (V6 c fz) fz = aList c f2 f10 fz 36 := by
  rw [aone36, xs22, as35]; rfl
theorem aone37 (c : Dev nD) (f2 : BufOf (F := F) c m2) (f10 : BufOf (F := F) c m10) (fz : BufOf (F := F) c m13) : t4b.sl.H15_38 c f2 f10 (V5 c fz) (V6 c fz) fz = aStep c f2 f10 (t4a.sl.H14_88 c (V5 c fz) (V6 c fz) fz) 4 4 (t4b.sl.H15_37 c f2 f10 (V5 c fz) (V6 c fz) fz) := rfl
theorem as37 (c : Dev nD) (f2 : BufOf (F := F) c m2) (f10 : BufOf (F := F) c m10) (fz : BufOf (F := F) c m13) : t4b.sl.H15_38 c f2 f10 (V5 c fz) (V6 c fz) fz = aList c f2 f10 fz 37 := by
  rw [aone37, xs22, as36]; rfl
theorem aone38 (c : Dev nD) (f2 : BufOf (F := F) c m2) (f10 : BufOf (F := F) c m10) (fz : BufOf (F := F) c m13) : t4b.sl.H15_39 c f2 f10 (V5 c fz) (V6 c fz) fz = aStep c f2 f10 (t4b.sl.H14_92 c (V5 c fz) (V6 c fz) fz) 4 5 (t4b.sl.H15_38 c f2 f10 (V5 c fz) (V6 c fz) fz) := rfl
theorem as38 (c : Dev nD) (f2 : BufOf (F := F) c m2) (f10 : BufOf (F := F) c m10) (fz : BufOf (F := F) c m13) : t4b.sl.H15_39 c f2 f10 (V5 c fz) (V6 c fz) fz = aList c f2 f10 fz 38 := by
  rw [aone38, xs23, as37]; rfl
theorem aone39 (c : Dev nD) (f2 : BufOf (F := F) c m2) (f10 : BufOf (F := F) c m10) (fz : BufOf (F := F) c m13) : t4b.sl.H15_40 c f2 f10 (V5 c fz) (V6 c fz) fz = aStep c f2 f10 (t4b.sl.H14_92 c (V5 c fz) (V6 c fz) fz) 4 6 (t4b.sl.H15_39 c f2 f10 (V5 c fz) (V6 c fz) fz) := rfl
theorem as39 (c : Dev nD) (f2 : BufOf (F := F) c m2) (f10 : BufOf (F := F) c m10) (fz : BufOf (F := F) c m13) : t4b.sl.H15_40 c f2 f10 (V5 c fz) (V6 c fz) fz = aList c f2 f10 fz 39 := by
  rw [aone39, xs23, as38]; rfl
theorem aone40 (c : Dev nD) (f2 : BufOf (F := F) c m2) (f10 : BufOf (F := F) c m10) (fz : BufOf (F := F) c m13) : t4b.sl.H15_41 c f2 f10 (V5 c fz) (V6 c fz) fz = aStep c f2 f10 (t4b.sl.H14_96 c (V5 c fz) (V6 c fz) fz) 4 7 (t4b.sl.H15_40 c f2 f10 (V5 c fz) (V6 c fz) fz) := rfl
theorem as40 (c : Dev nD) (f2 : BufOf (F := F) c m2) (f10 : BufOf (F := F) c m10) (fz : BufOf (F := F) c m13) : t4b.sl.H15_41 c f2 f10 (V5 c fz) (V6 c fz) fz = aList c f2 f10 fz 40 := by
  rw [aone40, xs24, as39]; rfl
theorem aone41 (c : Dev nD) (f2 : BufOf (F := F) c m2) (f10 : BufOf (F := F) c m10) (fz : BufOf (F := F) c m13) : t5a.sl.H15_42 c f2 f10 (V5 c fz) (V6 c fz) fz = aStep c f2 f10 (t4b.sl.H14_96 c (V5 c fz) (V6 c fz) fz) 5 0 (t4b.sl.H15_41 c f2 f10 (V5 c fz) (V6 c fz) fz) := rfl
theorem as41 (c : Dev nD) (f2 : BufOf (F := F) c m2) (f10 : BufOf (F := F) c m10) (fz : BufOf (F := F) c m13) : t5a.sl.H15_42 c f2 f10 (V5 c fz) (V6 c fz) fz = aList c f2 f10 fz 41 := by
  rw [aone41, xs24, as40]; rfl
theorem aone42 (c : Dev nD) (f2 : BufOf (F := F) c m2) (f10 : BufOf (F := F) c m10) (fz : BufOf (F := F) c m13) : t5a.sl.H15_43 c f2 f10 (V5 c fz) (V6 c fz) fz = aStep c f2 f10 (t5a.sl.H14_100 c (V5 c fz) (V6 c fz) fz) 5 1 (t5a.sl.H15_42 c f2 f10 (V5 c fz) (V6 c fz) fz) := rfl
theorem as42 (c : Dev nD) (f2 : BufOf (F := F) c m2) (f10 : BufOf (F := F) c m10) (fz : BufOf (F := F) c m13) : t5a.sl.H15_43 c f2 f10 (V5 c fz) (V6 c fz) fz = aList c f2 f10 fz 42 := by
  rw [aone42, xs25, as41]; rfl
theorem aone43 (c : Dev nD) (f2 : BufOf (F := F) c m2) (f10 : BufOf (F := F) c m10) (fz : BufOf (F := F) c m13) : t5a.sl.H15_44 c f2 f10 (V5 c fz) (V6 c fz) fz = aStep c f2 f10 (t5a.sl.H14_100 c (V5 c fz) (V6 c fz) fz) 5 2 (t5a.sl.H15_43 c f2 f10 (V5 c fz) (V6 c fz) fz) := rfl
theorem as43 (c : Dev nD) (f2 : BufOf (F := F) c m2) (f10 : BufOf (F := F) c m10) (fz : BufOf (F := F) c m13) : t5a.sl.H15_44 c f2 f10 (V5 c fz) (V6 c fz) fz = aList c f2 f10 fz 43 := by
  rw [aone43, xs25, as42]; rfl
theorem aone44 (c : Dev nD) (f2 : BufOf (F := F) c m2) (f10 : BufOf (F := F) c m10) (fz : BufOf (F := F) c m13) : t5b.sl.H15_45 c f2 f10 (V5 c fz) (V6 c fz) fz = aStep c f2 f10 (t5a.sl.H14_104 c (V5 c fz) (V6 c fz) fz) 5 3 (t5a.sl.H15_44 c f2 f10 (V5 c fz) (V6 c fz) fz) := rfl
theorem as44 (c : Dev nD) (f2 : BufOf (F := F) c m2) (f10 : BufOf (F := F) c m10) (fz : BufOf (F := F) c m13) : t5b.sl.H15_45 c f2 f10 (V5 c fz) (V6 c fz) fz = aList c f2 f10 fz 44 := by
  rw [aone44, xs26, as43]; rfl
theorem aone45 (c : Dev nD) (f2 : BufOf (F := F) c m2) (f10 : BufOf (F := F) c m10) (fz : BufOf (F := F) c m13) : t5b.sl.H15_46 c f2 f10 (V5 c fz) (V6 c fz) fz = aStep c f2 f10 (t5a.sl.H14_104 c (V5 c fz) (V6 c fz) fz) 5 4 (t5b.sl.H15_45 c f2 f10 (V5 c fz) (V6 c fz) fz) := rfl
theorem as45 (c : Dev nD) (f2 : BufOf (F := F) c m2) (f10 : BufOf (F := F) c m10) (fz : BufOf (F := F) c m13) : t5b.sl.H15_46 c f2 f10 (V5 c fz) (V6 c fz) fz = aList c f2 f10 fz 45 := by
  rw [aone45, xs26, as44]; rfl
theorem aone46 (c : Dev nD) (f2 : BufOf (F := F) c m2) (f10 : BufOf (F := F) c m10) (fz : BufOf (F := F) c m13) : t5b.sl.H15_47 c f2 f10 (V5 c fz) (V6 c fz) fz = aStep c f2 f10 (t5b.sl.H14_108 c (V5 c fz) (V6 c fz) fz) 5 5 (t5b.sl.H15_46 c f2 f10 (V5 c fz) (V6 c fz) fz) := rfl
theorem as46 (c : Dev nD) (f2 : BufOf (F := F) c m2) (f10 : BufOf (F := F) c m10) (fz : BufOf (F := F) c m13) : t5b.sl.H15_47 c f2 f10 (V5 c fz) (V6 c fz) fz = aList c f2 f10 fz 46 := by
  rw [aone46, xs27, as45]; rfl
theorem aone47 (c : Dev nD) (f2 : BufOf (F := F) c m2) (f10 : BufOf (F := F) c m10) (fz : BufOf (F := F) c m13) : t5b.sl.H15_48 c f2 f10 (V5 c fz) (V6 c fz) fz = aStep c f2 f10 (t5b.sl.H14_108 c (V5 c fz) (V6 c fz) fz) 5 6 (t5b.sl.H15_47 c f2 f10 (V5 c fz) (V6 c fz) fz) := rfl
theorem as47 (c : Dev nD) (f2 : BufOf (F := F) c m2) (f10 : BufOf (F := F) c m10) (fz : BufOf (F := F) c m13) : t5b.sl.H15_48 c f2 f10 (V5 c fz) (V6 c fz) fz = aList c f2 f10 fz 47 := by
  rw [aone47, xs27, as46]; rfl
end Cert.KernelIdeal.Hand
-- ==== Proof.V.FinV.lean ====
/-
The body run to its end, with what it leaves in its results named.
-/
module

public import proofs.«01_k».proof.Proof.V.IdC
public import proofs.«01_k».proof.Proof.V.IdS
public import proofs.«01_k».proof.Proof.V.IdA
public import proofs.«01_k».proof.Proof.KI.Joins

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem inbC (b : Fin 28) : ∀ a, (![b.val, 0, 0] : Fin 3 → Nat) a + S1x128x512.size a ≤ S28x128x512.size a := by
  have := b.isLt
  intro a; fin_cases a <;> simp <;> omega
theorem inbD (b : Fin 28) : ∀ a, (![0, 512 * b.val] : Fin 2 → Nat) a + S128x512.size a ≤ S128x14336.size a := by
  have := b.isLt
  intro a; fin_cases a <;> simp <;> omega
/-- Block `b`'s codes as copied out. -/
def cOut (c : Dev nD) (f16 : BufOf (F := F) c m16) (fz : BufOf (F := F) c m13) (b : Fin 28) : Vec F S128x512 .fp8e4m3 :=
  ReadAs.same.apply (View.read (Elt F) ((m16.slice (Rect.unit (s := S28x128x512) ![b.val, 0, 0] S1x128x512.size (inbC b)) (fun _ => rfl)).squeeze S128x512 squeezes_S1x128x512_S128x512).view (m16.view.writes (Elt F) f16 (cL c fz b)))
/-- Tile `n` of the result as copied out. -/
def oOut (c : Dev nD) (f2 : BufOf (F := F) c m2) (f3 : BufOf (F := F) c m3) (f9 : BufOf (F := F) c m9) (f10 : BufOf (F := F) c m10) (f18 : BufOf (F := F) c m18) (fz : BufOf (F := F) c m13) (n : Fin 8) : Vec F S128x512 .bf16 :=
  ReadAs.same.apply (View.read (Elt F) (m18.slice (Rect.unit (s := S128x4096) ![0, 512 * n.val] S128x512.size (inbA n)) (fun _ => rfl)).view
    (m18.view.writes (Elt F) f18 [oPc c f2 f3 f9 f10 (t5b.sl.H14_112 c (V5 c fz) (V6 c fz) fz)
      (aStep c f2 f10 (t5b.sl.H14_112 c (V5 c fz) (V6 c fz) fz) 5 7 (t5b.sl.H15_48 c f2 f10 (V5 c fz) (V6 c fz) fz)) n]))
/-- What the body leaves in its three results. -/
structure Ends (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6)
    (f8 : BufOf (F := F) c m8) (f9 : BufOf (F := F) c m9) (f10 : BufOf (F := F) c m10) (f13 : BufOf (F := F) c m13) (f16 : BufOf (F := F) c m16) (f17 : BufOf (F := F) c m17) (f18 : BufOf (F := F) c m18)
    (fz : BufOf (F := F) c m13) (g4 : BufOf (F := F) c m4) (g5 : BufOf (F := F) c m5) (g6 : BufOf (F := F) c m6) : Prop where
  mixed : cnd (s1.sl.r_78 c f1 f8) ≠ 1#1 → fz = m13.view.writes (Elt F) (m13.view.writes (Elt F) f13
        (⟨Rect.unit (s := S28x128x512) ![0, 112, 0] S28x8x512.size inb_S28x128x512_S28x8x512_0_112_0, k0_pay464 k0_pay343 (s1.sl.v682 c f1 f8) (s1.sl.v1286 c f0)⟩ :: s1.sl.H13_14 c f0 f1 f8))
        [⟨Rect.unit (s := S28x128x512) ![0, 120, 0] S28x8x512.size inb_S28x128x512_S28x8x512_0_120_0,
            k0_pay470 k0_pay343 (s1.sl.r_185 c f1 f8) (s1.sl.r_186 c f0) (s1.sl.r_187 c f0) (s1.sl.r_188 c f0) (s1.sl.r_189 c f0)⟩]
  codes : ∀ b : Fin 28, ∀ y ∈ hcodI b, g5 y = m5.view.writes (Elt F) f5 [⟨Rect.unit (s := S128x14336) ![0, 512 * b.val] S128x512.size (inbD b), cOut c f16 fz b⟩] y
  outs : ∀ n : Fin 8, ∀ y ∈ houtI n, g4 y = m4.view.writes (Elt F) f4 [⟨Rect.unit (s := S128x4096) ![0, 512 * n.val] S128x512.size (inbA n), oOut c f2 f3 f9 f10 f18 fz n⟩] y
  scales : g6 = View.write (Elt F) m6.view f6 (ReadAs.same.apply (View.read (Elt F) m17.view (m17.view.writes (Elt F) m17.view.junk (sList c fz (V4 c f17) 27)))) Finset.univ

set_option maxHeartbeats 8000000 in
/-- The body, run from its operands, scratch and semaphores, ends with the operands as they were and the results as named. -/
theorem runV (c : Dev nD) (f0 : BufOf (F := F) c m0) (f1 : BufOf (F := F) c m1) (f2 : BufOf (F := F) c m2) (f3 : BufOf (F := F) c m3) (f4 : BufOf (F := F) c m4) (f5 : BufOf (F := F) c m5) (f6 : BufOf (F := F) c m6) (f7 : BufOf (F := F) c m7) (f8 : BufOf (F := F) c m8) (f9 : BufOf (F := F) c m9) (f10 : BufOf (F := F) c m10) (f11 : BufOf (F := F) c m11) (f12 : BufOf (F := F) c m12) (f13 : BufOf (F := F) c m13) (f14 : BufOf (F := F) c m14) (f15 : BufOf (F := F) c m15) (f16 : BufOf (F := F) c m16) (f17 : BufOf (F := F) c m17) (f18 : BufOf (F := F) c m18) (Out : BufOf (F := F) c m4 → BufOf (F := F) c m5 → BufOf (F := F) c m6 → Prop) (hOut : ∀ fz g4 g5 g6, Ends c f0 f1 f2 f3 f4 f5 f6 f8 f9 f10 f13 f16 f17 f18 fz g4 g5 g6 → Out g4 g5 g6) (W : Waits sig Unit) (K : PUnit → sProp 𝕄) :
    iprop(pt c m0 f0 ∗ pt c m1 f1 ∗ pt c m2 f2 ∗ pt c m3 f3 ∗ pt c m4 f4 ∗ pt c m5 f5 ∗ pt c m6 f6 ∗ pt c m7 f7 ∗ pt c m8 f8 ∗ pt c m9 f9 ∗ pt c m10 f10 ∗ pt c m11 f11 ∗ pt c m12 f12 ∗ pt c m13 f13 ∗ pt c m14 f14 ∗ pt c m15 f15 ∗ pt c m16 f16 ∗ pt c m17 f17 ∗ pt c m18 f18 ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ owes (c : Thread nD τ) 0 W ∗ (iprop((∃ (g4 : BufOf (F := F) c m4) (g5 : BufOf (F := F) c m5) (g6 : BufOf (F := F) c m6), ⌜Out g4 g5 g6⌝ ∗ pt c m4 g4 ∗ pt c m5 g5 ∗ pt c m6 g6) ∗ pt c m0 f0 ∗ pt c m1 f1 ∗ pt c m2 f2 ∗ pt c m3 f3 ∗ (∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f) ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ (∃ W', owes (c : Thread nD τ) 0 W')) -∗ K ⟨⟩)) ⊢ wp frame (wpE (defs₀ (F := F)) Variants.none c none) Set.univ (body (F := F)) K := by
  refine (s1 c f0 f1 f2 f3 f4 f5 f6 f7 f8 f9 f10 f11 f12 f13 f14 f15 f16 f17 f18 Out).2 ((s2 c f0 f1 f2 f3 f4 f5 f6 f7 f8 f9 f10 f11 f12 f13 f14 f15 f16 f17 f18 Out).2 ((t0a c f0 f1 f2 f3 f4 f5 f6 f7 f8 f9 f10 f11 f12 f13 f14 f15 f16 f17 f18 Out).2 ((t0b c f0 f1 f2 f3 f4 f5 f6 f7 f8 f9 f10 f11 f12 f13 f14 f15 f16 f17 f18 Out).2 ((t1a c f0 f1 f2 f3 f4 f5 f6 f7 f8 f9 f10 f11 f12 f13 f14 f15 f16 f17 f18 Out).2 ((t1b c f0 f1 f2 f3 f4 f5 f6 f7 f8 f9 f10 f11 f12 f13 f14 f15 f16 f17 f18 Out).2 ((t2a c f0 f1 f2 f3 f4 f5 f6 f7 f8 f9 f10 f11 f12 f13 f14 f15 f16 f17 f18 Out).2 ((t2b c f0 f1 f2 f3 f4 f5 f6 f7 f8 f9 f10 f11 f12 f13 f14 f15 f16 f17 f18 Out).2 ((t3a c f0 f1 f2 f3 f4 f5 f6 f7 f8 f9 f10 f11 f12 f13 f14 f15 f16 f17 f18 Out).2 ((t3b c f0 f1 f2 f3 f4 f5 f6 f7 f8 f9 f10 f11 f12 f13 f14 f15 f16 f17 f18 Out).2 ((t4a c f0 f1 f2 f3 f4 f5 f6 f7 f8 f9 f10 f11 f12 f13 f14 f15 f16 f17 f18 Out).2 ((t4b c f0 f1 f2 f3 f4 f5 f6 f7 f8 f9 f10 f11 f12 f13 f14 f15 f16 f17 f18 Out).2 ((t5a c f0 f1 f2 f3 f4 f5 f6 f7 f8 f9 f10 f11 f12 f13 f14 f15 f16 f17 f18 Out).2 ((t5b c f0 f1 f2 f3 f4 f5 f6 f7 f8 f9 f10 f11 f12 f13 f14 f15 f16 f17 f18 Out).2 ?_))))))))))))) W K
  sl_resume
  set_option sl_exec.dmaWindow true in
  sl_exec_parts
  ihave Hj := ring_joinw c $$ Ha0 Ha1 Ha2 Ha3 Ha4 Ha5 Ha6 Ha7 Ha8 Ha9 Ha10 Ha11 Ha12 Ha13 Ha14 Ha15 Ha16 Ha17 Ha18 Ha19
  icases Hj with ⟨%j10, %h10, Ha⟩
  ihave Hj := cod_joinw c $$ Hb0 Hb1 Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27
  icases Hj with ⟨%j16, %h16, Hb⟩
  ihave Hj := out_joinw c $$ Hd0 Hd1 Hd2 Hd3 Hd4 Hd5 Hd6 Hd7
  icases Hj with ⟨%j18, %h18, Hd⟩
  ihave Hj := hcod_joinw c $$ Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27
  icases Hj with ⟨%j5, %h5, Hc⟩
  ihave Hj := hout_joinw c $$ He0 He1 He2 He3 He4 He5 He6 He7
  icases Hj with ⟨%j4, %h4, He⟩
  sl_step
  iapply Hk
  isplitl [He Hc H6]
  · iexists _; iexists _; iexists _
    isplitr; swap; (isplitl [He]; · iexact He); (isplitl [Hc]; · iexact Hc); iexact H6
    ipureintro
    injection hk0_part91_5 with e1 e2
    simp only [PSigma.mk.injEq, heq_eq_eq] at e2
    obtain ⟨e2, e3, e4⟩ := e2
    subst e1 e2 e3 e4
    refine hOut fzk0_part91_0 _ _ _ ⟨hk0_part91_0, ?_, ?_, ?_⟩
    · obtain ⟨k0, k1, k2, k3, k4, k5, k6, k7, k8, k9, k10, k11, k12, k13, k14, k15, k16, k17, k18, k19, k20, k21, k22, k23, k24, k25, k26, k27⟩ := h5
      intro b y hy; fin_cases b
      · exact (k0 y hy).trans rfl
      · exact (k1 y hy).trans rfl
      · exact (k2 y hy).trans rfl
      · exact (k3 y hy).trans rfl
      · exact (k4 y hy).trans rfl
      · exact (k5 y hy).trans rfl
      · exact (k6 y hy).trans rfl
      · exact (k7 y hy).trans rfl
      · exact (k8 y hy).trans rfl
      · exact (k9 y hy).trans rfl
      · exact (k10 y hy).trans rfl
      · exact (k11 y hy).trans rfl
      · exact (k12 y hy).trans rfl
      · exact (k13 y hy).trans rfl
      · exact (k14 y hy).trans rfl
      · exact (k15 y hy).trans rfl
      · exact (k16 y hy).trans rfl
      · exact (k17 y hy).trans rfl
      · exact (k18 y hy).trans rfl
      · exact (k19 y hy).trans rfl
      · exact (k20 y hy).trans rfl
      · exact (k21 y hy).trans rfl
      · exact (k22 y hy).trans rfl
      · exact (k23 y hy).trans rfl
      · exact (k24 y hy).trans rfl
      · exact (k25 y hy).trans rfl
      · exact (k26 y hy).trans rfl
      · exact (k27 y hy).trans rfl
    · obtain ⟨k0, k1, k2, k3, k4, k5, k6, k7⟩ := h4
      intro n y hy; fin_cases n
      · exact (k0 y hy).trans rfl
      · exact (k1 y hy).trans rfl
      · exact (k2 y hy).trans rfl
      · exact (k3 y hy).trans rfl
      · exact (k4 y hy).trans rfl
      · exact (k5 y hy).trans rfl
      · exact (k6 y hy).trans rfl
      · exact (k7 y hy).trans rfl
    · rw [← ss27]; rfl
  isplitl [H0]; · iexact H0
  isplitl [H1]; · iexact H1
  isplitl [H2]; · iexact H2
  isplitl [H3]; · iexact H3
  isplitl [Hk0_part91_1]; · iexists _; iexact Hk0_part91_1
  isplitl [H8]; · iexists _; iexact H8
  isplitl [H9]; · iexists _; iexact H9
  isplitl [Ha]; · iexists _; iexact Ha
  isplitl [Hk0_part91_2]; · iexists _; iexact Hk0_part91_2
  isplitl [H12]; · iexists _; iexact H12
  isplitl [Hk0_part91_3]; · iexists _; iexact Hk0_part91_3
  isplitl [H14]; · iexists _; iexact H14
  isplitl [H15]; · iexists _; iexact H15
  isplitl [Hb]; · iexists _; iexact Hb
  isplitl [Hk0_part91_4]; · iexists _; iexact Hk0_part91_4
  isplitl [Hd]; · iexists _; iexact Hd
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  iexists _; iexact HW

end Cert.KernelIdeal.Hand

end
-- ==== Proof.V.FrV.lean ====
/- The region launched: the run ends with every operand unchanged and the results as named. -/
module

public import proofs.«01_k».proof.Proof.V.FinV
public import proofs.«01_k».proof.Proof.KI.Fr
public import Idealize.ShloMosaic.Lib.Pipeline.FrameValue
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (G4 : (c : Dev nD) → BufOf (F := F) c m4) (G5 : (c : Dev nD) → BufOf (F := F) c m5) (G6 : (c : Dev nD) → BufOf (F := F) c m6)

/-- What the unscoped buffers hold at the end. -/
def GV (c : Dev nD) : (b : Ref sig .tc) → Buf (Elt F) ((c.tc : Thread nD τ).loc b) :=
  Function.update (Function.update (Function.update (V m c) main_v2_0 (G4 c)) main_v2_1 (G5 c)) main_v2_2 (G6 c)
theorem GV0 (c : Dev nD) : GV m G4 G5 G6 c main_v2_0 = G4 c := by
  unfold GV; rw [Function.update_of_ne (by decide), Function.update_of_ne (by decide), Function.update_self]
theorem GV1 (c : Dev nD) : GV m G4 G5 G6 c main_v2_1 = G5 c := by
  unfold GV; rw [Function.update_of_ne (by decide), Function.update_self]
theorem GV2 (c : Dev nD) : GV m G4 G5 G6 c main_v2_2 = G6 c := by
  unfold GV; rw [Function.update_self]

theorem routed0_eq (c : Dev nD) (W : (b : Ref sig .tc) → Buf (Elt F) ((c.tc : Thread nD τ).loc b)) :
    (Pipeline.routed R0 c W : sProp 𝕄) = iprop(pt c m4 (W main_v2_0) ∗ pt c m5 (W main_v2_1) ∗ pt c m6 (W main_v2_2)) := by
  unfold Pipeline.routed; rw [BI.bigSep_eq_bigSepL_of_eq [main_v2_0, main_v2_1, main_v2_2] (by decide) (by decide)]; rfl

/-- The region's invariant as a chain of held buffers, the results named. -/
theorem PhiDRG0_eq (c : Dev nD) (W : (c : Dev nD) → (b : Ref sig .tc) → Buf (Elt F) ((c.tc : Thread nD τ).loc b)) :
    (Pipeline.ΦDRG osem0 (cfg0.spec) H0 R0 (V m) W c : sProp 𝕄)
      = iprop(iprop((∃ f : BufOf (F := F) c m7, pt c m7 f) ∗ (∃ f : BufOf (F := F) c m8, pt c m8 f) ∗ (∃ f : BufOf (F := F) c m9, pt c m9 f) ∗ (∃ f : BufOf (F := F) c m10, pt c m10 f) ∗ (∃ f : BufOf (F := F) c m11, pt c m11 f) ∗ (∃ f : BufOf (F := F) c m12, pt c m12 f) ∗ (∃ f : BufOf (F := F) c m13, pt c m13 f) ∗ (∃ f : BufOf (F := F) c m14, pt c m14 f) ∗ (∃ f : BufOf (F := F) c m15, pt c m15 f) ∗ (∃ f : BufOf (F := F) c m16, pt c m16 f) ∗ (∃ f : BufOf (F := F) c m17, pt c m17 f) ∗ (∃ f : BufOf (F := F) c m18, pt c m18 f)) ∗ (∃ r, prngReg c r) ∗ iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32) ∗ iprop(pt c m0 (V m c main_v0) ∗ pt c m1 (V m c main_arg1) ∗ pt c m2 (V m c main_arg2) ∗ pt c m3 (V m c main_v1)) ∗ iprop(pt c m4 (W c main_v2_0) ∗ pt c m5 (W c main_v2_1) ∗ pt c m6 (W c main_v2_2))) := by
  rw [Pipeline.ΦDRG_eq, scopedRest0_eq, ownSems00_eq, hbmPts0_eq, routed0_eq]

/-- The region's proof data: the results named, nothing owed. -/
def datsV (_ : Fin 1) (c : Dev nD) : Pipeline.Dat τ (Elt F) Unit ℕ (Pipeline.UD sig nD τ) ℕ cfg0 c where
  A w := V m c (Pipeline.arrRef (cfg0.spec) w)
  after w _ := w.elim0
  Φ t := Pipeline.ΦDRG osem0 (cfg0.spec) H0 R0 (V m) (if t.val = 0 then V m else GV m G4 G5 G6) c
  q _ := fullShare
  owed _ := 0

theorem A_eqV (c : Dev nD) (w : Fin cfg0.W) : (datsV m G4 G5 G6 0 c).A w = V m c (Pipeline.arrRef (cfg0.spec) w) := w.elim0

def bodyPreV (c : Dev nD) (t : Fin cfg0.N) : sProp 𝕄 := iprop((datsV m G4 G5 G6 0 c).Φ t.castSucc ∗ (datsV m G4 G5 G6 0 c).owesAt () t.castSucc)
def bodyPostV (c : Dev nD) (t : Fin cfg0.N) : sProp 𝕄 := iprop((datsV m G4 G5 G6 0 c).Φ t.succ ∗ (datsV m G4 G5 G6 0 c).owesAt () t.succ)

set_option maxHeartbeats 1000000 in
/-- The body's one point keeps the invariant. -/
theorem sound_bodyV (hG : ∀ (c : Dev nD) f8 f9 f10 f13 f16 f17 f18 fz g4 g5 g6, Ends (F := F) c (V m c main_v0) (V m c main_arg1) (V m c main_arg2) (V m c main_v1) (V m c main_v2_0) (V m c main_v2_1) (V m c main_v2_2) f8 f9 f10 f13 f16 f17 f18 fz g4 g5 g6 → g4 = G4 c ∧ g5 = G5 c ∧ g6 = G6 c) (c : Dev nD) (t : Fin cfg0.N) :
    bodyPreV m G4 G5 G6 c t ⊢ wp Idealize.ShloMosaic.frame (wpE (defs₀ (F := F)) Variants.none c none) Set.univ (bodyAt0 t) (fun _ => bodyPostV m G4 G5 G6 c t) := by
  unfold bodyPreV bodyPostV bodyAt0
  have ht : t.val = 0 := by have h := t.isLt; have : cfg0.N = 1 := rfl; omega
  rw [show (datsV m G4 G5 G6 0 c).Φ t.succ = Pipeline.ΦDRG osem0 (cfg0.spec) H0 R0 (V m) (GV m G4 G5 G6) c from rfl]
  rw [show (datsV m G4 G5 G6 0 c).Φ t.castSucc = Pipeline.ΦDRG osem0 (cfg0.spec) H0 R0 (V m) (V m) c from by
    show Pipeline.ΦDRG osem0 (cfg0.spec) H0 R0 (V m) (if t.val = 0 then V m else GV m G4 G5 G6) c = _
    rw [if_pos ht]]
  rw [PhiDRG0_eq, PhiDRG0_eq, GV0, GV1, GV2]
  unfold Pipeline.Dat.owesAt Pipeline.owesWithin
  rw [show (datsV m G4 G5 G6 0 c).owed t.castSucc = 0 from rfl, show (datsV m G4 G5 G6 0 c).owed t.succ = 0 from rfl]
  iintro ⟨⟨⟨⟨%g7, HS7⟩, ⟨%g8, HS8⟩, ⟨%g9, HS9⟩, ⟨%g10, HS10⟩, ⟨%g11, HS11⟩, ⟨%g12, HS12⟩, ⟨%g13, HS13⟩, ⟨%g14, HS14⟩, ⟨%g15, HS15⟩, ⟨%g16, HS16⟩, ⟨%g17, HS17⟩, ⟨%g18, HS18⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32⟩, ⟨Hh0, Hh1, Hh2, Hh3⟩, ⟨Hh4, Hh5, Hh6⟩⟩, ⟨%W, -, HW⟩⟩
  iapply (runV c (V m c main_v0) (V m c main_arg1) (V m c main_arg2) (V m c main_v1) (V m c main_v2_0) (V m c main_v2_1) (V m c main_v2_2) g7 g8 g9 g10 g11 g12 g13 g14 g15 g16 g17 g18 (fun a b d => a = G4 c ∧ b = G5 c ∧ d = G6 c) (fun fz a b d h => hG c g8 g9 g10 g13 g16 g17 g18 fz a b d h) W _)
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [HW]; · iexact HW
  iintro ⟨⟨%r4, %r5, %r6, %hr, Hh4, Hh5, Hh6⟩, Hh0, Hh1, Hh2, Hh3, HS7, HS8, HS9, HS10, HS11, HS12, HS13, HS14, HS15, HS16, HS17, HS18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, ⟨%W', HW'⟩⟩
  obtain ⟨e4, e5, e6⟩ := hr
  rw [← e4, ← e5, ← e6]
  isplitl [Hh0 Hh1 Hh2 Hh3 Hh4 Hh5 Hh6 Hg HS7 HS8 HS9 HS10 HS11 HS12 HS13 HS14 HS15 HS16 HS17 HS18 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
  · isplitl [HS7 HS8 HS9 HS10 HS11 HS12 HS13 HS14 HS15 HS16 HS17 HS18]
    · isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      iexact HS18
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      iexact Hq32
    isplitl [Hh0 Hh1 Hh2 Hh3]
    · isplitl [Hh0]; · iexact Hh0
      isplitl [Hh1]; · iexact Hh1
      isplitl [Hh2]; · iexact Hh2
      iexact Hh3
    isplitl [Hh4]; · iexact Hh4
    isplitl [Hh5]; · iexact Hh5
    iexact Hh6
  iexists W'; isplitr; · ipureintro; exact fun _ _ => Or.inl trivial
  iexact HW'

theorem body_obligationV (hG : ∀ (c : Dev nD) f8 f9 f10 f13 f16 f17 f18 fz g4 g5 g6, Ends (F := F) c (V m c main_v0) (V m c main_arg1) (V m c main_arg2) (V m c main_v1) (V m c main_v2_0) (V m c main_v2_1) (V m c main_v2_2) f8 f9 f10 f13 f16 f17 f18 fz g4 g5 g6 → g4 = G4 c ∧ g5 = G5 c ∧ g6 = G6 c) (c : Dev nD) : Pipeline.BodyObligation (datsV (F := F) m G4 G5 G6 0 c) (defs₀ (F := F)) Variants.none () Set.univ := fun t => by
  rw [defs₀_row]
  refine triple_restated (sound_bodyV m G4 G5 G6 hG c t) ?_ ?_ fun _ => ?_
  · rfl
  · iintro ⟨H1, H2, -⟩
    unfold bodyPreV
    isplitl [H1]; · iexact H1
    iexact H2
  · unfold bodyPostV
    iintro ⟨H1, H2⟩
    isplitl [H1]; · iexact H1
    isplitl [H2]; · iexact H2
    iapply (Entails.of_eq (by haveI : IsEmpty (Fin cfg0.W) := ⟨fun w => w.elim0⟩; rw [Finset.univ_eq_empty]; rfl : (iprop(emp) : sProp 𝕄) = _)); exact .rfl

set_option backward.isDefEq.respectTransparency.types false in
/-- The run ends: every unscoped buffer but the results is as the region found it, the results are as named, every counter is at zero. -/
theorem run_mainV (hG : ∀ (c : Dev nD) f8 f9 f10 f13 f16 f17 f18 fz g4 g5 g6, Ends (F := F) c (V m c main_v0) (V m c main_arg1) (V m c main_arg2) (V m c main_v1) (V m c main_v2_0) (V m c main_v2_1) (V m c main_v2_2) f8 f9 f10 f13 f16 f17 f18 fz g4 g5 g6 → g4 = G4 c ∧ g5 = G5 c ∧ g6 = G6 c) : θ_run defs (onTc (τ := τ) (main (F := F))) (s₀ m ρ) (fun r => Pipeline.FramePostRG cfgs (datsV m G4 G5 G6) 0 R0 (V m) (GV m G4 G5 G6) r ∧ r.2.sem = fun _ => 0) :=
  Pipeline.θ_run_frame_dmaRG (Q' := _) cfgs (datsV m G4 G5 G6) (0 : Fin 1) launch0 osem0 defs₀ Variants.none ownSemFacts0 H0 R0 H0_sub R0_sub m ρ main
    (hbody := fun c => (body_obligationV m G4 G5 G6 hG c).loose) (hshare := fun c => (datsV m G4 G5 G6 0 c).share_full fun _ => rfl)
    (howed := fun _ _ => rfl) (V := V m) (hmain := hmain m Variants.none) (hA := A_eqV m G4 G5 G6) (G := GV m G4 G5 G6)
    (hin := fun _ => .rfl) (hout := fun _ => .rfl)

/-- The run's end: the arguments unchanged, the results as named. -/
theorem values (hG : ∀ (c : Dev nD) f8 f9 f10 f13 f16 f17 f18 fz g4 g5 g6, Ends (F := F) c (V m c main_v0) (V m c main_arg1) (V m c main_arg2) (V m c main_v1) (V m c main_v2_0) (V m c main_v2_1) (V m c main_v2_2) f8 f9 f10 f13 f16 f17 f18 fz g4 g5 g6 → g4 = G4 c ∧ g5 = G5 c ∧ g6 = G6 c) : θ_run defs (onTc (τ := τ) (main (F := F))) ⟨m, fun _ => 0, ρ⟩ (fun r => ∀ c : Dev nD,
      (r.2.mem ((c.tc : Thread nD τ).loc main_v2_0) = G4 c
      ∧ r.2.mem ((c.tc : Thread nD τ).loc main_v2_1) = G5 c
      ∧ r.2.mem ((c.tc : Thread nD τ).loc main_v2_2) = G6 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
     ⟨⟨(h.1.written c (b := main_v2_0) (by decide)).trans (GV0 m G4 G5 G6 c), (h.1.written c (b := main_v2_1) (by decide)).trans (GV1 m G4 G5 G6 c), (h.1.written c (b := main_v2_2) (by decide)).trans (GV2 m G4 G5 G6 c)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c)⟩) (run_mainV m ρ G4 G5 G6 hG)

end Cert.KernelIdeal.Hand

end
-- ==== Proof.V.KMixId.lean ====
/-
The mixing step of the kernel: its matrix and its operands as closed forms, and the sixteen row blocks it stores.
-/
module

public import proofs.«01_k».proof.Proof.V.Canon
public import Idealize.ShloMosaic.Lib.Pipeline.Value

@[expose] public section

set_option maxRecDepth 65536
set_option maxHeartbeats 1000000

namespace Cert.KernelIdeal.Hand

open Cert.KernelIdeal Cert.KernelIdeal.Gen Idealize.ShloMosaic

variable {F : FTy → Type} [FloatOps F]

theorem slRow (a : Fin 28) : S28x256.Slices ![a.val, 0] S1x256 := by
  have := a.isLt
  refine ⟨rfl, fun i => ?_⟩
  fin_cases i <;> simp <;> omega
theorem slX (h : Fin 2) (k : Fin 28) : S16x14336.Slices ![8 * h.val, 512 * k.val] S8x512 := by
  have := h.isLt
  have := k.isLt
  refine ⟨rfl, fun i => ?_⟩
  fin_cases i <;> simp <;> omega

/-- Row `a` of the wide matrix, on eight rows, kept where the lane's place in its eight is the row. -/
noncomputable def dRow (W : FVec F S28x256 .f32) (a : Fin 28) : FVec F S8x256 .f32 :=
  select s1.sl.r (broadcastTo S8x256 (shapeCast S1x256 (extractStridedSlice S1x256 ![a.val, 0] W (slRow a)) shapeCasts_S1x256_S1x256 : FVec F S1x256 .f32) broadcasts_S1x256_S8x256)
    (broadcast S8x256 (Scalar.ofBits .f32 0x00000000#32))
/-- The rows laid end to end. -/
noncomputable def dCat (W : FVec F S28x256 .f32) : FVec F S224x256 .f32 :=
  concatenate S224x256 0 (List.ofFn fun a : Fin 28 => (⟨S8x256, dRow W a⟩ : (s : Shape) × (s.Idx → F .f32))) concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S224x256_d0
/-- The mixing matrix, as stored. -/
noncomputable def cMix (W : FVec F S28x256 .f32) : FVec F S1x224x256 .bf16 :=
  shapeCast S1x224x256 (truncf .bf16 (dCat W) bitsLt_bf16_f32) shapeCasts_S224x256_S1x224x256
/-- The wide matrix's piece. -/
noncomputable def H11c (W : FVec F S28x256 .f32) : List (View.Piece (Elt F) S3x224x256 .bf16) :=
  [⟨Rect.unit (s := S3x224x256) ![0, 0, 0] S1x224x256.size inb_S3x224x256_S1x224x256_0_0_0, cMix W⟩]

theorem H11_eq (c : Dev nD) (f1 : BufOf (F := F) c m1) (f8 : BufOf (F := F) c m8) : s1.sl.H11_1 c f1 f8 = H11c (s1.sl.r_3 c f1 f8) := by
  rfl

theorem inbV7 (r : Fin 8) : ∀ a, (![16 * r.val, 0] : Fin 2 → Nat) a + S16x14336.size a ≤ S128x14336.size a := by
  have := r.isLt
  intro a; fin_cases a <;> simp <;> omega
/-- The rows `16 r` to `16 r + 15` of the input, read. -/
noncomputable def xRow (c : Dev nD) (f0 : BufOf (F := F) c m0) (r : Fin 8) : FVec F S16x14336 .bf16 :=
  ReadAs.same.apply (View.read (Elt F) (m0.slice (Rect.unit (s := S128x14336) ![16 * r.val, 0] S16x14336.size (inbV7 r)) (fun _ => rfl)).view f0)
/-- The eight copies' pieces, the last first. -/
noncomputable def xPcs (c : Dev nD) (f0 : BufOf (F := F) c m0) : List (View.Piece (Elt F) S128x14336 .bf16) :=
  [7, 6, 5, 4, 3, 2, 1, 0].map fun r : Fin 8 => ⟨Rect.unit (s := S128x14336) ![16 * r.val, 0] S16x14336.size (inbV7 r), xRow c f0 r⟩
/-- The same rows out of the buffer. -/
noncomputable def vX (c : Dev nD) (f0 : BufOf (F := F) c m0) (r : Fin 8) : FVec F S16x14336 .bf16 :=
  m7.view.readCov (xPcs c f0) (Rect.unit (s := S128x14336) ![16 * r.val, 0] S16x14336.size (inbV7 r)).toLoadRect

/-- Half `h` of sixteen rows, its 28 column blocks laid end to end over rows of zeros. -/
noncomputable def opCat (v : FVec F S16x14336 .bf16) (h : Fin 2) : FVec F S256x512 .f32 :=
  concatenate S256x512 0 ((List.ofFn fun k : Fin 28 => (⟨S8x512, extractStridedSlice S8x512 ![8 * h.val, 512 * k.val] (extf .f32 v bitsLt_bf16_f32) (slX h k)⟩ : (s : Shape) × (s.Idx → F .f32))) ++ ([⟨S32x512, k0_pay343⟩] : List ((s : Shape) × (s.Idx → F .f32)))) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S32x512_S256x512_d0
/-- Eight mixed rows of every block. -/
noncomputable def zP (W : Vec F S1x224x256 .bf16) (v : FVec F S16x14336 .bf16) (h : Fin 2) : FVec F S28x8x512 .f32 :=
  shapeCast S28x8x512 (shapeCast S28x8x512 (matmul dot_S224x256_S256x512_S224x512_1_0_0_1_n_n none (shapeCast S224x256 W shapeCasts_S1x224x256_S224x256 : FVec F S224x256 .bf16) (truncf .bf16 (opCat v h) bitsLt_bf16_f32) (constant S224x512 .f32 0x00000000#32 : FVec F S224x512 .f32)) shapeCasts_S224x512_S28x8x512 : FVec F S28x8x512 .f32) shapeCasts_S28x8x512_S28x8x512
theorem inbZ (i : Fin 16) : ∀ a, (![0, 8 * i.val, 0] : Fin 3 → Nat) a + S28x8x512.size a ≤ S28x128x512.size a := by
  have := i.isLt
  intro a; fin_cases a <;> simp <;> omega
/-- The piece of eight mixed rows. -/
noncomputable def zPc (c : Dev nD) (f0 : BufOf (F := F) c m0) (W : Vec F S1x224x256 .bf16) (i : Fin 16) : View.Piece (Elt F) S28x128x512 .f32 :=
  ⟨Rect.unit (s := S28x128x512) ![0, 8 * i.val, 0] S28x8x512.size (inbZ i), zP W (vX c f0 ⟨i.val / 2, by omega⟩) ⟨i.val % 2, by omega⟩⟩

section
variable (c : Dev nD) (f0 : BufOf (F := F) c m0) (f1 : BufOf (F := F) c m1) (f8 : BufOf (F := F) c m8)
theorem z1 : s1.sl.H13_1 c f0 f1 f8 = zPc c f0 (s1.sl.v682 c f1 f8) 0 :: [] := by
  rfl
theorem z2 : s1.sl.H13_2 c f0 f1 f8 = zPc c f0 (s1.sl.v682 c f1 f8) 1 :: s1.sl.H13_1 c f0 f1 f8 := by
  rfl
theorem z3 : s1.sl.H13_3 c f0 f1 f8 = zPc c f0 (s1.sl.v682 c f1 f8) 2 :: s1.sl.H13_2 c f0 f1 f8 := by
  rfl
theorem z4 : s1.sl.H13_4 c f0 f1 f8 = zPc c f0 (s1.sl.v682 c f1 f8) 3 :: s1.sl.H13_3 c f0 f1 f8 := by
  rfl
theorem z5 : s1.sl.H13_5 c f0 f1 f8 = zPc c f0 (s1.sl.v682 c f1 f8) 4 :: s1.sl.H13_4 c f0 f1 f8 := by
  rfl
theorem z6 : s1.sl.H13_6 c f0 f1 f8 = zPc c f0 (s1.sl.v682 c f1 f8) 5 :: s1.sl.H13_5 c f0 f1 f8 := by
  rfl
theorem z7 : s1.sl.H13_7 c f0 f1 f8 = zPc c f0 (s1.sl.v682 c f1 f8) 6 :: s1.sl.H13_6 c f0 f1 f8 := by
  rfl
theorem z8 : s1.sl.H13_8 c f0 f1 f8 = zPc c f0 (s1.sl.v682 c f1 f8) 7 :: s1.sl.H13_7 c f0 f1 f8 := by
  rfl
theorem z9 : s1.sl.H13_9 c f0 f1 f8 = zPc c f0 (s1.sl.v682 c f1 f8) 8 :: s1.sl.H13_8 c f0 f1 f8 := by
  rfl
theorem z10 : s1.sl.H13_10 c f0 f1 f8 = zPc c f0 (s1.sl.v682 c f1 f8) 9 :: s1.sl.H13_9 c f0 f1 f8 := by
  rfl
theorem z12 : s1.sl.H13_12 c f0 f1 f8 = zPc c f0 (s1.sl.v682 c f1 f8) 11 :: zPc c f0 (s1.sl.v682 c f1 f8) 10 :: s1.sl.H13_10 c f0 f1 f8 := by
  rfl
theorem z13 : s1.sl.H13_13 c f0 f1 f8 = zPc c f0 (s1.sl.v682 c f1 f8) 12 :: s1.sl.H13_12 c f0 f1 f8 := by
  rfl
theorem z14 : s1.sl.H13_14 c f0 f1 f8 = zPc c f0 (s1.sl.v682 c f1 f8) 13 :: s1.sl.H13_13 c f0 f1 f8 := by
  rfl
theorem z15 : (⟨Rect.unit (s := S28x128x512) ![0, 112, 0] S28x8x512.size inb_S28x128x512_S28x8x512_0_112_0, k0_pay464 k0_pay343 (s1.sl.v682 c f1 f8) (s1.sl.v1286 c f0)⟩ : View.Piece (Elt F) S28x128x512 .f32) = zPc c f0 (s1.sl.v682 c f1 f8) 14 := by
  rfl
theorem z16 : (⟨Rect.unit (s := S28x128x512) ![0, 120, 0] S28x8x512.size inb_S28x128x512_S28x8x512_0_120_0, k0_pay470 k0_pay343 (s1.sl.r_185 c f1 f8) (s1.sl.r_186 c f0) (s1.sl.r_187 c f0) (s1.sl.r_188 c f0) (s1.sl.r_189 c f0)⟩ : View.Piece (Elt F) S28x128x512 .f32) = zPc c f0 (s1.sl.v682 c f1 f8) 15 := by
  rfl
end

end Cert.KernelIdeal.Hand
-- ==== Proof.V.Expo.lean ====
/-
The scale's exponent

The exponent of a ratio, written with logarithms, and the same exponent found by setting one bit of the exponent field
after another: the two agree for every ratio the fields can express.
-/
module

public import proofs.«01_k».proof.Proof.V.Math

@[expose] public section

noncomputable section

namespace Cert.V
open Idealize Idealize.ShloMosaic

/-- The exponent of the power of two that divides a group with ratio `r`: zero for ratios below the smallest normal number,
    one more than the whole part of the binary logarithm otherwise. -/
def ex (r : ℝ) : ℤ := if r < (2:ℝ) ^ (-126 : ℤ) then 0 else ⌊Real.log r / Real.log 2⌋ + 1

theorem zpow_le_zpow_two {a b : ℤ} (h : a ≤ b) : (2:ℝ) ^ a ≤ (2:ℝ) ^ b :=
  zpow_le_zpow_right₀ (by norm_num) h

/-- The whole part of the binary logarithm brackets its argument between powers of two. -/
theorem log_bracket (r : ℝ) (h : 0 < r) :
    (2:ℝ) ^ ⌊Real.log r / Real.log 2⌋ ≤ r ∧ r < (2:ℝ) ^ (⌊Real.log r / Real.log 2⌋ + 1) := by
  have hl : 0 < Real.log 2 := Real.log_pos (by norm_num)
  constructor
  · have h1 := Int.floor_le (Real.log r / Real.log 2)
    rw [le_div_iff₀ hl, ← Real.log_zpow] at h1
    exact (Real.log_le_log_iff (by positivity) h).1 h1
  · have h1 := Int.lt_floor_add_one (Real.log r / Real.log 2)
    rw [div_lt_iff₀ hl] at h1
    have h2 : Real.log r < Real.log ((2:ℝ) ^ (⌊Real.log r / Real.log 2⌋ + 1)) := by
      rw [Real.log_zpow]; push_cast; exact h1
    exact (Real.log_lt_log_iff h (by positivity)).1 h2

/-- The exponent field of a ratio: the field found by the search. -/
theorem ex_field (r : ℝ) (h0 : 0 ≤ r) (h2 : r < (2:ℝ) ^ (126 : ℤ)) :
    ∃ n : ℕ, n ≤ 252 ∧ (n = 0 ∨ (2:ℝ) ^ ((n : ℤ) - 127) ≤ r) ∧ r < (2:ℝ) ^ ((n : ℤ) - 126)
      ∧ ex r = if n = 0 then 0 else (n : ℤ) - 126 := by
  by_cases h : r < (2:ℝ) ^ (-126 : ℤ)
  · exact ⟨0, by omega, Or.inl rfl, by simpa using h, by rw [ex, if_pos h, if_pos rfl]⟩
  · have hr : 0 < r := lt_of_lt_of_le (by positivity) (not_lt.1 h)
    obtain ⟨ha, hb⟩ := log_bracket r hr
    set f := ⌊Real.log r / Real.log 2⌋ with hf
    have f1 : f < 126 := (zpow_lt_zpow_iff_right₀ (by norm_num : (1:ℝ) < 2)).1 (lt_of_le_of_lt ha h2)
    have f2 : -126 < f + 1 := (zpow_lt_zpow_iff_right₀ (by norm_num : (1:ℝ) < 2)).1 (lt_of_le_of_lt (not_lt.1 h) hb)
    have hn : (((f + 127).toNat : ℕ) : ℤ) = f + 127 := Int.toNat_of_nonneg (by omega)
    refine ⟨(f + 127).toNat, by omega, Or.inr ?_, ?_, ?_⟩
    · rw [hn]; simpa using ha
    · rw [hn, show f + 127 - 126 = f + 1 by ring]; exact hb
    · rw [if_neg (by omega), hn, ex, if_neg h, ← hf]; ring

/-- The search finds the exponent field. -/
theorem search_field (r : ℝ) (n : ℕ) (hn : n ≤ 252) (hlo : n = 0 ∨ (2:ℝ) ^ ((n : ℤ) - 127) ≤ r)
    (hhi : r < (2:ℝ) ^ ((n : ℤ) - 126)) :
    ssearch (fun k => Ideal.ofBits .f32 (k <<< (23 : ℕ)) ≤ ((r : ℝ) : EReal)) = BitVec.ofNat 32 n := by
  rw [← ssearch_le ⟨n, by omega⟩]
  apply ssearch_congr
  intro k h1 h2
  have hk : k = BitVec.ofNat 32 k.toNat := by simp
  by_cases h3 : k.toNat = 255
  · rw [h3] at hk
    have : ¬ Ideal.ofBits .f32 (k <<< (23 : ℕ)) ≤ ((r : ℝ) : EReal) := by
      rw [hk, ofBits_top]; simp
    constructor
    · intro h; exact absurd h this
    · intro h; exfalso; simp only at h; omega
  · have e := ofBits_field k.toNat h1 (by omega)
    rw [← hk] at e
    rw [e, EReal.coe_le_coe_iff]
    constructor
    · intro h
      have := (zpow_lt_zpow_iff_right₀ (by norm_num : (1:ℝ) < 2)).1 (lt_of_le_of_lt h hhi)
      simp only; omega
    · intro h
      simp only at h
      rcases hlo with h0 | h0
      · omega
      · exact le_trans (zpow_le_zpow_two (by omega)) h0

/-- The field used in place of the searched one: a zero field stands for the scale one. -/
def fld (k : BitVec 32) : BitVec 32 := if k = 0#32 then 126#32 else k

/-- The scale's bits and the inverse scale's bits, from the searched field. -/
theorem field_scales (r : ℝ) (h0 : 0 ≤ r) (h2 : r < (2:ℝ) ^ (126 : ℤ)) :
    let e := fld (ssearch (fun k => Ideal.ofBits .f32 (k <<< (23 : ℕ)) ≤ ((r : ℝ) : EReal)))
    Ideal.ofBits .f32 ((e + 1#32) <<< (23 : ℕ)) = (((2:ℝ) ^ (ex r) : ℝ) : EReal)
      ∧ Ideal.ofBits .f32 ((253#32 - e) <<< (23 : ℕ)) = (((2:ℝ) ^ (-ex r) : ℝ) : EReal) := by
  obtain ⟨n, hn, hlo, hhi, he⟩ := ex_field r h0 h2
  intro e
  obtain ⟨p, hp1, hp2, hp3, hp4⟩ : ∃ p : ℕ, 1 ≤ p ∧ p ≤ 252 ∧ e = BitVec.ofNat 32 p ∧ ex r = (p : ℤ) - 126 := by
    have hs : e = fld (BitVec.ofNat 32 n) := by
      show fld _ = _
      rw [search_field r n hn hlo hhi]
    by_cases h : n = 0
    · subst h
      exact ⟨126, by omega, by omega, by rw [hs]; rfl, by rw [he]; simp⟩
    · refine ⟨n, by omega, hn, ?_, by rw [he, if_neg h]⟩
      rw [hs, fld, if_neg]
      intro hc
      have := congrArg BitVec.toNat hc
      simp at this; omega
  have b1 : e + 1#32 = BitVec.ofNat 32 (p + 1) := by
    rw [hp3]; apply BitVec.eq_of_toNat_eq; simp
  have b2 : 253#32 - e = BitVec.ofNat 32 (253 - p) := by
    rw [hp3]; apply BitVec.eq_of_toNat_eq; simp; omega
  rw [b1, b2, ofBits_field (p + 1) (by omega) (by omega), ofBits_field (253 - p) (by omega) (by omega), hp4]
  constructor
  · congr 2; push_cast; ring
  · congr 2; rw [Nat.cast_sub (by omega)]; push_cast; ring

end Cert.V
-- ==== Proof.V.Signs.lean ====
/-
The kernel's table of signs holds the signs of the transform.
-/
module

public import proofs.«01_k».proof.Proof.V.Canon
public import proofs.«01_k».proof.Proof.V.Expo
public import Idealize.ShloMosaic.Lib.Pointwise

@[expose] public section

set_option maxRecDepth 65536
set_option maxHeartbeats 1000000

noncomputable section

namespace Cert.KernelIdeal.Hand

open Cert.KernelIdeal Cert.KernelIdeal.Gen Idealize.ShloMosaic Cert.V

/-- The sign the kernel computes from two indices: minus one to the number of bits they share. -/
def sgnBits (j c : BitVec 32) : BitVec 32 :=
  let a := IntOp.andi j c
  let b := IntOp.xori a (IntOp.shrsi ArithUnit.vector a 4#32)
  let d := IntOp.xori b (IntOp.shrsi ArithUnit.vector b 2#32)
  IntOp.subi 1#32 (IntOp.muli 2#32 (IntOp.andi (IntOp.xori d (IntOp.shrsi ArithUnit.vector d 1#32)) 1#32))

theorem sgn_and (k i j : ℕ) : sgn k i j = sgn k (i &&& j) (2 ^ k - 1) := by
  have key : ∀ (k i j w : ℕ), w % 2 ^ k = 2 ^ k - 1 → sgn k i j = sgn k (i &&& j) w := by
    intro k
    induction k with
    | zero => intros; rfl
    | succ k ih =>
      intro i j w hw
      have h1 : w / 2 ^ k % 2 = 1 ∧ w % 2 ^ k = 2 ^ k - 1 := by
        have hp : 0 < 2 ^ k := Nat.pos_of_ne_zero (by positivity)
        rw [pow_succ, Nat.mod_mul] at hw
        have h2 : w % 2 ^ k < 2 ^ k := Nat.mod_lt _ hp
        have h3 : w / 2 ^ k % 2 < 2 := Nat.mod_lt _ (by omega)
        rcases (by omega : w / 2 ^ k % 2 = 0 ∨ w / 2 ^ k % 2 = 1) with h | h <;> rw [h] at hw <;> omega
      rw [sgn, sgn, ih _ _ (w % 2 ^ k) (by rw [Nat.mod_mod]; exact h1.2), Nat.and_mod_two_pow]
      congr 1
      have e : (i &&& j) / 2 ^ k % 2 = 1 ↔ (i / 2 ^ k % 2 = 1 ∧ j / 2 ^ k % 2 = 1) := by
        have := Nat.testBit_and i j k
        rw [Nat.testBit_eq_decide_div_mod_eq, Nat.testBit_eq_decide_div_mod_eq, Nat.testBit_eq_decide_div_mod_eq, ← Bool.decide_and, decide_eq_decide] at this
        exact this
      simp only [e, h1.1, and_true]
  exact key k i j _ (Nat.mod_eq_of_lt (by have : 0 < 2 ^ k := Nat.pos_of_ne_zero (by positivity)
                                          omega))

/-- The same from the bits the two indices share. -/
def sgnOf (a : BitVec 32) : BitVec 32 :=
  let b := IntOp.xori a (IntOp.shrsi ArithUnit.vector a 4#32)
  let d := IntOp.xori b (IntOp.shrsi ArithUnit.vector b 2#32)
  IntOp.subi 1#32 (IntOp.muli 2#32 (IntOp.andi (IntOp.xori d (IntOp.shrsi ArithUnit.vector d 1#32)) 1#32))

theorem signsOf : ∀ a : Fin 256, (sgnOf (BitVec.ofNat 32 a.val)).toInt = sgn 8 a.val 255 := by
  decide +kernel

theorem signs (j c : Fin 256) : (sgnBits (BitVec.ofNat 32 j.val) (BitVec.ofNat 32 c.val)).toInt = sgn 8 c.val j.val := by
  have key := signsOf ⟨c.val &&& j.val, Nat.and_lt_two_pow (n := 8) _ j.isLt⟩
  rw [sgn_and]
  refine Eq.trans ?_ key
  have h : BitVec.ofNat 32 j.val &&& BitVec.ofNat 32 c.val = BitVec.ofNat 32 (c.val &&& j.val) := by
    rw [BitVec.and_comm]
    apply BitVec.eq_of_toNat_eq
    have := Nat.and_lt_two_pow (n := 8) c.val j.isLt
    simp
  show (sgnOf (BitVec.ofNat 32 j.val &&& BitVec.ofNat 32 c.val)).toInt = _
  rw [h]

theorem cW_at (j c : Fin 256) : cW (F := Ideal) (ix2 j c) = (((sgn 8 c.val j.val : ℤ) : ℝ) : EReal) := by
  rw [cW_eq]
  pointwise [k0_pay257, k0_pay256]
  rw [← signs j c]
  rfl

end Cert.KernelIdeal.Hand
-- ==== Proof.V.KPoint.lean ====
/-
What the kernel's computed arrays hold, index by index, when the mixed block they come from holds real numbers.
-/
module

public import proofs.«01_k».proof.Proof.V.Signs

@[expose] public section

set_option maxRecDepth 65536
set_option maxHeartbeats 1000000

noncomputable section

namespace Cert.KernelIdeal.Hand

open Cert.KernelIdeal Cert.KernelIdeal.Gen Idealize.ShloMosaic Cert.V

/-- The factor of the transform. -/
def cInv : ℝ := 8967799 * (2:ℝ) ^ (-30 : ℤ)
/-- The factor of the ratio. -/
def c448 : ℝ := 9586981 * (2:ℝ) ^ (-32 : ℤ)

theorem cInv_eq : Ideal.ofBits .f32 1007212151#32 = ((cInv : ℝ) : EReal) := by
  simp [Ideal.ofBits, Ideal.ieee, cInv]
theorem c448_eq : Ideal.ofBits .f32 991054117#32 = ((c448 : ℝ) : EReal) := by
  simp [Ideal.ofBits, Ideal.ieee, c448]
theorem ninf_eq : Ideal.ofBits .f32 4286578688#32 = (⊥ : EReal) := by
  simp [Ideal.ofBits, Ideal.ieee]

theorem cV_at (p : Bool) (z : Vec Ideal S1x128x512 .f32) (f : ℕ → ℝ) (r : Fin 128) (hz : ∀ i : Fin 512, z (ix3 (0 : Fin 1) r i) = ((f i.val : ℝ) : EReal)) (c : Fin 256) :
    cV p z (ix2 r c) = (((if (if p then 1 else 0) = 0 then f c.val + f (c.val + 256) else f c.val - f (c.val + 256)) : ℝ) : EReal) := by
  have h1 : k0_pay473 z (ix2 r c) = ((f c.val : ℝ) : EReal) := by
    pointwise [k0_pay473, k0_pay472]
    exact hz ⟨c.val, by omega⟩
  have h2 : k0_pay474 z (ix2 r c) = ((f (c.val + 256) : ℝ) : EReal) := by
    pointwise [k0_pay474, k0_pay472]
    exact (hz ⟨256 + c.val, by omega⟩).trans (congrArg (fun t : ℕ => ((f t : ℝ) : EReal)) (Nat.add_comm 256 c.val))
  cases p
  · pointwise [cV, cond_false, k0_pay475]
    rw [h1, h2, ← EReal.coe_add]; first | done | rfl
  · pointwise [cV, cond_true, k0_pay476]
    rw [h1, h2, ← EReal.coe_sub]; first | done | rfl

theorem cY_at (p : Bool) (z : Vec Ideal S1x128x512 .f32) (f : ℕ → ℝ) (r : Fin 128) (hz : ∀ i : Fin 512, z (ix3 (0 : Fin 1) r i) = ((f i.val : ℝ) : EReal)) (c : Fin 256) :
    cY p z (ix2 r c) = ((stgs 9 f ((if p then 1 else 0) * 256 + c.val) * cInv : ℝ) : EReal) := by
  pointwise [cY, k0_pay477]
  simp only [cV_at p z f r hz, cW_at, ← EReal.coe_sub, sub_self, EReal.coe_zero, zero_mul, Finset.sum_const_zero, add_zero, sub_zero, ← EReal.coe_mul, ← coe_sum]
  rw [cInv_eq, ← EReal.coe_mul, stgs9_half f _ (by cases p <;> decide) _ c.isLt, ← Fin.sum_univ_eq_sum_range (fun j => (if (if p then 1 else 0) = 0 then f j + f (j + 256) else f j - f (j + 256)) * ((sgn 8 c.val j : ℤ) : ℝ)) 256]

/-- The first column of a group. -/
def gOff (p q : Bool) : ℕ := (if p then 1 else 0) * 256 + (if q then 1 else 0) * 128

theorem cG_at (p q : Bool) (z : Vec Ideal S1x128x512 .f32) (f : ℕ → ℝ) (r : Fin 128) (hz : ∀ i : Fin 512, z (ix3 (0 : Fin 1) r i) = ((f i.val : ℝ) : EReal)) (c : Fin 128) :
    cG p q z (ix2 r c) = ((stgs 9 f (gOff p q + c.val) * cInv : ℝ) : EReal) := by
  cases q
  · pointwise [cG, cond_false]
    rw [cY_at p z f r hz]
    first | done | (cases p <;> rfl)
  · pointwise [cG, cond_true]
    rw [cY_at p z f r hz]
    simp only [gOff, if_true, one_mul, Nat.add_assoc]

theorem sgn_abs (k i j : ℕ) : |((sgn k i j : ℤ) : ℝ)| = 1 := by
  induction k generalizing i j with
  | zero => simp [sgn]
  | succ k ih =>
    rw [sgn, Int.cast_mul, abs_mul, ih, mul_one]
    split <;> simp

/-- The greatest magnitude of a group. -/
def gMax (y : Fin 128 → ℝ) : ℝ := Finset.univ.sup' ⟨0, Finset.mem_univ _⟩ (fun x => |y x|)

theorem fold_max (y : Fin 128 → ℝ) : Finset.fold max (⊥ : EReal) (fun x => ((|y x| : ℝ) : EReal)) Finset.univ = ((gMax y : ℝ) : EReal) := by
  apply le_antisymm
  · rw [Finset.fold_max_le]
    refine ⟨bot_le, fun x _ => ?_⟩
    exact EReal.coe_le_coe_iff.2 (Finset.le_sup' (fun x => |y x|) (Finset.mem_univ x))
  · obtain ⟨x, _, hx⟩ := Finset.exists_mem_eq_sup' (⟨0, Finset.mem_univ _⟩ : (Finset.univ : Finset (Fin 128)).Nonempty) (fun x => |y x|)
    rw [Finset.le_fold_max]
    refine Or.inr ⟨x, Finset.mem_univ _, ?_⟩
    rw [gMax, hx]

theorem absf_coe (a : ℝ) : (FloatOps.absf ((a : EReal) : Ideal .f32) : Ideal .f32) = ((|a| : ℝ) : EReal) := by
  simp only [Ideal.absf_def]
  rfl

theorem cR_at (y : FVec Ideal S128x128 .f32) (r : Fin 128) (f : Fin 128 → ℝ) (hy : ∀ x, y (ix2 r x) = ((f x : ℝ) : EReal)) (c : Fin 128) :
    cR y (ix2 r c) = ((gMax f * c448 : ℝ) : EReal) := by
  pointwise [cR]
  simp only [hy, absf_coe, ninf_eq, c448_eq]
  rw [fold_max, ← EReal.coe_mul]

theorem cStep_at (y : FVec Ideal S128x128 .f32) (b : BitVec 32) (e : IVec S128x128 32) (r c : Fin 128) (v : ℝ) (hy : y (ix2 r c) = ((v : ℝ) : EReal)) [DecidablePred (fun k : BitVec 32 => Ideal.ofBits .f32 (k <<< (23 : ℕ)) ≤ ((v : ℝ) : EReal))] :
    cStep y b e (ix2 r c) = sstep (fun k => Ideal.ofBits .f32 (k <<< (23 : ℕ)) ≤ ((v : ℝ) : EReal)) b (e (ix2 r c)) := by
  pointwise [cStep]
  rw [hy]
  unfold sstep
  split <;> rename_i h
  · exact (if_pos h).symm
  · exact (if_neg h).symm

theorem cE_at (y : FVec Ideal S128x128 .f32) (r c : Fin 128) (v : ℝ) (hy : y (ix2 r c) = ((v : ℝ) : EReal)) [DecidablePred (fun k : BitVec 32 => Ideal.ofBits .f32 (k <<< (23 : ℕ)) ≤ ((v : ℝ) : EReal))] :
    cE y (ix2 r c) = fld (ssearch (fun k => Ideal.ofBits .f32 (k <<< (23 : ℕ)) ≤ ((v : ℝ) : EReal))) := by
  have h0 : cE0 y (ix2 r c) = ssearch (fun k => Ideal.ofBits .f32 (k <<< (23 : ℕ)) ≤ ((v : ℝ) : EReal)) := by
    unfold cE0 ssearch
    simp only [cStep_at y _ _ r c v hy]
    rfl
  pointwise [cE]
  rw [h0]
  unfold fld
  generalize ssearch (fun k => Ideal.ofBits .f32 (k <<< (23 : ℕ)) ≤ ((v : ℝ) : EReal)) = t
  by_cases h : t = 0#32
  · subst h; rfl
  · rw [if_neg h]
    simp [Scalar.select, IntOp.cmpi, beq_false_of_ne h]

/-- A group's scale and codes from its ratio. -/
theorem cS_at (y : FVec Ideal S128x128 .f32) (r c : Fin 128) (v : ℝ) (hy : y (ix2 r c) = ((v : ℝ) : EReal)) (h0 : 0 ≤ v) (h2 : v < (2:ℝ) ^ (126 : ℤ)) :
    cS (F := Ideal) (cE y) (ix2 r c) = (((2:ℝ) ^ (ex v) : ℝ) : EReal) := by
  classical
  pointwise [cS]
  rw [cE_at y r c v hy]
  exact (field_scales v h0 h2).1

/-- A code: the value over its scale, clipped. -/
def code (y v : ℝ) : EReal := min (Ideal.ofBits .f32 1138753536#32) (max (Ideal.ofBits .f32 3286237184#32) ((y * (2:ℝ) ^ (-ex v) : ℝ) : EReal))

theorem cC_at (g : FVec Ideal S128x128 .f32) (y : FVec Ideal S128x128 .f32) (r c : Fin 128) (a v : ℝ) (hg : g (ix2 r c) = ((a : ℝ) : EReal)) (hy : y (ix2 r c) = ((v : ℝ) : EReal)) (h0 : 0 ≤ v) (h2 : v < (2:ℝ) ^ (126 : ℤ)) :
    cC (F := Ideal) g (cE y) (ix2 r c) = code a v := by
  classical
  pointwise [cC]
  rw [cE_at y r c v hy, hg]
  unfold code
  rw [EReal.coe_mul, ← (field_scales v h0 h2).2]
  rfl

/-- A group's value, ratio. -/
def yG (f : ℕ → ℝ) (o : ℕ) : ℝ := stgs 9 f o * cInv
def rho (f : ℕ → ℝ) (o : ℕ) : ℝ := gMax (fun x => yG f (o + x.val)) * c448

theorem rho_nonneg (f : ℕ → ℝ) (o : ℕ) : 0 ≤ rho f o := by
  refine mul_nonneg ?_ (by unfold c448; positivity)
  exact le_trans (abs_nonneg _) (Finset.le_sup' (fun x : Fin 128 => |yG f (o + x.val)|) (Finset.mem_univ 0))

/-- What bounds the ratio: the block's magnitudes. -/
theorem rho_lt (f : ℕ → ℝ) (o : ℕ) (ho : o + 128 ≤ 512) (hf : ∀ i < 512, |f i| ≤ (2:ℝ) ^ (113 : ℤ)) : rho f o < (2:ℝ) ^ (126 : ℤ) := by
  have hy : ∀ x : Fin 128, |yG f (o + x.val)| ≤ (2:ℝ) ^ (122 : ℤ) := by
    intro x
    unfold yG
    rw [stgs9 f _ (by omega), abs_mul]
    have h1 : |∑ j ∈ Finset.range 512, ((sgn 9 (o + x.val) j : ℤ) : ℝ) * f j| ≤ (2:ℝ) ^ (122 : ℤ) := by
      refine (Finset.abs_sum_le_sum_abs _ _).trans ?_
      have : ∀ j ∈ Finset.range 512, |((sgn 9 (o + x.val) j : ℤ) : ℝ) * f j| ≤ (2:ℝ) ^ (113 : ℤ) := by
        intro j hj
        rw [abs_mul, sgn_abs, one_mul]
        exact hf j (Finset.mem_range.1 hj)
      refine (Finset.sum_le_card_nsmul _ _ _ this).trans ?_
      rw [Finset.card_range, nsmul_eq_mul]
      norm_num
    have h2 : |cInv| ≤ 1 := by unfold cInv; rw [abs_of_nonneg (by positivity)]; norm_num
    calc _ ≤ (2:ℝ) ^ (122 : ℤ) * 1 := mul_le_mul h1 h2 (abs_nonneg _) (by positivity)
      _ = _ := mul_one _
  have hm : gMax (fun x => yG f (o + x.val)) ≤ (2:ℝ) ^ (122 : ℤ) := Finset.sup'_le _ _ fun x _ => hy x
  have h3 : c448 ≤ 1 := by unfold c448; norm_num
  have h4 : 0 ≤ c448 := by unfold c448; positivity
  calc rho f o ≤ (2:ℝ) ^ (122 : ℤ) * 1 := mul_le_mul hm h3 h4 (by positivity)
    _ < _ := by norm_num

section
variable (p q : Bool) (z : Vec Ideal S1x128x512 .f32) (f : ℕ → ℝ) (r : Fin 128) (hz : ∀ i : Fin 512, z (ix3 (0 : Fin 1) r i) = ((f i.val : ℝ) : EReal)) (hf : ∀ i < 512, |f i| ≤ (2:ℝ) ^ (113 : ℤ))
include hz hf

theorem ratio_at (c : Fin 128) : cR (cG p q z) (ix2 r c) = ((rho f (gOff p q) : ℝ) : EReal) :=
  cR_at _ r (fun x => yG f (gOff p q + x.val)) (fun x => cG_at p q z f r hz x) c

theorem gOff_le : gOff p q + 128 ≤ 512 := by cases p <;> cases q <;> decide

theorem gC_at (c : Fin 128) : gC p q z (ix3 (0 : Fin 1) r c) = code (yG f (gOff p q + c.val)) (rho f (gOff p q)) := by
  pointwise [gC]
  exact cC_at _ _ r c _ _ (cG_at p q z f r hz c) (ratio_at p q z f r hz hf c) (rho_nonneg _ _) (rho_lt _ _ (gOff_le p q z f r hz hf) hf)

theorem gX_at (c : Fin 128) : gX p q z (ix4 (0 : Fin 1) (0 : Fin 1) r c) = code (yG f (gOff p q + c.val)) (rho f (gOff p q)) * (((2:ℝ) ^ ex (rho f (gOff p q)) : ℝ) : EReal) := by
  have h1 : cC (cG p q z) (gE p q z) (ix2 r c) = code (yG f (gOff p q + c.val)) (rho f (gOff p q)) := cC_at _ _ r c _ _ (cG_at p q z f r hz c) (ratio_at p q z f r hz hf c) (rho_nonneg _ _) (rho_lt _ _ (gOff_le p q z f r hz hf) hf)
  have h2 := cS_at _ r c _ (ratio_at p q z f r hz hf c) (rho_nonneg _ _) (rho_lt _ _ (gOff_le p q z f r hz hf) hf)
  rw [← h1, ← h2]
  pointwise [gX]
  rfl

theorem gS_at (g : ℕ) (hg : g < 112) (s : Vec Ideal S128x112 .f32) (c : Fin 112) : gS p q (BitVec.ofNat 32 g) z s (ix2 r c) = if c.val = g then (((2:ℝ) ^ ex (rho f (gOff p q)) : ℝ) : EReal) else s (ix2 r c) := by
  have h2 := fun c => cS_at _ r c _ (ratio_at p q z f r hz hf c) (rho_nonneg _ _) (rho_lt _ _ (gOff_le p q z f r hz hf) hf)
  pointwise [gS]
  by_cases h : c.val = g
  · rw [if_pos h, ← h]
    exact (if_pos (by simp [IntOp.cmpi])).trans (h2 _)
  · rw [if_neg h]
    refine (if_neg ?_)
    have hne : BitVec.ofNat 32 c.val ≠ BitVec.ofNat 32 g := by
      intro hc
      have := congrArg BitVec.toNat hc
      simp at this
      omega
    simp [IntOp.cmpi, beq_false_of_ne hne]
end

end Cert.KernelIdeal.Hand
-- ==== Proof.V.KMix.lean ====
/-
What the mixing step leaves: every row of every block is the input's row mixed by the small matrix.
-/
module

public import proofs.«01_k».proof.Proof.V.KMixId
public import proofs.«01_k».proof.Proof.V.KPoint

@[expose] public section

set_option maxRecDepth 65536
set_option maxHeartbeats 1000000

noncomputable section

namespace Cert.KernelIdeal.Hand

open Cert.KernelIdeal Cert.KernelIdeal.Gen Idealize.ShloMosaic Cert.V

theorem zero_eq : Ideal.ofBits .f32 0#32 = (0 : EReal) := by
  simp [Ideal.ofBits, Ideal.ieee]

theorem diag_at : ∀ (s : Fin 8) (l : Fin 256), s1.sl.r (ix2 s l) = if l.val % 8 = s.val then 1#1 else 0#1 := by
  decide +kernel

theorem dRow_at (W : FVec Ideal S28x256 .f32) (a : Fin 28) (s : Fin 8) (l : Fin 256) :
    dRow W a (ix2 s l) = if l.val % 8 = s.val then W (ix2 a l) else 0 := by
  pointwise [dRow]
  rw [diag_at]
  split
  · exact (if_pos rfl).trans (congrArg W (by funext i; fin_cases i <;> first | rfl | (apply Fin.ext; simp [ix2])))
  · exact (if_neg (by decide))

theorem dCat_at (W : FVec Ideal S28x256 .f32) (k : Fin 224) (l : Fin 256) :
    dCat W (ix2 k l) = if l.val % 8 = k.val % 8 then W (ix2 (⟨k.val / 8, by omega⟩ : Fin 28) l) else 0 := by
  have h := concatenate_ofFn_apply (t := S224x256) (s₁ := S8x256) 0 (fun a => dRow W a) concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S224x256_d0 rfl 8 rfl (ix2 k l) (⟨k.val / 8, by omega⟩ : Fin 28) rfl (ix2 (⟨k.val % 8, by omega⟩ : Fin 8) l) rfl (by
    intro b hb
    fin_cases b
    · exact absurd rfl hb
    · rfl)
  exact h.trans (dRow_at W _ _ l)

theorem cMix_at (W : FVec Ideal S28x256 .f32) (k : Fin 224) (l : Fin 256) :
    cMix W (ix3 (0 : Fin 1) k l) = if l.val % 8 = k.val % 8 then W (ix2 (⟨k.val / 8, by omega⟩ : Fin 28) l) else 0 := by
  rw [← dCat_at]
  pointwise [cMix]

section
variable {α : Type}

theorem extents_take {t s₁ : Shape} (a : Fin t.rank) {N : Nat} (f : Fin N → (s₁.Idx → α)) (ys : List ((s : Shape) × (s.Idx → α)))
    (hr : s₁.rank = t.rank) (n : Nat) (hn : n ≤ N) :
    (((((List.ofFn fun n : Fin N => (⟨s₁, f n⟩ : (s : Shape) × (s.Idx → α))) ++ ys).take n).map (·.1)).map
      fun s => if h : s.rank = t.rank then s.size (a.cast h.symm) else 0).sum = n * s₁.size (a.cast hr.symm) := by
  have e : (((((List.ofFn fun n : Fin N => (⟨s₁, f n⟩ : (s : Shape) × (s.Idx → α))) ++ ys).take n).map (·.1)).map
      fun s => if h : s.rank = t.rank then s.size (a.cast h.symm) else 0) = List.replicate n (s₁.size (a.cast hr.symm)) := by
    rw [List.take_append_of_le_length (by simpa using hn), List.eq_replicate_iff]
    refine ⟨by simp [hn], fun b hb => ?_⟩
    obtain ⟨s, hs, rfl⟩ := List.mem_map.1 hb
    obtain ⟨q, hq, rfl⟩ := List.mem_map.1 hs
    obtain ⟨k, hk⟩ := (List.mem_ofFn' _ _).1 (List.mem_of_mem_take hq)
    subst hk
    exact dif_pos hr
  rw [e, List.sum_replicate, smul_eq_mul]

/-- A piece of a concatenation of equal pieces and a tail. -/
theorem cat_head {t s₁ : Shape} (a : Fin t.rank) {N : Nat} (f : Fin N → (s₁.Idx → α)) (ys : List ((s : Shape) × (s.Idx → α)))
    (h : Shape.Concatenates (((List.ofFn fun n : Fin N => (⟨s₁, f n⟩ : (s : Shape) × (s.Idx → α))) ++ ys).map (·.1)) t a)
    (hr : s₁.rank = t.rank) (j : t.Idx) (n : Fin N) (i : s₁.Idx)
    (hi : ∀ b : Fin s₁.rank, b.cast hr ≠ a → (i b).val = (j (b.cast hr)).val)
    (ha : n.val * s₁.size (a.cast hr.symm) + (i (a.cast hr.symm)).val = (j a).val) :
    concatenate t a ((List.ofFn fun n : Fin N => (⟨s₁, f n⟩ : (s : Shape) × (s.Idx → α))) ++ ys) h j = f n i := by
  refine concatenate_apply_piece a _ h j n.val (by simp; omega) s₁ (f n) ?_ hr _ (extents_take a f ys hr n.val n.isLt.le) i hi ha
  rw [List.getElem_append_left (by simp)]
  simp

/-- The piece after the equal pieces. -/
theorem cat_tail {t s₁ s₂ : Shape} (a : Fin t.rank) {N : Nat} (f : Fin N → (s₁.Idx → α)) (y : s₂.Idx → α)
    (h : Shape.Concatenates (((List.ofFn fun n : Fin N => (⟨s₁, f n⟩ : (s : Shape) × (s.Idx → α))) ++ ([⟨s₂, y⟩] : List ((s : Shape) × (s.Idx → α)))).map (·.1)) t a)
    (hr : s₁.rank = t.rank) (hr₂ : s₂.rank = t.rank) (j : t.Idx) (i : s₂.Idx)
    (hi : ∀ b : Fin s₂.rank, b.cast hr₂ ≠ a → (i b).val = (j (b.cast hr₂)).val)
    (ha : N * s₁.size (a.cast hr.symm) + (i (a.cast hr₂.symm)).val = (j a).val) :
    concatenate t a ((List.ofFn fun n : Fin N => (⟨s₁, f n⟩ : (s : Shape) × (s.Idx → α))) ++ ([⟨s₂, y⟩] : List ((s : Shape) × (s.Idx → α)))) h j = y i := by
  refine concatenate_apply_piece a _ h j N (by simp) s₂ y ?_ hr₂ _ (extents_take a f _ hr N le_rfl) i hi ha
  rw [List.getElem_append_right (by simp)]
  simp

end

theorem opCat_at (v : FVec Ideal S16x14336 .bf16) (h : Fin 2) (j : Fin 28) (s : Fin 8) (p : Fin 512) :
    opCat v h (ix2 (⟨8 * j.val + s.val, by omega⟩ : Fin 256) p) = v (ix2 (⟨8 * h.val + s.val, by omega⟩ : Fin 16) (⟨512 * j.val + p.val, by omega⟩ : Fin 14336)) := by
  unfold opCat
  refine (cat_head (t := S256x512) (s₁ := S8x512) 0 (fun k : Fin 28 => extractStridedSlice S8x512 ![8 * h.val, 512 * k.val] (extf .f32 v bitsLt_bf16_f32) (slX h k)) _ _ rfl _ j (ix2 s p) ?_ ?_).trans ?_
  · intro b hb
    fin_cases b
    · exact absurd rfl hb
    · rfl
  · show j.val * 8 + s.val = 8 * j.val + s.val
    omega
  · pointwise []

theorem opCat_hi (v : FVec Ideal S16x14336 .bf16) (h : Fin 2) (k : Fin 256) (hk : 224 ≤ k.val) (p : Fin 512) :
    opCat v h (ix2 k p) = 0 := by
  unfold opCat
  refine (cat_tail (t := S256x512) (s₁ := S8x512) (s₂ := S32x512) 0 (fun k : Fin 28 => extractStridedSlice S8x512 ![8 * h.val, 512 * k.val] (extf .f32 v bitsLt_bf16_f32) (slX h k)) k0_pay343 _ rfl rfl _ (ix2 (⟨k.val - 224, by omega⟩ : Fin 32) p) ?_ ?_).trans ?_
  · intro b hb
    fin_cases b
    · exact absurd rfl hb
    · rfl
  · show 28 * 8 + (k.val - 224) = k.val
    omega
  · exact zero_eq

/-- The lanes that share a place among eights. -/
theorem sum_lanes {M : Type} [AddCommMonoid M] (s : ℕ) (hs : s < 8) (q : ℕ → M) (hq : ∀ j, 28 ≤ j → j < 32 → q j = 0) :
    ∑ k : Fin 256, (if k.val % 8 = s then q (k.val / 8) else 0) = ∑ j : Fin 28, q j.val := by
  rw [Fin.sum_univ_eq_sum_range (fun k => if k % 8 = s then q (k / 8) else 0) 256, ← Finset.sum_filter, Fin.sum_univ_eq_sum_range q 28]
  have h1 : ∑ j ∈ Finset.range 32, q j = ∑ k ∈ (Finset.range 256).filter (fun k => k % 8 = s), q (k / 8) := by
    refine Finset.sum_nbij (fun j => 8 * j + s) ?_ ?_ ?_ ?_
    · intro j hj
      simp only [Finset.mem_filter, Finset.mem_range] at hj ⊢
      omega
    · intro a _ b _ hab
      simp only at hab
      omega
    · intro k hk
      simp only [Finset.coe_filter, Finset.mem_range, Set.mem_setOf_eq] at hk
      exact ⟨k / 8, by simp; omega, by simp only; omega⟩
    · intro j _
      rw [show (8 * j + s) / 8 = j by omega]
  rw [← h1, show (32 : ℕ) = 28 + 4 from rfl, Finset.sum_range_add, Finset.sum_eq_zero (s := Finset.range 4), add_zero]
  intro j hj
  have := Finset.mem_range.1 hj
  exact hq _ (by omega) (by omega)

theorem quot_at : ∀ (l : Fin 256),
          (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 l.val) 8#32) 0#32))
            (IntOp.subi (IntOp.divsi ArithUnit.vector (BitVec.ofNat 32 l.val) 8#32) 1#32)
            (IntOp.divsi ArithUnit.vector (BitVec.ofNat 32 l.val) 8#32)) = BitVec.ofNat 32 (l.val / 8) := by
  decide +kernel

theorem bit_at : ∀ (q : Fin 32) (j : Fin 28), BitVec.setWidth 32 (IntOp.cmpi CmpIPredicate.eq (BitVec.ofNat 32 q.val) (BitVec.ofNat 32 j.val)) = if q.val = j.val then 1#32 else 0#32 := by
  decide +kernel

theorem spread_at (j : Fin 28) (l : Fin 256) : (k0_pay258 (F := Ideal)) (ix2 j l) = if l.val / 8 = j.val then (1 : EReal) else 0 := by
  pointwise [k0_pay258]
  rw [quot_at l, bit_at ⟨l.val / 8, by omega⟩ j]
  dsimp only
  split
  · show (((1#32).toInt : ℝ) : EReal) = 1
    simp
  · show (((0#32).toInt : ℝ) : EReal) = 0
    simp

theorem wide_at (H : Vec Ideal S28x28 .f32) (a : Fin 28) (l : Fin 256) :
    k0_pay264 k0_pay258 H (ix2 a l) = if h : l.val / 8 < 28 then H (ix2 a (⟨l.val / 8, h⟩ : Fin 28)) else 0 := by
  pointwise [k0_pay264, k0_pay260]
  simp only [spread_at, mul_ite, mul_one, mul_zero]
  split
  · rename_i h
    rw [Finset.sum_eq_single (⟨l.val / 8, h⟩ : Fin 28)]
    · rw [if_pos rfl]
    · intro b _ hb
      exact if_neg fun e => hb (Fin.ext e.symm)
    · intro hn; exact absurd (Finset.mem_univ _) hn
  · rename_i h
    refine Finset.sum_eq_zero fun b _ => if_neg ?_
    have := b.isLt
    omega

theorem zP_at (H : Vec Ideal S28x28 .f32) (v : FVec Ideal S16x14336 .bf16) (h : Fin 2) (a : Fin 28) (s : Fin 8) (p : Fin 512) :
    zP (cMix (k0_pay264 k0_pay258 H)) v h (ix3 a s p)
      = ∑ j : Fin 28, H (ix2 a j) * v (ix2 (⟨8 * h.val + s.val, by omega⟩ : Fin 16) (⟨512 * j.val + p.val, by omega⟩ : Fin 14336)) := by
  pointwise [zP]
  have key := sum_lanes s.val s.isLt (fun j => if h' : j < 28 then H (ix2 a (⟨j, h'⟩ : Fin 28)) * v (ix2 (⟨8 * h.val + s.val, by omega⟩ : Fin 16) (⟨512 * j + p.val, by omega⟩ : Fin 14336)) else 0)
    (fun j hj _ => dif_neg (by omega))
  refine Eq.trans ?_ (key.trans ?_)
  · refine Finset.sum_congr rfl fun k _ => ?_
    rw [cMix_at, wide_at]
    have hs := s.isLt
    have e1 : (a.val * 8 + s.val) % 8 = s.val := by omega
    have e2 : (a.val * 8 + s.val) / 8 = a.val := by omega
    simp only [e1, e2]
    split
    · rename_i hk
      split
      · rename_i hk2
        rw [← opCat_at v h ⟨k.val / 8, hk2⟩ s p]
        congr 3
        apply Fin.ext
        show k.val = 8 * (k.val / 8) + s.val
        omega
      · exact zero_mul _
    · exact zero_mul _
  · exact Finset.sum_congr rfl fun j _ => dif_pos j.isLt

end Cert.KernelIdeal.Hand
-- ==== Proof.V.KFz.lean ====
/-
The blocks the mixing leaves, at every index, as sums over the 28 rows.
-/
module

public import proofs.«01_k».proof.Proof.V.KMix
public import proofs.«01_k».proof.Proof.V.FinV

@[expose] public section

set_option maxRecDepth 65536
set_option maxHeartbeats 400000

noncomputable section

namespace Cert.KernelIdeal.Hand

open Cert.KernelIdeal Cert.KernelIdeal.Gen Idealize.ShloMosaic Cert.V

section
variable (c : Dev nD) (f0 : BufOf (F := Ideal) c m0) (f1 : BufOf (F := Ideal) c m1) (f8 : BufOf (F := Ideal) c m8)

/-- The small matrix, read. -/
def hB : Vec Ideal S28x28 .f32 :=
  View.readAt (Elt Ideal) m8.view (Rect.unit (s := S28x28) ![0, 0] S28x28.size inb_S28x28_S28x28_0_0).toLoadRect (View.write (Elt Ideal) m8.view f8 (s1.sl.dma0 c f1) Finset.univ)

theorem r3_eq : s1.sl.r_3 c f1 f8 = k0_pay264 k0_pay258 (hB c f1 f8) := rfl

theorem hB_eq : hB c f1 f8 = f1 := by
  unfold hB
  rw [View.write_whole_univ]
  funext y
  show f1 ((Rect.unit (s := S28x28) ![0, 0] S28x28.size inb_S28x28_S28x28_0_0).emb y) = f1 y
  refine congrArg f1 ?_
  funext a
  apply Fin.ext
  fin_cases a
  · show 0 + 1 * (y 0).val = (y 0).val
    omega
  · show 0 + 1 * (y 1).val = (y 1).val
    omega

theorem xRow_at (r : Fin 8) (x : S16x14336.Idx) :
    xRow c f0 r x = f0 ((Rect.unit (s := S128x14336) ![16 * r.val, 0] S16x14336.size (inbV7 r)).emb x) := by
  rfl

theorem vX_at (r : Fin 8) (i : Fin 16) (k : Fin 14336) :
    vX c f0 r (ix2 i k) = f0 (ix2 (⟨16 * r.val + i.val, by omega⟩ : Fin 128) k) := by
  unfold vX
  rw [View.readCov_eq_canon']
  refine (View.canon_apply_of_pieces (fun y => f0 y) (xPcs c f0) ?_ _ ?_).trans ?_
  · intro p hp x
    obtain ⟨q, _, rfl⟩ := List.mem_map.1 hp
    exact xRow_at c f0 q x
  · refine ⟨_, List.mem_map.2 ⟨r, by fin_cases r <;> simp, rfl⟩, ?_⟩
    rw [Rect.mem_set_unit]
    intro d
    have hi := i.isLt
    have hk := k.isLt
    fin_cases d
    · show 16 * r.val ≤ 16 * r.val + 1 * i.val ∧ 16 * r.val + 1 * i.val < 16 * r.val + 16
      omega
    · show 0 ≤ 0 + 1 * k.val ∧ 0 + 1 * k.val < 0 + 14336
      omega
  · refine congrArg f0 ?_
    funext a
    apply Fin.ext
    fin_cases a
    · show 16 * r.val + 1 * i.val = 16 * r.val + i.val
      omega
    · show 0 + 1 * k.val = k.val
      omega

theorem v682_eq : s1.sl.v682 c f1 f8 = cMix (k0_pay264 k0_pay258 (hB c f1 f8)) := by
  have h1 : s1.sl.v682 c f1 f8 = m11.view.readCov (s1.sl.H11_3 c f1 f8) (Rect.unit (s := S3x224x256) ![0, 0, 0] S1x224x256.size inb_S3x224x256_S1x224x256_0_0_0).toLoadRect := rfl
  rw [h1, View.readCov_eq_canon']
  funext x
  unfold s1.sl.H11_3 s1.sl.H11_2
  rw [View.canon_cons_of_not_mem, View.canon_cons_of_not_mem, H11_eq, r3_eq]
  · exact View.canon_cons_emb (Val := Elt Ideal) (e := .bf16) (Rect.unit (s := S3x224x256) ![0, 0, 0] S1x224x256.size inb_S3x224x256_S1x224x256_0_0_0) (cMix (k0_pay264 k0_pay258 (hB c f1 f8))) [] x
  · rw [Rect.mem_set_unit]
    intro h
    have h2 := (h 0).1
    have h3 : ((Rect.unit (s := S3x224x256) ![0, 0, 0] S1x224x256.size inb_S3x224x256_S1x224x256_0_0_0).toLoadRect.idx x 0).val = 0 + 1 * (x 0).val := rfl
    have h4 : (x 0).val < 1 := (x 0).isLt
    have h5 : (1:ℕ) ≤ ((Rect.unit (s := S3x224x256) ![0, 0, 0] S1x224x256.size inb_S3x224x256_S1x224x256_0_0_0).toLoadRect.idx x 0).val := h2
    omega
  · rw [Rect.mem_set_unit]
    intro h
    have h2 := (h 0).1
    have h3 : ((Rect.unit (s := S3x224x256) ![0, 0, 0] S1x224x256.size inb_S3x224x256_S1x224x256_0_0_0).toLoadRect.idx x 0).val = 0 + 1 * (x 0).val := rfl
    have h4 : (x 0).val < 1 := (x 0).isLt
    have h5 : (2:ℕ) ≤ ((Rect.unit (s := S3x224x256) ![0, 0, 0] S1x224x256.size inb_S3x224x256_S1x224x256_0_0_0).toLoadRect.idx x 0).val := h2
    omega

/-- Nothing is lost by the small matrix's halves when it is finite. -/
theorem cnd_ne (h : Fin 28 → Fin 28 → ℝ) (hh : ∀ a b, f1 (ix2 a b) = ((h a b : ℝ) : EReal)) : cnd (s1.sl.r_78 c f1 f8) ≠ 1#1 := by
  have h0 : ∀ (a b : Fin 28), s1.sl.r_1 c f1 f8 (ix2 a b) = (0 : EReal) ∧ s1.sl.r_2 c f1 f8 (ix2 a b) = (0 : EReal) := by
    intro a b
    have e1 : s1.sl.r_1 c f1 f8 = k0_pay262 (hB c f1 f8) := rfl
    have e2 : s1.sl.r_2 c f1 f8 = k0_pay263 (hB c f1 f8) := rfl
    rw [e1, e2, hB_eq]
    have hz : ((h a b : ℝ) : EReal) - ((h a b : ℝ) : EReal) = 0 := by rw [← EReal.coe_sub, sub_self]; rfl
    constructor
    · pointwise [k0_pay262, k0_pay261, k0_pay260]
      rw [hh]
      exact hz
    · pointwise [k0_pay263, k0_pay262, k0_pay261, k0_pay260]
      rw [hh, hz]
      simp
  have hle : s1.sl.r_78 c f1 f8 ≤ (0 : EReal) := by
    have e : s1.sl.r_78 c f1 f8 = k0_pay342 (s1.sl.r_1 c f1 f8) (s1.sl.r_2 c f1 f8) := rfl
    rw [e]
    generalize s1.sl.r_1 c f1 f8 = A at h0 ⊢
    generalize s1.sl.r_2 c f1 f8 = B at h0 ⊢
    pointwise [k0_pay342]
    rw [ninf_eq, Finset.fold_max_le]
    refine ⟨bot_le, fun x _ => ?_⟩
    rw [(h0 _ _).1, (h0 _ _).2]
    simp [Ideal.absf_def]
  unfold cnd
  have hn : ¬ ((0 : EReal) < s1.sl.r_78 c f1 f8) := not_lt.2 hle
  generalize s1.sl.r_78 c f1 f8 = R at hn ⊢
  pointwise []
  rw [decide_eq_false hn]
  decide

/-- The mixed value at an index. -/
def mixV (X : S128x14336.Idx → EReal) (H : S28x28.Idx → EReal) (y : S28x128x512.Idx) : EReal :=
  ∑ j : Fin 28, H (ix2 (y 0) j) * X (ix2 (y 1) (⟨512 * j.val + (y 2).val, by have : (y 2).val < 512 := (y 2).isLt; omega⟩ : Fin 14336))

theorem zPc_at (i : Fin 16) (x : S28x8x512.Idx) :
    (zPc c f0 (s1.sl.v682 c f1 f8) i).2 x = mixV f0 f1 ((zPc c f0 (s1.sl.v682 c f1 f8) i).1.emb x) := by
  have hx : x = ix3 (x 0) (x 1) (x 2) := by funext a; fin_cases a <;> rfl
  obtain ⟨a, s, p, rfl⟩ : ∃ (a : Fin 28) (s : Fin 8) (p : Fin 512), x = ix3 a s p := ⟨x 0, x 1, x 2, hx⟩
  have e0 : (zPc c f0 (s1.sl.v682 c f1 f8) i).1.emb (ix3 a s p) = ix3 a (⟨8 * i.val + s.val, by omega⟩ : Fin 128) p := by
    funext d
    apply Fin.ext
    fin_cases d
    · show 0 + 1 * a.val = a.val
      omega
    · show 8 * i.val + 1 * s.val = 8 * i.val + s.val
      omega
    · show 0 + 1 * p.val = p.val
      omega
  refine Eq.trans ?_ (congrArg (mixV f0 f1) e0.symm)
  show zP (s1.sl.v682 c f1 f8) (vX c f0 ⟨i.val / 2, by omega⟩) ⟨i.val % 2, by omega⟩ (ix3 a s p) = _
  rw [v682_eq, zP_at, hB_eq]
  unfold mixV
  refine Finset.sum_congr rfl fun j _ => ?_
  rw [vX_at]
  have e1 : (⟨16 * (i.val / 2) + (8 * (i.val % 2) + s.val), by omega⟩ : Fin 128) = ⟨8 * i.val + s.val, by omega⟩ := by
    apply Fin.ext
    show 16 * (i.val / 2) + (8 * (i.val % 2) + s.val) = 8 * i.val + s.val
    omega
  exact congrArg (fun q : Fin 128 => @HMul.hMul EReal EReal EReal _ (f1 (ix2 a j)) (f0 (ix2 q (⟨512 * j.val + p.val, by omega⟩ : Fin 14336)))) e1

/-- The sixteen pieces, the last first. -/
def zL : List (View.Piece (Elt Ideal) S28x128x512 .f32) :=
  [15, 14, 13, 12, 11, 10, 9, 8, 7, 6, 5, 4, 3, 2, 1, 0].map (zPc c f0 (s1.sl.v682 c f1 f8))

theorem zL_mem (y : S28x128x512.Idx) : ∃ p ∈ zL c f0 f1 f8, y ∈ p.1.set := by
  have h1 : (y 1).val < 128 := (y 1).isLt
  refine ⟨_, List.mem_map.2 ⟨⟨(y 1).val / 8, by omega⟩, ?_, rfl⟩, ?_⟩
  · generalize (⟨(y 1).val / 8, by omega⟩ : Fin 16) = q
    fin_cases q <;> simp
  · show y ∈ (Rect.unit (s := S28x128x512) ![0, 8 * ((y 1).val / 8), 0] S28x8x512.size (inbZ ⟨(y 1).val / 8, by omega⟩)).set
    rw [Rect.mem_set_unit]
    intro d
    fin_cases d
    · exact ⟨Nat.zero_le _, by have := (y 0).isLt; show (y 0).val < 0 + 28; simpa using this⟩
    · show 8 * ((y 1).val / 8) ≤ (y 1).val ∧ (y 1).val < 8 * ((y 1).val / 8) + 8
      omega
    · exact ⟨Nat.zero_le _, by have := (y 2).isLt; show (y 2).val < 0 + 512; simpa using this⟩

theorem canon_zL (y : S28x128x512.Idx) : View.canon (zL c f0 f1 f8) y = mixV f0 f1 y := by
  refine View.canon_apply_of_pieces (fun y => mixV f0 f1 y) (zL c f0 f1 f8) ?_ y ?_
  · intro p hp x
    obtain ⟨q, _, rfl⟩ := List.mem_map.1 hp
    exact zPc_at c f0 f1 f8 q x
  · exact zL_mem c f0 f1 f8 y

theorem l14 : s1.sl.H13_14 c f0 f1 f8 = [13, 12, 11, 10, 9, 8, 7, 6, 5, 4, 3, 2, 1, 0].map (zPc c f0 (s1.sl.v682 c f1 f8)) :=
  ((z14 c f0 f1 f8).trans (congrArg (zPc c f0 (s1.sl.v682 c f1 f8) 13 :: ·) ((z13 c f0 f1 f8).trans (congrArg (zPc c f0 (s1.sl.v682 c f1 f8) 12 :: ·) ((z12 c f0 f1 f8).trans (congrArg (zPc c f0 (s1.sl.v682 c f1 f8) 11 :: zPc c f0 (s1.sl.v682 c f1 f8) 10 :: ·) ((z10 c f0 f1 f8).trans (congrArg (zPc c f0 (s1.sl.v682 c f1 f8) 9 :: ·) ((z9 c f0 f1 f8).trans (congrArg (zPc c f0 (s1.sl.v682 c f1 f8) 8 :: ·) ((z8 c f0 f1 f8).trans (congrArg (zPc c f0 (s1.sl.v682 c f1 f8) 7 :: ·) ((z7 c f0 f1 f8).trans (congrArg (zPc c f0 (s1.sl.v682 c f1 f8) 6 :: ·) ((z6 c f0 f1 f8).trans (congrArg (zPc c f0 (s1.sl.v682 c f1 f8) 5 :: ·) ((z5 c f0 f1 f8).trans (congrArg (zPc c f0 (s1.sl.v682 c f1 f8) 4 :: ·) ((z4 c f0 f1 f8).trans (congrArg (zPc c f0 (s1.sl.v682 c f1 f8) 3 :: ·) ((z3 c f0 f1 f8).trans (congrArg (zPc c f0 (s1.sl.v682 c f1 f8) 2 :: ·) ((z2 c f0 f1 f8).trans (congrArg (zPc c f0 (s1.sl.v682 c f1 f8) 1 :: ·) (z1 c f0 f1 f8)))))))))))))))))))))))))

theorem fz_of (f13 : BufOf (F := Ideal) c m13) (p q : View.Piece (Elt Ideal) S28x128x512 .f32) (L : List (View.Piece (Elt Ideal) S28x128x512 .f32)) (e : p :: q :: L = zL c f0 f1 f8) :
    m13.view.writes (Elt Ideal) (m13.view.writes (Elt Ideal) f13 (q :: L)) [p] = mixV f0 f1 := by
  funext y
  have key := (View.read_writes_apply_eq_canon m13.view f13 y (zL c f0 f1 f8) (zL_mem c f0 f1 f8 y)).trans (canon_zL c f0 f1 f8 y)
  rw [← e] at key
  exact key

theorem fz_eq (f13 : BufOf (F := Ideal) c m13) :
    m13.view.writes (Elt Ideal) (m13.view.writes (Elt Ideal) f13
        (⟨Rect.unit (s := S28x128x512) ![0, 112, 0] S28x8x512.size inb_S28x128x512_S28x8x512_0_112_0, k0_pay464 k0_pay343 (s1.sl.v682 c f1 f8) (s1.sl.v1286 c f0)⟩ :: s1.sl.H13_14 c f0 f1 f8))
        [⟨Rect.unit (s := S28x128x512) ![0, 120, 0] S28x8x512.size inb_S28x128x512_S28x8x512_0_120_0,
            k0_pay470 k0_pay343 (s1.sl.r_185 c f1 f8) (s1.sl.r_186 c f0) (s1.sl.r_187 c f0) (s1.sl.r_188 c f0) (s1.sl.r_189 c f0)⟩]
      = mixV f0 f1 := by
  exact fz_of c f0 f1 f8 f13 _ _ _ (congrArg₂ List.cons (z16 c f0 f1 f8) (congrArg₂ List.cons (z15 c f0 f1 f8) (l14 c f0 f1 f8)))

end

end Cert.KernelIdeal.Hand
-- ==== Proof.V.Common.lean ====
/-
The three results as functions of the mixed rows, shared by both sides; a list of stored pieces read at an index.
-/
module

public import proofs.«01_k».proof.Proof.V.KPoint

@[expose] public section

set_option maxRecDepth 65536
set_option maxHeartbeats 400000

noncomputable section

namespace Cert.V

open Idealize.ShloMosaic Cert.KernelIdeal Cert.KernelIdeal.Hand

/-- The code at a row and a column. -/
def codeAt (f : Fin 28 → Fin 128 → ℕ → ℝ) (r : Fin 128) (k : ℕ) (b : Fin 28) : EReal :=
  code (yG (f b r) (k % 512)) (rho (f b r) (k % 512 / 128 * 128))
/-- The scale at a row and a group. -/
def scaleAt (f : Fin 28 → Fin 128 → ℕ → ℝ) (r : Fin 128) (n : ℕ) (b : Fin 28) : EReal :=
  (((2:ℝ) ^ ex (rho (f b r) (n % 4 * 128)) : ℝ) : EReal)
/-- A block number. -/
def blk (k : ℕ) : Fin 28 := ⟨k % 28, Nat.mod_lt _ (by omega)⟩

/-- The codes. -/
def codeV (f : Fin 28 → Fin 128 → ℕ → ℝ) (y : S128x14336.Idx) : EReal := codeAt f (y 0) (y 1).val (blk ((y 1).val / 512))
/-- The scales. -/
def scaleV (f : Fin 28 → Fin 128 → ℕ → ℝ) (y : S128x112.Idx) : EReal := scaleAt f (y 0) (y 1).val (blk ((y 1).val / 4))
/-- A code times its scale. -/
def csAt (f : Fin 28 → Fin 128 → ℕ → ℝ) (r : Fin 128) (k : ℕ) (b : Fin 28) : EReal := codeAt f r k b * scaleAt f r (k / 128) b
/-- The product's term at a row, a column and a contracted place. -/
def term (f : Fin 28 → Fin 128 → ℕ → ℝ) (w : S14336x4096.Idx → EReal) (r : Fin 128) (j : Fin 4096) (k : ℕ) : EReal :=
  if h : k < 14336 then csAt f r k (blk (k / 512)) * w (ix2 (⟨k, h⟩ : Fin 14336) j) else 0
/-- The result. -/
def outV (f : Fin 28 → Fin 128 → ℕ → ℝ) (w : S14336x4096.Idx → EReal) (s : Fin 4096 → EReal) (y : S128x4096.Idx) : EReal :=
  (∑ k ∈ Finset.range 14336, term f w (y 0) (y 1) k) * s (y 1)

/-- A sum by blocks. -/
theorem block_sum {M : Type} [AddCommMonoid M] (n m : ℕ) (g : ℕ → M) :
    ∑ b ∈ Finset.range n, ∑ i ∈ Finset.range m, g (m * b + i) = ∑ k ∈ Finset.range (m * n), g k := by
  induction n with
  | zero => simp
  | succ n ih => rw [Finset.sum_range_succ, ih, Nat.mul_succ, Finset.sum_range_add]

section
variable {S : Shape} {e : EltTy}

theorem canon_miss (L l : List (View.Piece (Elt Ideal) S e)) (y : S.Idx) (h : ∀ p ∈ L, y ∉ p.1.set) :
    View.canon (L ++ l) y = View.canon l y := by
  induction L with
  | nil => rfl
  | cons p L ih =>
    rw [List.cons_append, View.canon_cons_of_not_mem _ _ (h p (by simp))]
    exact ih fun q hq => h q (by simp [hq])

theorem canon_hit (G : S.Idx → Elt Ideal e) (L l : List (View.Piece (Elt Ideal) S e)) (hL : ∀ p ∈ L, ∀ x, p.2 x = G (p.1.emb x))
    (y : S.Idx) (h : ∃ p ∈ L, y ∈ p.1.set) : View.canon (L ++ l) y = G y := by
  induction L with
  | nil => obtain ⟨p, hp, _⟩ := h; simp at hp
  | cons p L ih =>
    rw [List.cons_append]
    by_cases hy : y ∈ p.1.set
    · obtain ⟨x, rfl⟩ := p.1.exists_idx_of_mem hy
      rw [show p.1.idx x = p.1.emb x from rfl, View.canon_cons_emb]
      exact hL p (by simp) x
    · rw [View.canon_cons_of_not_mem _ _ hy]
      refine ih (fun q hq => hL q (by simp [hq])) ?_
      obtain ⟨q, hq, hyq⟩ := h
      rcases List.mem_cons.1 hq with rfl | hq
      · exact absurd hyq hy
      · exact ⟨q, hq, hyq⟩
end

end Cert.V
-- ==== Proof.V.KCS.lean ====
/-
What the kernel's stored lists hold: codes, scaled codes and scales at every index.
-/
module

public import proofs.«01_k».proof.Proof.V.Common
public import proofs.«01_k».proof.Proof.V.FinV

@[expose] public section

set_option maxRecDepth 65536
set_option maxHeartbeats 400000

noncomputable section

namespace Cert.KernelIdeal.Hand

open Cert.KernelIdeal Cert.KernelIdeal.Gen Idealize.ShloMosaic Cert.V

section
variable (c : Dev nD) (fz : BufOf (F := Ideal) c m13) (f : Fin 28 → Fin 128 → ℕ → ℝ)
  (hz : ∀ (b : Fin 28) (r : Fin 128) (i : Fin 512), fz (ix3 b r i) = ((f b r i.val : ℝ) : EReal))
  (hf : ∀ (b : Fin 28) (r : Fin 128), ∀ i < 512, |f b r i| ≤ (2:ℝ) ^ (113 : ℤ))

include hz in
theorem zB_at (b : Fin 28) (r : Fin 128) (i : Fin 512) : zB c fz b (ix3 (0 : Fin 1) r i) = ((f b r i.val : ℝ) : EReal) := by
  refine Eq.trans ?_ (hz b r i)
  refine congrArg fz ?_
  funext a
  apply Fin.ext
  fin_cases a
  · show b.val + 1 * 0 = b.val
    omega
  · show 0 + 1 * r.val = r.val
    omega
  · show 0 + 1 * i.val = i.val
    omega

/-- The codes of one block. -/
def cG1 (b : Fin 28) (y : S28x128x512.Idx) : EReal := codeAt f (y 1) (y 2).val b
/-- The scaled codes of one block. -/
def xG1 (b : Fin 28) (y : S2x4x128x512.Idx) : EReal := csAt f (y 2) (y 3).val b

include hz hf in
theorem cPc_at (b : Fin 28) (p q : Bool) (o : Fin 4) (ho : gOff p q = 128 * o.val) (x : S1x128x128.Idx) :
    (cPc c fz b p q o).2 x = cG1 f b ((cPc c fz b p q o).1.emb x) := by
  obtain ⟨u, r, t, rfl⟩ : ∃ (u : Fin 1) (r : Fin 128) (t : Fin 128), x = ix3 u r t := ⟨x 0, x 1, x 2, by funext a; fin_cases a <;> rfl⟩
  obtain rfl : u = 0 := Subsingleton.elim _ _
  have e0 : (cPc c fz b p q o).1.emb (ix3 (0 : Fin 1) r t) = ix3 b r (⟨128 * o.val + t.val, by omega⟩ : Fin 512) := by
    funext d
    apply Fin.ext
    fin_cases d
    · show b.val + 1 * 0 = b.val
      omega
    · show 0 + 1 * r.val = r.val
      omega
    · show 128 * o.val + 1 * t.val = 128 * o.val + t.val
      omega
  refine Eq.trans ?_ (congrArg (cG1 f b) e0.symm)
  refine (gC_at p q (zB c fz b) (f b r) r (fun i => zB_at c fz f hz b r i) (hf b r) t).trans ?_
  show _ = code (yG (f b r) ((128 * o.val + t.val) % 512)) (rho (f b r) ((128 * o.val + t.val) % 512 / 128 * 128))
  rw [ho, show (128 * o.val + t.val) % 512 = 128 * o.val + t.val by omega, show (128 * o.val + t.val) / 128 * 128 = 128 * o.val by omega]

include hz hf in
theorem xPc_at (b : Fin 28) (s : Fin 2) (u : Fin 4) (p q : Bool) (o : Fin 4) (ho : gOff p q = 128 * o.val) (x : S1x1x128x128.Idx) :
    (xPc c fz b s u p q o).2 x = xG1 f b ((xPc c fz b s u p q o).1.emb x) := by
  obtain ⟨v0, v1, r, t, rfl⟩ : ∃ (v0 v1 : Fin 1) (r : Fin 128) (t : Fin 128), x = ix4 v0 v1 r t := ⟨x 0, x 1, x 2, x 3, by funext a; fin_cases a <;> rfl⟩
  obtain rfl : v0 = 0 := Subsingleton.elim _ _
  obtain rfl : v1 = 0 := Subsingleton.elim _ _
  have e0 : (xPc c fz b s u p q o).1.emb (ix4 (0 : Fin 1) (0 : Fin 1) r t) = ix4 s u r (⟨128 * o.val + t.val, by omega⟩ : Fin 512) := by
    funext d
    apply Fin.ext
    fin_cases d
    · show s.val + 1 * 0 = s.val
      omega
    · show u.val + 1 * 0 = u.val
      omega
    · show 0 + 1 * r.val = r.val
      omega
    · show 128 * o.val + 1 * t.val = 128 * o.val + t.val
      omega
  refine Eq.trans ?_ (congrArg (xG1 f b) e0.symm)
  refine (gX_at p q (zB c fz b) (f b r) r (fun i => zB_at c fz f hz b r i) (hf b r) t).trans ?_
  show _ = code (yG (f b r) ((128 * o.val + t.val) % 512)) (rho (f b r) ((128 * o.val + t.val) % 512 / 128 * 128)) * (((2:ℝ) ^ ex (rho (f b r) ((128 * o.val + t.val) / 128 % 4 * 128)) : ℝ) : EReal)
  rw [ho, show (128 * o.val + t.val) % 512 = 128 * o.val + t.val by omega, show (128 * o.val + t.val) / 128 * 128 = 128 * o.val by omega,
    show (128 * o.val + t.val) / 128 % 4 * 128 = 128 * o.val by omega]

theorem cPc_mem (b : Fin 28) (p q : Bool) (o : Fin 4) (r : Fin 128) (i : Fin 512) (h : i.val / 128 = o.val) : ix3 b r i ∈ (cPc c fz b p q o).1.set := by
  show ix3 b r i ∈ (Rect.unit (s := S28x128x512) ![b.val, 0, 128 * o.val] S1x128x128.size (inbP b o)).set
  rw [Rect.mem_set_unit]
  intro d
  have hr := r.isLt
  fin_cases d
  · show b.val ≤ b.val ∧ b.val < b.val + 1
    omega
  · show 0 ≤ r.val ∧ r.val < 0 + 128
    omega
  · show 128 * o.val ≤ i.val ∧ i.val < 128 * o.val + 128
    omega

theorem cL_mem (b : Fin 28) (r : Fin 128) (i : Fin 512) : ∃ p ∈ cL c fz b, ix3 b r i ∈ p.1.set := by
  have hi := i.isLt
  obtain h | h | h | h : i.val / 128 = 3 ∨ i.val / 128 = 2 ∨ i.val / 128 = 1 ∨ i.val / 128 = 0 := by omega
  · exact ⟨_, by simp [cL], cPc_mem c fz b true true 3 r i h⟩
  · exact ⟨cPc c fz b true false 2, by simp [cL], cPc_mem c fz b true false 2 r i h⟩
  · exact ⟨cPc c fz b false true 1, by simp [cL], cPc_mem c fz b false true 1 r i h⟩
  · exact ⟨cPc c fz b false false 0, by simp [cL], cPc_mem c fz b false false 0 r i h⟩

theorem xPc_set (b : Fin 28) (s : Fin 2) (u : Fin 4) (p q : Bool) (o : Fin 4) (s' : Fin 2) (u' : Fin 4) (r : Fin 128) (i : Fin 512) :
    ix4 s' u' r i ∈ (xPc c fz b s u p q o).1.set ↔ s' = s ∧ u' = u ∧ i.val / 128 = o.val := by
  show ix4 s' u' r i ∈ (Rect.unit (s := S2x4x128x512) ![s.val, u.val, 0, 128 * o.val] S1x1x128x128.size (inbX s u o)).set ↔ _
  rw [Rect.mem_set_unit]
  have hr := r.isLt
  constructor
  · intro h
    have h0 : s.val ≤ s'.val ∧ s'.val < s.val + 1 := h 0
    have h1 : u.val ≤ u'.val ∧ u'.val < u.val + 1 := h 1
    have h3 : 128 * o.val ≤ i.val ∧ i.val < 128 * o.val + 128 := h 3
    exact ⟨Fin.ext (by omega), Fin.ext (by omega), by omega⟩
  · rintro ⟨rfl, rfl, h⟩ d
    fin_cases d
    · show s'.val ≤ s'.val ∧ s'.val < s'.val + 1
      omega
    · show u'.val ≤ u'.val ∧ u'.val < u'.val + 1
      omega
    · show 0 ≤ r.val ∧ r.val < 0 + 128
      omega
    · show 128 * o.val ≤ i.val ∧ i.val < 128 * o.val + 128
      omega

/-- The four pieces a block puts in the staging areas. -/
def xL4 (b : Fin 28) (s : Fin 2) (t : Fin 4) : List (View.Piece (Elt Ideal) S2x4x128x512 .bf16) :=
  [xPc c fz b s t true true 3, xPc c fz b s t true false 2, xPc c fz b s t false true 1, xPc c fz b s t false false 0]

theorem xL4_mem (b : Fin 28) (s : Fin 2) (t : Fin 4) (r : Fin 128) (i : Fin 512) : ∃ p ∈ xL4 c fz b s t, ix4 s t r i ∈ p.1.set := by
  have hi := i.isLt
  obtain h | h | h | h : i.val / 128 = 3 ∨ i.val / 128 = 2 ∨ i.val / 128 = 1 ∨ i.val / 128 = 0 := by omega
  · exact ⟨xPc c fz b s t true true 3, by simp [xL4], (xPc_set c fz b s t _ _ _ s t r i).2 ⟨rfl, rfl, h⟩⟩
  · exact ⟨xPc c fz b s t true false 2, by simp [xL4], (xPc_set c fz b s t _ _ _ s t r i).2 ⟨rfl, rfl, h⟩⟩
  · exact ⟨xPc c fz b s t false true 1, by simp [xL4], (xPc_set c fz b s t _ _ _ s t r i).2 ⟨rfl, rfl, h⟩⟩
  · exact ⟨xPc c fz b s t false false 0, by simp [xL4], (xPc_set c fz b s t _ _ _ s t r i).2 ⟨rfl, rfl, h⟩⟩

include hz hf in
theorem cL_at (b : Fin 28) (r : Fin 128) (i : Fin 512) : View.canon (cL c fz b) (ix3 b r i) = codeAt f r i.val b := by
  have h := canon_hit (e := .fp8e4m3) (fun y => cG1 f b y) (cL c fz b) [] (by
    intro p hp x
    simp only [cL, List.mem_cons, List.not_mem_nil, or_false] at hp
    rcases hp with rfl | rfl | rfl | rfl
    · exact cPc_at c fz f hz hf b _ _ _ rfl x
    · exact cPc_at c fz f hz hf b _ _ _ rfl x
    · exact cPc_at c fz f hz hf b _ _ _ rfl x
    · exact cPc_at c fz f hz hf b _ _ _ rfl x) (ix3 b r i) (cL_mem c fz b r i)
  rw [List.append_nil] at h
  exact h

include hz hf in
theorem xList_at (M : ℕ) (hM : M ≤ 28) (b : Fin 28) (hb : b.val < M) (hb8 : M ≤ b.val + 8) (r : Fin 128) (i : Fin 512) :
    View.canon (xList c fz M) (ix4 (xs b) (xt b) r i) = csAt f r i.val b := by
  induction M with
  | zero => omega
  | succ M ih =>
    have e : xList c fz (M + 1) = xL4 c fz ⟨M % 28, Nat.mod_lt _ (by omega)⟩ (xs ⟨M % 28, Nat.mod_lt _ (by omega)⟩) (xt ⟨M % 28, Nat.mod_lt _ (by omega)⟩) ++ xList c fz M := rfl
    rw [e]
    by_cases hbM : b.val = M
    · have eb : (⟨M % 28, Nat.mod_lt _ (by omega)⟩ : Fin 28) = b := Fin.ext (by show M % 28 = b.val; omega)
      rw [eb]
      exact canon_hit (e := .bf16) (fun y => xG1 f b y) (xL4 c fz b (xs b) (xt b)) (xList c fz M) (by
        intro p hp x
        simp only [xL4, List.mem_cons, List.not_mem_nil, or_false] at hp
        rcases hp with rfl | rfl | rfl | rfl
        · exact xPc_at c fz f hz hf b _ _ _ _ _ rfl x
        · exact xPc_at c fz f hz hf b _ _ _ _ _ rfl x
        · exact xPc_at c fz f hz hf b _ _ _ _ _ rfl x
        · exact xPc_at c fz f hz hf b _ _ _ _ _ rfl x) (ix4 (xs b) (xt b) r i) (xL4_mem c fz b (xs b) (xt b) r i)
    · rw [canon_miss]
      · exact ih (by omega) (by omega) (by omega)
      · intro p hp hy
        have hne : ¬ (xs b = xs ⟨M % 28, Nat.mod_lt _ (by omega)⟩ ∧ xt b = xt ⟨M % 28, Nat.mod_lt _ (by omega)⟩) := by
          rintro ⟨h1, h2⟩
          have h1' : b.val / 4 % 2 = M % 28 / 4 % 2 := congrArg Fin.val h1
          have h2' : b.val % 4 = M % 28 % 4 := congrArg Fin.val h2
          omega
        simp only [xL4, List.mem_cons, List.not_mem_nil, or_false] at hp
        rcases hp with rfl | rfl | rfl | rfl
        · have h := (xPc_set c fz _ _ _ _ _ _ _ _ r i).1 hy
          exact hne ⟨h.1, h.2.1⟩
        · have h := (xPc_set c fz _ _ _ _ _ _ _ _ r i).1 hy
          exact hne ⟨h.1, h.2.1⟩
        · have h := (xPc_set c fz _ _ _ _ _ _ _ _ r i).1 hy
          exact hne ⟨h.1, h.2.1⟩
        · have h := (xPc_set c fz _ _ _ _ _ _ _ _ r i).1 hy
          exact hne ⟨h.1, h.2.1⟩

include hz hf in
theorem xRd_at (M : ℕ) (hM : M ≤ 28) (b : Fin 28) (hb : b.val < M) (hb8 : M ≤ b.val + 8) (r : Fin 128) (i : Fin 512) :
    xRd (xList c fz M) b (ix4 (0 : Fin 1) (0 : Fin 1) r i) = csAt f r i.val b := by
  refine Eq.trans ?_ (xList_at c fz f hz hf M hM b hb hb8 r i)
  unfold xRd
  rw [View.readCov_eq_canon']
  refine congrArg (View.canon (xList c fz M)) ?_
  funext d
  apply Fin.ext
  fin_cases d
  · show (xs b).val + 1 * 0 = (xs b).val
    omega
  · show (xt b).val + 1 * 0 = (xt b).val
    omega
  · show 0 + 1 * r.val = r.val
    omega
  · show 0 + 1 * i.val = i.val
    omega

include hz hf in
theorem sB_at (b : Fin 28) (s : Vec Ideal S128x112 .f32) (r : Fin 128) (n : Fin 112) :
    sB c fz b s (ix2 r n) = if n.val / 4 = b.val then scaleAt f r n.val b else s (ix2 r n) := by
  have hb := b.isLt
  have h := fun (p q : Bool) (g : ℕ) (hg : g < 112) (s : Vec Ideal S128x112 .f32) =>
    gS_at p q (zB c fz b) (f b r) r (fun i => zB_at c fz f hz b r i) (hf b r) g hg s n
  have hs : ∀ A : Vec Ideal S128x112 .f32, shapeCast S128x112 A shapeCasts_S128x112_S128x112 (ix2 r n) = A (ix2 r n) := by
    intro A
    pointwise []
  unfold sB
  rw [hs, h true true (4 * b.val + 3) (by omega), h true false (4 * b.val + 2) (by omega), h false true (4 * b.val + 1) (by omega), h false false (4 * b.val) (by omega)]
  unfold scaleAt
  have g3 : gOff true true = 384 := rfl
  have g2 : gOff true false = 256 := rfl
  have g1 : gOff false true = 128 := rfl
  have g0 : gOff false false = 0 := rfl
  rw [g3, g2, g1, g0]
  by_cases hn : n.val / 4 = b.val
  · rw [if_pos hn]
    obtain h | h | h | h : n.val = 4 * b.val + 3 ∨ n.val = 4 * b.val + 2 ∨ n.val = 4 * b.val + 1 ∨ n.val = 4 * b.val := by omega
    · rw [if_pos h, show n.val % 4 * 128 = 384 by omega]
    · rw [if_neg (by omega), if_pos h, show n.val % 4 * 128 = 256 by omega]
    · rw [if_neg (by omega), if_neg (by omega), if_pos h, show n.val % 4 * 128 = 128 by omega]
    · rw [if_neg (by omega), if_neg (by omega), if_neg (by omega), if_pos h, show n.val % 4 * 128 = 0 by omega]
  · rw [if_neg hn, if_neg (by omega), if_neg (by omega), if_neg (by omega), if_neg (by omega)]

theorem sPc_canon (v : Vec Ideal S128x112 .f32) (l : List (View.Piece (Elt Ideal) S128x112 .f32)) : View.canon (sPc v :: l) = v := by
  exact View.canon_cons_unit_zero (Val := Elt Ideal) (e := .f32) (S := S128x112) (off := ![0, 0]) (by funext a; fin_cases a <;> rfl) _ _ _

include hz hf in
theorem sList_at (s : Vec Ideal S128x112 .f32) (m : ℕ) (hm : m < 28) (r : Fin 128) (n : Fin 112) (hn : n.val / 4 ≤ m) :
    View.canon (sList c fz s m) (ix2 r n) = scaleAt f r n.val (blk (n.val / 4)) := by
  have hn112 := n.isLt
  induction m with
  | zero =>
    show View.canon (sPc (sB c fz 0 s) :: s1.sl.H17_1) (ix2 r n) = _
    have h0 : n.val / 4 = 0 := by omega
    rw [sPc_canon, sB_at c fz f hz hf, if_pos (by simpa using h0), show blk (n.val / 4) = 0 from Fin.ext (by show n.val / 4 % 28 = 0; omega)]
  | succ m ih =>
    show View.canon (sPc _ :: _) (ix2 r n) = _
    rw [sPc_canon, sB_at c fz f hz hf]
    by_cases h : n.val / 4 = (m + 1) % 28
    · rw [if_pos h]
      congr 1
      exact Fin.ext (by show (m + 1) % 28 = n.val / 4 % 28; omega)
    · rw [if_neg h, View.readCov_eq_canon']
      refine Eq.trans (congrArg (View.canon (sList c fz s m)) ?_) (ih (by omega) (by omega))
      funext d
      apply Fin.ext
      fin_cases d
      · show 0 + 1 * r.val = r.val
        omega
      · show 0 + 1 * n.val = n.val
        omega

end

end Cert.KernelIdeal.Hand
-- ==== Proof.V.KOut.lean ====
/-
What the kernel's running sum and its three results hold.
-/
module

public import proofs.«01_k».proof.Proof.V.KCS

@[expose] public section

set_option maxRecDepth 65536
set_option maxHeartbeats 400000

noncomputable section

namespace Cert.KernelIdeal.Hand

open Cert.KernelIdeal Cert.KernelIdeal.Gen Idealize.ShloMosaic Cert.V

/-- One block's product at an index. -/
theorem cM_at (x : Vec Ideal S1x1x128x512 .bf16) (w : Vec Ideal S1x512x512 .fp8e4m3) (r : Fin 128) (j : Fin 512) :
    cM x w (ix2 r j) = ∑ k : Fin 512, x (ix4 (0 : Fin 1) (0 : Fin 1) r k) * w (ix3 (0 : Fin 1) k j) := by
  pointwise [cM]

section
variable (c : Dev nD) (f2 : BufOf (F := Ideal) c m2) (f10 : BufOf (F := Ideal) c m10)

theorem wPut_at (b : Fin 28) (n : Fin 8) (g : BufOf (F := Ideal) c m10) (i j : Fin 512) :
    wRd c b n (wPut c f2 b g) (ix3 (0 : Fin 1) i j) = f2 (ix2 (⟨512 * b.val + i.val, by omega⟩ : Fin 14336) (⟨512 * n.val + j.val, by omega⟩ : Fin 4096)) := by
  let v := ((m10.slice (Rect.unit (s := S20x512x4096) ![b.val % 20, 0, 0] S1x512x4096.size (inbV ⟨b.val % 20, Nat.mod_lt _ (by omega)⟩)) (fun _ => rfl)).squeeze S512x4096 squeezes_S1x512x4096_S512x4096).view
  let x : S512x4096.Idx := ix2 i (⟨512 * n.val + j.val, by omega⟩ : Fin 4096)
  let u : S1x512x4096.Idx := Fin.cons ⟨0, Nat.one_pos⟩ x
  have hu : Shape.reshapeEquiv squeezes_S1x512x4096_S512x4096.numel_eq x = u := Shape.reshapeEquiv_cons_one _ _
  have he : v.emb x = (Rect.unit (s := S20x512x4096) ![b.val % 20, 0, 512 * n.val] S1x512x512.size (inbW ⟨b.val % 20, Nat.mod_lt _ (by omega)⟩ n)).emb (ix3 (0 : Fin 1) i j) := by
    show (Rect.unit (s := S20x512x4096) ![b.val % 20, 0, 0] S1x512x4096.size (inbV ⟨b.val % 20, Nat.mod_lt _ (by omega)⟩)).emb (Shape.reshapeEquiv squeezes_S1x512x4096_S512x4096.numel_eq x) = _
    rw [hu]
    funext d
    apply Fin.ext
    fin_cases d
    · show b.val % 20 + 1 * 0 = b.val % 20 + 1 * 0
      rfl
    · show 0 + 1 * i.val = 0 + 1 * i.val
      rfl
    · show 0 + 1 * (512 * n.val + j.val) = 512 * n.val + 1 * j.val
      omega
  show wPut c f2 b g ((Rect.unit (s := S20x512x4096) ![b.val % 20, 0, 512 * n.val] S1x512x512.size (inbW ⟨b.val % 20, Nat.mod_lt _ (by omega)⟩ n)).emb (ix3 (0 : Fin 1) i j)) = _
  rw [← he]
  refine (View.write_emb_of_mem (Val := Elt Ideal) (v := v) g _ (Finset.mem_univ x)).trans ?_
  show f2 ((Rect.unit (s := S14336x4096) ![512 * b.val, 0] S512x4096.size (inbM b)).emb x) = _
  refine congrArg f2 ?_
  funext d
  apply Fin.ext
  fin_cases d
  · show 512 * b.val + 1 * i.val = 512 * b.val + i.val
    omega
  · show 0 + 1 * (512 * n.val + j.val) = 512 * n.val + j.val
    omega

theorem wBuf_at (b : Fin 28) (n : Fin 8) (i j : Fin 512) :
    wRd c b n (wBuf c f2 f10 b) (ix3 (0 : Fin 1) i j) = f2 (ix2 (⟨512 * b.val + i.val, by omega⟩ : Fin 14336) (⟨512 * n.val + j.val, by omega⟩ : Fin 4096)) := by
  unfold wBuf
  cases Nat.blt b.val 20 with
  | true => exact wPut_at c f2 b n f10 i j
  | false => exact wPut_at c f2 b n _ i j

theorem wsRd_at (f3 : BufOf (F := Ideal) c m3) (f9 : BufOf (F := Ideal) c m9) (n : Fin 8) (j : Fin 512) :
    wsRd c f3 f9 n (ix2 (0 : Fin 1) j) = f3 (ix2 (0 : Fin 1) (⟨512 * n.val + j.val, by omega⟩ : Fin 4096)) := by
  unfold wsRd
  rw [View.write_whole_univ]
  show f3 ((Rect.unit (s := S1x4096) ![0, 512 * n.val] S1x512.size (inbS n)).emb (ix2 (0 : Fin 1) j)) = _
  refine congrArg f3 ?_
  funext d
  apply Fin.ext
  fin_cases d
  · show 0 + 1 * 0 = 0
    rfl
  · show 512 * n.val + 1 * j.val = 512 * n.val + j.val
    omega

theorem aRd_at (l : List (View.Piece (Elt Ideal) S128x4096 .f32)) (n : Fin 8) (r : Fin 128) (j : Fin 512) :
    aRd l n (ix2 r j) = View.canon l (ix2 r (⟨512 * n.val + j.val, by omega⟩ : Fin 4096)) := by
  unfold aRd
  rw [View.readCov_eq_canon']
  refine congrArg (View.canon l) ?_
  funext d
  apply Fin.ext
  fin_cases d
  · show 0 + 1 * r.val = r.val
    omega
  · show 512 * n.val + 1 * j.val = 512 * n.val + j.val
    omega
end

section
variable (c : Dev nD) (f2 : BufOf (F := Ideal) c m2) (f10 : BufOf (F := Ideal) c m10) (fz : BufOf (F := Ideal) c m13) (f : Fin 28 → Fin 128 → ℕ → ℝ)
  (hz : ∀ (b : Fin 28) (r : Fin 128) (i : Fin 512), fz (ix3 b r i) = ((f b r i.val : ℝ) : EReal))
  (hf : ∀ (b : Fin 28) (r : Fin 128), ∀ i < 512, |f b r i| ≤ (2:ℝ) ^ (113 : ℤ))

/-- One block's share of the product. -/
def part (w : S14336x4096.Idx → EReal) (r : Fin 128) (j : Fin 4096) (b : ℕ) : EReal := ∑ i ∈ Finset.range 512, term f w r j (512 * b + i)

include hz hf in
theorem blk_at (M : ℕ) (hM : M ≤ 28) (b : Fin 28) (hb : b.val < M) (hb8 : M ≤ b.val + 8) (n : Fin 8) (r : Fin 128) (j : Fin 512) :
    cM (xRd (xList c fz M) b) (wRd c b n (wBuf c f2 f10 b)) (ix2 r j) = part f f2 r (⟨512 * n.val + j.val, by omega⟩ : Fin 4096) b.val := by
  rw [cM_at]
  unfold part
  rw [← Fin.sum_univ_eq_sum_range (fun i => term f f2 r (⟨512 * n.val + j.val, by omega⟩ : Fin 4096) (512 * b.val + i))]
  refine Finset.sum_congr rfl fun i _ => ?_
  have hb28 := b.isLt
  have hi := i.isLt
  rw [xRd_at c fz f hz hf M hM b hb hb8, wBuf_at]
  unfold term
  rw [dif_pos (by omega)]
  refine congrArg₂ _ ?_ rfl
  have e : blk ((512 * b.val + i.val) / 512) = b := Fin.ext (by show (512 * b.val + i.val) / 512 % 28 = b.val; omega)
  rw [e]
  unfold csAt codeAt scaleAt
  rw [show (512 * b.val + i.val) % 512 = i.val % 512 by omega, show (512 * b.val + i.val) / 128 % 4 = i.val / 128 % 4 by omega]

include hz hf in
theorem cProd_at (M : ℕ) (hM : M ≤ 28) (s : Fin 7) (hs : 4 * s.val + 4 ≤ M) (hs8 : M ≤ 4 * s.val + 8) (n : Fin 8) (r : Fin 128) (j : Fin 512) :
    cProd c f2 f10 (xList c fz M) s n (ix2 r j) = ∑ t ∈ Finset.range 4, part f f2 r (⟨512 * n.val + j.val, by omega⟩ : Fin 4096) (4 * s.val + t) := by
  have h := fun t : Fin 4 => blk_at c f2 f10 fz f hz hf M hM (fb s t) (by show 4 * s.val + t.val < M; omega) (by show M ≤ 4 * s.val + t.val + 8; omega) n r j
  have e : cProd c f2 f10 (xList c fz M) s n (ix2 r j) = (Ideal.ofBits .f32 0#32 : EReal) + cM (xRd (xList c fz M) (fb s 0)) (wRd c (fb s 0) n (wBuf c f2 f10 (fb s 0))) (ix2 r j)
      + cM (xRd (xList c fz M) (fb s 1)) (wRd c (fb s 1) n (wBuf c f2 f10 (fb s 1))) (ix2 r j)
      + cM (xRd (xList c fz M) (fb s 2)) (wRd c (fb s 2) n (wBuf c f2 f10 (fb s 2))) (ix2 r j)
      + cM (xRd (xList c fz M) (fb s 3)) (wRd c (fb s 3) n (wBuf c f2 f10 (fb s 3))) (ix2 r j) := rfl
  rw [e, h, h, h, h]
  have z : (Ideal.ofBits .f32 0#32 : EReal) = 0 := by simp [Ideal.ofBits, Ideal.ieee]
  rw [z, Finset.sum_range_succ, Finset.sum_range_succ, Finset.sum_range_succ, Finset.sum_range_succ, Finset.sum_range_zero]
  rfl

theorem a0_at (y : S128x4096.Idx) : View.canon (s1.sl.H15_1 (F := Ideal)) y = (0 : EReal) := by
  refine (congrFun (View.canon_cons_unit_zero (Val := Elt Ideal) (e := .f32) (S := S128x4096) (off := ![0, 0]) (by funext a; fin_cases a <;> rfl) _ _ _) y).trans ?_
  have z : (Ideal.ofBits .f32 0#32 : EReal) = 0 := by simp [Ideal.ofBits, Ideal.ieee]
  exact z

theorem a_in (n : Fin 8) (p : FVec Ideal S128x512 .f32) (L : List (View.Piece (Elt Ideal) S128x4096 .f32)) (r : Fin 128) (j : Fin 512) :
    View.canon (⟨Rect.unit (s := S128x4096) ![0, 512 * n.val] S128x512.size (inbA n), p⟩ :: L) (ix2 r (⟨512 * n.val + j.val, by omega⟩ : Fin 4096)) = p (ix2 r j) := by
  have ex : ix2 r (⟨512 * n.val + j.val, by omega⟩ : Fin 4096) = (Rect.unit (s := S128x4096) ![0, 512 * n.val] S128x512.size (inbA n)).emb (ix2 r j) := by
    funext d
    apply Fin.ext
    fin_cases d
    · show r.val = 0 + 1 * r.val
      omega
    · show 512 * n.val + j.val = 512 * n.val + 1 * j.val
      omega
  rw [ex]
  exact View.canon_cons_emb (Rect.unit (s := S128x4096) ![0, 512 * n.val] S128x512.size (inbA n)) p L (ix2 r j)

theorem a_out (n' : Fin 8) (n : Fin 8) (h : n'.val ≠ n.val) (p : FVec Ideal S128x512 .f32) (L : List (View.Piece (Elt Ideal) S128x4096 .f32)) (r : Fin 128) (j : Fin 512) :
    View.canon (⟨Rect.unit (s := S128x4096) ![0, 512 * n'.val] S128x512.size (inbA n'), p⟩ :: L) (ix2 r (⟨512 * n.val + j.val, by omega⟩ : Fin 4096))
      = View.canon L (ix2 r (⟨512 * n.val + j.val, by omega⟩ : Fin 4096)) := by
  refine View.canon_cons_of_not_mem _ _ ?_
  show ix2 r (⟨512 * n.val + j.val, by omega⟩ : Fin 4096) ∉ (Rect.unit (s := S128x4096) ![0, 512 * n'.val] S128x512.size (inbA n')).set
  rw [Rect.mem_set_unit]
  intro hm
  have h1 : 512 * n'.val ≤ 512 * n.val + j.val ∧ 512 * n.val + j.val < 512 * n'.val + 512 := hm 1
  omega

theorem sc_at (A : FVec Ideal S128x512 .f32) (h) (r : Fin 128) (j : Fin 512) : shapeCast S128x512 A h (ix2 r j) = A (ix2 r j) := by
  pointwise []

theorem aStep_in (X : List (View.Piece (Elt Ideal) S2x4x128x512 .bf16)) (s : Fin 7) (n : Fin 8) (l : List (View.Piece (Elt Ideal) S128x4096 .f32)) (r : Fin 128) (j : Fin 512) :
    View.canon (aStep c f2 f10 X s n l) (ix2 r (⟨512 * n.val + j.val, by omega⟩ : Fin 4096))
      = aRd l n (ix2 r j) + cProd c f2 f10 X s n (ix2 r j) := by
  have h := a_in n (shapeCast S128x512 (addf (aRd l n) (cProd c f2 f10 X s n)) rfl) l r j
  rw [sc_at] at h
  exact h

theorem aStep_out (X : List (View.Piece (Elt Ideal) S2x4x128x512 .bf16)) (s : Fin 7) (n' n : Fin 8) (h : n'.val ≠ n.val) (l : List (View.Piece (Elt Ideal) S128x4096 .f32)) (r : Fin 128) (j : Fin 512) :
    View.canon (aStep c f2 f10 X s n' l) (ix2 r (⟨512 * n.val + j.val, by omega⟩ : Fin 4096))
      = View.canon l (ix2 r (⟨512 * n.val + j.val, by omega⟩ : Fin 4096)) :=
  a_out n' n h _ l r j

include hz hf in
theorem aList_at (k : ℕ) (hk : k ≤ 48) (n : Fin 8) (r : Fin 128) (j : Fin 512) :
    View.canon (aList c f2 f10 fz k) (ix2 r (⟨512 * n.val + j.val, by omega⟩ : Fin 4096))
      = ∑ s ∈ Finset.range ((k + 7 - n.val) / 8), ∑ t ∈ Finset.range 4, part f f2 r (⟨512 * n.val + j.val, by omega⟩ : Fin 4096) (4 * s + t) := by
  have hn := n.isLt
  have hj := j.isLt
  have hr := r.isLt
  induction k with
  | zero =>
    rw [show (0 + 7 - n.val) / 8 = 0 by omega, Finset.sum_range_zero]
    exact a0_at _
  | succ k ih =>
    have e : aList c f2 f10 fz (k + 1) = aStep c f2 f10 (xList c fz (4 * (k / 8 + 1) + (k % 8 + 1) / 2)) ⟨k / 8 % 7, Nat.mod_lt _ (by omega)⟩ ⟨k % 8, Nat.mod_lt _ (by omega)⟩ (aList c f2 f10 fz k) := rfl
    rw [e]
    by_cases h : k % 8 = n.val
    · have en : (⟨k % 8, Nat.mod_lt _ (by omega)⟩ : Fin 8) = n := Fin.ext h
      rw [en, aStep_in]
      have hc := cProd_at c f2 f10 fz f hz hf (4 * (k / 8 + 1) + (k % 8 + 1) / 2) (by omega) ⟨k / 8 % 7, Nat.mod_lt _ (by omega)⟩
        (by show 4 * (k / 8 % 7) + 4 ≤ 4 * (k / 8 + 1) + (k % 8 + 1) / 2; omega) (by show 4 * (k / 8 + 1) + (k % 8 + 1) / 2 ≤ 4 * (k / 8 % 7) + 8; omega) n r j
      have hq : k / 8 % 7 = (k + 7 - n.val) / 8 := by omega
      have hc' := hc.trans (Finset.sum_congr rfl fun t _ => congrArg (fun q => part f f2 r (⟨512 * n.val + j.val, by omega⟩ : Fin 4096) (4 * q + t)) hq)
      rw [hc', aRd_at, ih (by omega), show (k + 1 + 7 - n.val) / 8 = (k + 7 - n.val) / 8 + 1 by omega]
      exact (Finset.sum_range_succ (fun s => ∑ t ∈ Finset.range 4, part f f2 r (⟨512 * n.val + j.val, by omega⟩ : Fin 4096) (4 * s + t)) _).symm
    · rw [aStep_out c f2 f10 _ _ _ n h, ih (by omega), show (k + 1 + 7 - n.val) / 8 = (k + 7 - n.val) / 8 by omega]

end

end Cert.KernelIdeal.Hand
-- ==== Proof.V.KRes.lean ====
/-
The kernel's three results in closed form.
-/
module

public import proofs.«01_k».proof.Proof.V.KOut

@[expose] public section

set_option maxRecDepth 65536
set_option maxHeartbeats 400000

noncomputable section

namespace Cert.KernelIdeal.Hand

open Cert.KernelIdeal Cert.KernelIdeal.Gen Idealize.ShloMosaic Cert.V

theorem o_pt (A B : FVec Ideal S128x512 .f32) (W : FVec Ideal S1x512 .f32) (h1) (h2) (h3) (r : Fin 128) (j : Fin 512) :
    shapeCast S128x512 (truncf .bf16 (mulf (addf A B) (broadcastTo S128x512 W h1)) h2) h3 (ix2 r j)
      = @HMul.hMul EReal EReal EReal _ (@HAdd.hAdd EReal EReal EReal _ (A (ix2 r j)) (B (ix2 r j))) (W (ix2 (0 : Fin 1) j)) := by
  pointwise []

theorem split4 (y : S128x4096.Idx) : ∃ (n : Fin 8) (r : Fin 128) (j : Fin 512), y = ix2 r (⟨512 * n.val + j.val, by omega⟩ : Fin 4096) := by
  have h1 : (y 1).val < 4096 := (y 1).isLt
  refine ⟨⟨(y 1).val / 512, by omega⟩, y 0, ⟨(y 1).val % 512, by omega⟩, ?_⟩
  funext d
  apply Fin.ext
  fin_cases d
  · rfl
  · show (y 1).val = 512 * ((y 1).val / 512) + (y 1).val % 512
    omega

theorem split5 (y : S128x14336.Idx) : ∃ (n : Fin 28) (r : Fin 128) (j : Fin 512), y = ix2 r (⟨512 * n.val + j.val, by omega⟩ : Fin 14336) := by
  have h1 : (y 1).val < 14336 := (y 1).isLt
  refine ⟨⟨(y 1).val / 512, by omega⟩, y 0, ⟨(y 1).val % 512, by omega⟩, ?_⟩
  funext d
  apply Fin.ext
  fin_cases d
  · rfl
  · show (y 1).val = 512 * ((y 1).val / 512) + (y 1).val % 512
    omega

/-- The whole contracted sum from its seven parts. -/
theorem all_parts (f : Fin 28 → Fin 128 → ℕ → ℝ) (w : S14336x4096.Idx → EReal) (r : Fin 128) (j : Fin 4096) :
    (∑ s ∈ Finset.range 6, ∑ t ∈ Finset.range 4, part f w r j (4 * s + t)) + ∑ t ∈ Finset.range 4, part f w r j (4 * 6 + t)
      = ∑ k ∈ Finset.range 14336, term f w r j k := by
  have h1 := Finset.sum_range_succ (fun s => ∑ t ∈ Finset.range 4, part f w r j (4 * s + t)) 6
  rw [← h1, block_sum (6 + 1) 4 (part f w r j)]
  exact block_sum 28 512 (term f w r j)

section
variable (c : Dev nD) (f2 : BufOf (F := Ideal) c m2) (f3 : BufOf (F := Ideal) c m3) (f9 : BufOf (F := Ideal) c m9) (f10 : BufOf (F := Ideal) c m10) (f16 : BufOf (F := Ideal) c m16) (f17 : BufOf (F := Ideal) c m17)
  (f18 : BufOf (F := Ideal) c m18) (fz : BufOf (F := Ideal) c m13) (f : Fin 28 → Fin 128 → ℕ → ℝ)
  (hz : ∀ (b : Fin 28) (r : Fin 128) (i : Fin 512), fz (ix3 b r i) = ((f b r i.val : ℝ) : EReal))
  (hf : ∀ (b : Fin 28) (r : Fin 128), ∀ i < 512, |f b r i| ≤ (2:ℝ) ^ (113 : ℤ))

include hz hf in
theorem oPc_at (n : Fin 8) (r : Fin 128) (j : Fin 512) :
    (oPc c f2 f3 f9 f10 (xList c fz 28) (aList c f2 f10 fz 48) n).2 (ix2 r j)
      = outV f f2 (fun j => f3 (ix2 (0 : Fin 1) j)) (ix2 r (⟨512 * n.val + j.val, by omega⟩ : Fin 4096)) := by
  have hn := n.isLt
  have h := o_pt (aRd (aList c f2 f10 fz 48) n) (cProd c f2 f10 (xList c fz 28) 6 n) (wsRd c f3 f9 n) broadcasts_S1x512_S128x512 bitsLt_bf16_f32 shapeCasts_S128x512_S128x512 r j
  have hc := cProd_at c f2 f10 fz f hz hf 28 (le_refl _) 6 (by decide) (by decide) n r j
  have ha := aList_at c f2 f10 fz f hz hf 48 (le_refl _) n r j
  rw [show (48 + 7 - n.val) / 8 = 6 by omega] at ha
  rw [hc, aRd_at, ha, wsRd_at] at h
  refine h.trans ?_
  unfold outV
  refine congrArg₂ HMul.hMul (all_parts f f2 r (⟨512 * n.val + j.val, by omega⟩ : Fin 4096)) rfl

theorem hit18 (p : View.Piece (Elt Ideal) S128x4096 .bf16) (n : Fin 8) (w : S128x512.Idx → Elt Ideal .bf16)
    (hp : p = ⟨Rect.unit (s := S128x4096) ![0, 512 * n.val] S128x512.size (inbA n), w⟩) (x : S128x512.Idx) :
    ReadAs.same.apply (View.read (Elt Ideal) (m18.slice (Rect.unit (s := S128x4096) ![0, 512 * n.val] S128x512.size (inbA n)) (fun _ => rfl)).view (m18.view.writes (Elt Ideal) f18 [p])) x = w x := by
  subst hp
  exact View.read_writes_cons_hit m18.view f18 (Rect.unit (s := S128x4096) ![0, 512 * n.val] S128x512.size (inbA n)) w [] x _ rfl

include hz hf in
theorem oOut_at (n : Fin 8) (r : Fin 128) (j : Fin 512) :
    oOut c f2 f3 f9 f10 f18 fz n (ix2 r j) = outV f f2 (fun j => f3 (ix2 (0 : Fin 1) j)) (ix2 r (⟨512 * n.val + j.val, by omega⟩ : Fin 4096)) := by
  have e : oOut c f2 f3 f9 f10 f18 fz n = ReadAs.same.apply (View.read (Elt Ideal) (m18.slice (Rect.unit (s := S128x4096) ![0, 512 * n.val] S128x512.size (inbA n)) (fun _ => rfl)).view
      (m18.view.writes (Elt Ideal) f18 [oPc c f2 f3 f9 f10 (xList c fz 28) (aList c f2 f10 fz 48) n])) := by
    unfold oOut
    rw [xs28, as47]
    rfl
  rw [e]
  exact (hit18 c f18 _ n _ rfl (ix2 r j)).trans (oPc_at c f2 f3 f9 f10 fz f hz hf n r j)

include hz hf in
theorem cOut_at (b : Fin 28) (r : Fin 128) (i : Fin 512) : cOut c f16 fz b (ix2 r i) = codeAt f r i.val b := by
  let x : S128x512.Idx := ix2 r i
  let u : S1x128x512.Idx := Fin.cons ⟨0, Nat.one_pos⟩ x
  have hu : Shape.reshapeEquiv squeezes_S1x128x512_S128x512.numel_eq x = u := Shape.reshapeEquiv_cons_one _ _
  show m16.view.read (Elt Ideal) (m16.view.writes (Elt Ideal) f16 (cL c fz b))
    ((Rect.unit (s := S28x128x512) ![b.val, 0, 0] S1x128x512.size (inbC b)).emb (Shape.reshapeEquiv squeezes_S1x128x512_S128x512.numel_eq x)) = _
  rw [hu]
  have he : (Rect.unit (s := S28x128x512) ![b.val, 0, 0] S1x128x512.size (inbC b)).emb u = ix3 b r i := by
    funext d
    apply Fin.ext
    fin_cases d
    · show b.val + 1 * 0 = b.val
      omega
    · show 0 + 1 * r.val = r.val
      omega
    · show 0 + 1 * i.val = i.val
      omega
  rw [he, View.read_writes_apply_eq_canon _ _ _ _ (cL_mem c fz b r i)]
  exact cL_at c fz f hz hf b r i

theorem hit5 (f5 : BufOf (F := Ideal) c m5) (b : Fin 28) (w : S128x512.Idx → Elt Ideal .fp8e4m3) (r : Fin 128) (i : Fin 512) :
    m5.view.writes (Elt Ideal) f5 [⟨Rect.unit (s := S128x14336) ![0, 512 * b.val] S128x512.size (inbD b), w⟩] (ix2 r (⟨512 * b.val + i.val, by omega⟩ : Fin 14336)) = w (ix2 r i) := by
  refine View.read_writes_cons_hit m5.view f5 (Rect.unit (s := S128x14336) ![0, 512 * b.val] S128x512.size (inbD b)) w [] (ix2 r i) _ ?_
  funext d
  apply Fin.ext
  fin_cases d
  · show 0 + 1 * r.val = r.val
    omega
  · show 512 * b.val + 1 * i.val = 512 * b.val + i.val
    omega

theorem hit4 (f4 : BufOf (F := Ideal) c m4) (n : Fin 8) (w : S128x512.Idx → Elt Ideal .bf16) (r : Fin 128) (j : Fin 512) :
    m4.view.writes (Elt Ideal) f4 [⟨Rect.unit (s := S128x4096) ![0, 512 * n.val] S128x512.size (inbA n), w⟩] (ix2 r (⟨512 * n.val + j.val, by omega⟩ : Fin 4096)) = w (ix2 r j) := by
  refine View.read_writes_cons_hit m4.view f4 (Rect.unit (s := S128x4096) ![0, 512 * n.val] S128x512.size (inbA n)) w [] (ix2 r j) _ ?_
  funext d
  apply Fin.ext
  fin_cases d
  · show 0 + 1 * r.val = r.val
    omega
  · show 512 * n.val + 1 * j.val = 512 * n.val + j.val
    omega
end

section
variable (c : Dev nD) (f0 : BufOf (F := Ideal) c m0) (f1 : BufOf (F := Ideal) c m1) (f2 : BufOf (F := Ideal) c m2) (f3 : BufOf (F := Ideal) c m3) (f4 : BufOf (F := Ideal) c m4) (f5 : BufOf (F := Ideal) c m5) (f6 : BufOf (F := Ideal) c m6)
  (f8 : BufOf (F := Ideal) c m8) (f9 : BufOf (F := Ideal) c m9) (f10 : BufOf (F := Ideal) c m10) (f13 : BufOf (F := Ideal) c m13) (f16 : BufOf (F := Ideal) c m16) (f17 : BufOf (F := Ideal) c m17) (f18 : BufOf (F := Ideal) c m18)
  (fz : BufOf (F := Ideal) c m13) (g4 : BufOf (F := Ideal) c m4) (g5 : BufOf (F := Ideal) c m5) (g6 : BufOf (F := Ideal) c m6)
  (E : Ends c f0 f1 f2 f3 f4 f5 f6 f8 f9 f10 f13 f16 f17 f18 fz g4 g5 g6) (f : Fin 28 → Fin 128 → ℕ → ℝ)
  (hz : ∀ (b : Fin 28) (r : Fin 128) (i : Fin 512), fz (ix3 b r i) = ((f b r i.val : ℝ) : EReal))
  (hf : ∀ (b : Fin 28) (r : Fin 128), ∀ i < 512, |f b r i| ≤ (2:ℝ) ^ (113 : ℤ))

include E hz hf in
theorem res4 : g4 = (outV f f2 (fun j => f3 (ix2 (0 : Fin 1) j)) : S128x4096.Idx → EReal) := by
  funext y
  obtain ⟨n, r, j, rfl⟩ := split4 y
  have hj := j.isLt
  refine (E.outs n _ ((hout_mem n _).2 (by show (512 * n.val + j.val) / 512 = n.val; omega))).trans ?_
  refine (hit4 c f4 n _ r j).trans ?_
  exact oOut_at c f2 f3 f9 f10 f18 fz f hz hf n r j

include E hz hf in
theorem res5 : g5 = (codeV f : S128x14336.Idx → EReal) := by
  funext y
  obtain ⟨b, r, i, rfl⟩ := split5 y
  have hi := i.isLt
  refine (E.codes b _ ((hcod_mem b _).2 (by show (512 * b.val + i.val) / 512 = b.val; omega))).trans ?_
  refine (hit5 c f5 b _ r i).trans ?_
  rw [cOut_at c f16 fz f hz hf b r i]
  have hb := b.isLt
  unfold codeV
  show codeAt f r i.val b = codeAt f r (512 * b.val + i.val) (blk ((512 * b.val + i.val) / 512))
  have e : blk ((512 * b.val + i.val) / 512) = b := Fin.ext (by show (512 * b.val + i.val) / 512 % 28 = b.val; omega)
  rw [e]
  unfold codeAt
  rw [show (512 * b.val + i.val) % 512 = i.val % 512 by omega]

include E hz hf in
theorem res6 : g6 = (scaleV f : S128x112.Idx → EReal) := by
  have h := E.scales
  rw [View.write_whole_univ] at h
  rw [h]
  funext y
  have hy : y = ix2 (y 0 : Fin 128) (y 1 : Fin 112) := by
    funext d
    fin_cases d <;> rfl
  have h1 : (y 1).val < 112 := (y 1).isLt
  show View.read (Elt Ideal) m17.view (m17.view.writes (Elt Ideal) m17.view.junk (sList c fz (V4 c f17) 27)) y = _
  rw [View.read_writes_junk_eq_canon, hy]
  exact sList_at c fz f hz hf _ 27 (by decide) (y 0) (y 1) (by omega)
end

end Cert.KernelIdeal.Hand
-- ==== Proof.V.Host.lean ====
/-
The reference's host operations, read stage by stage: what each of its nine butterfly stages leaves,
as a function of what the stage before left.
-/
module

public import proofs.«01_k».proof.Proof.Gen.ReferenceIdeal.Value
public import Idealize.ShloMosaic.Lib.StableHlo.RunRead
public import Idealize.ShloMosaic.Lib.Pointwise

@[expose] public section

set_option maxRecDepth 65536
set_option maxHeartbeats 4000000

noncomputable section

namespace Cert.ReferenceIdeal.Hand

open Idealize.ShloMosaic Idealize.SL.Sem Cert.ReferenceIdeal Cert.ReferenceIdeal.Gen

open TcCoe

abbrev Z3 := FVec Ideal S128x28x512 .f32

/-- The two halves of stage 0 put back side by side. -/
def cat0 (a b : FVec Ideal S128x28x256x1x1 .f32) : Z3 :=
  shapeCast S128x28x512 (concatenate S128x28x256x2x1 3 [⟨S128x28x256x1x1, a⟩, ⟨S128x28x256x1x1, b⟩] concatenates_S128x28x256x1x1_S128x28x256x1x1_S128x28x256x2x1_d3) shapeCasts_S128x28x256x2x1_S128x28x512
def half0_0 (Z : Z3) : FVec Ideal S128x28x256x1 .f32 :=
  shapeCast S128x28x256x1 (extractStridedSlice S128x28x256x1x1 ![0, 0, 0, 0, 0] (shapeCast S128x28x256x2x1 Z shapeCasts_S128x28x512_S128x28x256x2x1 : FVec Ideal S128x28x256x2x1 .f32) slices_S128x28x256x2x1_S128x28x256x1x1_0_0_0_0_0) shapeCasts_S128x28x256x1x1_S128x28x256x1
def half0_1 (Z : Z3) : FVec Ideal S128x28x256x1 .f32 :=
  shapeCast S128x28x256x1 (extractStridedSlice S128x28x256x1x1 ![0, 0, 0, 1, 0] (shapeCast S128x28x256x2x1 Z shapeCasts_S128x28x512_S128x28x256x2x1 : FVec Ideal S128x28x256x2x1 .f32) slices_S128x28x256x2x1_S128x28x256x1x1_0_0_0_1_0) shapeCasts_S128x28x256x1x1_S128x28x256x1
def sum0 (Z : Z3) : FVec Ideal S128x28x256x1x1 .f32 := broadcastInDim S128x28x256x1x1 ![0, 1, 2, 4] bcast_S128x28x256x1_S128x28x256x1x1_0_1_2_4 (addf (half0_0 Z) (half0_1 Z))
def dif0 (Z : Z3) : FVec Ideal S128x28x256x1x1 .f32 := broadcastInDim S128x28x256x1x1 ![0, 1, 2, 4] bcast_S128x28x256x1_S128x28x256x1x1_0_1_2_4 (subf (half0_0 Z) (half0_1 Z))
/-- Stage 0 of the butterfly: pairs at distance 1. -/
def st0 (Z : Z3) : Z3 := cat0 (sum0 Z) (dif0 Z)

theorem read0 (V0 : Valuation τ sig (Elt Ideal)) (Z : Z3) (h : StableHlo.upto hostOps0 V0 4 (no_index (Proc.devRef .tc main_v3)) = Z) :
    StableHlo.upto hostOps0 V0 15 (Proc.devRef .tc main_v14) = st0 Z := by
  have ha : StableHlo.upto hostOps0 V0 13 (Proc.devRef .tc main_v11) = sum0 Z := by
    after_reads_simp [h]
    rfl
  have hb : StableHlo.upto hostOps0 V0 13 (Proc.devRef .tc main_v12) = dif0 Z := by
    after_reads_simp [h]
    rfl
  after_reads_simp
  show cat0 (StableHlo.upto hostOps0 V0 13 (Proc.devRef .tc main_v11)) (StableHlo.upto hostOps0 V0 13 (Proc.devRef .tc main_v12)) = _
  rw [ha, hb]
  rfl

theorem st0_at (Z : Z3) (r : Fin 128) (a : Fin 28) (i : Fin 512) :
    st0 Z (ix3 r a i) = if i.val / 1 % 2 = 0 then Z (ix3 r a i) + Z (ix3 r a ⟨(i.val + 1) % 512, Nat.mod_lt _ (by omega)⟩)
      else Z (ix3 r a ⟨(i.val - 1) % 512, Nat.mod_lt _ (by omega)⟩) - Z (ix3 r a i) := by
  pointwise [st0, cat0, sum0, dif0, half0_0, half0_1]
  rcases Nat.mod_two_eq_zero_or_one (i.val / 1) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 1) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 1) % 512
      dsimp only
      omega
    · show _ = i.val
      dsimp only
      omega

/-- The two halves of stage 1 put back side by side. -/
def cat1 (a b : FVec Ideal S128x28x128x1x2 .f32) : Z3 :=
  shapeCast S128x28x512 (concatenate S128x28x128x2x2 3 [⟨S128x28x128x1x2, a⟩, ⟨S128x28x128x1x2, b⟩] concatenates_S128x28x128x1x2_S128x28x128x1x2_S128x28x128x2x2_d3) shapeCasts_S128x28x128x2x2_S128x28x512
def half1_0 (Z : Z3) : FVec Ideal S128x28x128x2 .f32 :=
  shapeCast S128x28x128x2 (extractStridedSlice S128x28x128x1x2 ![0, 0, 0, 0, 0] (shapeCast S128x28x128x2x2 Z shapeCasts_S128x28x512_S128x28x128x2x2 : FVec Ideal S128x28x128x2x2 .f32) slices_S128x28x128x2x2_S128x28x128x1x2_0_0_0_0_0) shapeCasts_S128x28x128x1x2_S128x28x128x2
def half1_1 (Z : Z3) : FVec Ideal S128x28x128x2 .f32 :=
  shapeCast S128x28x128x2 (extractStridedSlice S128x28x128x1x2 ![0, 0, 0, 1, 0] (shapeCast S128x28x128x2x2 Z shapeCasts_S128x28x512_S128x28x128x2x2 : FVec Ideal S128x28x128x2x2 .f32) slices_S128x28x128x2x2_S128x28x128x1x2_0_0_0_1_0) shapeCasts_S128x28x128x1x2_S128x28x128x2
def sum1 (Z : Z3) : FVec Ideal S128x28x128x1x2 .f32 := broadcastInDim S128x28x128x1x2 ![0, 1, 2, 4] bcast_S128x28x128x2_S128x28x128x1x2_0_1_2_4 (addf (half1_0 Z) (half1_1 Z))
def dif1 (Z : Z3) : FVec Ideal S128x28x128x1x2 .f32 := broadcastInDim S128x28x128x1x2 ![0, 1, 2, 4] bcast_S128x28x128x2_S128x28x128x1x2_0_1_2_4 (subf (half1_0 Z) (half1_1 Z))
/-- Stage 1 of the butterfly: pairs at distance 2. -/
def st1 (Z : Z3) : Z3 := cat1 (sum1 Z) (dif1 Z)

theorem read1 (V0 : Valuation τ sig (Elt Ideal)) (Z : Z3) (h : StableHlo.upto hostOps0 V0 15 (no_index (Proc.devRef .tc main_v14)) = Z) :
    StableHlo.upto hostOps0 V0 26 (Proc.devRef .tc main_v25) = st1 Z := by
  have ha : StableHlo.upto hostOps0 V0 24 (Proc.devRef .tc main_v22) = sum1 Z := by
    after_reads_simp [h]
    rfl
  have hb : StableHlo.upto hostOps0 V0 24 (Proc.devRef .tc main_v23) = dif1 Z := by
    after_reads_simp [h]
    rfl
  after_reads_simp
  show cat1 (StableHlo.upto hostOps0 V0 24 (Proc.devRef .tc main_v22)) (StableHlo.upto hostOps0 V0 24 (Proc.devRef .tc main_v23)) = _
  rw [ha, hb]
  rfl

theorem st1_at (Z : Z3) (r : Fin 128) (a : Fin 28) (i : Fin 512) :
    st1 Z (ix3 r a i) = if i.val / 2 % 2 = 0 then Z (ix3 r a i) + Z (ix3 r a ⟨(i.val + 2) % 512, Nat.mod_lt _ (by omega)⟩)
      else Z (ix3 r a ⟨(i.val - 2) % 512, Nat.mod_lt _ (by omega)⟩) - Z (ix3 r a i) := by
  pointwise [st1, cat1, sum1, dif1, half1_0, half1_1]
  rcases Nat.mod_two_eq_zero_or_one (i.val / 2) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 2) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 2) % 512
      dsimp only
      omega
    · show _ = i.val
      dsimp only
      omega

/-- The two halves of stage 2 put back side by side. -/
def cat2 (a b : FVec Ideal S128x28x64x1x4 .f32) : Z3 :=
  shapeCast S128x28x512 (concatenate S128x28x64x2x4 3 [⟨S128x28x64x1x4, a⟩, ⟨S128x28x64x1x4, b⟩] concatenates_S128x28x64x1x4_S128x28x64x1x4_S128x28x64x2x4_d3) shapeCasts_S128x28x64x2x4_S128x28x512
def half2_0 (Z : Z3) : FVec Ideal S128x28x64x4 .f32 :=
  shapeCast S128x28x64x4 (extractStridedSlice S128x28x64x1x4 ![0, 0, 0, 0, 0] (shapeCast S128x28x64x2x4 Z shapeCasts_S128x28x512_S128x28x64x2x4 : FVec Ideal S128x28x64x2x4 .f32) slices_S128x28x64x2x4_S128x28x64x1x4_0_0_0_0_0) shapeCasts_S128x28x64x1x4_S128x28x64x4
def half2_1 (Z : Z3) : FVec Ideal S128x28x64x4 .f32 :=
  shapeCast S128x28x64x4 (extractStridedSlice S128x28x64x1x4 ![0, 0, 0, 1, 0] (shapeCast S128x28x64x2x4 Z shapeCasts_S128x28x512_S128x28x64x2x4 : FVec Ideal S128x28x64x2x4 .f32) slices_S128x28x64x2x4_S128x28x64x1x4_0_0_0_1_0) shapeCasts_S128x28x64x1x4_S128x28x64x4
def sum2 (Z : Z3) : FVec Ideal S128x28x64x1x4 .f32 := broadcastInDim S128x28x64x1x4 ![0, 1, 2, 4] bcast_S128x28x64x4_S128x28x64x1x4_0_1_2_4 (addf (half2_0 Z) (half2_1 Z))
def dif2 (Z : Z3) : FVec Ideal S128x28x64x1x4 .f32 := broadcastInDim S128x28x64x1x4 ![0, 1, 2, 4] bcast_S128x28x64x4_S128x28x64x1x4_0_1_2_4 (subf (half2_0 Z) (half2_1 Z))
/-- Stage 2 of the butterfly: pairs at distance 4. -/
def st2 (Z : Z3) : Z3 := cat2 (sum2 Z) (dif2 Z)

theorem read2 (V0 : Valuation τ sig (Elt Ideal)) (Z : Z3) (h : StableHlo.upto hostOps0 V0 26 (no_index (Proc.devRef .tc main_v25)) = Z) :
    StableHlo.upto hostOps0 V0 37 (Proc.devRef .tc main_v36) = st2 Z := by
  have ha : StableHlo.upto hostOps0 V0 35 (Proc.devRef .tc main_v33) = sum2 Z := by
    after_reads_simp [h]
    rfl
  have hb : StableHlo.upto hostOps0 V0 35 (Proc.devRef .tc main_v34) = dif2 Z := by
    after_reads_simp [h]
    rfl
  after_reads_simp
  show cat2 (StableHlo.upto hostOps0 V0 35 (Proc.devRef .tc main_v33)) (StableHlo.upto hostOps0 V0 35 (Proc.devRef .tc main_v34)) = _
  rw [ha, hb]
  rfl

theorem st2_at (Z : Z3) (r : Fin 128) (a : Fin 28) (i : Fin 512) :
    st2 Z (ix3 r a i) = if i.val / 4 % 2 = 0 then Z (ix3 r a i) + Z (ix3 r a ⟨(i.val + 4) % 512, Nat.mod_lt _ (by omega)⟩)
      else Z (ix3 r a ⟨(i.val - 4) % 512, Nat.mod_lt _ (by omega)⟩) - Z (ix3 r a i) := by
  pointwise [st2, cat2, sum2, dif2, half2_0, half2_1]
  rcases Nat.mod_two_eq_zero_or_one (i.val / 4) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 4) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 4) % 512
      dsimp only
      omega
    · show _ = i.val
      dsimp only
      omega

/-- The two halves of stage 3 put back side by side. -/
def cat3 (a b : FVec Ideal S128x28x32x1x8 .f32) : Z3 :=
  shapeCast S128x28x512 (concatenate S128x28x32x2x8 3 [⟨S128x28x32x1x8, a⟩, ⟨S128x28x32x1x8, b⟩] concatenates_S128x28x32x1x8_S128x28x32x1x8_S128x28x32x2x8_d3) shapeCasts_S128x28x32x2x8_S128x28x512
def half3_0 (Z : Z3) : FVec Ideal S128x28x32x8 .f32 :=
  shapeCast S128x28x32x8 (extractStridedSlice S128x28x32x1x8 ![0, 0, 0, 0, 0] (shapeCast S128x28x32x2x8 Z shapeCasts_S128x28x512_S128x28x32x2x8 : FVec Ideal S128x28x32x2x8 .f32) slices_S128x28x32x2x8_S128x28x32x1x8_0_0_0_0_0) shapeCasts_S128x28x32x1x8_S128x28x32x8
def half3_1 (Z : Z3) : FVec Ideal S128x28x32x8 .f32 :=
  shapeCast S128x28x32x8 (extractStridedSlice S128x28x32x1x8 ![0, 0, 0, 1, 0] (shapeCast S128x28x32x2x8 Z shapeCasts_S128x28x512_S128x28x32x2x8 : FVec Ideal S128x28x32x2x8 .f32) slices_S128x28x32x2x8_S128x28x32x1x8_0_0_0_1_0) shapeCasts_S128x28x32x1x8_S128x28x32x8
def sum3 (Z : Z3) : FVec Ideal S128x28x32x1x8 .f32 := broadcastInDim S128x28x32x1x8 ![0, 1, 2, 4] bcast_S128x28x32x8_S128x28x32x1x8_0_1_2_4 (addf (half3_0 Z) (half3_1 Z))
def dif3 (Z : Z3) : FVec Ideal S128x28x32x1x8 .f32 := broadcastInDim S128x28x32x1x8 ![0, 1, 2, 4] bcast_S128x28x32x8_S128x28x32x1x8_0_1_2_4 (subf (half3_0 Z) (half3_1 Z))
/-- Stage 3 of the butterfly: pairs at distance 8. -/
def st3 (Z : Z3) : Z3 := cat3 (sum3 Z) (dif3 Z)

theorem read3 (V0 : Valuation τ sig (Elt Ideal)) (Z : Z3) (h : StableHlo.upto hostOps0 V0 37 (no_index (Proc.devRef .tc main_v36)) = Z) :
    StableHlo.upto hostOps0 V0 48 (Proc.devRef .tc main_v47) = st3 Z := by
  have ha : StableHlo.upto hostOps0 V0 46 (Proc.devRef .tc main_v44) = sum3 Z := by
    after_reads_simp [h]
    rfl
  have hb : StableHlo.upto hostOps0 V0 46 (Proc.devRef .tc main_v45) = dif3 Z := by
    after_reads_simp [h]
    rfl
  after_reads_simp
  show cat3 (StableHlo.upto hostOps0 V0 46 (Proc.devRef .tc main_v44)) (StableHlo.upto hostOps0 V0 46 (Proc.devRef .tc main_v45)) = _
  rw [ha, hb]
  rfl

theorem st3_at (Z : Z3) (r : Fin 128) (a : Fin 28) (i : Fin 512) :
    st3 Z (ix3 r a i) = if i.val / 8 % 2 = 0 then Z (ix3 r a i) + Z (ix3 r a ⟨(i.val + 8) % 512, Nat.mod_lt _ (by omega)⟩)
      else Z (ix3 r a ⟨(i.val - 8) % 512, Nat.mod_lt _ (by omega)⟩) - Z (ix3 r a i) := by
  pointwise [st3, cat3, sum3, dif3, half3_0, half3_1]
  rcases Nat.mod_two_eq_zero_or_one (i.val / 8) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 8) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 8) % 512
      dsimp only
      omega
    · show _ = i.val
      dsimp only
      omega

/-- The two halves of stage 4 put back side by side. -/
def cat4 (a b : FVec Ideal S128x28x16x1x16 .f32) : Z3 :=
  shapeCast S128x28x512 (concatenate S128x28x16x2x16 3 [⟨S128x28x16x1x16, a⟩, ⟨S128x28x16x1x16, b⟩] concatenates_S128x28x16x1x16_S128x28x16x1x16_S128x28x16x2x16_d3) shapeCasts_S128x28x16x2x16_S128x28x512
def half4_0 (Z : Z3) : FVec Ideal S128x28x16x16 .f32 :=
  shapeCast S128x28x16x16 (extractStridedSlice S128x28x16x1x16 ![0, 0, 0, 0, 0] (shapeCast S128x28x16x2x16 Z shapeCasts_S128x28x512_S128x28x16x2x16 : FVec Ideal S128x28x16x2x16 .f32) slices_S128x28x16x2x16_S128x28x16x1x16_0_0_0_0_0) shapeCasts_S128x28x16x1x16_S128x28x16x16
def half4_1 (Z : Z3) : FVec Ideal S128x28x16x16 .f32 :=
  shapeCast S128x28x16x16 (extractStridedSlice S128x28x16x1x16 ![0, 0, 0, 1, 0] (shapeCast S128x28x16x2x16 Z shapeCasts_S128x28x512_S128x28x16x2x16 : FVec Ideal S128x28x16x2x16 .f32) slices_S128x28x16x2x16_S128x28x16x1x16_0_0_0_1_0) shapeCasts_S128x28x16x1x16_S128x28x16x16
def sum4 (Z : Z3) : FVec Ideal S128x28x16x1x16 .f32 := broadcastInDim S128x28x16x1x16 ![0, 1, 2, 4] bcast_S128x28x16x16_S128x28x16x1x16_0_1_2_4 (addf (half4_0 Z) (half4_1 Z))
def dif4 (Z : Z3) : FVec Ideal S128x28x16x1x16 .f32 := broadcastInDim S128x28x16x1x16 ![0, 1, 2, 4] bcast_S128x28x16x16_S128x28x16x1x16_0_1_2_4 (subf (half4_0 Z) (half4_1 Z))
/-- Stage 4 of the butterfly: pairs at distance 16. -/
def st4 (Z : Z3) : Z3 := cat4 (sum4 Z) (dif4 Z)

theorem read4 (V0 : Valuation τ sig (Elt Ideal)) (Z : Z3) (h : StableHlo.upto hostOps0 V0 48 (no_index (Proc.devRef .tc main_v47)) = Z) :
    StableHlo.upto hostOps0 V0 59 (Proc.devRef .tc main_v58) = st4 Z := by
  have ha : StableHlo.upto hostOps0 V0 57 (Proc.devRef .tc main_v55) = sum4 Z := by
    after_reads_simp [h]
    rfl
  have hb : StableHlo.upto hostOps0 V0 57 (Proc.devRef .tc main_v56) = dif4 Z := by
    after_reads_simp [h]
    rfl
  after_reads_simp
  show cat4 (StableHlo.upto hostOps0 V0 57 (Proc.devRef .tc main_v55)) (StableHlo.upto hostOps0 V0 57 (Proc.devRef .tc main_v56)) = _
  rw [ha, hb]
  rfl

theorem st4_at (Z : Z3) (r : Fin 128) (a : Fin 28) (i : Fin 512) :
    st4 Z (ix3 r a i) = if i.val / 16 % 2 = 0 then Z (ix3 r a i) + Z (ix3 r a ⟨(i.val + 16) % 512, Nat.mod_lt _ (by omega)⟩)
      else Z (ix3 r a ⟨(i.val - 16) % 512, Nat.mod_lt _ (by omega)⟩) - Z (ix3 r a i) := by
  pointwise [st4, cat4, sum4, dif4, half4_0, half4_1]
  rcases Nat.mod_two_eq_zero_or_one (i.val / 16) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 16) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 16) % 512
      dsimp only
      omega
    · show _ = i.val
      dsimp only
      omega

/-- The two halves of stage 5 put back side by side. -/
def cat5 (a b : FVec Ideal S128x28x8x1x32 .f32) : Z3 :=
  shapeCast S128x28x512 (concatenate S128x28x8x2x32 3 [⟨S128x28x8x1x32, a⟩, ⟨S128x28x8x1x32, b⟩] concatenates_S128x28x8x1x32_S128x28x8x1x32_S128x28x8x2x32_d3) shapeCasts_S128x28x8x2x32_S128x28x512
def half5_0 (Z : Z3) : FVec Ideal S128x28x8x32 .f32 :=
  shapeCast S128x28x8x32 (extractStridedSlice S128x28x8x1x32 ![0, 0, 0, 0, 0] (shapeCast S128x28x8x2x32 Z shapeCasts_S128x28x512_S128x28x8x2x32 : FVec Ideal S128x28x8x2x32 .f32) slices_S128x28x8x2x32_S128x28x8x1x32_0_0_0_0_0) shapeCasts_S128x28x8x1x32_S128x28x8x32
def half5_1 (Z : Z3) : FVec Ideal S128x28x8x32 .f32 :=
  shapeCast S128x28x8x32 (extractStridedSlice S128x28x8x1x32 ![0, 0, 0, 1, 0] (shapeCast S128x28x8x2x32 Z shapeCasts_S128x28x512_S128x28x8x2x32 : FVec Ideal S128x28x8x2x32 .f32) slices_S128x28x8x2x32_S128x28x8x1x32_0_0_0_1_0) shapeCasts_S128x28x8x1x32_S128x28x8x32
def sum5 (Z : Z3) : FVec Ideal S128x28x8x1x32 .f32 := broadcastInDim S128x28x8x1x32 ![0, 1, 2, 4] bcast_S128x28x8x32_S128x28x8x1x32_0_1_2_4 (addf (half5_0 Z) (half5_1 Z))
def dif5 (Z : Z3) : FVec Ideal S128x28x8x1x32 .f32 := broadcastInDim S128x28x8x1x32 ![0, 1, 2, 4] bcast_S128x28x8x32_S128x28x8x1x32_0_1_2_4 (subf (half5_0 Z) (half5_1 Z))
/-- Stage 5 of the butterfly: pairs at distance 32. -/
def st5 (Z : Z3) : Z3 := cat5 (sum5 Z) (dif5 Z)

theorem read5 (V0 : Valuation τ sig (Elt Ideal)) (Z : Z3) (h : StableHlo.upto hostOps0 V0 59 (no_index (Proc.devRef .tc main_v58)) = Z) :
    StableHlo.upto hostOps0 V0 70 (Proc.devRef .tc main_v69) = st5 Z := by
  have ha : StableHlo.upto hostOps0 V0 68 (Proc.devRef .tc main_v66) = sum5 Z := by
    after_reads_simp [h]
    rfl
  have hb : StableHlo.upto hostOps0 V0 68 (Proc.devRef .tc main_v67) = dif5 Z := by
    after_reads_simp [h]
    rfl
  after_reads_simp
  show cat5 (StableHlo.upto hostOps0 V0 68 (Proc.devRef .tc main_v66)) (StableHlo.upto hostOps0 V0 68 (Proc.devRef .tc main_v67)) = _
  rw [ha, hb]
  rfl

theorem st5_at (Z : Z3) (r : Fin 128) (a : Fin 28) (i : Fin 512) :
    st5 Z (ix3 r a i) = if i.val / 32 % 2 = 0 then Z (ix3 r a i) + Z (ix3 r a ⟨(i.val + 32) % 512, Nat.mod_lt _ (by omega)⟩)
      else Z (ix3 r a ⟨(i.val - 32) % 512, Nat.mod_lt _ (by omega)⟩) - Z (ix3 r a i) := by
  pointwise [st5, cat5, sum5, dif5, half5_0, half5_1]
  rcases Nat.mod_two_eq_zero_or_one (i.val / 32) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 32) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 32) % 512
      dsimp only
      omega
    · show _ = i.val
      dsimp only
      omega

/-- The two halves of stage 6 put back side by side. -/
def cat6 (a b : FVec Ideal S128x28x4x1x64 .f32) : Z3 :=
  shapeCast S128x28x512 (concatenate S128x28x4x2x64 3 [⟨S128x28x4x1x64, a⟩, ⟨S128x28x4x1x64, b⟩] concatenates_S128x28x4x1x64_S128x28x4x1x64_S128x28x4x2x64_d3) shapeCasts_S128x28x4x2x64_S128x28x512
def half6_0 (Z : Z3) : FVec Ideal S128x28x4x64 .f32 :=
  shapeCast S128x28x4x64 (extractStridedSlice S128x28x4x1x64 ![0, 0, 0, 0, 0] (shapeCast S128x28x4x2x64 Z shapeCasts_S128x28x512_S128x28x4x2x64 : FVec Ideal S128x28x4x2x64 .f32) slices_S128x28x4x2x64_S128x28x4x1x64_0_0_0_0_0) shapeCasts_S128x28x4x1x64_S128x28x4x64
def half6_1 (Z : Z3) : FVec Ideal S128x28x4x64 .f32 :=
  shapeCast S128x28x4x64 (extractStridedSlice S128x28x4x1x64 ![0, 0, 0, 1, 0] (shapeCast S128x28x4x2x64 Z shapeCasts_S128x28x512_S128x28x4x2x64 : FVec Ideal S128x28x4x2x64 .f32) slices_S128x28x4x2x64_S128x28x4x1x64_0_0_0_1_0) shapeCasts_S128x28x4x1x64_S128x28x4x64
def sum6 (Z : Z3) : FVec Ideal S128x28x4x1x64 .f32 := broadcastInDim S128x28x4x1x64 ![0, 1, 2, 4] bcast_S128x28x4x64_S128x28x4x1x64_0_1_2_4 (addf (half6_0 Z) (half6_1 Z))
def dif6 (Z : Z3) : FVec Ideal S128x28x4x1x64 .f32 := broadcastInDim S128x28x4x1x64 ![0, 1, 2, 4] bcast_S128x28x4x64_S128x28x4x1x64_0_1_2_4 (subf (half6_0 Z) (half6_1 Z))
/-- Stage 6 of the butterfly: pairs at distance 64. -/
def st6 (Z : Z3) : Z3 := cat6 (sum6 Z) (dif6 Z)

theorem read6 (V0 : Valuation τ sig (Elt Ideal)) (Z : Z3) (h : StableHlo.upto hostOps0 V0 70 (no_index (Proc.devRef .tc main_v69)) = Z) :
    StableHlo.upto hostOps0 V0 81 (Proc.devRef .tc main_v80) = st6 Z := by
  have ha : StableHlo.upto hostOps0 V0 79 (Proc.devRef .tc main_v77) = sum6 Z := by
    after_reads_simp [h]
    rfl
  have hb : StableHlo.upto hostOps0 V0 79 (Proc.devRef .tc main_v78) = dif6 Z := by
    after_reads_simp [h]
    rfl
  after_reads_simp
  show cat6 (StableHlo.upto hostOps0 V0 79 (Proc.devRef .tc main_v77)) (StableHlo.upto hostOps0 V0 79 (Proc.devRef .tc main_v78)) = _
  rw [ha, hb]
  rfl

theorem st6_at (Z : Z3) (r : Fin 128) (a : Fin 28) (i : Fin 512) :
    st6 Z (ix3 r a i) = if i.val / 64 % 2 = 0 then Z (ix3 r a i) + Z (ix3 r a ⟨(i.val + 64) % 512, Nat.mod_lt _ (by omega)⟩)
      else Z (ix3 r a ⟨(i.val - 64) % 512, Nat.mod_lt _ (by omega)⟩) - Z (ix3 r a i) := by
  pointwise [st6, cat6, sum6, dif6, half6_0, half6_1]
  rcases Nat.mod_two_eq_zero_or_one (i.val / 64) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 64) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 64) % 512
      dsimp only
      omega
    · show _ = i.val
      dsimp only
      omega

/-- The two halves of stage 7 put back side by side. -/
def cat7 (a b : FVec Ideal S128x28x2x1x128 .f32) : Z3 :=
  shapeCast S128x28x512 (concatenate S128x28x2x2x128 3 [⟨S128x28x2x1x128, a⟩, ⟨S128x28x2x1x128, b⟩] concatenates_S128x28x2x1x128_S128x28x2x1x128_S128x28x2x2x128_d3) shapeCasts_S128x28x2x2x128_S128x28x512
def half7_0 (Z : Z3) : FVec Ideal S128x28x2x128 .f32 :=
  shapeCast S128x28x2x128 (extractStridedSlice S128x28x2x1x128 ![0, 0, 0, 0, 0] (shapeCast S128x28x2x2x128 Z shapeCasts_S128x28x512_S128x28x2x2x128 : FVec Ideal S128x28x2x2x128 .f32) slices_S128x28x2x2x128_S128x28x2x1x128_0_0_0_0_0) shapeCasts_S128x28x2x1x128_S128x28x2x128
def half7_1 (Z : Z3) : FVec Ideal S128x28x2x128 .f32 :=
  shapeCast S128x28x2x128 (extractStridedSlice S128x28x2x1x128 ![0, 0, 0, 1, 0] (shapeCast S128x28x2x2x128 Z shapeCasts_S128x28x512_S128x28x2x2x128 : FVec Ideal S128x28x2x2x128 .f32) slices_S128x28x2x2x128_S128x28x2x1x128_0_0_0_1_0) shapeCasts_S128x28x2x1x128_S128x28x2x128
def sum7 (Z : Z3) : FVec Ideal S128x28x2x1x128 .f32 := broadcastInDim S128x28x2x1x128 ![0, 1, 2, 4] bcast_S128x28x2x128_S128x28x2x1x128_0_1_2_4 (addf (half7_0 Z) (half7_1 Z))
def dif7 (Z : Z3) : FVec Ideal S128x28x2x1x128 .f32 := broadcastInDim S128x28x2x1x128 ![0, 1, 2, 4] bcast_S128x28x2x128_S128x28x2x1x128_0_1_2_4 (subf (half7_0 Z) (half7_1 Z))
/-- Stage 7 of the butterfly: pairs at distance 128. -/
def st7 (Z : Z3) : Z3 := cat7 (sum7 Z) (dif7 Z)

theorem read7 (V0 : Valuation τ sig (Elt Ideal)) (Z : Z3) (h : StableHlo.upto hostOps0 V0 81 (no_index (Proc.devRef .tc main_v80)) = Z) :
    StableHlo.upto hostOps0 V0 92 (Proc.devRef .tc main_v91) = st7 Z := by
  have ha : StableHlo.upto hostOps0 V0 90 (Proc.devRef .tc main_v88) = sum7 Z := by
    after_reads_simp [h]
    rfl
  have hb : StableHlo.upto hostOps0 V0 90 (Proc.devRef .tc main_v89) = dif7 Z := by
    after_reads_simp [h]
    rfl
  after_reads_simp
  show cat7 (StableHlo.upto hostOps0 V0 90 (Proc.devRef .tc main_v88)) (StableHlo.upto hostOps0 V0 90 (Proc.devRef .tc main_v89)) = _
  rw [ha, hb]
  rfl

theorem st7_at (Z : Z3) (r : Fin 128) (a : Fin 28) (i : Fin 512) :
    st7 Z (ix3 r a i) = if i.val / 128 % 2 = 0 then Z (ix3 r a i) + Z (ix3 r a ⟨(i.val + 128) % 512, Nat.mod_lt _ (by omega)⟩)
      else Z (ix3 r a ⟨(i.val - 128) % 512, Nat.mod_lt _ (by omega)⟩) - Z (ix3 r a i) := by
  pointwise [st7, cat7, sum7, dif7, half7_0, half7_1]
  rcases Nat.mod_two_eq_zero_or_one (i.val / 128) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 128) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 128) % 512
      dsimp only
      omega
    · show _ = i.val
      dsimp only
      omega

/-- The two halves of stage 8 put back side by side. -/
def cat8 (a b : FVec Ideal S128x28x1x1x256 .f32) : Z3 :=
  shapeCast S128x28x512 (concatenate S128x28x1x2x256 3 [⟨S128x28x1x1x256, a⟩, ⟨S128x28x1x1x256, b⟩] concatenates_S128x28x1x1x256_S128x28x1x1x256_S128x28x1x2x256_d3) shapeCasts_S128x28x1x2x256_S128x28x512
def half8_0 (Z : Z3) : FVec Ideal S128x28x1x256 .f32 :=
  shapeCast S128x28x1x256 (extractStridedSlice S128x28x1x1x256 ![0, 0, 0, 0, 0] (shapeCast S128x28x1x2x256 Z shapeCasts_S128x28x512_S128x28x1x2x256 : FVec Ideal S128x28x1x2x256 .f32) slices_S128x28x1x2x256_S128x28x1x1x256_0_0_0_0_0) shapeCasts_S128x28x1x1x256_S128x28x1x256
def half8_1 (Z : Z3) : FVec Ideal S128x28x1x256 .f32 :=
  shapeCast S128x28x1x256 (extractStridedSlice S128x28x1x1x256 ![0, 0, 0, 1, 0] (shapeCast S128x28x1x2x256 Z shapeCasts_S128x28x512_S128x28x1x2x256 : FVec Ideal S128x28x1x2x256 .f32) slices_S128x28x1x2x256_S128x28x1x1x256_0_0_0_1_0) shapeCasts_S128x28x1x1x256_S128x28x1x256
def sum8 (Z : Z3) : FVec Ideal S128x28x1x1x256 .f32 := broadcastInDim S128x28x1x1x256 ![0, 1, 2, 4] bcast_S128x28x1x256_S128x28x1x1x256_0_1_2_4 (addf (half8_0 Z) (half8_1 Z))
def dif8 (Z : Z3) : FVec Ideal S128x28x1x1x256 .f32 := broadcastInDim S128x28x1x1x256 ![0, 1, 2, 4] bcast_S128x28x1x256_S128x28x1x1x256_0_1_2_4 (subf (half8_0 Z) (half8_1 Z))
/-- Stage 8 of the butterfly: pairs at distance 256. -/
def st8 (Z : Z3) : Z3 := cat8 (sum8 Z) (dif8 Z)

theorem read8 (V0 : Valuation τ sig (Elt Ideal)) (Z : Z3) (h : StableHlo.upto hostOps0 V0 92 (no_index (Proc.devRef .tc main_v91)) = Z) :
    StableHlo.upto hostOps0 V0 103 (Proc.devRef .tc main_v102) = st8 Z := by
  have ha : StableHlo.upto hostOps0 V0 101 (Proc.devRef .tc main_v99) = sum8 Z := by
    after_reads_simp [h]
    rfl
  have hb : StableHlo.upto hostOps0 V0 101 (Proc.devRef .tc main_v100) = dif8 Z := by
    after_reads_simp [h]
    rfl
  after_reads_simp
  show cat8 (StableHlo.upto hostOps0 V0 101 (Proc.devRef .tc main_v99)) (StableHlo.upto hostOps0 V0 101 (Proc.devRef .tc main_v100)) = _
  rw [ha, hb]
  rfl

theorem st8_at (Z : Z3) (r : Fin 128) (a : Fin 28) (i : Fin 512) :
    st8 Z (ix3 r a i) = if i.val / 256 % 2 = 0 then Z (ix3 r a i) + Z (ix3 r a ⟨(i.val + 256) % 512, Nat.mod_lt _ (by omega)⟩)
      else Z (ix3 r a ⟨(i.val - 256) % 512, Nat.mod_lt _ (by omega)⟩) - Z (ix3 r a i) := by
  pointwise [st8, cat8, sum8, dif8, half8_0, half8_1]
  rcases Nat.mod_two_eq_zero_or_one (i.val / 256) with hb | hb
  · refine (dif_pos (by omega)).trans (Eq.trans ?_ (if_pos (by omega)).symm)
    refine congrArg₂ HAdd.hAdd (congrArg (fun t => Z (ix3 r a t)) (Fin.ext ?_)) (congrArg (fun t => Z (ix3 r a t)) (Fin.ext ?_))
    · show _ = i.val
      dsimp only
      omega
    · show _ = (i.val + 256) % 512
      dsimp only
      omega
  · refine (dif_neg (by omega)).trans (Eq.trans ?_ (if_neg (by omega)).symm)
    refine congrArg₂ HSub.hSub (congrArg (fun t => Z (ix3 r a t)) (Fin.ext ?_)) (congrArg (fun t => Z (ix3 r a t)) (Fin.ext ?_))
    · show _ = (i.val - 256) % 512
      dsimp only
      omega
    · show _ = i.val
      dsimp only
      omega

end Cert.ReferenceIdeal.Hand
-- ==== Proof.V.HostTail.lean ====
/-
The reference's host operations after the butterfly: the rotated activations, each group's ratio, the exponent, the
scale, and the clipped codes, as functions of what the butterfly leaves.
-/
module

public import proofs.«01_k».proof.Proof.V.Host

@[expose] public section

set_option maxRecDepth 65536
set_option maxHeartbeats 2000000

noncomputable section

namespace Cert.ReferenceIdeal.Hand

open Idealize.ShloMosaic Idealize.SL.Sem Cert.ReferenceIdeal Cert.ReferenceIdeal.Gen

open TcCoe

/-- The mix over the 28 rows. -/
def rMix (x : FVec Ideal S1x128x14336 .bf16) (h : FVec Ideal S28x28 .f32) : Z3 :=
  transpose S128x28x512 [1, 0, 2] (Host.dotGeneral dot_S28x28_S128x28x512_S28x128x512_1_1_0_02_n_n (some .fp32) h
    (shapeCast S128x28x512 (extf .f32 x bitsLt_bf16_f32 : FVec Ideal S1x128x14336 .f32) shapeCasts_S1x128x14336_S128x28x512)) transposes_S28x128x512_S128x28x512_1_0_2
/-- The rotated activations, scaled, in groups of 128. -/
def rG (Z : Z3) : FVec Ideal S128x112x128 .f32 :=
  shapeCast S128x112x128 (shapeCast S128x14336 (mulf Z (broadcastInDim S128x28x512 ![] bcast_S_S128x28x512 (constant S_ .f32 0x3C08D677#32 : FVec Ideal S_ .f32)) : Z3) shapeCasts_S128x28x512_S128x14336 : FVec Ideal S128x14336 .f32) shapeCasts_S128x14336_S128x112x128
/-- Each group's ratio. -/
def rR (G : FVec Ideal S128x112x128 .f32) : FVec Ideal S128x112 .f32 :=
  mulf (Host.reduce FloatOps.maximumf (Host.absf G) (constant S_ .f32 0xFF800000#32 : FVec Ideal S_ .f32) reducesTo_S128x112x128_S128x112_d2 h_S_)
    (broadcastInDim S128x112 ![] bcast_S_S128x112 (constant S_ .f32 0x3B124925#32 : FVec Ideal S_ .f32))
/-- Whether each group's ratio lies below the smallest normal number. -/
def rB (R : FVec Ideal S128x112 .f32) : IVec S128x112 1 :=
  cmpf .olt R (broadcastInDim S128x112 ![] bcast_S_S128x112 (constant S_ .f32 0x00800000#32 : FVec Ideal S_ .f32))
/-- One more than the whole part of each ratio's binary logarithm. -/
def rL (R : FVec Ideal S128x112 .f32) : FVec Ideal S128x112 .f32 :=
  addf (Host.floor (Host.divf (Host.log R) (broadcastInDim S128x112 ![] bcast_S_S128x112 (Host.log (constant S_ .f32 0x40000000#32 : FVec Ideal S_ .f32)))))
    (broadcastInDim S128x112 ![] bcast_S_S128x112 (constant S_ .f32 0x3F800000#32 : FVec Ideal S_ .f32))
/-- Each group's exponent. -/
def rE (R : FVec Ideal S128x112 .f32) : FVec Ideal S128x112 .f32 :=
  select (rB R) (broadcastInDim S128x112 ![] bcast_S_S128x112 (constant S_ .f32 0x00000000#32 : FVec Ideal S_ .f32)) (rL R)
/-- Each group's scale. -/
def rS (E : FVec Ideal S128x112 .f32) : FVec Ideal S128x112 .f32 :=
  Host.powf (broadcastInDim S128x112 ![] bcast_S_S128x112 (constant S_ .f32 0x40000000#32 : FVec Ideal S_ .f32)) E
/-- A per-group value spread over the group. -/
def rSpread (s : FVec Ideal S128x112 .f32) : FVec Ideal S128x112x128 .f32 :=
  broadcastInDim S128x112x128 ![0, 1, 2] bcast_S128x112x1_S128x112x128_0_1_2 (broadcastInDim S128x112x1 ![0, 1] bcast_S128x112_S128x112x1_0_1 s : FVec Ideal S128x112x1 .f32)
/-- The codes before narrowing, in groups. -/
def rQ (G : FVec Ideal S128x112x128 .f32) (E : FVec Ideal S128x112 .f32) : FVec Ideal S128x112x128 .f32 :=
  minimumf (broadcastInDim S128x112x128 ![] bcast_S_S128x112x128 (constant S_ .f32 0x43E00000#32 : FVec Ideal S_ .f32))
    (maximumf (broadcastInDim S128x112x128 ![] bcast_S_S128x112x128 (constant S_ .f32 0xC3E00000#32 : FVec Ideal S_ .f32))
      (mulf G (rSpread (Host.powf (broadcastInDim S128x112 ![] bcast_S_S128x112 (constant S_ .f32 0x40000000#32 : FVec Ideal S_ .f32)) (Host.negf E)))))
/-- The codes, flat. -/
def rQf (G : FVec Ideal S128x112x128 .f32) (E : FVec Ideal S128x112 .f32) : FVec Ideal S128x14336 .f32 :=
  shapeCast S128x14336 (rQ G E) shapeCasts_S128x112x128_S128x14336
/-- The scales spread over their groups, flat. -/
def rWd (s : FVec Ideal S128x112 .f32) : FVec Ideal S128x14336 .f32 :=
  shapeCast S128x14336 (rSpread s) shapeCasts_S128x112x128_S128x14336

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons a l ih => simp only [List.cons_append, StableHlo.after_cons, ih]

section
variable (m : (ℓ : Loc nD τ sig) → Buf (Elt Ideal) ℓ) (c : Dev nD)

/-- The buffers after each line of host operations. -/
def W0 : Valuation τ sig (Elt Ideal) := StableHlo.after hostOps0 (fun b => m (c, b))
def W1 : Valuation τ sig (Elt Ideal) := StableHlo.after hostOps0_1 (W0 m c)
def W2 : Valuation τ sig (Elt Ideal) := StableHlo.after hostOps0_2 (W1 m c)
def W3 : Valuation τ sig (Elt Ideal) := StableHlo.after hostOps0_3 (W2 m c)
def W4 : Valuation τ sig (Elt Ideal) := StableHlo.after hostOps0_4 (W3 m c)

theorem V_eq (b : Ref sig .tc) : V m c b = W4 m c (Proc.devRef .tc b) := by
  show StableHlo.after (List.flatten [hostOps0, hostOps0_1, hostOps0_2, hostOps0_3, hostOps0_4]) (fun b => m (c, b)) _ = _
  simp only [List.flatten_cons, List.flatten_nil, List.append_nil, after_app]
  rfl
end

section
variable (V0 : Valuation τ sig (Elt Ideal))

theorem read_v3 : StableHlo.upto hostOps0 V0 4 (Proc.devRef .tc main_v3)
    = rMix (V0 (Proc.devRef .tc main_arg0)) (V0 (Proc.devRef .tc main_arg1)) := by
  after_reads_simp
  rfl

/-- Two lines later nothing has changed the butterfly's result. -/
theorem at105 : StableHlo.upto hostOps0 V0 105 (Proc.devRef .tc main_v102) = StableHlo.upto hostOps0 V0 103 (Proc.devRef .tc main_v102) := by
  after_reads_simp

variable (Z : Z3) (h : StableHlo.upto hostOps0 V0 105 (no_index (Proc.devRef .tc main_v102)) = Z)
include h

theorem read_v106 : StableHlo.after hostOps0 V0 (Proc.devRef .tc main_v106) = rG Z := by
  after_reads_simp [h]
  rfl
theorem read_v112 : StableHlo.after hostOps0 V0 (Proc.devRef .tc main_v112) = rB (rR (rG Z)) := by
  after_reads_simp [h]
  rfl
theorem read_v119 : StableHlo.after hostOps0 V0 (Proc.devRef .tc main_v119) = rL (rR (rG Z)) := by
  after_reads_simp [h]
  rfl
omit h
theorem read_cst5 : StableHlo.after hostOps0 V0 (Proc.devRef .tc main_cst_5) = (constant S_ .f32 0x00000000#32 : FVec Ideal S_ .f32) := by
  after_reads_simp
theorem read_v120 : StableHlo.after hostOps0_1 V0 (Proc.devRef .tc main_v120)
    = select (V0 (Proc.devRef .tc main_v112)) (broadcastInDim S128x112 ![] bcast_S_S128x112 (V0 (Proc.devRef .tc main_cst_5) : FVec Ideal S_ .f32)) (V0 (Proc.devRef .tc main_v119) : FVec Ideal S128x112 .f32) := by
  after_reads_simp
  rfl
theorem read_v122 : StableHlo.after hostOps0_2 V0 (Proc.devRef .tc main_v122) = rS (V0 (Proc.devRef .tc main_v120)) := by
  after_reads_simp
  rfl
theorem read_v128 : StableHlo.after hostOps0_2 V0 (Proc.devRef .tc main_v128)
    = mulf (V0 (Proc.devRef .tc main_v106) : FVec Ideal S128x112x128 .f32) (rSpread (Host.powf (broadcastInDim S128x112 ![] bcast_S_S128x112 (constant S_ .f32 0x40000000#32 : FVec Ideal S_ .f32)) (Host.negf (V0 (Proc.devRef .tc main_v120) : FVec Ideal S128x112 .f32)))) := by
  after_reads_simp
  rfl
theorem read_cst8 : StableHlo.after hostOps0_2 V0 (Proc.devRef .tc main_cst_8) = (constant S_ .f32 0xC3E00000#32 : FVec Ideal S_ .f32) := by
  after_reads_simp
theorem read_cst9 : StableHlo.after hostOps0_2 V0 (Proc.devRef .tc main_cst_9) = (constant S_ .f32 0x43E00000#32 : FVec Ideal S_ .f32) := by
  after_reads_simp
/-- The clipping, from the two bounds and the operand. -/
def rClip (lo hi : FVec Ideal S_ .f32) (v : FVec Ideal S128x112x128 .f32) : FVec Ideal S128x112x128 .f32 :=
  minimumf (broadcastInDim S128x112x128 ![] bcast_S_S128x112x128 hi) (maximumf (broadcastInDim S128x112x128 ![] bcast_S_S128x112x128 lo) v)
theorem read_v129 : StableHlo.after hostOps0_3 V0 (Proc.devRef .tc main_v129)
    = rClip (V0 (Proc.devRef .tc main_cst_8)) (V0 (Proc.devRef .tc main_cst_9)) (V0 (Proc.devRef .tc main_v128)) := by
  after_reads_simp
  rfl
theorem read_v130 : StableHlo.after hostOps0_4 V0 (Proc.devRef .tc main_v130)
    = shapeCast S128x14336 (V0 (Proc.devRef .tc main_v129) : FVec Ideal S128x112x128 .f32) shapeCasts_S128x112x128_S128x14336 := by
  after_reads_simp
  rfl
theorem read_v133 : StableHlo.after hostOps0_4 V0 (Proc.devRef .tc main_v133) = rWd (V0 (Proc.devRef .tc main_v122)) := by
  after_reads_simp
  rfl
theorem read_v134 : StableHlo.after hostOps0_4 V0 (Proc.devRef .tc main_v134)
    = shapeCast S1x4096 (V0 (Proc.devRef .tc main_arg3) : FVec Ideal S4096 .f32) shapeCasts_S4096_S1x4096 := by
  after_reads_simp
  rfl
theorem keep_106_1 : StableHlo.after hostOps0_1 V0 (Proc.devRef .tc main_v106) = V0 (Proc.devRef .tc main_v106) := by
  after_reads_simp
theorem keep_122_3 : StableHlo.after hostOps0_3 V0 (Proc.devRef .tc main_v122) = V0 (Proc.devRef .tc main_v122) := by
  after_reads_simp
theorem keep_122_4 : StableHlo.after hostOps0_4 V0 (Proc.devRef .tc main_v122) = V0 (Proc.devRef .tc main_v122) := by
  after_reads_simp
end

section
variable (m : (ℓ : Loc nD τ sig) → Buf (Elt Ideal) ℓ) (c : Dev nD)

/-- What the butterfly leaves. -/
def rZ : Z3 := st8 (st7 (st6 (st5 (st4 (st3 (st2 (st1 (st0 (rMix (m ((c : Thread nD τ).loc main_arg0)) (m ((c : Thread nD τ).loc main_arg1)))))))))))

theorem read_rZ : StableHlo.upto hostOps0 (fun b => m (c, b)) 105 (Proc.devRef .tc main_v102) = rZ m c :=
  (at105 _).trans <| read8 _ _ (read7 _ _ (read6 _ _ (read5 _ _ (read4 _ _ (read3 _ _ (read2 _ _ (read1 _ _ (read0 _ _ (read_v3 _)))))))))

theorem V_v122 : V m c main_v122 = rS (rE (rR (rG (rZ m c)))) := by
  rw [V_eq, W4, keep_122_4, W3, keep_122_3, W2, read_v122, W1, read_v120, W0, read_v112 _ _ (read_rZ m c), read_v119 _ _ (read_rZ m c), read_cst5]
  rfl

theorem V_v133 : V m c main_v133 = rWd (rS (rE (rR (rG (rZ m c))))) := by
  rw [V_eq, W4, read_v133, W3, keep_122_3, W2, read_v122, W1, read_v120, W0, read_v112 _ _ (read_rZ m c), read_v119 _ _ (read_rZ m c), read_cst5]
  rfl

theorem V_v130 : V m c main_v130 = rQf (rG (rZ m c)) (rE (rR (rG (rZ m c)))) := by
  rw [V_eq, W4, read_v130, W3, read_v129, W2, read_cst8, read_cst9, read_v128, W1, keep_106_1, read_v120, W0, read_v106 _ _ (read_rZ m c), read_v112 _ _ (read_rZ m c), read_v119 _ _ (read_rZ m c), read_cst5]
  rfl
end

end Cert.ReferenceIdeal.Hand
-- ==== Proof.V.HostVal.lean ====
/-
The reference's host values, at every index, as real arithmetic.
-/
module

public import proofs.«01_k».proof.Proof.V.HostTail
public import proofs.«01_k».proof.Proof.V.KPoint

@[expose] public section

set_option maxRecDepth 65536
set_option maxHeartbeats 300000

noncomputable section

namespace Cert.ReferenceIdeal.Hand

open Cert.ReferenceIdeal Cert.ReferenceIdeal.Gen Idealize.ShloMosaic Cert.V Cert.KernelIdeal.Hand

theorem st0_coe (Z : Z3) (g : ℕ → ℝ) (r : Fin 128) (b : Fin 28) (hZ : ∀ i : Fin 512, Z (ix3 r b i) = ((g i.val : ℝ) : EReal)) (i : Fin 512) :
    st0 Z (ix3 r b i) = ((stg 0 g i.val : ℝ) : EReal) := by
  have hi := i.isLt
  rw [st0_at]
  unfold stg
  simp only [hZ]
  split
  · rename_i h
    rw [if_pos (by simpa using h), show (i.val + 1) % 512 = i.val + 2 ^ 0 by omega, ← EReal.coe_add]
  · rename_i h
    rw [if_neg (by simpa using h), show (i.val - 1) % 512 = i.val - 2 ^ 0 by omega, ← EReal.coe_sub]

theorem st1_coe (Z : Z3) (g : ℕ → ℝ) (r : Fin 128) (b : Fin 28) (hZ : ∀ i : Fin 512, Z (ix3 r b i) = ((g i.val : ℝ) : EReal)) (i : Fin 512) :
    st1 Z (ix3 r b i) = ((stg 1 g i.val : ℝ) : EReal) := by
  have hi := i.isLt
  rw [st1_at]
  unfold stg
  simp only [hZ]
  split
  · rename_i h
    rw [if_pos (by simpa using h), show (i.val + 2) % 512 = i.val + 2 ^ 1 by omega, ← EReal.coe_add]
  · rename_i h
    rw [if_neg (by simpa using h), show (i.val - 2) % 512 = i.val - 2 ^ 1 by omega, ← EReal.coe_sub]

theorem st2_coe (Z : Z3) (g : ℕ → ℝ) (r : Fin 128) (b : Fin 28) (hZ : ∀ i : Fin 512, Z (ix3 r b i) = ((g i.val : ℝ) : EReal)) (i : Fin 512) :
    st2 Z (ix3 r b i) = ((stg 2 g i.val : ℝ) : EReal) := by
  have hi := i.isLt
  rw [st2_at]
  unfold stg
  simp only [hZ]
  split
  · rename_i h
    rw [if_pos (by simpa using h), show (i.val + 4) % 512 = i.val + 2 ^ 2 by omega, ← EReal.coe_add]
  · rename_i h
    rw [if_neg (by simpa using h), show (i.val - 4) % 512 = i.val - 2 ^ 2 by omega, ← EReal.coe_sub]

theorem st3_coe (Z : Z3) (g : ℕ → ℝ) (r : Fin 128) (b : Fin 28) (hZ : ∀ i : Fin 512, Z (ix3 r b i) = ((g i.val : ℝ) : EReal)) (i : Fin 512) :
    st3 Z (ix3 r b i) = ((stg 3 g i.val : ℝ) : EReal) := by
  have hi := i.isLt
  rw [st3_at]
  unfold stg
  simp only [hZ]
  split
  · rename_i h
    rw [if_pos (by simpa using h), show (i.val + 8) % 512 = i.val + 2 ^ 3 by omega, ← EReal.coe_add]
  · rename_i h
    rw [if_neg (by simpa using h), show (i.val - 8) % 512 = i.val - 2 ^ 3 by omega, ← EReal.coe_sub]

theorem st4_coe (Z : Z3) (g : ℕ → ℝ) (r : Fin 128) (b : Fin 28) (hZ : ∀ i : Fin 512, Z (ix3 r b i) = ((g i.val : ℝ) : EReal)) (i : Fin 512) :
    st4 Z (ix3 r b i) = ((stg 4 g i.val : ℝ) : EReal) := by
  have hi := i.isLt
  rw [st4_at]
  unfold stg
  simp only [hZ]
  split
  · rename_i h
    rw [if_pos (by simpa using h), show (i.val + 16) % 512 = i.val + 2 ^ 4 by omega, ← EReal.coe_add]
  · rename_i h
    rw [if_neg (by simpa using h), show (i.val - 16) % 512 = i.val - 2 ^ 4 by omega, ← EReal.coe_sub]

theorem st5_coe (Z : Z3) (g : ℕ → ℝ) (r : Fin 128) (b : Fin 28) (hZ : ∀ i : Fin 512, Z (ix3 r b i) = ((g i.val : ℝ) : EReal)) (i : Fin 512) :
    st5 Z (ix3 r b i) = ((stg 5 g i.val : ℝ) : EReal) := by
  have hi := i.isLt
  rw [st5_at]
  unfold stg
  simp only [hZ]
  split
  · rename_i h
    rw [if_pos (by simpa using h), show (i.val + 32) % 512 = i.val + 2 ^ 5 by omega, ← EReal.coe_add]
  · rename_i h
    rw [if_neg (by simpa using h), show (i.val - 32) % 512 = i.val - 2 ^ 5 by omega, ← EReal.coe_sub]

theorem st6_coe (Z : Z3) (g : ℕ → ℝ) (r : Fin 128) (b : Fin 28) (hZ : ∀ i : Fin 512, Z (ix3 r b i) = ((g i.val : ℝ) : EReal)) (i : Fin 512) :
    st6 Z (ix3 r b i) = ((stg 6 g i.val : ℝ) : EReal) := by
  have hi := i.isLt
  rw [st6_at]
  unfold stg
  simp only [hZ]
  split
  · rename_i h
    rw [if_pos (by simpa using h), show (i.val + 64) % 512 = i.val + 2 ^ 6 by omega, ← EReal.coe_add]
  · rename_i h
    rw [if_neg (by simpa using h), show (i.val - 64) % 512 = i.val - 2 ^ 6 by omega, ← EReal.coe_sub]

theorem st7_coe (Z : Z3) (g : ℕ → ℝ) (r : Fin 128) (b : Fin 28) (hZ : ∀ i : Fin 512, Z (ix3 r b i) = ((g i.val : ℝ) : EReal)) (i : Fin 512) :
    st7 Z (ix3 r b i) = ((stg 7 g i.val : ℝ) : EReal) := by
  have hi := i.isLt
  rw [st7_at]
  unfold stg
  simp only [hZ]
  split
  · rename_i h
    rw [if_pos (by simpa using h), show (i.val + 128) % 512 = i.val + 2 ^ 7 by omega, ← EReal.coe_add]
  · rename_i h
    rw [if_neg (by simpa using h), show (i.val - 128) % 512 = i.val - 2 ^ 7 by omega, ← EReal.coe_sub]

theorem st8_coe (Z : Z3) (g : ℕ → ℝ) (r : Fin 128) (b : Fin 28) (hZ : ∀ i : Fin 512, Z (ix3 r b i) = ((g i.val : ℝ) : EReal)) (i : Fin 512) :
    st8 Z (ix3 r b i) = ((stg 8 g i.val : ℝ) : EReal) := by
  have hi := i.isLt
  rw [st8_at]
  unfold stg
  simp only [hZ]
  split
  · rename_i h
    rw [if_pos (by simpa using h), show (i.val + 256) % 512 = i.val + 2 ^ 8 by omega, ← EReal.coe_add]
  · rename_i h
    rw [if_neg (by simpa using h), show (i.val - 256) % 512 = i.val - 2 ^ 8 by omega, ← EReal.coe_sub]

/-- All nine steps. -/
theorem st_all (Z : Z3) (g : ℕ → ℝ) (r : Fin 128) (b : Fin 28) (hZ : ∀ i : Fin 512, Z (ix3 r b i) = ((g i.val : ℝ) : EReal)) (i : Fin 512) :
    st8 (st7 (st6 (st5 (st4 (st3 (st2 (st1 (st0 Z)))))))) (ix3 r b i) = ((stgs 9 g i.val : ℝ) : EReal) :=
  st8_coe _ _ r b (st7_coe _ _ r b (st6_coe _ _ r b (st5_coe _ _ r b (st4_coe _ _ r b (st3_coe _ _ r b (st2_coe _ _ r b (st1_coe _ _ r b (st0_coe _ _ r b hZ)))))))) i

theorem rMix_at (x : FVec Ideal S1x128x14336 .bf16) (h : FVec Ideal S28x28 .f32) (r : Fin 128) (b : Fin 28) (i : Fin 512) :
    rMix x h (ix3 r b i) = ∑ j : Fin 28, h (ix2 b j) * x (ix3 (0 : Fin 1) r (⟨512 * j.val + i.val, by omega⟩ : Fin 14336)) := by
  pointwise [rMix]
  refine Finset.sum_congr rfl fun j _ => ?_
  congr 3
  apply Fin.ext
  show j.val * 512 + i.val = 512 * j.val + i.val
  omega

theorem rG_at (Z : Z3) (g : ℕ → ℝ) (r : Fin 128) (n : Fin 112)
    (hZ : ∀ i : Fin 512, Z (ix3 r (⟨n.val / 4, by omega⟩ : Fin 28) i) = ((stgs 9 g i.val : ℝ) : EReal)) (t : Fin 128) :
    rG Z (ix3 r n t) = ((yG g (n.val % 4 * 128 + t.val) : ℝ) : EReal) := by
  pointwise [rG]
  rw [hZ, cInv_eq, ← EReal.coe_mul]
  rfl

theorem max_fun : (FloatOps.maximumf : Ideal .f32 → Ideal .f32 → Ideal .f32) = (max : EReal → EReal → EReal) := rfl

theorem reduces3 : S128x112x128.Reduces [2] S128x112 := by decide

theorem lift3 (hr : S128x112x128.Reduces [2] S128x112) (r : Fin 128) (n : Fin 112) (x : Fin 128) : hr.lift (ix2 r n) x = ix3 r n x := by
  funext a
  apply Fin.ext
  fin_cases a <;> rfl

theorem max_last (X : S128x112x128.Idx → EReal) (i0 : S_.Idx → EReal) (r : Fin 128) (n : Fin 112) :
    Host.reduce (max : EReal → EReal → EReal) X i0 reducesTo_S128x112x128_S128x112_d2 h_S_ (ix2 r n)
      = Finset.fold max (i0 (Shape.Idx.first h_S_)) (fun x : Fin 128 => X (ix3 r n x)) Finset.univ := by
  rw [Host.reduce_eq_fold_single max X i0 reducesTo_S128x112x128_S128x112_d2 reduces3 h_S_ (ix2 r n)]
  have e : X ∘ reduces3.lift (ix2 r n) = fun x : Fin 128 => X (ix3 r n x) := by
    funext x
    exact congrArg X (lift3 _ r n x)
  rw [e]
  rfl

theorem rMax_at (G : FVec Ideal S128x112x128 .f32) (y : Fin 128 → ℝ) (r : Fin 128) (n : Fin 112)
    (hG : ∀ t : Fin 128, G (ix3 r n t) = ((y t : ℝ) : EReal)) :
    Host.reduce FloatOps.maximumf (Host.absf G) (constant S_ .f32 0xFF800000#32 : FVec Ideal S_ .f32) reducesTo_S128x112x128_S128x112_d2 h_S_ (ix2 r n) = ((gMax y : ℝ) : EReal) := by
  rw [max_fun]
  refine (max_last _ _ r n).trans ?_
  rw [← fold_max]
  have e : (fun x : Fin 128 => (Host.absf G) (ix3 r n x)) = fun x : Fin 128 => ((|y x| : ℝ) : EReal) := by
    funext x
    refine Eq.trans ?_ (absf_coe _)
    rw [← hG]
    rfl
  rw [e]
  have e2 : (constant S_ .f32 0xFF800000#32 : FVec Ideal S_ .f32) (Shape.Idx.first h_S_) = (⊥ : EReal) := ninf_eq
  rw [e2]

theorem mulc_at (A : FVec Ideal S128x112 .f32) (r : Fin 128) (n : Fin 112) :
    mulf A (broadcastInDim S128x112 ![] bcast_S_S128x112 (constant S_ .f32 0x3B124925#32 : FVec Ideal S_ .f32)) (ix2 r n) = A (ix2 r n) * Ideal.ofBits .f32 991054117#32 := by
  pointwise []

theorem rR_at (G : FVec Ideal S128x112x128 .f32) (f : ℕ → ℝ) (o : ℕ) (r : Fin 128) (n : Fin 112)
    (hG : ∀ t : Fin 128, G (ix3 r n t) = ((yG f (o + t.val) : ℝ) : EReal)) :
    rR G (ix2 r n) = ((rho f o : ℝ) : EReal) := by
  have h1 := rMax_at G _ r n hG
  unfold rR
  refine (mulc_at _ r n).trans ?_
  refine (congrArg (· * Ideal.ofBits .f32 991054117#32) h1).trans ?_
  show _ * _ = _
  rw [c448_eq, ← EReal.coe_mul]
  rfl

theorem two_eq : Ideal.ofBits .f32 1073741824#32 = ((2 : ℝ) : EReal) := by
  simp [Ideal.ofBits, Ideal.ieee]
  try rw [← EReal.coe_mul]
  try norm_num

theorem small_eq : Ideal.ofBits .f32 8388608#32 = (((2:ℝ) ^ (-126 : ℤ) : ℝ) : EReal) := by
  simp [Ideal.ofBits, Ideal.ieee]
  try rw [← EReal.coe_mul]
  try norm_num

theorem rE_at (R : FVec Ideal S128x112 .f32) (v : ℝ) (r : Fin 128) (n : Fin 112) (hR : R (ix2 r n) = ((v : ℝ) : EReal)) :
    rE R (ix2 r n) = (((ex v : ℤ) : ℝ) : EReal) := by
  pointwise [rE, rB, rL]
  rw [hR, two_eq, small_eq]
  unfold ex
  by_cases h : v < (2:ℝ) ^ (-126 : ℤ)
  · rw [if_pos (EReal.coe_lt_coe_iff.2 h), if_pos h]
    simp
  · rw [if_neg (fun h' => h (EReal.coe_lt_coe_iff.1 h')), if_neg h]
    have hv : 0 < v := lt_of_lt_of_le (by positivity) (not_lt.1 h)
    have e1 : Ideal.log ((v : ℝ) : EReal) = ((Real.log v : ℝ) : EReal) := if_neg (not_le.2 hv)
    have e2 : Ideal.log ((2 : ℝ) : EReal) = ((Real.log 2 : ℝ) : EReal) := if_neg (by norm_num)
    have hl : (Real.log 2) ≠ 0 := (Real.log_pos (by norm_num)).ne'
    have e3 : Ideal.div ((Real.log v : ℝ) : EReal) ((Real.log 2 : ℝ) : EReal) = ((Real.log v / Real.log 2 : ℝ) : EReal) := by
      unfold Ideal.div
      rw [if_neg (by exact_mod_cast hl), ← EReal.coe_inv, ← EReal.coe_mul]
      rfl
    rw [e1, e2, e3]
    show (((⌊Real.log v / Real.log 2⌋ : ℤ) : ℝ) : EReal) + 1 = _
    push_cast
    rfl

theorem pow_two (e : ℤ) : Ideal.pow (Ideal.ofBits .f32 1073741824#32) ((e : ℝ) : EReal) = (((2:ℝ) ^ e : ℝ) : EReal) := by
  rw [two_eq]
  show ((Real.rpow 2 (e : ℝ) : ℝ) : EReal) = _
  exact congrArg _ (Real.rpow_intCast 2 e)

theorem rS_at (E : FVec Ideal S128x112 .f32) (e : ℤ) (r : Fin 128) (n : Fin 112) (hE : E (ix2 r n) = ((e : ℝ) : EReal)) :
    rS E (ix2 r n) = (((2:ℝ) ^ e : ℝ) : EReal) := by
  pointwise [rS]
  rw [hE]
  exact pow_two e

theorem rQ_at (G : FVec Ideal S128x112x128 .f32) (E : FVec Ideal S128x112 .f32) (a v : ℝ) (r : Fin 128) (n : Fin 112) (t : Fin 128)
    (hG : G (ix3 r n t) = ((a : ℝ) : EReal)) (hE : E (ix2 r n) = (((ex v : ℤ) : ℝ) : EReal)) :
    rQ G E (ix3 r n t) = code a v := by
  pointwise [rQ, rSpread]
  have e : -(((ex v : ℤ) : ℝ) : EReal) = (((-ex v : ℤ) : ℝ) : EReal) := by push_cast; rfl
  rw [hG, hE, e, pow_two, ← EReal.coe_mul]
  rfl

theorem rQf_flat (G : FVec Ideal S128x112x128 .f32) (E : FVec Ideal S128x112 .f32) (r : Fin 128) (k : Fin 14336) :
    rQf G E (ix2 r k) = rQ G E (ix3 r (⟨k.val / 128, by omega⟩ : Fin 112) (⟨k.val % 128, by omega⟩ : Fin 128)) := by
  pointwise [rQf]

theorem rWd_at (s : FVec Ideal S128x112 .f32) (r : Fin 128) (k : Fin 14336) :
    rWd s (ix2 r k) = s (ix2 r (⟨k.val / 128, by omega⟩ : Fin 112)) := by
  pointwise [rWd, rSpread]

/-- The reference's three host values of blocks whose rows are the real rows `f`, after all nine steps. -/
theorem ref_vals (Z0 : Z3) (f : Fin 28 → Fin 128 → ℕ → ℝ)
    (hf : ∀ b r (i : Fin 512), Z0 (ix3 r b i) = ((f b r i.val : ℝ) : EReal))
    (r : Fin 128) (n : Fin 112) (b : Fin 28) (hb : b.val = n.val / 4) (Z : Z3) (hZ0 : Z = st8 (st7 (st6 (st5 (st4 (st3 (st2 (st1 (st0 Z0))))))))) :
    (rS (rE (rR (rG Z))) (ix2 r n) = (((2:ℝ) ^ ex (rho (f b r) (n.val % 4 * 128)) : ℝ) : EReal))
    ∧ ∀ t : Fin 128, rQ (rG Z) (rE (rR (rG Z))) (ix3 r n t) = code (yG (f b r) (n.val % 4 * 128 + t.val)) (rho (f b r) (n.val % 4 * 128)) := by
  have hb' : (⟨n.val / 4, by omega⟩ : Fin 28) = b := Fin.ext hb.symm
  have hZ : ∀ i : Fin 512, Z (ix3 r (⟨n.val / 4, by omega⟩ : Fin 28) i) = ((stgs 9 (f b r) i.val : ℝ) : EReal) := by
    intro i
    rw [hb', hZ0]
    exact st_all _ _ r _ (fun i => hf _ r i) i
  have hG := rG_at _ _ r n hZ
  have hE := rE_at _ _ r n (rR_at _ _ _ r n hG)
  exact ⟨rS_at _ _ r n hE, fun t => rQ_at _ _ _ _ r n t (hG t) hE⟩

end Cert.ReferenceIdeal.Hand
-- ==== Proof.V.RefOut.lean ====
/-
The reference's three results as functions of its host values.
-/
module

public import proofs.«01_k».proof.Proof.Gen.ReferenceIdeal.Value
public import proofs.«01_k».proof.Proof.V.HostVal
public import proofs.«01_k».proof.Proof.V.Common

@[expose] public section

set_option maxRecDepth 65536
set_option maxHeartbeats 400000

noncomputable section

namespace Cert.ReferenceIdeal.Hand

open Idealize.ShloMosaic Idealize.SL.Sem Cert.ReferenceIdeal Cert.ReferenceIdeal.Gen Cert.ReferenceIdeal.Value Cert.V

open TcCoe

section
variable (m : (ℓ : Loc nD τ sig) → Buf (Elt Ideal) ℓ) (c : Dev nD)

theorem t0 : 0 < cfg0.N := by decide

theorem rd0 (A : FVec Ideal S128x14336 .f32) : ((cfg0.win 0).blk ⟨0, t0⟩).view.read (Elt Ideal) A = A := by
  funext y
  show A (((cfg0.win 0).blk ⟨0, t0⟩).view.emb y) = A y
  refine congrArg A ?_
  funext a
  apply Fin.ext
  fin_cases a
  · show 0 + 1 * (y 0).val = (y 0).val
    omega
  · show 0 + 1 * (y 1).val = (y 1).val
    omega

theorem rd1 (A : FVec Ideal S128x112 .f32) : ((cfg0.win 1).blk ⟨0, t0⟩).view.read (Elt Ideal) A = A := by
  funext y
  show A (((cfg0.win 1).blk ⟨0, t0⟩).view.emb y) = A y
  refine congrArg A ?_
  funext a
  apply Fin.ext
  fin_cases a
  · show 0 + 1 * (y 0).val = (y 0).val
    omega
  · show 0 + 1 * (y 1).val = (y 1).val
    omega

theorem rd2 (A : FVec Ideal S128x14336 .f32) : ((cfg0.win 2).blk ⟨0, t0⟩).view.read (Elt Ideal) A = A := by
  funext y
  show A (((cfg0.win 2).blk ⟨0, t0⟩).view.emb y) = A y
  refine congrArg A ?_
  funext a
  apply Fin.ext
  fin_cases a
  · show 0 + 1 * (y 0).val = (y 0).val
    omega
  · show 0 + 1 * (y 1).val = (y 1).val
    omega

theorem rd3 (A : FVec Ideal S14336x4096 .fp8e4m3) : ((cfg0.win 3).blk ⟨0, t0⟩).view.read (Elt Ideal) A = A := by
  funext y
  show A (((cfg0.win 3).blk ⟨0, t0⟩).view.emb y) = A y
  refine congrArg A ?_
  funext a
  apply Fin.ext
  fin_cases a
  · show 0 + 1 * (y 0).val = (y 0).val
    omega
  · show 0 + 1 * (y 1).val = (y 1).val
    omega

theorem rd4 (A : FVec Ideal S1x4096 .f32) : ((cfg0.win 4).blk ⟨0, t0⟩).view.read (Elt Ideal) A = A := by
  funext y
  show A (((cfg0.win 4).blk ⟨0, t0⟩).view.emb y) = A y
  refine congrArg A ?_
  funext a
  apply Fin.ext
  fin_cases a
  · show 0 + 1 * (y 0).val = (y 0).val
    omega
  · show 0 + 1 * (y 1).val = (y 1).val
    omega

theorem iblk0 : iblk m c 0 ⟨0, t0⟩ = V m c main_v130 := rd0 (V m c main_v130)

theorem iblk1 : iblk m c 1 ⟨0, t0⟩ = V m c main_v122 := rd1 (V m c main_v122)

theorem iblk2 : iblk m c 2 ⟨0, t0⟩ = V m c main_v133 := rd2 (V m c main_v133)

theorem iblk3 : iblk m c 3 ⟨0, t0⟩ = V m c main_arg2 := rd3 (V m c main_arg2)

theorem iblk4 : iblk m c 4 ⟨0, t0⟩ = V m c main_v134 := rd4 (V m c main_v134)

theorem arr5 (y : S128x4096.Idx) : (dats m 0 c).arrAt 5 cfg0.N y = out0_5 (V m c main_v130) (V m c main_v122) (V m c main_v133) (V m c main_arg2) (V m c main_v134) y := by
  have h := congrFun (blocks5 m c ⟨0, t0⟩ rfl) y
  rw [flushed5] at h
  have e : ((cfg0.win 5).blk ⟨0, t0⟩).view.emb y = y := by
    funext a
    apply Fin.ext
    fin_cases a
    · show 0 + 1 * (y 0).val = (y 0).val
      omega
    · show 0 + 1 * (y 1).val = (y 1).val
      omega
  rw [← iblk0, ← iblk1, ← iblk2, ← iblk3, ← iblk4]
  exact Eq.trans (congrArg ((dats m 0 c).arrAt 5 cfg0.N) e.symm) h

theorem arr6 (y : S128x14336.Idx) : (dats m 0 c).arrAt 6 cfg0.N y = out0_6 (V m c main_v130) (V m c main_v122) (V m c main_v133) (V m c main_arg2) (V m c main_v134) y := by
  have h := congrFun (blocks6 m c ⟨0, t0⟩ rfl) y
  rw [flushed6] at h
  have e : ((cfg0.win 6).blk ⟨0, t0⟩).view.emb y = y := by
    funext a
    apply Fin.ext
    fin_cases a
    · show 0 + 1 * (y 0).val = (y 0).val
      omega
    · show 0 + 1 * (y 1).val = (y 1).val
      omega
  rw [← iblk0, ← iblk1, ← iblk2, ← iblk3, ← iblk4]
  exact Eq.trans (congrArg ((dats m 0 c).arrAt 6 cfg0.N) e.symm) h

theorem arr7 (y : S128x112.Idx) : (dats m 0 c).arrAt 7 cfg0.N y = out0_7 (V m c main_v130) (V m c main_v122) (V m c main_v133) (V m c main_arg2) (V m c main_v134) y := by
  have h := congrFun (blocks7 m c ⟨0, t0⟩ rfl) y
  rw [flushed7] at h
  have e : ((cfg0.win 7).blk ⟨0, t0⟩).view.emb y = y := by
    funext a
    apply Fin.ext
    fin_cases a
    · show 0 + 1 * (y 0).val = (y 0).val
      omega
    · show 0 + 1 * (y 1).val = (y 1).val
      omega
  rw [← iblk0, ← iblk1, ← iblk2, ← iblk3, ← iblk4]
  exact Eq.trans (congrArg ((dats m 0 c).arrAt 7 cfg0.N) e.symm) h

theorem keep_arg3_4 (V0 : Valuation τ sig (Elt Ideal)) : StableHlo.after hostOps0_4 V0 (Proc.devRef .tc main_arg3) = V0 (Proc.devRef .tc main_arg3) := by
  after_reads_simp

theorem V_v134 : V m c main_v134 = shapeCast S1x4096 (m ((c : Thread nD τ).loc main_arg3) : FVec Ideal S4096 .f32) shapeCasts_S4096_S1x4096 := by
  rw [← V_main_arg3 m c, V_eq, V_eq, W4, read_v134, keep_arg3_4]
end

theorem z00 : (![0, 0] : Fin 2 → ℕ) = fun _ => 0 := by funext a; fin_cases a <;> rfl

theorem o6 (x0 : Vec Ideal S128x14336 .f32) (x1 : Vec Ideal S128x112 .f32) (x2 : Vec Ideal S128x14336 .f32) (x3 : Vec Ideal S14336x4096 .fp8e4m3) (x4 : Vec Ideal S1x4096 .f32) (r : Fin 128) (k : Fin 14336) :
    out0_6 x0 x1 x2 x3 x4 (ix2 r k) = x0 (ix2 r k) := by
  unfold out0_6
  rw [View.canon_cons_unit_zero (Val := Elt Ideal) (S := S128x14336) z00, View.ld_unit_zero z00]
  pointwise [k0_pay1]

theorem o7 (x0 : Vec Ideal S128x14336 .f32) (x1 : Vec Ideal S128x112 .f32) (x2 : Vec Ideal S128x14336 .f32) (x3 : Vec Ideal S14336x4096 .fp8e4m3) (x4 : Vec Ideal S1x4096 .f32) (r : Fin 128) (k : Fin 112) :
    out0_7 x0 x1 x2 x3 x4 (ix2 r k) = x1 (ix2 r k) := by
  unfold out0_7
  rw [View.canon_cons_unit_zero (Val := Elt Ideal) (S := S128x112) z00, View.ld_unit_zero z00]
  pointwise [k0_pay2]

theorem o5 (x0 : Vec Ideal S128x14336 .f32) (x1 : Vec Ideal S128x112 .f32) (x2 : Vec Ideal S128x14336 .f32) (x3 : Vec Ideal S14336x4096 .fp8e4m3) (x4 : Vec Ideal S1x4096 .f32) (r : Fin 128) (j : Fin 4096) :
    out0_5 x0 x1 x2 x3 x4 (ix2 r j) = (∑ k : Fin 14336, x0 (ix2 r k) * x2 (ix2 r k) * x3 (ix2 k j)) * x4 (ix2 (0 : Fin 1) j) := by
  unfold out0_5
  rw [View.canon_cons_unit_zero (Val := Elt Ideal) (S := S128x4096) z00, View.ld_unit_zero z00, View.ld_unit_zero z00, View.ld_unit_zero z00, View.ld_unit_zero z00]
  pointwise [k0_pay3, k0_pay1]

section
variable (m : (ℓ : Loc nD τ sig) → Buf (Elt Ideal) ℓ) (c : Dev nD) (f : Fin 28 → Fin 128 → ℕ → ℝ)
  (hf : ∀ b r (i : Fin 512), rMix (m ((c : Thread nD τ).loc main_arg0)) (m ((c : Thread nD τ).loc main_arg1)) (ix3 r b i) = ((f b r i.val : ℝ) : EReal))

include hf in
theorem code_eq (r : Fin 128) (k : Fin 14336) : V m c main_v130 (ix2 r k) = codeAt f r k.val (blk (k.val / 512)) := by
  have h := (ref_vals _ f hf r (⟨k.val / 128, by omega⟩ : Fin 112) (blk (k.val / 512)) (by show k.val / 512 % 28 = k.val / 128 / 4; omega) (rZ m c) rfl).2 (⟨k.val % 128, by omega⟩ : Fin 128)
  rw [V_v130, rQf_flat, h]
  unfold codeAt
  have hk := k.isLt
  have e1 : k.val / 128 % 4 * 128 = k.val % 512 / 128 * 128 := by omega
  have e2 : k.val % 512 / 128 * 128 + k.val % 128 = k.val % 512 := by omega
  show Cert.KernelIdeal.Hand.code (Cert.KernelIdeal.Hand.yG _ (k.val / 128 % 4 * 128 + k.val % 128)) (Cert.KernelIdeal.Hand.rho _ (k.val / 128 % 4 * 128)) = _
  rw [e1, e2]

include hf in
theorem scale_eq (r : Fin 128) (n : Fin 112) : rS (rE (rR (rG (rZ m c)))) (ix2 r n) = scaleAt f r n.val (blk (n.val / 4)) :=
  (ref_vals _ f hf r n (blk (n.val / 4)) (by show n.val / 4 % 28 = n.val / 4; omega) (rZ m c) rfl).1

include hf in
theorem res6 : (dats m 0 c).arrAt 6 cfg0.N = codeV f := by
  funext y
  obtain ⟨r, k, rfl⟩ : ∃ (r : Fin 128) (k : Fin 14336), y = ix2 r k := ⟨y 0, y 1, by funext a; fin_cases a <;> rfl⟩
  rw [arr6, o6, code_eq m c f hf]
  rfl

include hf in
theorem res7 : (dats m 0 c).arrAt 7 cfg0.N = scaleV f := by
  funext y
  obtain ⟨r, k, rfl⟩ : ∃ (r : Fin 128) (k : Fin 112), y = ix2 r k := ⟨y 0, y 1, by funext a; fin_cases a <;> rfl⟩
  rw [arr7, o7, V_v122, scale_eq m c f hf]
  rfl

include hf in
theorem res5 : (dats m 0 c).arrAt 5 cfg0.N = outV f (m ((c : Thread nD τ).loc main_arg2)) (fun j => (m ((c : Thread nD τ).loc main_arg3) : FVec Ideal S4096 .f32) (ix1 j)) := by
  funext y
  obtain ⟨r, j, rfl⟩ : ∃ (r : Fin 128) (j : Fin 4096), y = ix2 r j := ⟨y 0, y 1, by funext a; fin_cases a <;> rfl⟩
  rw [arr5, o5, V_v133, V_v134, V_main_arg2]
  have hs : shapeCast S1x4096 (m ((c : Thread nD τ).loc main_arg3) : FVec Ideal S4096 .f32) shapeCasts_S4096_S1x4096 (ix2 (0 : Fin 1) j) = (m ((c : Thread nD τ).loc main_arg3) : FVec Ideal S4096 .f32) (ix1 j) := by
    pointwise []
  rw [hs]
  unfold outV
  refine congrArg₂ _ ?_ rfl
  rw [← Fin.sum_univ_eq_sum_range]
  refine Finset.sum_congr rfl fun k _ => ?_
  rw [code_eq m c f hf, rWd_at, scale_eq m c f hf]
  unfold term csAt
  rw [dif_pos k.isLt]
  have e : k.val / 128 / 4 = k.val / 512 := by omega
  show _ * scaleAt f r (k.val / 128) (blk (k.val / 128 / 4)) * _ = _
  rw [e]
  rfl
end

end Cert.ReferenceIdeal.Hand
-- ==== Proof.V.Alg.lean ====
/-
The kernel's three results are the reference's: both run to the same closed forms of the arguments.
-/
module

public import proofs.«01_k».proof.Defs
public import proofs.«01_k».proof.Proof.V.Bound
public import proofs.«01_k».proof.Proof.V.FrV
public import proofs.«01_k».proof.Proof.V.KFz
public import proofs.«01_k».proof.Proof.V.KRes
public import proofs.«01_k».proof.Proof.V.RefOut

@[expose] public section

set_option maxRecDepth 65536
set_option maxHeartbeats 400000

noncomputable section

namespace Cert.Alg

open Idealize.ShloMosaic Idealize.SL.Sem Cert.V
open TcCoe

/-- The rotated activations as real numbers: block, row, place. -/
def fR (X : Fin 128 → ℕ → ℝ) (H : Fin 28 → Fin 28 → ℝ) (b : Fin 28) (r : Fin 128) (i : ℕ) : ℝ := ∑ j : Fin 28, H b j * X r (512 * j.val + i)

theorem fR_le (X : Fin 128 → ℕ → ℝ) (H : Fin 28 → Fin 28 → ℝ) (hX : ∀ r i, |X r i| ≤ (2 : ℝ) ^ (60 : ℤ)) (hH : ∀ a b, |H a b| ≤ (2 : ℝ) ^ (48 : ℤ))
    (b : Fin 28) (r : Fin 128) (i : ℕ) : |fR X H b r i| ≤ (2 : ℝ) ^ (113 : ℤ) := by
  have h1 : |fR X H b r i| ≤ ∑ j : Fin 28, |H b j * X r (512 * j.val + i)| := Finset.abs_sum_le_sum_abs _ _
  have h2 : ∑ j : Fin 28, |H b j * X r (512 * j.val + i)| ≤ ∑ j : Fin 28, (2 : ℝ) ^ (48 : ℤ) * (2 : ℝ) ^ (60 : ℤ) := by
    refine Finset.sum_le_sum fun j _ => ?_
    rw [abs_mul]
    exact mul_le_mul (hH _ _) (hX _ _) (abs_nonneg _) (by positivity)
  refine h1.trans (h2.trans ?_)
  rw [Finset.sum_const, Finset.card_univ, Fintype.card_fin]
  norm_num

/-- The mixing sum of finite numbers is finite. -/
theorem mix_real (x : Fin 128 → Fin 14336 → EReal) (h : Fin 28 → Fin 28 → EReal) (X : Fin 128 → ℕ → ℝ) (H : Fin 28 → Fin 28 → ℝ)
    (hx : ∀ r i, x r i = ((X r i.val : ℝ) : EReal)) (hh : ∀ a b, h a b = ((H a b : ℝ) : EReal)) (b : Fin 28) (r : Fin 128) (i : Fin 512) :
    ∑ j : Fin 28, h b j * x r (⟨512 * j.val + i.val, by omega⟩ : Fin 14336) = ((fR X H b r i.val : ℝ) : EReal) := by
  unfold fR
  rw [coe_sum]
  refine Finset.sum_congr rfl fun j _ => ?_
  rw [hx, hh, EReal.coe_mul]

section
open Cert.KernelIdeal Cert.KernelIdeal.Gen Cert.KernelIdeal.Hand
variable (m : (ℓ : Loc nD τ sig) → Buf (Elt Ideal) ℓ) (c : Dev nD)

theorem kx : Cert.KernelIdeal.Hand.V m c main_v0 = shapeCast S128x14336 (m ((c : Thread nD τ).loc main_arg0) : FVec Ideal S1x128x14336 .bf16) shapeCasts_S1x128x14336_S128x14336 := by
  after_reads_simp
  rfl

theorem ks : Cert.KernelIdeal.Hand.V m c main_v1 = shapeCast S1x4096 (m ((c : Thread nD τ).loc main_arg3) : FVec Ideal S4096 .f32) shapeCasts_S4096_S1x4096 := by
  after_reads_simp
  rfl

theorem cast_x (A : FVec Ideal S1x128x14336 .bf16) (h) (r : Fin 128) (k : Fin 14336) : shapeCast S128x14336 A h (ix2 r k) = A (ix3 (0 : Fin 1) r k) := by
  pointwise []

theorem cast_s (A : FVec Ideal S4096 .f32) (h) (j : Fin 4096) : shapeCast S1x4096 A h (ix2 (0 : Fin 1) j) = A (ix1 j) := by
  pointwise []

theorem kx_at (r : Fin 128) (k : Fin 14336) : Cert.KernelIdeal.Hand.V m c main_v0 (ix2 r k) = (m ((c : Thread nD τ).loc main_arg0) : FVec Ideal S1x128x14336 .bf16) (ix3 (0 : Fin 1) r k) :=
  (congrFun (kx m c) _).trans (cast_x _ _ r k)

theorem ks_at (j : Fin 4096) : Cert.KernelIdeal.Hand.V m c main_v1 (ix2 (0 : Fin 1) j) = (m ((c : Thread nD τ).loc main_arg3) : FVec Ideal S4096 .f32) (ix1 j) :=
  (congrFun (ks m c) _).trans (cast_s _ _ j)

/-- Whatever the body ends with, its results are the closed forms. -/
theorem ends (X : Fin 128 → ℕ → ℝ) (H : Fin 28 → Fin 28 → ℝ) (bX : ∀ r i, |X r i| ≤ (2 : ℝ) ^ (60 : ℤ)) (bH : ∀ a b, |H a b| ≤ (2 : ℝ) ^ (48 : ℤ))
    (f0 : BufOf (F := Ideal) c m0) (f1 : BufOf (F := Ideal) c m1) (f2 : BufOf (F := Ideal) c m2) (f3 : BufOf (F := Ideal) c m3) (f4 : BufOf (F := Ideal) c m4) (f5 : BufOf (F := Ideal) c m5) (f6 : BufOf (F := Ideal) c m6)
    (f8 : BufOf (F := Ideal) c m8) (f9 : BufOf (F := Ideal) c m9) (f10 : BufOf (F := Ideal) c m10) (f13 : BufOf (F := Ideal) c m13) (f16 : BufOf (F := Ideal) c m16) (f17 : BufOf (F := Ideal) c m17) (f18 : BufOf (F := Ideal) c m18)
    (fz : BufOf (F := Ideal) c m13) (g4 : BufOf (F := Ideal) c m4) (g5 : BufOf (F := Ideal) c m5) (g6 : BufOf (F := Ideal) c m6)
    (hx : ∀ (r : Fin 128) (i : Fin 14336), f0 (ix2 r i) = ((X r i.val : ℝ) : EReal)) (hh : ∀ (a b : Fin 28), f1 (ix2 a b) = ((H a b : ℝ) : EReal))
    (E : Ends c f0 f1 f2 f3 f4 f5 f6 f8 f9 f10 f13 f16 f17 f18 fz g4 g5 g6) :
    g4 = (outV (fR X H) f2 (fun j => f3 (ix2 (0 : Fin 1) j)) : S128x4096.Idx → EReal) ∧ g5 = (codeV (fR X H) : S128x14336.Idx → EReal) ∧ g6 = (scaleV (fR X H) : S128x112.Idx → EReal) := by
  have hz : ∀ (b : Fin 28) (r : Fin 128) (i : Fin 512), fz (ix3 b r i) = ((fR X H b r i.val : ℝ) : EReal) := by
    intro b r i
    have e := (E.mixed (cnd_ne c f1 f8 H hh)).trans (fz_eq c f0 f1 f8 f13)
    exact (congrFun e (ix3 b r i)).trans (mix_real (fun r k => f0 (ix2 r k)) (fun a b => f1 (ix2 a b)) X H hx hh b r i)
  have hf : ∀ (b : Fin 28) (r : Fin 128), ∀ i < 512, |fR X H b r i| ≤ (2:ℝ) ^ (113 : ℤ) := fun b r i _ => fR_le X H bX bH b r i
  exact ⟨Cert.KernelIdeal.Hand.res4 c f0 f1 f2 f3 f4 f5 f6 f8 f9 f10 f13 f16 f17 f18 fz g4 g5 g6 E (fR X H) hz hf,
    Cert.KernelIdeal.Hand.res5 c f0 f1 f2 f3 f4 f5 f6 f8 f9 f10 f13 f16 f17 f18 fz g4 g5 g6 E (fR X H) hz hf,
    Cert.KernelIdeal.Hand.res6 c f0 f1 f2 f3 f4 f5 f6 f8 f9 f10 f13 f16 f17 f18 fz g4 g5 g6 E (fR X H) hz hf⟩
end

/-- The precondition's real numbers. -/
theorem exists_reals (x : Cert.Pre_bounded.S1x128x14336.Idx → EReal) (h : Cert.Pre_bounded.S28x28.Idx → EReal)
    (hx : ∀ i, ∃ r : ℝ, x i = (r : EReal) ∧ |r| ≤ (2 : ℝ) ^ (((187 : ℕ) : ℤ) - 127)) (hh : ∀ i, ∃ r : ℝ, h i = (r : EReal) ∧ |r| ≤ (2 : ℝ) ^ (((175 : ℕ) : ℤ) - 127)) :
    ∃ (X : Fin 128 → ℕ → ℝ) (H : Fin 28 → Fin 28 → ℝ), (∀ r i, |X r i| ≤ (2 : ℝ) ^ (60 : ℤ)) ∧ (∀ a b, |H a b| ≤ (2 : ℝ) ^ (48 : ℤ))
      ∧ (∀ (r : Fin 128) (i : Fin 14336), x (ix3 (0 : Fin 1) r i) = ((X r i.val : ℝ) : EReal)) ∧ (∀ (a b : Fin 28), h (ix2 a b) = ((H a b : ℝ) : EReal)) := by
  choose u hu bu using hx
  choose v hv bv using hh
  refine ⟨fun r i => if q : i < 14336 then u (ix3 (0 : Fin 1) r (⟨i, q⟩ : Fin 14336)) else 0, fun a b => v (ix2 a b), ?_, ?_, ?_, ?_⟩
  · intro r i
    by_cases q : i < 14336
    · simp only [dif_pos q]
      have := bu (ix3 (0 : Fin 1) r (⟨i, q⟩ : Fin 14336))
      norm_num at this ⊢
      exact this
    · simp only [dif_neg q, abs_zero]
      positivity
  · intro a b
    have := bv (ix2 a b)
    norm_num at this ⊢
    exact this
  · intro r i
    simp only [dif_pos i.isLt]
    exact hu _
  · intro a b
    exact hv _

theorem algebraic : Cert.algebraic_KernelIdeal_ReferenceIdeal_pre_bounded (hKernelIdeal := Cert.KernelIdeal.Gen.facts) (hReferenceIdeal := Cert.ReferenceIdeal.Gen.facts) (hPre_bounded := Cert.Pre_bounded.Gen.facts) := by
  intro m g m' g' hpre hargs
  have hR := fun c : Dev Cert.KernelIdeal.nD => exists_reals _ _ (Cert.Pre_bounded.reals _ _ _ _ (hpre c)).1 (Cert.Pre_bounded.reals _ _ _ _ (hpre c)).2
  choose X H bX bH hx hh using hR
  let G4 : (c : Dev Cert.KernelIdeal.nD) → Cert.KernelIdeal.Hand.BufOf (F := Ideal) c Cert.KernelIdeal.Hand.m4 := fun c => (outV (fR (X c) (H c)) (m ((c.tc : Thread Cert.KernelIdeal.nD Cert.KernelIdeal.τ).loc Cert.KernelIdeal.main_arg2))
      (fun j => (m ((c.tc : Thread Cert.KernelIdeal.nD Cert.KernelIdeal.τ).loc Cert.KernelIdeal.main_arg3) : FVec Ideal Cert.KernelIdeal.S4096 .f32) (ix1 j)) : Cert.KernelIdeal.S128x4096.Idx → EReal)
  let G5 : (c : Dev Cert.KernelIdeal.nD) → Cert.KernelIdeal.Hand.BufOf (F := Ideal) c Cert.KernelIdeal.Hand.m5 := fun c => (codeV (fR (X c) (H c)) : Cert.KernelIdeal.S128x14336.Idx → EReal)
  let G6 : (c : Dev Cert.KernelIdeal.nD) → Cert.KernelIdeal.Hand.BufOf (F := Ideal) c Cert.KernelIdeal.Hand.m6 := fun c => (scaleV (fR (X c) (H c)) : Cert.KernelIdeal.S128x112.Idx → EReal)
  refine ⟨G4, G5, G6, ?_, ?_⟩
  · refine (θ_run _ _ _).mono ?_ (Cert.KernelIdeal.Hand.values m g G4 G5 G6 fun c f8 f9 f10 f13 f16 f17 f18 fz g4 g5 g6 E => ?_)
    rotate_left
    · have e := ends c (X c) (H c) (bX c) (bH c) _ _ _ _ _ _ _ f8 f9 f10 f13 f16 f17 f18 fz g4 g5 g6
        (fun r i => (kx_at m c r i).trans (hx c r i)) (fun a b => (congrFun (Cert.KernelIdeal.Gen.V_main_arg1 m c) _).trans (hh c a b)) E
      refine ⟨e.1.trans ?_, e.2.1, e.2.2⟩
      rw [show (fun j => Cert.KernelIdeal.Hand.V m c Cert.KernelIdeal.main_v1 (ix2 (0 : Fin 1) j)) = _ from funext (ks_at m c)]
      exact congrArg (fun w : Cert.KernelIdeal.S14336x4096.Idx → EReal => outV (fR (X c) (H c)) w _) (Cert.KernelIdeal.Gen.V_main_arg2 m c)
    · intro r h c
      obtain ⟨⟨h0, h1, h2⟩, h3⟩ := h c
      exact ⟨h0, h1, h2, h3⟩
  · refine (θ_run _ _ _).mono (fun r h c => ?_) (Cert.ReferenceIdeal.Value.run_blocks m' g')
    obtain ⟨h0, h1, h2, h3⟩ := h c
    obtain ⟨a0, a1, a2, a3⟩ := hargs c
    have hf : ∀ (b : Fin 28) (r : Fin 128) (i : Fin 512), Cert.ReferenceIdeal.Hand.rMix (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (ix3 r b i) = ((fR (X c) (H c) b r i.val : ℝ) : EReal) := by
      intro b r i
      rw [Cert.ReferenceIdeal.Hand.rMix_at, a0, a1]
      exact mix_real (fun r k => _) (fun a b => _) (X c) (H c) (hx c) (hh c) b r i
    refine ⟨h0.trans ((Cert.ReferenceIdeal.Hand.res5 m' c _ hf).trans ?_), h1.trans (Cert.ReferenceIdeal.Hand.res6 m' c _ hf), h2.trans (Cert.ReferenceIdeal.Hand.res7 m' c _ hf), h3⟩
    rw [a2, a3]

end Cert.Alg
-- ==== Proof.lean ====
module

public import proofs.«01_k».proof.Defs
public import proofs.«01_k».proof.Proof.Gen.Pre_bounded
public import proofs.«01_k».proof.Proof.Gen.ReferenceIdeal.Frame
public import proofs.«01_k».proof.Proof.Gen.ReferenceIdeal.Value
public import proofs.«01_k».proof.Proof.K.Fr
public import proofs.«01_k».proof.Proof.KI.Fr
public import proofs.«01_k».proof.Proof.V.Alg
public import Idealize.ShloMosaic.PureOps.IdealRules

@[expose] public section

noncomputable section

namespace Cert.Proof

open Idealize.ShloMosaic Idealize.SL.Sem

/-- The claim: each program's frame, the ledger of the idealization, and the idealized kernel's results against the reference's. -/
theorem claim : Cert.Claim :=
  ⟨Cert.Kernel.Gen.facts, Cert.KernelIdeal.Gen.facts, Cert.ReferenceIdeal.Gen.facts, Cert.Pre_bounded.Gen.facts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    ⟨IdealRules.bf16_pack.statement _, IdealRules.bf16_pack.statement _⟩,
    Cert.Alg.algebraic⟩

end Cert.Proof

end
